-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Gather [hPre_nodes_named : Cert.Pre_nodes_named.Facts] (m : (ℓ : Loc Cert.Gather.nD Cert.Gather.τ Cert.Gather.sig) → Buf (Elt Bits) ℓ) : Prop :=
  ∀ c : Dev Cert.Gather.nD,
    (Cert.Pre_nodes_named.fn (F := Bits) (m ((c.tc : Thread Cert.Gather.nD Cert.Gather.τ).loc Cert.Gather.main_arg0)) (m ((c.tc : Thread Cert.Gather.nD Cert.Gather.τ).loc Cert.Gather.main_arg1)) (m ((c.tc : Thread Cert.Gather.nD Cert.Gather.τ).loc Cert.Gather.main_arg2))) = (fun _ => 1#1)

def Pre_GatherIdeal [hPre_nodes_named : Cert.Pre_nodes_named.Facts] (m : (ℓ : Loc Cert.GatherIdeal.nD Cert.GatherIdeal.τ Cert.GatherIdeal.sig) → Buf (Elt Ideal) ℓ) : Prop :=
  ∀ c : Dev Cert.GatherIdeal.nD,
    (Cert.Pre_nodes_named.fn (F := Ideal) (m ((c.tc : Thread Cert.GatherIdeal.nD Cert.GatherIdeal.τ).loc Cert.GatherIdeal.main_arg0)) (m ((c.tc : Thread Cert.GatherIdeal.nD Cert.GatherIdeal.τ).loc Cert.GatherIdeal.main_arg1)) (m ((c.tc : Thread Cert.GatherIdeal.nD Cert.GatherIdeal.τ).loc Cert.GatherIdeal.main_arg2))) = (fun _ => 1#1)

def Pre_GatherReferenceIdeal [hPre_nodes_named : Cert.Pre_nodes_named.Facts] (m : (ℓ : Loc Cert.GatherReferenceIdeal.nD Cert.GatherReferenceIdeal.τ Cert.GatherReferenceIdeal.sig) → Buf (Elt Ideal) ℓ) : Prop :=
  ∀ c : Dev Cert.GatherReferenceIdeal.nD,
    (Cert.Pre_nodes_named.fn (F := Ideal) (m ((c.tc : Thread Cert.GatherReferenceIdeal.nD Cert.GatherReferenceIdeal.τ).loc Cert.GatherReferenceIdeal.main_arg0)) (m ((c.tc : Thread Cert.GatherReferenceIdeal.nD Cert.GatherReferenceIdeal.τ).loc Cert.GatherReferenceIdeal.main_arg1)) (m ((c.tc : Thread Cert.GatherReferenceIdeal.nD Cert.GatherReferenceIdeal.τ).loc Cert.GatherReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def quiescent_Gather [hGather : Cert.Gather.Facts] [hPre_nodes_named : Cert.Pre_nodes_named.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1)
      ∧ r.2.mem ((c.tc : Thread Cert.Gather.nD Cert.Gather.τ).loc Cert.Gather.main_arg2) = m ((c.tc : Thread Cert.Gather.nD Cert.Gather.τ).loc Cert.Gather.main_arg2))
      ∧ r.2.sem = fun _ => 0)

def quiescent_GatherIdeal [hGatherIdeal : Cert.GatherIdeal.Facts] [hPre_nodes_named : Cert.Pre_nodes_named.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
      ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2))
      ∧ r.2.sem = fun _ => 0)

def quiescent_GatherReferenceIdeal [hGatherReferenceIdeal : Cert.GatherReferenceIdeal.Facts] [hPre_nodes_named : Cert.Pre_nodes_named.Facts] : Prop :=
  ∀ (m : (ℓ : Loc Cert.GatherReferenceIdeal.nD Cert.GatherReferenceIdeal.τ Cert.GatherReferenceIdeal.sig) → Buf (Elt Ideal) ℓ) (g : Dev Cert.GatherReferenceIdeal.nD → PrngReg), Pre_GatherReferenceIdeal m →
    θ_run (Cert.GatherReferenceIdeal.defs (F := Ideal)) (onTc (τ := Cert.GatherReferenceIdeal.τ) (Cert.GatherReferenceIdeal.main (F := Ideal))) ⟨m, fun _ => 0, g⟩ (fun r => (∀ c : Dev Cert.GatherReferenceIdeal.nD,
      r.2.mem ((c.tc : Thread Cert.GatherReferenceIdeal.nD Cert.GatherReferenceIdeal.τ).loc Cert.GatherReferenceIdeal.main_arg0) = m ((c.tc : Thread Cert.GatherReferenceIdeal.nD Cert.GatherReferenceIdeal.τ).loc Cert.GatherReferenceIdeal.main_arg0)
      ∧ r.2.mem ((c.tc : Thread Cert.GatherReferenceIdeal.nD Cert.GatherReferenceIdeal.τ).loc Cert.GatherReferenceIdeal.main_arg1) = m ((c.tc : Thread Cert.GatherReferenceIdeal.nD Cert.GatherReferenceIdeal.τ).loc Cert.GatherReferenceIdeal.main_arg1)
      ∧ r.2.mem ((c.tc : Thread Cert.GatherReferenceIdeal.nD Cert.GatherReferenceIdeal.τ).loc Cert.GatherReferenceIdeal.main_arg2) = m ((c.tc : Thread Cert.GatherReferenceIdeal.nD Cert.GatherReferenceIdeal.τ).loc Cert.GatherReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v260) = v0 c
          ∧ r.2.mem ((c.tc : Thread Cert.ReferenceIdeal.nD Cert.ReferenceIdeal.τ).loc Cert.ReferenceIdeal.main_v269) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def preserves_Gather_GatherIdeal : Prop :=
  True

def algebraic_GatherIdeal_GatherReferenceIdeal [hGatherIdeal : Cert.GatherIdeal.Facts] [hGatherReferenceIdeal : Cert.GatherReferenceIdeal.Facts] [hPre_nodes_named : Cert.Pre_nodes_named.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherReferenceIdeal.nD Cert.GatherReferenceIdeal.τ Cert.GatherReferenceIdeal.sig) → Buf (Elt Ideal) ℓ) (g' : Dev Cert.GatherReferenceIdeal.nD → PrngReg), Pre_GatherIdeal m →
    (∀ c : Dev Cert.GatherIdeal.nD,
      m' ((c.tc : Thread Cert.GatherReferenceIdeal.nD Cert.GatherReferenceIdeal.τ).loc Cert.GatherReferenceIdeal.main_arg0) = m ((c.tc : Thread Cert.GatherIdeal.nD Cert.GatherIdeal.τ).loc Cert.GatherIdeal.main_arg0)
      ∧ m' ((c.tc : Thread Cert.GatherReferenceIdeal.nD Cert.GatherReferenceIdeal.τ).loc Cert.GatherReferenceIdeal.main_arg1) = m ((c.tc : Thread Cert.GatherIdeal.nD Cert.GatherIdeal.τ).loc Cert.GatherIdeal.main_arg1)
      ∧ m' ((c.tc : Thread Cert.GatherReferenceIdeal.nD Cert.GatherReferenceIdeal.τ).loc Cert.GatherReferenceIdeal.main_arg2) = m ((c.tc : Thread Cert.GatherIdeal.nD Cert.GatherIdeal.τ).loc Cert.GatherIdeal.main_arg2)) →
    ∃ (v0 : (c : Dev Cert.GatherIdeal.nD) → Buf (Elt Ideal) ((c.tc : Thread Cert.GatherIdeal.nD Cert.GatherIdeal.τ).loc Cert.GatherIdeal.main_v0_0)) (v1 : (c : Dev Cert.GatherIdeal.nD) → Buf (Elt Ideal) ((c.tc : Thread Cert.GatherIdeal.nD Cert.GatherIdeal.τ).loc Cert.GatherIdeal.main_v0_1)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v0_0) = v0 c
          ∧ r.2.mem ((c.tc : Thread Cert.GatherIdeal.nD Cert.GatherIdeal.τ).loc Cert.GatherIdeal.main_v0_1) = v1 c
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
          ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2))
      ∧ θ_run (Cert.GatherReferenceIdeal.defs (F := Ideal)) (onTc (τ := Cert.GatherReferenceIdeal.τ) (Cert.GatherReferenceIdeal.main (F := Ideal))) ⟨m', fun _ => 0, g'⟩ (fun r => ∀ c : Dev Cert.GatherReferenceIdeal.nD,
          r.2.mem ((c.tc : Thread Cert.GatherReferenceIdeal.nD Cert.GatherReferenceIdeal.τ).loc Cert.GatherReferenceIdeal.main_v1) = v0 c
          ∧ r.2.mem ((c.tc : Thread Cert.GatherReferenceIdeal.nD Cert.GatherReferenceIdeal.τ).loc Cert.GatherReferenceIdeal.main_v3) = v1 c
          ∧ r.2.mem ((c.tc : Thread Cert.GatherReferenceIdeal.nD Cert.GatherReferenceIdeal.τ).loc Cert.GatherReferenceIdeal.main_arg0) = m' ((c.tc : Thread Cert.GatherReferenceIdeal.nD Cert.GatherReferenceIdeal.τ).loc Cert.GatherReferenceIdeal.main_arg0)
          ∧ r.2.mem ((c.tc : Thread Cert.GatherReferenceIdeal.nD Cert.GatherReferenceIdeal.τ).loc Cert.GatherReferenceIdeal.main_arg1) = m' ((c.tc : Thread Cert.GatherReferenceIdeal.nD Cert.GatherReferenceIdeal.τ).loc Cert.GatherReferenceIdeal.main_arg1)
          ∧ r.2.mem ((c.tc : Thread Cert.GatherReferenceIdeal.nD Cert.GatherReferenceIdeal.τ).loc Cert.GatherReferenceIdeal.main_arg2) = m' ((c.tc : Thread Cert.GatherReferenceIdeal.nD Cert.GatherReferenceIdeal.τ).loc Cert.GatherReferenceIdeal.main_arg2))

def Claim : Prop :=
  ∃ (hKernel : Cert.Kernel.Facts) (hKernelIdeal : Cert.KernelIdeal.Facts) (hReferenceIdeal : Cert.ReferenceIdeal.Facts) (hGather : Cert.Gather.Facts) (hGatherIdeal : Cert.GatherIdeal.Facts) (hGatherReferenceIdeal : Cert.GatherReferenceIdeal.Facts) (hPre_nodes_named : Cert.Pre_nodes_named.Facts),
    quiescent_Kernel (hKernel := hKernel)
    ∧ quiescent_KernelIdeal (hKernelIdeal := hKernelIdeal)
    ∧ quiescent_ReferenceIdeal (hReferenceIdeal := hReferenceIdeal)
    ∧ quiescent_Gather (hGather := hGather) (hPre_nodes_named := hPre_nodes_named)
    ∧ quiescent_GatherIdeal (hGatherIdeal := hGatherIdeal) (hPre_nodes_named := hPre_nodes_named)
    ∧ quiescent_GatherReferenceIdeal (hGatherReferenceIdeal := hGatherReferenceIdeal) (hPre_nodes_named := hPre_nodes_named)
    ∧ preserves_Kernel_KernelIdeal
    ∧ algebraic_KernelIdeal_ReferenceIdeal (hKernelIdeal := hKernelIdeal) (hReferenceIdeal := hReferenceIdeal)
    ∧ preserves_Gather_GatherIdeal
    ∧ algebraic_GatherIdeal_GatherReferenceIdeal (hGatherIdeal := hGatherIdeal) (hGatherReferenceIdeal := hGatherReferenceIdeal) (hPre_nodes_named := hPre_nodes_named)
-- ==== Pre_nodes_named.lean ====
abbrev S4096 : Shape := ⟨1, ![4096]⟩
abbrev S4096x1x128 : Shape := ⟨3, ![4096, 1, 128]⟩
abbrev S4096x1x3 : Shape := ⟨3, ![4096, 1, 3]⟩
abbrev S_ : Shape := ⟨0, ![]⟩

class Facts : Prop where
  bcast_S_S4096 : S_.BroadcastsInDim S4096 (![] : Fin 0 → Fin S4096.rank)

variable [Facts]

def fn {F : FTy → Type} [FloatOps F] (main_arg0 : IVec S4096 32) (main_arg1 : FVec F S4096x1x128 .f32) (main_arg2 : FVec F S4096x1x3 .f32) : IVec S4096 1 :=
  let main_c : IVec S_ 32 := constantI S_ 32 0#32
  let main_v0 : IVec S4096 32 := broadcastInDim S4096 ![] bcast_S_S4096 main_c
  let main_v1 : IVec S4096 1 := cmpi .sge main_arg0 main_v0
  let main_c_0 : IVec S_ 32 := constantI S_ 32 4096#32
  let main_v2 : IVec S4096 32 := broadcastInDim S4096 ![] bcast_S_S4096 main_c_0
  let main_v3 : IVec S4096 1 := cmpi .slt main_arg0 main_v2
  let main_v4 : IVec S4096 1 := andi main_v1 main_v3
  main_v4
-- ==== Kernel.lean ====
abbrev S4096x128 : Shape := ⟨2, ![4096, 128]⟩
abbrev S4096x3 : Shape := ⟨2, ![4096, 3]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x128 : Shape := ⟨2, ![1, 128]⟩
abbrev S1x16 : Shape := ⟨2, ![1, 16]⟩
abbrev S8x4096x128 : Shape := ⟨3, ![8, 4096, 128]⟩
abbrev S8x4096x3x16 : Shape := ⟨4, ![8, 4096, 3, 16]⟩
abbrev S512x128 : Shape := ⟨2, ![512, 128]⟩
abbrev S512x3 : Shape := ⟨2, ![512, 3]⟩
abbrev S8x512x128 : Shape := ⟨3, ![8, 512, 128]⟩
abbrev S8x512x3x16 : Shape := ⟨4, ![8, 512, 3, 16]⟩
abbrev S512x1 : Shape := ⟨2, ![512, 1]⟩
abbrev S512x16 : Shape := ⟨2, ![512, 16]⟩
abbrev S1x512x128 : Shape := ⟨3, ![1, 512, 128]⟩
abbrev S1x512x1x16 : Shape := ⟨4, ![1, 512, 1, 16]⟩

abbrev nBuf : Space → Nat
  | .hbm => 25
  | .vmem => 41
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x128, .f32⟩
  | .hbm, ⟨3, _⟩ => ⟨S4096x128, .f32⟩
  | .hbm, ⟨4, _⟩ => ⟨S4096x128, .f32⟩
  | .hbm, ⟨5, _⟩ => ⟨S4096x128, .f32⟩
  | .hbm, ⟨6, _⟩ => ⟨S4096x128, .f32⟩
  | .hbm, ⟨7, _⟩ => ⟨S4096x128, .f32⟩
  | .hbm, ⟨8, _⟩ => ⟨S4096x3, .f32⟩
  | .hbm, ⟨9, _⟩ => ⟨S4096x3, .f32⟩
  | .hbm, ⟨10, _⟩ => ⟨S4096x3, .f32⟩
  | .hbm, ⟨11, _⟩ => ⟨S4096x3, .f32⟩
  | .hbm, ⟨12, _⟩ => ⟨S4096x3, .f32⟩
  | .hbm, ⟨13, _⟩ => ⟨S4096x3, .f32⟩
  | .hbm, ⟨14, _⟩ => ⟨S4096x3, .f32⟩
  | .hbm, ⟨15, _⟩ => ⟨S4096x3, .f32⟩
  | .hbm, ⟨16, _⟩ => ⟨S128x128, .f32⟩
  | .hbm, ⟨17, _⟩ => ⟨S128x128, .f32⟩
  | .hbm, ⟨18, _⟩ => ⟨S128, .f32⟩
  | .hbm, ⟨19, _⟩ => ⟨S128x16, .f32⟩
  | .hbm, ⟨20, _⟩ => ⟨S16, .f32⟩
  | .hbm, ⟨21, _⟩ => ⟨S1x128, .f32⟩
  | .hbm, ⟨22, _⟩ => ⟨S1x16, .f32⟩
  | .hbm, ⟨23, _⟩ => ⟨S8x4096x128, .f32⟩
  | .hbm, ⟨24, _⟩ => ⟨S8x4096x3x16, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x3, .f32⟩
  | .local _ .vmem, ⟨17, _⟩ => ⟨S512x3, .f32⟩
  | .local _ .vmem, ⟨18, _⟩ => ⟨S512x3, .f32⟩
  | .local _ .vmem, ⟨19, _⟩ => ⟨S512x3, .f32⟩
  | .local _ .vmem, ⟨20, _⟩ => ⟨S512x3, .f32⟩
  | .local _ .vmem, ⟨21, _⟩ => ⟨S512x3, .f32⟩
  | .local _ .vmem, ⟨22, _⟩ => ⟨S512x3, .f32⟩
  | .local _ .vmem, ⟨23, _⟩ => ⟨S512x3, .f32⟩
  | .local _ .vmem, ⟨24, _⟩ => ⟨S512x3, .f32⟩
  | .local _ .vmem, ⟨25, _⟩ => ⟨S512x3, .f32⟩
  | .local _ .vmem, ⟨26, _⟩ => ⟨S512x3, .f32⟩
  | .local _ .vmem, ⟨27, _⟩ => ⟨S512x3, .f32⟩
  | .local _ .vmem, ⟨28, _⟩ => ⟨S512x3, .f32⟩
  | .local _ .vmem, ⟨29, _⟩ => ⟨S512x3, .f32⟩
  | .local _ .vmem, ⟨30, _⟩ => ⟨S512x3, .f32⟩
  | .local _ .vmem, ⟨31, _⟩ => ⟨S512x3, .f32⟩
  | .local _ .vmem, ⟨32, _⟩ => ⟨S128x128, .f32⟩
  | .local _ .vmem, ⟨33, _⟩ => ⟨S128x128, .f32⟩
  | .local _ .vmem, ⟨34, _⟩ => ⟨S1x128, .f32⟩
  | .local _ .vmem, ⟨35, _⟩ => ⟨S128x16, .f32⟩
  | .local _ .vmem, ⟨36, _⟩ => ⟨S1x16, .f32⟩
  | .local _ .vmem, ⟨37, _⟩ => ⟨S8x512x128, .f32⟩
  | .local _ .vmem, ⟨38, _⟩ => ⟨S8x512x128, .f32⟩
  | .local _ .vmem, ⟨39, _⟩ => ⟨S8x512x3x16, .f32⟩
  | .local _ .vmem, ⟨40, _⟩ => ⟨S8x512x3x16, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2_0 : Ref sig .tc := ⟨.hbm, 23, rfl⟩
abbrev main_v2_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg17_0 : Ref sig .tc := ⟨.vmem, 33, rfl⟩
abbrev cc0_stg18_0 : Ref sig .tc := ⟨.vmem, 34, rfl⟩
abbrev cc0_stg19_0 : Ref sig .tc := ⟨.vmem, 35, rfl⟩
abbrev cc0_stg20_0 : Ref sig .tc := ⟨.vmem, 36, rfl⟩
abbrev cc0_stg21_0 : Ref sig .tc := ⟨.vmem, 37, rfl⟩
abbrev cc0_stg21_1 : Ref sig .tc := ⟨.vmem, 38, rfl⟩
abbrev cc0_stg22_0 : Ref sig .tc := ⟨.vmem, 39, rfl⟩
abbrev cc0_stg22_1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem17_0 : DmaSem sig := 33
abbrev cc0_sem18_0 : DmaSem sig := 34
abbrev cc0_sem19_0 : DmaSem sig := 35
abbrev cc0_sem20_0 : DmaSem sig := 36
abbrev cc0_sem21_0 : DmaSem sig := 37
abbrev cc0_sem21_1 : DmaSem sig := 38
abbrev cc0_sem22_0 : DmaSem sig := 39
abbrev cc0_sem22_1 : DmaSem sig := 40

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_22 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x3 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x3 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x3 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x3 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x3 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x3 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x3 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x3 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S128x16 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x16 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S8x512x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S8x512x3x16 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== ReferenceIdeal.lean ====
abbrev S4096x128 : Shape := ⟨2, ![4096, 128]⟩
abbrev S4096x3 : Shape := ⟨2, ![4096, 3]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩
abbrev S4096x3x16 : Shape := ⟨3, ![4096, 3, 16]⟩
abbrev S4096x1x128 : Shape := ⟨3, ![4096, 1, 128]⟩
abbrev S4096x8x128 : Shape := ⟨3, ![4096, 8, 128]⟩
abbrev S4096x1x3 : Shape := ⟨3, ![4096, 1, 3]⟩
abbrev S4096x8x3 : Shape := ⟨3, ![4096, 8, 3]⟩
abbrev S1x128 : Shape := ⟨2, ![1, 128]⟩
abbrev S4096x16 : Shape := ⟨2, ![4096, 16]⟩
abbrev S4096x1x16 : Shape := ⟨3, ![4096, 1, 16]⟩
abbrev S4096x3x1 : Shape := ⟨3, ![4096, 3, 1]⟩
abbrev S1x1x16 : Shape := ⟨3, ![1, 1, 16]⟩
abbrev S1x4096x128 : Shape := ⟨3, ![1, 4096, 128]⟩
abbrev S8x4096x128 : Shape := ⟨3, ![8, 4096, 128]⟩
abbrev S1x4096x3x16 : Shape := ⟨4, ![1, 4096, 3, 16]⟩
abbrev S8x4096x3x16 : Shape := ⟨4, ![8, 4096, 3, 16]⟩

abbrev nBuf : Space → Nat
  | .hbm => 341
  | .vmem => 0
  | .smem => 0
  | _ => 0

abbrev hbmTy0_0 (i : Nat) : BufTy := match i % 128 with
  | 0 => ⟨S4096x128, .f32⟩
  | 1 => ⟨S4096x128, .f32⟩
  | 2 => ⟨S4096x128, .f32⟩
  | 3 => ⟨S4096x128, .f32⟩
  | 4 => ⟨S4096x128, .f32⟩
  | 5 => ⟨S4096x128, .f32⟩
  | 6 => ⟨S4096x128, .f32⟩
  | 7 => ⟨S4096x128, .f32⟩
  | 8 => ⟨S4096x3, .f32⟩
  | 9 => ⟨S4096x3, .f32⟩
  | 10 => ⟨S4096x3, .f32⟩
  | 11 => ⟨S4096x3, .f32⟩
  | 12 => ⟨S4096x3, .f32⟩
  | 13 => ⟨S4096x3, .f32⟩
  | 14 => ⟨S4096x3, .f32⟩
  | 15 => ⟨S4096x3, .f32⟩
  | 16 => ⟨S128x128, .f32⟩
  | 17 => ⟨S128x128, .f32⟩
  | 18 => ⟨S128, .f32⟩
  | 19 => ⟨S128x16, .f32⟩
  | 20 => ⟨S16, .f32⟩
  | 21 => ⟨S_, .f32⟩
  | 22 => ⟨S4096x128, .f32⟩
  | 23 => ⟨S_, .f32⟩
  | 24 => ⟨S4096x3x16, .f32⟩
  | 25 => ⟨S4096x1x128, .f32⟩
  | 26 => ⟨S4096x1x128, .f32⟩
  | 27 => ⟨S4096x1x128, .f32⟩
  | 28 => ⟨S4096x1x128, .f32⟩
  | 29 => ⟨S4096x1x128, .f32⟩
  | 30 => ⟨S4096x1x128, .f32⟩
  | 31 => ⟨S4096x1x128, .f32⟩
  | 32 => ⟨S4096x1x128, .f32⟩
  | 33 => ⟨S4096x8x128, .f32⟩
  | 34 => ⟨S4096x1x3, .f32⟩
  | 35 => ⟨S4096x1x3, .f32⟩
  | 36 => ⟨S4096x1x3, .f32⟩
  | 37 => ⟨S4096x1x3, .f32⟩
  | 38 => ⟨S4096x1x3, .f32⟩
  | 39 => ⟨S4096x1x3, .f32⟩
  | 40 => ⟨S4096x1x3, .f32⟩
  | 41 => ⟨S4096x1x3, .f32⟩
  | 42 => ⟨S4096x8x3, .f32⟩
  | 43 => ⟨S_, .f32⟩
  | 44 => ⟨S4096x128, .f32⟩
  | 45 => ⟨S_, .f32⟩
  | 46 => ⟨S4096x128, .f32⟩
  | 47 => ⟨S4096x128, .f32⟩
  | 48 => ⟨S_, .f32⟩
  | 49 => ⟨S4096x3, .f32⟩
  | 50 => ⟨S_, .f32⟩
  | 51 => ⟨S4096x3, .f32⟩
  | 52 => ⟨S4096x3, .f32⟩
  | 53 => ⟨S4096x128, .f32⟩
  | 54 => ⟨S4096x128, .f32⟩
  | 55 => ⟨S4096x128, .f32⟩
  | 56 => ⟨S1x128, .f32⟩
  | 57 => ⟨S4096x128, .f32⟩
  | 58 => ⟨S4096x128, .f32⟩
  | 59 => ⟨S4096x128, .f32⟩
  | 60 => ⟨S4096x16, .f32⟩
  | 61 => ⟨S4096x16, .f32⟩
  | 62 => ⟨S4096x16, .f32⟩
  | 63 => ⟨S_, .f32⟩
  | 64 => ⟨S4096x16, .f32⟩
  | 65 => ⟨S4096x16, .f32⟩
  | 66 => ⟨S_, .f32⟩
  | 67 => ⟨S4096x16, .f32⟩
  | 68 => ⟨S4096x16, .f32⟩
  | 69 => ⟨S4096x1x16, .f32⟩
  | 70 => ⟨S4096x3x16, .f32⟩
  | 71 => ⟨S4096x3x16, .f32⟩
  | 72 => ⟨S4096x3x1, .f32⟩
  | 73 => ⟨S1x1x16, .f32⟩
  | 74 => ⟨S4096x3x16, .f32⟩
  | 75 => ⟨S4096x3x16, .f32⟩
  | 76 => ⟨S4096x3x16, .f32⟩
  | 77 => ⟨S4096x3x16, .f32⟩
  | 78 => ⟨S_, .f32⟩
  | 79 => ⟨S4096x128, .f32⟩
  | 80 => ⟨S_, .f32⟩
  | 81 => ⟨S4096x128, .f32⟩
  | 82 => ⟨S4096x128, .f32⟩
  | 83 => ⟨S_, .f32⟩
  | 84 => ⟨S4096x3, .f32⟩
  | 85 => ⟨S_, .f32⟩
  | 86 => ⟨S4096x3, .f32⟩
  | 87 => ⟨S4096x3, .f32⟩
  | 88 => ⟨S4096x128, .f32⟩
  | 89 => ⟨S4096x128, .f32⟩
  | 90 => ⟨S4096x128, .f32⟩
  | 91 => ⟨S1x128, .f32⟩
  | 92 => ⟨S4096x128, .f32⟩
  | 93 => ⟨S4096x128, .f32⟩
  | 94 => ⟨S4096x128, .f32⟩
  | 95 => ⟨S4096x16, .f32⟩
  | 96 => ⟨S4096x16, .f32⟩
  | 97 => ⟨S4096x16, .f32⟩
  | 98 => ⟨S_, .f32⟩
  | 99 => ⟨S4096x16, .f32⟩
  | 100 => ⟨S4096x16, .f32⟩
  | 101 => ⟨S_, .f32⟩
  | 102 => ⟨S4096x16, .f32⟩
  | 103 => ⟨S4096x16, .f32⟩
  | 104 => ⟨S4096x1x16, .f32⟩
  | 105 => ⟨S4096x3x16, .f32⟩
  | 106 => ⟨S4096x3x16, .f32⟩
  | 107 => ⟨S4096x3x1, .f32⟩
  | 108 => ⟨S1x1x16, .f32⟩
  | 109 => ⟨S4096x3x16, .f32⟩
  | 110 => ⟨S4096x3x16, .f32⟩
  | 111 => ⟨S4096x3x16, .f32⟩
  | 112 => ⟨S4096x3x16, .f32⟩
  | 113 => ⟨S_, .f32⟩
  | 114 => ⟨S4096x128, .f32⟩
  | 115 => ⟨S_, .f32⟩
  | 116 => ⟨S4096x128, .f32⟩
  | 117 => ⟨S4096x128, .f32⟩
  | 118 => ⟨S_, .f32⟩
  | 119 => ⟨S4096x3, .f32⟩
  | 120 => ⟨S_, .f32⟩
  | 121 => ⟨S4096x3, .f32⟩
  | 122 => ⟨S4096x3, .f32⟩
  | 123 => ⟨S4096x128, .f32⟩
  | 124 => ⟨S4096x128, .f32⟩
  | 125 => ⟨S4096x128, .f32⟩
  | 126 => ⟨S1x128, .f32⟩
  | 127 => ⟨S4096x128, .f32⟩
  | _ => ⟨S4096x128, .f32⟩

abbrev hbmTy0_1 (i : Nat) : BufTy := match i % 128 with
  | 0 => ⟨S4096x128, .f32⟩
  | 1 => ⟨S4096x128, .f32⟩
  | 2 => ⟨S4096x16, .f32⟩
  | 3 => ⟨S4096x16, .f32⟩
  | 4 => ⟨S4096x16, .f32⟩
  | 5 => ⟨S_, .f32⟩
  | 6 => ⟨S4096x16, .f32⟩
  | 7 => ⟨S4096x16, .f32⟩
  | 8 => ⟨S_, .f32⟩
  | 9 => ⟨S4096x16, .f32⟩
  | 10 => ⟨S4096x16, .f32⟩
  | 11 => ⟨S4096x1x16, .f32⟩
  | 12 => ⟨S4096x3x16, .f32⟩
  | 13 => ⟨S4096x3x16, .f32⟩
  | 14 => ⟨S4096x3x1, .f32⟩
  | 15 => ⟨S1x1x16, .f32⟩
  | 16 => ⟨S4096x3x16, .f32⟩
  | 17 => ⟨S4096x3x16, .f32⟩
  | 18 => ⟨S4096x3x16, .f32⟩
  | 19 => ⟨S4096x3x16, .f32⟩
  | 20 => ⟨S_, .f32⟩
  | 21 => ⟨S4096x128, .f32⟩
  | 22 => ⟨S_, .f32⟩
  | 23 => ⟨S4096x128, .f32⟩
  | 24 => ⟨S4096x128, .f32⟩
  | 25 => ⟨S_, .f32⟩
  | 26 => ⟨S4096x3, .f32⟩
  | 27 => ⟨S_, .f32⟩
  | 28 => ⟨S4096x3, .f32⟩
  | 29 => ⟨S4096x3, .f32⟩
  | 30 => ⟨S4096x128, .f32⟩
  | 31 => ⟨S4096x128, .f32⟩
  | 32 => ⟨S4096x128, .f32⟩
  | 33 => ⟨S1x128, .f32⟩
  | 34 => ⟨S4096x128, .f32⟩
  | 35 => ⟨S4096x128, .f32⟩
  | 36 => ⟨S4096x128, .f32⟩
  | 37 => ⟨S4096x16, .f32⟩
  | 38 => ⟨S4096x16, .f32⟩
  | 39 => ⟨S4096x16, .f32⟩
  | 40 => ⟨S_, .f32⟩
  | 41 => ⟨S4096x16, .f32⟩
  | 42 => ⟨S4096x16, .f32⟩
  | 43 => ⟨S_, .f32⟩
  | 44 => ⟨S4096x16, .f32⟩
  | 45 => ⟨S4096x16, .f32⟩
  | 46 => ⟨S4096x1x16, .f32⟩
  | 47 => ⟨S4096x3x16, .f32⟩
  | 48 => ⟨S4096x3x16, .f32⟩
  | 49 => ⟨S4096x3x1, .f32⟩
  | 50 => ⟨S1x1x16, .f32⟩
  | 51 => ⟨S4096x3x16, .f32⟩
  | 52 => ⟨S4096x3x16, .f32⟩
  | 53 => ⟨S4096x3x16, .f32⟩
  | 54 => ⟨S4096x3x16, .f32⟩
  | 55 => ⟨S_, .f32⟩
  | 56 => ⟨S4096x128, .f32⟩
  | 57 => ⟨S_, .f32⟩
  | 58 => ⟨S4096x128, .f32⟩
  | 59 => ⟨S4096x128, .f32⟩
  | 60 => ⟨S_, .f32⟩
  | 61 => ⟨S4096x3, .f32⟩
  | 62 => ⟨S_, .f32⟩
  | 63 => ⟨S4096x3, .f32⟩
  | 64 => ⟨S4096x3, .f32⟩
  | 65 => ⟨S4096x128, .f32⟩
  | 66 => ⟨S4096x128, .f32⟩
  | 67 => ⟨S4096x128, .f32⟩
  | 68 => ⟨S1x128, .f32⟩
  | 69 => ⟨S4096x128, .f32⟩
  | 70 => ⟨S4096x128, .f32⟩
  | 71 => ⟨S4096x128, .f32⟩
  | 72 => ⟨S4096x16, .f32⟩
  | 73 => ⟨S4096x16, .f32⟩
  | 74 => ⟨S4096x16, .f32⟩
  | 75 => ⟨S_, .f32⟩
  | 76 => ⟨S4096x16, .f32⟩
  | 77 => ⟨S4096x16, .f32⟩
  | 78 => ⟨S_, .f32⟩
  | 79 => ⟨S4096x16, .f32⟩
  | 80 => ⟨S4096x16, .f32⟩
  | 81 => ⟨S4096x1x16, .f32⟩
  | 82 => ⟨S4096x3x16, .f32⟩
  | 83 => ⟨S4096x3x16, .f32⟩
  | 84 => ⟨S4096x3x1, .f32⟩
  | 85 => ⟨S1x1x16, .f32⟩
  | 86 => ⟨S4096x3x16, .f32⟩
  | 87 => ⟨S4096x3x16, .f32⟩
  | 88 => ⟨S4096x3x16, .f32⟩
  | 89 => ⟨S4096x3x16, .f32⟩
  | 90 => ⟨S_, .f32⟩
  | 91 => ⟨S4096x128, .f32⟩
  | 92 => ⟨S_, .f32⟩
  | 93 => ⟨S4096x128, .f32⟩
  | 94 => ⟨S4096x128, .f32⟩
  | 95 => ⟨S_, .f32⟩
  | 96 => ⟨S4096x3, .f32⟩
  | 97 => ⟨S_, .f32⟩
  | 98 => ⟨S4096x3, .f32⟩
  | 99 => ⟨S4096x3, .f32⟩
  | 100 => ⟨S4096x128, .f32⟩
  | 101 => ⟨S4096x128, .f32⟩
  | 102 => ⟨S4096x128, .f32⟩
  | 103 => ⟨S1x128, .f32⟩
  | 104 => ⟨S4096x128, .f32⟩
  | 105 => ⟨S4096x128, .f32⟩
  | 106 => ⟨S4096x128, .f32⟩
  | 107 => ⟨S4096x16, .f32⟩
  | 108 => ⟨S4096x16, .f32⟩
  | 109 => ⟨S4096x16, .f32⟩
  | 110 => ⟨S_, .f32⟩
  | 111 => ⟨S4096x16, .f32⟩
  | 112 => ⟨S4096x16, .f32⟩
  | 113 => ⟨S_, .f32⟩
  | 114 => ⟨S4096x16, .f32⟩
  | 115 => ⟨S4096x16, .f32⟩
  | 116 => ⟨S4096x1x16, .f32⟩
  | 117 => ⟨S4096x3x16, .f32⟩
  | 118 => ⟨S4096x3x16, .f32⟩
  | 119 => ⟨S4096x3x1, .f32⟩
  | 120 => ⟨S1x1x16, .f32⟩
  | 121 => ⟨S4096x3x16, .f32⟩
  | 122 => ⟨S4096x3x16, .f32⟩
  | 123 => ⟨S4096x3x16, .f32⟩
  | 124 => ⟨S4096x3x16, .f32⟩
  | 125 => ⟨S_, .f32⟩
  | 126 => ⟨S4096x128, .f32⟩
  | 127 => ⟨S_, .f32⟩
  | _ => ⟨S4096x128, .f32⟩

abbrev hbmTy0_2 (i : Nat) : BufTy := match i % 128 with
  | 0 => ⟨S4096x128, .f32⟩
  | 1 => ⟨S4096x128, .f32⟩
  | 2 => ⟨S_, .f32⟩
  | 3 => ⟨S4096x3, .f32⟩
  | 4 => ⟨S_, .f32⟩
  | 5 => ⟨S4096x3, .f32⟩
  | 6 => ⟨S4096x3, .f32⟩
  | 7 => ⟨S4096x128, .f32⟩
  | 8 => ⟨S4096x128, .f32⟩
  | 9 => ⟨S4096x128, .f32⟩
  | 10 => ⟨S1x128, .f32⟩
  | 11 => ⟨S4096x128, .f32⟩
  | 12 => ⟨S4096x128, .f32⟩
  | 13 => ⟨S4096x128, .f32⟩
  | 14 => ⟨S4096x16, .f32⟩
  | 15 => ⟨S4096x16, .f32⟩
  | 16 => ⟨S4096x16, .f32⟩
  | 17 => ⟨S_, .f32⟩
  | 18 => ⟨S4096x16, .f32⟩
  | 19 => ⟨S4096x16, .f32⟩
  | 20 => ⟨S_, .f32⟩
  | 21 => ⟨S4096x16, .f32⟩
  | 22 => ⟨S4096x16, .f32⟩
  | 23 => ⟨S4096x1x16, .f32⟩
  | 24 => ⟨S4096x3x16, .f32⟩
  | 25 => ⟨S4096x3x16, .f32⟩
  | 26 => ⟨S4096x3x1, .f32⟩
  | 27 => ⟨S1x1x16, .f32⟩
  | 28 => ⟨S4096x3x16, .f32⟩
  | 29 => ⟨S4096x3x16, .f32⟩
  | 30 => ⟨S4096x3x16, .f32⟩
  | 31 => ⟨S4096x3x16, .f32⟩
  | 32 => ⟨S_, .f32⟩
  | 33 => ⟨S4096x128, .f32⟩
  | 34 => ⟨S_, .f32⟩
  | 35 => ⟨S4096x128, .f32⟩
  | 36 => ⟨S4096x128, .f32⟩
  | 37 => ⟨S_, .f32⟩
  | 38 => ⟨S4096x3, .f32⟩
  | 39 => ⟨S_, .f32⟩
  | 40 => ⟨S4096x3, .f32⟩
  | 41 => ⟨S4096x3, .f32⟩
  | 42 => ⟨S4096x128, .f32⟩
  | 43 => ⟨S4096x128, .f32⟩
  | 44 => ⟨S4096x128, .f32⟩
  | 45 => ⟨S1x128, .f32⟩
  | 46 => ⟨S4096x128, .f32⟩
  | 47 => ⟨S4096x128, .f32⟩
  | 48 => ⟨S4096x128, .f32⟩
  | 49 => ⟨S4096x16, .f32⟩
  | 50 => ⟨S4096x16, .f32⟩
  | 51 => ⟨S4096x16, .f32⟩
  | 52 => ⟨S_, .f32⟩
  | 53 => ⟨S4096x16, .f32⟩
  | 54 => ⟨S4096x16, .f32⟩
  | 55 => ⟨S_, .f32⟩
  | 56 => ⟨S4096x16, .f32⟩
  | 57 => ⟨S4096x16, .f32⟩
  | 58 => ⟨S4096x1x16, .f32⟩
  | 59 => ⟨S4096x3x16, .f32⟩
  | 60 => ⟨S4096x3x16, .f32⟩
  | 61 => ⟨S4096x3x1, .f32⟩
  | 62 => ⟨S1x1x16, .f32⟩
  | 63 => ⟨S4096x3x16, .f32⟩
  | 64 => ⟨S4096x3x16, .f32⟩
  | 65 => ⟨S4096x3x16, .f32⟩
  | 66 => ⟨S4096x3x16, .f32⟩
  | 67 => ⟨S1x4096x128, .f32⟩
  | 68 => ⟨S1x4096x128, .f32⟩
  | 69 => ⟨S1x4096x128, .f32⟩
  | 70 => ⟨S1x4096x128, .f32⟩
  | 71 => ⟨S1x4096x128, .f32⟩
  | 72 => ⟨S1x4096x128, .f32⟩
  | 73 => ⟨S1x4096x128, .f32⟩
  | 74 => ⟨S1x4096x128, .f32⟩
  | 75 => ⟨S8x4096x128, .f32⟩
  | 76 => ⟨S1x4096x3x16, .f32⟩
  | 77 => ⟨S1x4096x3x16, .f32⟩
  | 78 => ⟨S1x4096x3x16, .f32⟩
  | 79 => ⟨S1x4096x3x16, .f32⟩
  | 80 => ⟨S1x4096x3x16, .f32⟩
  | 81 => ⟨S1x4096x3x16, .f32⟩
  | 82 => ⟨S1x4096x3x16, .f32⟩
  | 83 => ⟨S1x4096x3x16, .f32⟩
  | 84 => ⟨S8x4096x3x16, .f32⟩
  | _ => ⟨S4096x128, .f32⟩

abbrev hbmTy (i : Nat) : BufTy := match i / 128 with
  | 0 => hbmTy0_0 i
  | 1 => hbmTy0_1 i
  | 2 => hbmTy0_2 i
  | _ => ⟨S4096x128, .f32⟩

abbrev bufTy : (tb : Table) → Fin (tcTables nBuf tb) → BufTy
  | .hbm, ⟨i, _⟩ => hbmTy i
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_cst : Ref sig .tc := ⟨.hbm, 21, rfl⟩
abbrev main_v0 : Ref sig .tc := ⟨.hbm, 22, rfl⟩
abbrev main_cst_0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst_1 : Ref sig .tc := ⟨.hbm, 43, rfl⟩
abbrev main_v20 : Ref sig .tc := ⟨.hbm, 44, rfl⟩
abbrev main_cst_2 : Ref sig .tc := ⟨.hbm, 45, rfl⟩
abbrev main_v21 : Ref sig .tc := ⟨.hbm, 46, rfl⟩
abbrev main_v22 : Ref sig .tc := ⟨.hbm, 47, rfl⟩
abbrev main_cst_3 : Ref sig .tc := ⟨.hbm, 48, rfl⟩
abbrev main_v23 : Ref sig .tc := ⟨.hbm, 49, rfl⟩
abbrev main_cst_4 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_5 : Ref sig .tc := ⟨.hbm, 63, rfl⟩
abbrev main_v36 : Ref sig .tc := ⟨.hbm, 64, rfl⟩
abbrev main_v37 : Ref sig .tc := ⟨.hbm, 65, rfl⟩
abbrev main_cst_6 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_7 : Ref sig .tc := ⟨.hbm, 78, rfl⟩
abbrev main_v49 : Ref sig .tc := ⟨.hbm, 79, rfl⟩
abbrev main_cst_8 : Ref sig .tc := ⟨.hbm, 80, rfl⟩
abbrev main_v50 : Ref sig .tc := ⟨.hbm, 81, rfl⟩
abbrev main_v51 : Ref sig .tc := ⟨.hbm, 82, rfl⟩
abbrev main_cst_9 : Ref sig .tc := ⟨.hbm, 83, rfl⟩
abbrev main_v52 : Ref sig .tc := ⟨.hbm, 84, rfl⟩
abbrev main_cst_10 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_cst_11 : Ref sig .tc := ⟨.hbm, 98, rfl⟩
abbrev main_v65 : Ref sig .tc := ⟨.hbm, 99, rfl⟩
abbrev main_v66 : Ref sig .tc := ⟨.hbm, 100, rfl⟩
abbrev main_cst_12 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_cst_13 : Ref sig .tc := ⟨.hbm, 113, rfl⟩
abbrev main_v78 : Ref sig .tc := ⟨.hbm, 114, rfl⟩
abbrev main_cst_14 : Ref sig .tc := ⟨.hbm, 115, rfl⟩
abbrev main_v79 : Ref sig .tc := ⟨.hbm, 116, rfl⟩
abbrev main_v80 : Ref sig .tc := ⟨.hbm, 117, rfl⟩
abbrev main_cst_15 : Ref sig .tc := ⟨.hbm, 118, rfl⟩
abbrev main_v81 : Ref sig .tc := ⟨.hbm, 119, rfl⟩
abbrev main_cst_16 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_cst_17 : Ref sig .tc := ⟨.hbm, 133, rfl⟩
abbrev main_v94 : Ref sig .tc := ⟨.hbm, 134, rfl⟩
abbrev main_v95 : Ref sig .tc := ⟨.hbm, 135, rfl⟩
abbrev main_cst_18 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_cst_19 : Ref sig .tc := ⟨.hbm, 148, rfl⟩
abbrev main_v107 : Ref sig .tc := ⟨.hbm, 149, rfl⟩
abbrev main_cst_20 : Ref sig .tc := ⟨.hbm, 150, rfl⟩
abbrev main_v108 : Ref sig .tc := ⟨.hbm, 151, rfl⟩
abbrev main_v109 : Ref sig .tc := ⟨.hbm, 152, rfl⟩
abbrev main_cst_21 : Ref sig .tc := ⟨.hbm, 153, rfl⟩
abbrev main_v110 : Ref sig .tc := ⟨.hbm, 154, rfl⟩
abbrev main_cst_22 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_cst_23 : Ref sig .tc := ⟨.hbm, 168, rfl⟩
abbrev main_v123 : Ref sig .tc := ⟨.hbm, 169, rfl⟩
abbrev main_v124 : Ref sig .tc := ⟨.hbm, 170, rfl⟩
abbrev main_cst_24 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_cst_25 : Ref sig .tc := ⟨.hbm, 183, rfl⟩
abbrev main_v136 : Ref sig .tc := ⟨.hbm, 184, rfl⟩
abbrev main_cst_26 : Ref sig .tc := ⟨.hbm, 185, rfl⟩
abbrev main_v137 : Ref sig .tc := ⟨.hbm, 186, rfl⟩
abbrev main_v138 : Ref sig .tc := ⟨.hbm, 187, rfl⟩
abbrev main_cst_27 : Ref sig .tc := ⟨.hbm, 188, rfl⟩
abbrev main_v139 : Ref sig .tc := ⟨.hbm, 189, rfl⟩
abbrev main_cst_28 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_cst_29 : Ref sig .tc := ⟨.hbm, 203, rfl⟩
abbrev main_v152 : Ref sig .tc := ⟨.hbm, 204, rfl⟩
abbrev main_v153 : Ref sig .tc := ⟨.hbm, 205, rfl⟩
abbrev main_cst_30 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_cst_31 : Ref sig .tc := ⟨.hbm, 218, rfl⟩
abbrev main_v165 : Ref sig .tc := ⟨.hbm, 219, rfl⟩
abbrev main_cst_32 : Ref sig .tc := ⟨.hbm, 220, rfl⟩
abbrev main_v166 : Ref sig .tc := ⟨.hbm, 221, rfl⟩
abbrev main_v167 : Ref sig .tc := ⟨.hbm, 222, rfl⟩
abbrev main_cst_33 : Ref sig .tc := ⟨.hbm, 223, rfl⟩
abbrev main_v168 : Ref sig .tc := ⟨.hbm, 224, rfl⟩
abbrev main_cst_34 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_v173 : Ref sig .tc := ⟨.hbm, 230, rfl⟩
abbrev main_v174 : Ref sig .tc := ⟨.hbm, 231, rfl⟩
abbrev main_v175 : Ref sig .tc := ⟨.hbm, 232, rfl⟩
abbrev main_v176 : Ref sig .tc := ⟨.hbm, 233, rfl⟩
abbrev main_v177 : Ref sig .tc := ⟨.hbm, 234, rfl⟩
abbrev main_v178 : Ref sig .tc := ⟨.hbm, 235, rfl⟩
abbrev main_v179 : Ref sig .tc := ⟨.hbm, 236, rfl⟩
abbrev main_v180 : Ref sig .tc := ⟨.hbm, 237, rfl⟩
abbrev main_cst_35 : Ref sig .tc := ⟨.hbm, 238, rfl⟩
abbrev main_v181 : Ref sig .tc := ⟨.hbm, 239, rfl⟩
abbrev main_v182 : Ref sig .tc := ⟨.hbm, 240, rfl⟩
abbrev main_cst_36 : Ref sig .tc := ⟨.hbm, 241, rfl⟩
abbrev main_v183 : Ref sig .tc := ⟨.hbm, 242, rfl⟩
abbrev main_v184 : Ref sig .tc := ⟨.hbm, 243, rfl⟩
abbrev main_v185 : Ref sig .tc := ⟨.hbm, 244, rfl⟩
abbrev main_v186 : Ref sig .tc := ⟨.hbm, 245, rfl⟩
abbrev main_v187 : Ref sig .tc := ⟨.hbm, 246, rfl⟩
abbrev main_v188 : Ref sig .tc := ⟨.hbm, 247, rfl⟩
abbrev main_v189 : Ref sig .tc := ⟨.hbm, 248, rfl⟩
abbrev main_v190 : Ref sig .tc := ⟨.hbm, 249, rfl⟩
abbrev main_v191 : Ref sig .tc := ⟨.hbm, 250, rfl⟩
abbrev main_v192 : Ref sig .tc := ⟨.hbm, 251, rfl⟩
abbrev main_v193 : Ref sig .tc := ⟨.hbm, 252, rfl⟩
abbrev main_cst_37 : Ref sig .tc := ⟨.hbm, 253, rfl⟩
abbrev main_v194 : Ref sig .tc := ⟨.hbm, 254, rfl⟩
abbrev main_cst_38 : Ref sig .tc := ⟨.hbm, 255, rfl⟩
abbrev main_v195 : Ref sig .tc := ⟨.hbm, 256, rfl⟩
abbrev main_v196 : Ref sig .tc := ⟨.hbm, 257, rfl⟩
abbrev main_cst_39 : Ref sig .tc := ⟨.hbm, 258, rfl⟩
abbrev main_v197 : Ref sig .tc := ⟨.hbm, 259, rfl⟩
abbrev main_cst_40 : Ref sig .tc := ⟨.hbm, 260, rfl⟩
abbrev main_v198 : Ref sig .tc := ⟨.hbm, 261, rfl⟩
abbrev main_v199 : Ref sig .tc := ⟨.hbm, 262, rfl⟩
abbrev main_v200 : Ref sig .tc := ⟨.hbm, 263, rfl⟩
abbrev main_v201 : Ref sig .tc := ⟨.hbm, 264, rfl⟩
abbrev main_v202 : Ref sig .tc := ⟨.hbm, 265, rfl⟩
abbrev main_v203 : Ref sig .tc := ⟨.hbm, 266, rfl⟩
abbrev main_v204 : Ref sig .tc := ⟨.hbm, 267, rfl⟩
abbrev main_v205 : Ref sig .tc := ⟨.hbm, 268, rfl⟩
abbrev main_v206 : Ref sig .tc := ⟨.hbm, 269, rfl⟩
abbrev main_v207 : Ref sig .tc := ⟨.hbm, 270, rfl⟩
abbrev main_v208 : Ref sig .tc := ⟨.hbm, 271, rfl⟩
abbrev main_v209 : Ref sig .tc := ⟨.hbm, 272, rfl⟩
abbrev main_cst_41 : Ref sig .tc := ⟨.hbm, 273, rfl⟩
abbrev main_v210 : Ref sig .tc := ⟨.hbm, 274, rfl⟩
abbrev main_v211 : Ref sig .tc := ⟨.hbm, 275, rfl⟩
abbrev main_cst_42 : Ref sig .tc := ⟨.hbm, 276, rfl⟩
abbrev main_v212 : Ref sig .tc := ⟨.hbm, 277, rfl⟩
abbrev main_v213 : Ref sig .tc := ⟨.hbm, 278, rfl⟩
abbrev main_v214 : Ref sig .tc := ⟨.hbm, 279, rfl⟩
abbrev main_v215 : Ref sig .tc := ⟨.hbm, 280, rfl⟩
abbrev main_v216 : Ref sig .tc := ⟨.hbm, 281, rfl⟩
abbrev main_v217 : Ref sig .tc := ⟨.hbm, 282, rfl⟩
abbrev main_v218 : Ref sig .tc := ⟨.hbm, 283, rfl⟩
abbrev main_v219 : Ref sig .tc := ⟨.hbm, 284, rfl⟩
abbrev main_v220 : Ref sig .tc := ⟨.hbm, 285, rfl⟩
abbrev main_v221 : Ref sig .tc := ⟨.hbm, 286, rfl⟩
abbrev main_v222 : Ref sig .tc := ⟨.hbm, 287, rfl⟩
abbrev main_cst_43 : Ref sig .tc := ⟨.hbm, 288, rfl⟩
abbrev main_v223 : Ref sig .tc := ⟨.hbm, 289, rfl⟩
abbrev main_cst_44 : Ref sig .tc := ⟨.hbm, 290, rfl⟩
abbrev main_v224 : Ref sig .tc := ⟨.hbm, 291, rfl⟩
abbrev main_v225 : Ref sig .tc := ⟨.hbm, 292, rfl⟩
abbrev main_cst_45 : Ref sig .tc := ⟨.hbm, 293, rfl⟩
abbrev main_v226 : Ref sig .tc := ⟨.hbm, 294, rfl⟩
abbrev main_cst_46 : Ref sig .tc := ⟨.hbm, 295, rfl⟩
abbrev main_v227 : Ref sig .tc := ⟨.hbm, 296, rfl⟩
abbrev main_v228 : Ref sig .tc := ⟨.hbm, 297, rfl⟩
abbrev main_v229 : Ref sig .tc := ⟨.hbm, 298, rfl⟩
abbrev main_v230 : Ref sig .tc := ⟨.hbm, 299, rfl⟩
abbrev main_v231 : Ref sig .tc := ⟨.hbm, 300, rfl⟩
abbrev main_v232 : Ref sig .tc := ⟨.hbm, 301, rfl⟩
abbrev main_v233 : Ref sig .tc := ⟨.hbm, 302, rfl⟩
abbrev main_v234 : Ref sig .tc := ⟨.hbm, 303, rfl⟩
abbrev main_v235 : Ref sig .tc := ⟨.hbm, 304, rfl⟩
abbrev main_v236 : Ref sig .tc := ⟨.hbm, 305, rfl⟩
abbrev main_v237 : Ref sig .tc := ⟨.hbm, 306, rfl⟩
abbrev main_v238 : Ref sig .tc := ⟨.hbm, 307, rfl⟩
abbrev main_cst_47 : Ref sig .tc := ⟨.hbm, 308, rfl⟩
abbrev main_v239 : Ref sig .tc := ⟨.hbm, 309, rfl⟩
abbrev main_v240 : Ref sig .tc := ⟨.hbm, 310, rfl⟩
abbrev main_cst_48 : Ref sig .tc := ⟨.hbm, 311, rfl⟩
abbrev main_v241 : Ref sig .tc := ⟨.hbm, 312, rfl⟩
abbrev main_v242 : Ref sig .tc := ⟨.hbm, 313, rfl⟩
abbrev main_v243 : Ref sig .tc := ⟨.hbm, 314, rfl⟩
abbrev main_v244 : Ref sig .tc := ⟨.hbm, 315, rfl⟩
abbrev main_v245 : Ref sig .tc := ⟨.hbm, 316, rfl⟩
abbrev main_v246 : Ref sig .tc := ⟨.hbm, 317, rfl⟩
abbrev main_v247 : Ref sig .tc := ⟨.hbm, 318, rfl⟩
abbrev main_v248 : Ref sig .tc := ⟨.hbm, 319, rfl⟩
abbrev main_v249 : Ref sig .tc := ⟨.hbm, 320, rfl⟩
abbrev main_v250 : Ref sig .tc := ⟨.hbm, 321, rfl⟩
abbrev main_v251 : Ref sig .tc := ⟨.hbm, 322, rfl⟩
abbrev main_v252 : Ref sig .tc := ⟨.hbm, 323, rfl⟩
abbrev main_v253 : Ref sig .tc := ⟨.hbm, 324, rfl⟩
abbrev main_v254 : Ref sig .tc := ⟨.hbm, 325, rfl⟩
abbrev main_v255 : Ref sig .tc := ⟨.hbm, 326, rfl⟩
abbrev main_v256 : Ref sig .tc := ⟨.hbm, 327, rfl⟩
abbrev main_v257 : Ref sig .tc := ⟨.hbm, 328, rfl⟩
abbrev main_v258 : Ref sig .tc := ⟨.hbm, 329, rfl⟩
abbrev main_v259 : Ref sig .tc := ⟨.hbm, 330, rfl⟩
abbrev main_v260 : Ref sig .tc := ⟨.hbm, 331, rfl⟩
abbrev main_v261 : Ref sig .tc := ⟨.hbm, 332, rfl⟩
abbrev main_v262 : Ref sig .tc := ⟨.hbm, 333, rfl⟩
abbrev main_v263 : Ref sig .tc := ⟨.hbm, 334, rfl⟩
abbrev main_v264 : Ref sig .tc := ⟨.hbm, 335, rfl⟩
abbrev main_v265 : Ref sig .tc := ⟨.hbm, 336, rfl⟩
abbrev main_v266 : Ref sig .tc := ⟨.hbm, 337, rfl⟩
abbrev main_v267 : Ref sig .tc := ⟨.hbm, 338, rfl⟩
abbrev main_v268 : Ref sig .tc := ⟨.hbm, 339, rfl⟩
abbrev main_v269 : Ref sig .tc := ⟨.hbm, 340, rfl⟩

abbrev nD : Nat := 1
abbrev τ : Topo := Topo.v7x

variable {F : FTy → Type} [FloatOps F]
-- ==== Gather.lean ====
abbrev S4096 : Shape := ⟨1, ![4096]⟩
abbrev S4096x1x128 : Shape := ⟨3, ![4096, 1, 128]⟩
abbrev S4096x1x3 : Shape := ⟨3, ![4096, 1, 3]⟩
abbrev S4096x128 : Shape := ⟨2, ![4096, 128]⟩
abbrev S4096x3 : Shape := ⟨2, ![4096, 3]⟩
abbrev S16x128 : Shape := ⟨2, ![16, 128]⟩
abbrev S16x3 : Shape := ⟨2, ![16, 3]⟩
abbrev S2x16x1x128 : Shape := ⟨4, ![2, 16, 1, 128]⟩
abbrev S2x16x1x3 : Shape := ⟨4, ![2, 16, 1, 3]⟩
abbrev S2x16 : Shape := ⟨2, ![2, 16]⟩
abbrev S1 : Shape := ⟨1, ![1]⟩
abbrev S1x1 : Shape := ⟨2, ![1, 1]⟩
abbrev S_ : Shape := ⟨0, ![]⟩
abbrev S1x1x1x128 : Shape := ⟨4, ![1, 1, 1, 128]⟩
abbrev S1x128 : Shape := ⟨2, ![1, 128]⟩
abbrev S1x1x128 : Shape := ⟨3, ![1, 1, 128]⟩
abbrev S1x1x1x3 : Shape := ⟨4, ![1, 1, 1, 3]⟩
abbrev S1x3 : Shape := ⟨2, ![1, 3]⟩
abbrev S1x1x3 : Shape := ⟨3, ![1, 1, 3]⟩
abbrev S1x16x1x128 : Shape := ⟨4, ![1, 16, 1, 128]⟩
abbrev S1x16x1x3 : Shape := ⟨4, ![1, 16, 1, 3]⟩

abbrev nBuf : Space → Nat
  | .hbm => 4
  | .vmem => 6
  | .smem => 1
  | _ => 0

abbrev bufTy : (tb : Table) → Fin (tcTables nBuf tb) → BufTy
  | .hbm, ⟨0, _⟩ => ⟨S4096x1x128, .f32⟩
  | .hbm, ⟨1, _⟩ => ⟨S4096x1x3, .f32⟩
  | .hbm, ⟨2, _⟩ => ⟨S4096x128, .f32⟩
  | .hbm, ⟨3, _⟩ => ⟨S4096x3, .f32⟩
  | .local _ .vmem, ⟨0, _⟩ => ⟨S16x128, .f32⟩
  | .local _ .vmem, ⟨1, _⟩ => ⟨S16x128, .f32⟩
  | .local _ .vmem, ⟨2, _⟩ => ⟨S16x3, .f32⟩
  | .local _ .vmem, ⟨3, _⟩ => ⟨S16x3, .f32⟩
  | .local _ .vmem, ⟨4, _⟩ => ⟨S2x16x1x128, .f32⟩
  | .local _ .vmem, ⟨5, _⟩ => ⟨S2x16x1x3, .f32⟩
  | .local _ .smem, ⟨0, _⟩ => ⟨S4096, .i32⟩
  | _, _ => ⟨S4096x1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  ofTc nBuf bufTy 0 68 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0_0 : Ref sig .tc := ⟨.hbm, 2, rfl⟩
abbrev main_v0_1 : Ref sig .tc := ⟨.hbm, 3, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![256], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (v281 : BitVec 32) : Fin 3 → Nat :=
  let c0_i32_233 : BitVec 32 := 0#32
  let c0_i32_234 : BitVec 32 := 0#32
  ![v281.toNat, 0, 0]

def k0_off2 (v281 : BitVec 32) : Fin 3 → Nat :=
  let c0_i32_241 : BitVec 32 := 0#32
  let c0_i32_242 : BitVec 32 := 0#32
  ![v281.toNat, 0, 0]

def k0_chk1 (i : grid0.Coords) (v281 : BitVec 32) : Prop :=
  (∀ (k0_h1 : k0_cond1 i = 1#1), ∀ a, (k0_off1 v281) a + S1x1x128.size a ≤ S4096x1x128.size a) ∧
  (∀ (k0_h1 : k0_cond1 i = 1#1), ∀ a, (k0_off2 v281) a + S1x1x3.size a ≤ S4096x1x3.size a)
theorem k0_off1_inb : ∀ (i : grid0.Coords) (v281 : BitVec 32) (k0_hw1 : k0_chk1 i v281), ∀ (k0_h1 : k0_cond1 i = 1#1), ∀ a, (k0_off1 v281) a + S1x1x128.size a ≤ S4096x1x128.size a := fun i v281 k0_hw1 k0_h1 => k0_hw1.1 k0_h1
theorem k0_off2_inb : ∀ (i : grid0.Coords) (v281 : BitVec 32) (k0_hw1 : k0_chk1 i v281), ∀ (k0_h1 : k0_cond1 i = 1#1), ∀ a, (k0_off2 v281) a + S1x1x3.size a ≤ S4096x1x3.size a := fun i v281 k0_hw1 k0_h1 => k0_hw1.2 k0_h1

def k0_off3 (v282 : BitVec 32) : Fin 3 → Nat :=
  let c0_i32_249 : BitVec 32 := 0#32
  let c0_i32_250 : BitVec 32 := 0#32
  ![v282.toNat, 0, 0]

def k0_off4 (v282 : BitVec 32) : Fin 3 → Nat :=
  let c0_i32_257 : BitVec 32 := 0#32
  let c0_i32_258 : BitVec 32 := 0#32
  ![v282.toNat, 0, 0]

def k0_chk2 (i : grid0.Coords) (v282 : BitVec 32) : Prop :=
  (∀ (k0_h1 : k0_cond1 i = 1#1), ∀ a, (k0_off3 v282) a + S1x1x128.size a ≤ S4096x1x128.size a) ∧
  (∀ (k0_h1 : k0_cond1 i = 1#1), ∀ a, (k0_off4 v282) a + S1x1x3.size a ≤ S4096x1x3.size a)
theorem k0_off3_inb : ∀ (i : grid0.Coords) (v282 : BitVec 32) (k0_hw2 : k0_chk2 i v282), ∀ (k0_h1 : k0_cond1 i = 1#1), ∀ a, (k0_off3 v282) a + S1x1x128.size a ≤ S4096x1x128.size a := fun i v282 k0_hw2 k0_h1 => k0_hw2.1 k0_h1
theorem k0_off4_inb : ∀ (i : grid0.Coords) (v282 : BitVec 32) (k0_hw2 : k0_chk2 i v282), ∀ (k0_h1 : k0_cond1 i = 1#1), ∀ a, (k0_off4 v282) a + S1x1x3.size a ≤ S4096x1x3.size a := fun i v282 k0_hw2 k0_h1 => k0_hw2.2 k0_h1

def k0_off5 (v283 : BitVec 32) : Fin 3 → Nat :=
  let c0_i32_265 : BitVec 32 := 0#32
  let c0_i32_266 : BitVec 32 := 0#32
  ![v283.toNat, 0, 0]

def k0_off6 (v283 : BitVec 32) : Fin 3 → Nat :=
  let c0_i32_273 : BitVec 32 := 0#32
  let c0_i32_274 : BitVec 32 := 0#32
  ![v283.toNat, 0, 0]

def k0_chk3 (i : grid0.Coords) (v283 : BitVec 32) : Prop :=
  (∀ (k0_h1 : k0_cond1 i = 1#1), ∀ a, (k0_off5 v283) a + S1x1x128.size a ≤ S4096x1x128.size a) ∧
  (∀ (k0_h1 : k0_cond1 i = 1#1), ∀ a, (k0_off6 v283) a + S1x1x3.size a ≤ S4096x1x3.size a)
theorem k0_off5_inb : ∀ (i : grid0.Coords) (v283 : BitVec 32) (k0_hw3 : k0_chk3 i v283), ∀ (k0_h1 : k0_cond1 i = 1#1), ∀ a, (k0_off5 v283) a + S1x1x128.size a ≤ S4096x1x128.size a := fun i v283 k0_hw3 k0_h1 => k0_hw3.1 k0_h1
theorem k0_off6_inb : ∀ (i : grid0.Coords) (v283 : BitVec 32) (k0_hw3 : k0_chk3 i v283), ∀ (k0_h1 : k0_cond1 i = 1#1), ∀ a, (k0_off6 v283) a + S1x1x3.size a ≤ S4096x1x3.size a := fun i v283 k0_hw3 k0_h1 => k0_hw3.2 k0_h1

def k0_off7 (v284 : BitVec 32) : Fin 3 → Nat :=
  let c0_i32_281 : BitVec 32 := 0#32
  let c0_i32_282 : BitVec 32 := 0#32
  ![v284.toNat, 0, 0]

def k0_off8 (v284 : BitVec 32) : Fin 3 → Nat :=
  let c0_i32_289 : BitVec 32 := 0#32
  let c0_i32_290 : BitVec 32 := 0#32
  ![v284.toNat, 0, 0]

def k0_chk4 (i : grid0.Coords) (v284 : BitVec 32) : Prop :=
  (∀ (k0_h1 : k0_cond1 i = 1#1), ∀ a, (k0_off7 v284) a + S1x1x128.size a ≤ S4096x1x128.size a) ∧
  (∀ (k0_h1 : k0_cond1 i = 1#1), ∀ a, (k0_off8 v284) a + S1x1x3.size a ≤ S4096x1x3.size a)
theorem k0_off7_inb : ∀ (i : grid0.Coords) (v284 : BitVec 32) (k0_hw4 : k0_chk4 i v284), ∀ (k0_h1 : k0_cond1 i = 1#1), ∀ a, (k0_off7 v284) a + S1x1x128.size a ≤ S4096x1x128.size a := fun i v284 k0_hw4 k0_h1 => k0_hw4.1 k0_h1
theorem k0_off8_inb : ∀ (i : grid0.Coords) (v284 : BitVec 32) (k0_hw4 : k0_chk4 i v284), ∀ (k0_h1 : k0_cond1 i = 1#1), ∀ a, (k0_off8 v284) a + S1x1x3.size a ≤ S4096x1x3.size a := fun i v284 k0_hw4 k0_h1 => k0_hw4.2 k0_h1

def k0_off9 (v285 : BitVec 32) : Fin 3 → Nat :=
  let c0_i32_297 : BitVec 32 := 0#32
  let c0_i32_298 : BitVec 32 := 0#32
  ![v285.toNat, 0, 0]

def k0_off10 (v285 : BitVec 32) : Fin 3 → Nat :=
  let c0_i32_305 : BitVec 32 := 0#32
  let c0_i32_306 : BitVec 32 := 0#32
  ![v285.toNat, 0, 0]

def k0_chk5 (i : grid0.Coords) (v285 : BitVec 32) : Prop :=
  (∀ (k0_h1 : k0_cond1 i = 1#1), ∀ a, (k0_off9 v285) a + S1x1x128.size a ≤ S4096x1x128.size a) ∧
  (∀ (k0_h1 : k0_cond1 i = 1#1), ∀ a, (k0_off10 v285) a + S1x1x3.size a ≤ S4096x1x3.size a)
theorem k0_off9_inb : ∀ (i : grid0.Coords) (v285 : BitVec 32) (k0_hw5 : k0_chk5 i v285), ∀ (k0_h1 : k0_cond1 i = 1#1), ∀ a, (k0_off9 v285) a + S1x1x128.size a ≤ S4096x1x128.size a := fun i v285 k0_hw5 k0_h1 => k0_hw5.1 k0_h1
theorem k0_off10_inb : ∀ (i : grid0.Coords) (v285 : BitVec 32) (k0_hw5 : k0_chk5 i v285), ∀ (k0_h1 : k0_cond1 i = 1#1), ∀ a, (k0_off10 v285) a + S1x1x3.size a ≤ S4096x1x3.size a := fun i v285 k0_hw5 k0_h1 => k0_hw5.2 k0_h1

def k0_off11 (v286 : BitVec 32) : Fin 3 → Nat :=
  let c0_i32_313 : BitVec 32 := 0#32
  let c0_i32_314 : BitVec 32 := 0#32
  ![v286.toNat, 0, 0]

def k0_off12 (v286 : BitVec 32) : Fin 3 → Nat :=
  let c0_i32_321 : BitVec 32 := 0#32
  let c0_i32_322 : BitVec 32 := 0#32
  ![v286.toNat, 0, 0]

def k0_chk6 (i : grid0.Coords) (v286 : BitVec 32) : Prop :=
  (∀ (k0_h1 : k0_cond1 i = 1#1), ∀ a, (k0_off11 v286) a + S1x1x128.size a ≤ S4096x1x128.size a) ∧
  (∀ (k0_h1 : k0_cond1 i = 1#1), ∀ a, (k0_off12 v286) a + S1x1x3.size a ≤ S4096x1x3.size a)
theorem k0_off11_inb : ∀ (i : grid0.Coords) (v286 : BitVec 32) (k0_hw6 : k0_chk6 i v286), ∀ (k0_h1 : k0_cond1 i = 1#1), ∀ a, (k0_off11 v286) a + S1x1x128.size a ≤ S4096x1x128.size a := fun i v286 k0_hw6 k0_h1 => k0_hw6.1 k0_h1
theorem k0_off12_inb : ∀ (i : grid0.Coords) (v286 : BitVec 32) (k0_hw6 : k0_chk6 i v286), ∀ (k0_h1 : k0_cond1 i = 1#1), ∀ a, (k0_off12 v286) a + S1x1x3.size a ≤ S4096x1x3.size a := fun i v286 k0_hw6 k0_h1 => k0_hw6.2 k0_h1

def k0_off13 (v287 : BitVec 32) : Fin 3 → Nat :=
  let c0_i32_329 : BitVec 32 := 0#32
  let c0_i32_330 : BitVec 32 := 0#32
  ![v287.toNat, 0, 0]

def k0_off14 (v287 : BitVec 32) : Fin 3 → Nat :=
  let c0_i32_337 : BitVec 32 := 0#32
  let c0_i32_338 : BitVec 32 := 0#32
  ![v287.toNat, 0, 0]

def k0_chk7 (i : grid0.Coords) (v287 : BitVec 32) : Prop :=
  (∀ (k0_h1 : k0_cond1 i = 1#1), ∀ a, (k0_off13 v287) a + S1x1x128.size a ≤ S4096x1x128.size a) ∧
  (∀ (k0_h1 : k0_cond1 i = 1#1), ∀ a, (k0_off14 v287) a + S1x1x3.size a ≤ S4096x1x3.size a)
theorem k0_off13_inb : ∀ (i : grid0.Coords) (v287 : BitVec 32) (k0_hw7 : k0_chk7 i v287), ∀ (k0_h1 : k0_cond1 i = 1#1), ∀ a, (k0_off13 v287) a + S1x1x128.size a ≤ S4096x1x128.size a := fun i v287 k0_hw7 k0_h1 => k0_hw7.1 k0_h1
theorem k0_off14_inb : ∀ (i : grid0.Coords) (v287 : BitVec 32) (k0_hw7 : k0_chk7 i v287), ∀ (k0_h1 : k0_cond1 i = 1#1), ∀ a, (k0_off14 v287) a + S1x1x3.size a ≤ S4096x1x3.size a := fun i v287 k0_hw7 k0_h1 => k0_hw7.2 k0_h1

def k0_off15 (v288 : BitVec 32) : Fin 3 → Nat :=
  let c0_i32_345 : BitVec 32 := 0#32
  let c0_i32_346 : BitVec 32 := 0#32
  ![v288.toNat, 0, 0]

def k0_off16 (v288 : BitVec 32) : Fin 3 → Nat :=
  let c0_i32_353 : BitVec 32 := 0#32
  let c0_i32_354 : BitVec 32 := 0#32
  ![v288.toNat, 0, 0]

def k0_chk8 (i : grid0.Coords) (v288 : BitVec 32) : Prop :=
  (∀ (k0_h1 : k0_cond1 i = 1#1), ∀ a, (k0_off15 v288) a + S1x1x128.size a ≤ S4096x1x128.size a) ∧
  (∀ (k0_h1 : k0_cond1 i = 1#1), ∀ a, (k0_off16 v288) a + S1x1x3.size a ≤ S4096x1x3.size a)
theorem k0_off15_inb : ∀ (i : grid0.Coords) (v288 : BitVec 32) (k0_hw8 : k0_chk8 i v288), ∀ (k0_h1 : k0_cond1 i = 1#1), ∀ a, (k0_off15 v288) a + S1x1x128.size a ≤ S4096x1x128.size a := fun i v288 k0_hw8 k0_h1 => k0_hw8.1 k0_h1
theorem k0_off16_inb : ∀ (i : grid0.Coords) (v288 : BitVec 32) (k0_hw8 : k0_chk8 i v288), ∀ (k0_h1 : k0_cond1 i = 1#1), ∀ a, (k0_off16 v288) a + S1x1x3.size a ≤ S4096x1x3.size a := fun i v288 k0_hw8 k0_h1 => k0_hw8.2 k0_h1

def k0_off17 (v289 : BitVec 32) : Fin 3 → Nat :=
  let c0_i32_361 : BitVec 32 := 0#32
  let c0_i32_362 : BitVec 32 := 0#32
  ![v289.toNat, 0, 0]

def k0_off18 (v289 : BitVec 32) : Fin 3 → Nat :=
  let c0_i32_369 : BitVec 32 := 0#32
  let c0_i32_370 : BitVec 32 := 0#32
  ![v289.toNat, 0, 0]

def k0_chk9 (i : grid0.Coords) (v289 : BitVec 32) : Prop :=
  (∀ (k0_h1 : k0_cond1 i = 1#1), ∀ a, (k0_off17 v289) a + S1x1x128.size a ≤ S4096x1x128.size a) ∧
  (∀ (k0_h1 : k0_cond1 i = 1#1), ∀ a, (k0_off18 v289) a + S1x1x3.size a ≤ S4096x1x3.size a)
theorem k0_off17_inb : ∀ (i : grid0.Coords) (v289 : BitVec 32) (k0_hw9 : k0_chk9 i v289), ∀ (k0_h1 : k0_cond1 i = 1#1), ∀ a, (k0_off17 v289) a + S1x1x128.size a ≤ S4096x1x128.size a := fun i v289 k0_hw9 k0_h1 => k0_hw9.1 k0_h1
theorem k0_off18_inb : ∀ (i : grid0.Coords) (v289 : BitVec 32) (k0_hw9 : k0_chk9 i v289), ∀ (k0_h1 : k0_cond1 i = 1#1), ∀ a, (k0_off18 v289) a + S1x1x3.size a ≤ S4096x1x3.size a := fun i v289 k0_hw9 k0_h1 => k0_hw9.2 k0_h1

def k0_off19 (v290 : BitVec 32) : Fin 3 → Nat :=
  let c0_i32_377 : BitVec 32 := 0#32
  let c0_i32_378 : BitVec 32 := 0#32
  ![v290.toNat, 0, 0]

def k0_off20 (v290 : BitVec 32) : Fin 3 → Nat :=
  let c0_i32_385 : BitVec 32 := 0#32
  let c0_i32_386 : BitVec 32 := 0#32
  ![v290.toNat, 0, 0]

def k0_chk10 (i : grid0.Coords) (v290 : BitVec 32) : Prop :=
  (∀ (k0_h1 : k0_cond1 i = 1#1), ∀ a, (k0_off19 v290) a + S1x1x128.size a ≤ S4096x1x128.size a) ∧
  (∀ (k0_h1 : k0_cond1 i = 1#1), ∀ a, (k0_off20 v290) a + S1x1x3.size a ≤ S4096x1x3.size a)
theorem k0_off19_inb : ∀ (i : grid0.Coords) (v290 : BitVec 32) (k0_hw10 : k0_chk10 i v290), ∀ (k0_h1 : k0_cond1 i = 1#1), ∀ a, (k0_off19 v290) a + S1x1x128.size a ≤ S4096x1x128.size a := fun i v290 k0_hw10 k0_h1 => k0_hw10.1 k0_h1
theorem k0_off20_inb : ∀ (i : grid0.Coords) (v290 : BitVec 32) (k0_hw10 : k0_chk10 i v290), ∀ (k0_h1 : k0_cond1 i = 1#1), ∀ a, (k0_off20 v290) a + S1x1x3.size a ≤ S4096x1x3.size a := fun i v290 k0_hw10 k0_h1 => k0_hw10.2 k0_h1

def k0_off21 (v291 : BitVec 32) : Fin 3 → Nat :=
  let c0_i32_393 : BitVec 32 := 0#32
  let c0_i32_394 : BitVec 32 := 0#32
  ![v291.toNat, 0, 0]

def k0_off22 (v291 : BitVec 32) : Fin 3 → Nat :=
  let c0_i32_401 : BitVec 32 := 0#32
  let c0_i32_402 : BitVec 32 := 0#32
  ![v291.toNat, 0, 0]

def k0_chk11 (i : grid0.Coords) (v291 : BitVec 32) : Prop :=
  (∀ (k0_h1 : k0_cond1 i = 1#1), ∀ a, (k0_off21 v291) a + S1x1x128.size a ≤ S4096x1x128.size a) ∧
  (∀ (k0_h1 : k0_cond1 i = 1#1), ∀ a, (k0_off22 v291) a + S1x1x3.size a ≤ S4096x1x3.size a)
theorem k0_off21_inb : ∀ (i : grid0.Coords) (v291 : BitVec 32) (k0_hw11 : k0_chk11 i v291), ∀ (k0_h1 : k0_cond1 i = 1#1), ∀ a, (k0_off21 v291) a + S1x1x128.size a ≤ S4096x1x128.size a := fun i v291 k0_hw11 k0_h1 => k0_hw11.1 k0_h1
theorem k0_off22_inb : ∀ (i : grid0.Coords) (v291 : BitVec 32) (k0_hw11 : k0_chk11 i v291), ∀ (k0_h1 : k0_cond1 i = 1#1), ∀ a, (k0_off22 v291) a + S1x1x3.size a ≤ S4096x1x3.size a := fun i v291 k0_hw11 k0_h1 => k0_hw11.2 k0_h1

def k0_off23 (v292 : BitVec 32) : Fin 3 → Nat :=
  let c0_i32_409 : BitVec 32 := 0#32
  let c0_i32_410 : BitVec 32 := 0#32
  ![v292.toNat, 0, 0]

def k0_off24 (v292 : BitVec 32) : Fin 3 → Nat :=
  let c0_i32_417 : BitVec 32 := 0#32
  let c0_i32_418 : BitVec 32 := 0#32
  ![v292.toNat, 0, 0]

def k0_chk12 (i : grid0.Coords) (v292 : BitVec 32) : Prop :=
  (∀ (k0_h1 : k0_cond1 i = 1#1), ∀ a, (k0_off23 v292) a + S1x1x128.size a ≤ S4096x1x128.size a) ∧
  (∀ (k0_h1 : k0_cond1 i = 1#1), ∀ a, (k0_off24 v292) a + S1x1x3.size a ≤ S4096x1x3.size a)
theorem k0_off23_inb : ∀ (i : grid0.Coords) (v292 : BitVec 32) (k0_hw12 : k0_chk12 i v292), ∀ (k0_h1 : k0_cond1 i = 1#1), ∀ a, (k0_off23 v292) a + S1x1x128.size a ≤ S4096x1x128.size a := fun i v292 k0_hw12 k0_h1 => k0_hw12.1 k0_h1
theorem k0_off24_inb : ∀ (i : grid0.Coords) (v292 : BitVec 32) (k0_hw12 : k0_chk12 i v292), ∀ (k0_h1 : k0_cond1 i = 1#1), ∀ a, (k0_off24 v292) a + S1x1x3.size a ≤ S4096x1x3.size a := fun i v292 k0_hw12 k0_h1 => k0_hw12.2 k0_h1

def k0_off25 (v293 : BitVec 32) : Fin 3 → Nat :=
  let c0_i32_425 : BitVec 32 := 0#32
  let c0_i32_426 : BitVec 32 := 0#32
  ![v293.toNat, 0, 0]

def k0_off26 (v293 : BitVec 32) : Fin 3 → Nat :=
  let c0_i32_433 : BitVec 32 := 0#32
  let c0_i32_434 : BitVec 32 := 0#32
  ![v293.toNat, 0, 0]

def k0_chk13 (i : grid0.Coords) (v293 : BitVec 32) : Prop :=
  (∀ (k0_h1 : k0_cond1 i = 1#1), ∀ a, (k0_off25 v293) a + S1x1x128.size a ≤ S4096x1x128.size a) ∧
  (∀ (k0_h1 : k0_cond1 i = 1#1), ∀ a, (k0_off26 v293) a + S1x1x3.size a ≤ S4096x1x3.size a)
theorem k0_off25_inb : ∀ (i : grid0.Coords) (v293 : BitVec 32) (k0_hw13 : k0_chk13 i v293), ∀ (k0_h1 : k0_cond1 i = 1#1), ∀ a, (k0_off25 v293) a + S1x1x128.size a ≤ S4096x1x128.size a := fun i v293 k0_hw13 k0_h1 => k0_hw13.1 k0_h1
theorem k0_off26_inb : ∀ (i : grid0.Coords) (v293 : BitVec 32) (k0_hw13 : k0_chk13 i v293), ∀ (k0_h1 : k0_cond1 i = 1#1), ∀ a, (k0_off26 v293) a + S1x1x3.size a ≤ S4096x1x3.size a := fun i v293 k0_hw13 k0_h1 => k0_hw13.2 k0_h1

def k0_off27 (v294 : BitVec 32) : Fin 3 → Nat :=
  let c0_i32_441 : BitVec 32 := 0#32
  let c0_i32_442 : BitVec 32 := 0#32
  ![v294.toNat, 0, 0]

def k0_off28 (v294 : BitVec 32) : Fin 3 → Nat :=
  let c0_i32_449 : BitVec 32 := 0#32
  let c0_i32_450 : BitVec 32 := 0#32
  ![v294.toNat, 0, 0]

def k0_chk14 (i : grid0.Coords) (v294 : BitVec 32) : Prop :=
  (∀ (k0_h1 : k0_cond1 i = 1#1), ∀ a, (k0_off27 v294) a + S1x1x128.size a ≤ S4096x1x128.size a) ∧
  (∀ (k0_h1 : k0_cond1 i = 1#1), ∀ a, (k0_off28 v294) a + S1x1x3.size a ≤ S4096x1x3.size a)
theorem k0_off27_inb : ∀ (i : grid0.Coords) (v294 : BitVec 32) (k0_hw14 : k0_chk14 i v294), ∀ (k0_h1 : k0_cond1 i = 1#1), ∀ a, (k0_off27 v294) a + S1x1x128.size a ≤ S4096x1x128.size a := fun i v294 k0_hw14 k0_h1 => k0_hw14.1 k0_h1
theorem k0_off28_inb : ∀ (i : grid0.Coords) (v294 : BitVec 32) (k0_hw14 : k0_chk14 i v294), ∀ (k0_h1 : k0_cond1 i = 1#1), ∀ a, (k0_off28 v294) a + S1x1x3.size a ≤ S4096x1x3.size a := fun i v294 k0_hw14 k0_h1 => k0_hw14.2 k0_h1

def k0_off29 (v295 : BitVec 32) : Fin 3 → Nat :=
  let c0_i32_457 : BitVec 32 := 0#32
  let c0_i32_458 : BitVec 32 := 0#32
  ![v295.toNat, 0, 0]

def k0_off30 (v295 : BitVec 32) : Fin 3 → Nat :=
  let c0_i32_465 : BitVec 32 := 0#32
  let c0_i32_466 : BitVec 32 := 0#32
  ![v295.toNat, 0, 0]

def k0_chk15 (i : grid0.Coords) (v295 : BitVec 32) : Prop :=
  (∀ (k0_h1 : k0_cond1 i = 1#1), ∀ a, (k0_off29 v295) a + S1x1x128.size a ≤ S4096x1x128.size a) ∧
  (∀ (k0_h1 : k0_cond1 i = 1#1), ∀ a, (k0_off30 v295) a + S1x1x3.size a ≤ S4096x1x3.size a)
theorem k0_off29_inb : ∀ (i : grid0.Coords) (v295 : BitVec 32) (k0_hw15 : k0_chk15 i v295), ∀ (k0_h1 : k0_cond1 i = 1#1), ∀ a, (k0_off29 v295) a + S1x1x128.size a ≤ S4096x1x128.size a := fun i v295 k0_hw15 k0_h1 => k0_hw15.1 k0_h1
theorem k0_off30_inb : ∀ (i : grid0.Coords) (v295 : BitVec 32) (k0_hw15 : k0_chk15 i v295), ∀ (k0_h1 : k0_cond1 i = 1#1), ∀ a, (k0_off30 v295) a + S1x1x3.size a ≤ S4096x1x3.size a := fun i v295 k0_hw15 k0_h1 => k0_hw15.2 k0_h1

def k0_off31 (v296 : BitVec 32) : Fin 3 → Nat :=
  let c0_i32_473 : BitVec 32 := 0#32
  let c0_i32_474 : BitVec 32 := 0#32
  ![v296.toNat, 0, 0]

def k0_off32 (v296 : BitVec 32) : Fin 3 → Nat :=
  let c0_i32_481 : BitVec 32 := 0#32
  let c0_i32_482 : BitVec 32 := 0#32
  ![v296.toNat, 0, 0]

def k0_chk16 (i : grid0.Coords) (v296 : BitVec 32) : Prop :=
  (∀ (k0_h1 : k0_cond1 i = 1#1), ∀ a, (k0_off31 v296) a + S1x1x128.size a ≤ S4096x1x128.size a) ∧
  (∀ (k0_h1 : k0_cond1 i = 1#1), ∀ a, (k0_off32 v296) a + S1x1x3.size a ≤ S4096x1x3.size a)
theorem k0_off31_inb : ∀ (i : grid0.Coords) (v296 : BitVec 32) (k0_hw16 : k0_chk16 i v296), ∀ (k0_h1 : k0_cond1 i = 1#1), ∀ a, (k0_off31 v296) a + S1x1x128.size a ≤ S4096x1x128.size a := fun i v296 k0_hw16 k0_h1 => k0_hw16.1 k0_h1
theorem k0_off32_inb : ∀ (i : grid0.Coords) (v296 : BitVec 32) (k0_hw16 : k0_chk16 i v296), ∀ (k0_h1 : k0_cond1 i = 1#1), ∀ a, (k0_off32 v296) a + S1x1x3.size a ≤ S4096x1x3.size a := fun i v296 k0_hw16 k0_h1 => k0_hw16.2 k0_h1

def k0_cond2 (i : grid0.Coords) : BitVec 1 :=
  let arg0 : BitVec 32 := BitVec.ofNat 32 (i 0).val
  let c1_i32 : BitVec 32 := 1#32
  let v3 : BitVec 32 := Scalar.addi arg0 c1_i32
  let c256_i32 : BitVec 32 := 256#32
  let v4 : BitVec 1 := Scalar.cmpi .slt v3 c256_i32
  let v5 : BitVec 32 := Scalar.extui v4
  let c0_i32_1 : BitVec 32 := 0#32
  let v6 : BitVec 1 := Scalar.cmpi .ne v5 c0_i32_1
  v6

def k0_off33 (i : grid0.Coords) (c0_i32_235 : BitVec 32) : Fin 1 → Nat :=
  let arg0 : BitVec 32 := BitVec.ofNat 32 (i 0).val
  let c1_i32_226 : BitVec 32 := 1#32
  let v281 : BitVec 32 := Scalar.addi arg0 c1_i32_226
  let c16_i32_234 : BitVec 32 := 16#32
  let v293 : BitVec 32 := Scalar.muli v281 c16_i32_234
  let v294 : BitVec 32 := Scalar.addi v293 c0_i32_235
  let v295 : Index := Scalar.indexCast v294
  ![v295.toNat]
def k0_off34 (i : grid0.Coords) : Fin 2 → Nat :=
  let arg0 : BitVec 32 := BitVec.ofNat 32 (i 0).val
  let c1_i32_227 : BitVec 32 := 1#32
  let v282 : BitVec 32 := Scalar.addi arg0 c1_i32_227
  let c2_i32_228 : BitVec 32 := 2#32
  let c0_i32_229 : BitVec 32 := 0#32
  let v283 : BitVec 1 := Scalar.cmpi .eq c2_i32_228 c0_i32_229
  let c1_i32_230 : BitVec 32 := 1#32
  let v284 : BitVec 32 := Scalar.select v283 c1_i32_230 c2_i32_228
  let v285 : BitVec 32 := Scalar.remsi v282 v284
  let c0_i32_232 : BitVec 32 := 0#32
  let v287 : BitVec 1 := Scalar.cmpi .slt v285 c0_i32_232
  let c0_i32_233 : BitVec 32 := 0#32
  let v288 : BitVec 1 := Scalar.cmpi .slt v284 c0_i32_233
  let v289 : BitVec 1 := Scalar.xori v287 v288
  let c0_i32_231 : BitVec 32 := 0#32
  let v286 : BitVec 1 := Scalar.cmpi .ne v285 c0_i32_231
  let v290 : BitVec 1 := Scalar.andi v289 v286
  let v291 : BitVec 32 := Scalar.addi v285 v284
  let v292 : BitVec 32 := Scalar.select v290 v291 v285
  let c0_i32_267 : BitVec 32 := 0#32
  ![v292.toNat, 0]
def k0_off35 (i : grid0.Coords) : Fin 4 → Nat :=
  let arg0 : BitVec 32 := BitVec.ofNat 32 (i 0).val
  let c1_i32_227 : BitVec 32 := 1#32
  let v282 : BitVec 32 := Scalar.addi arg0 c1_i32_227
  let c2_i32_228 : BitVec 32 := 2#32
  let c0_i32_229 : BitVec 32 := 0#32
  let v283 : BitVec 1 := Scalar.cmpi .eq c2_i32_228 c0_i32_229
  let c1_i32_230 : BitVec 32 := 1#32
  let v284 : BitVec 32 := Scalar.select v283 c1_i32_230 c2_i32_228
  let v285 : BitVec 32 := Scalar.remsi v282 v284
  let c0_i32_232 : BitVec 32 := 0#32
  let v287 : BitVec 1 := Scalar.cmpi .slt v285 c0_i32_232
  let c0_i32_233 : BitVec 32 := 0#32
  let v288 : BitVec 1 := Scalar.cmpi .slt v284 c0_i32_233
  let v289 : BitVec 1 := Scalar.xori v287 v288
  let c0_i32_231 : BitVec 32 := 0#32
  let v286 : BitVec 1 := Scalar.cmpi .ne v285 c0_i32_231
  let v290 : BitVec 1 := Scalar.andi v289 v286
  let v291 : BitVec 32 := Scalar.addi v285 v284
  let v292 : BitVec 32 := Scalar.select v290 v291 v285
  let c0_i32_266 : BitVec 32 := 0#32
  let c0_i32_268 : BitVec 32 := 0#32
  let c0_i32_269 : BitVec 32 := 0#32
  ![v292.toNat, 0, 0, 0]
def k0_off36 (v296 : BitVec 32) : Fin 3 → Nat :=
  let c0_i32_270 : BitVec 32 := 0#32
  let c0_i32_271 : BitVec 32 := 0#32
  ![v296.toNat, 0, 0]

def k0_off37 (i : grid0.Coords) : Fin 2 → Nat :=
  let arg0 : BitVec 32 := BitVec.ofNat 32 (i 0).val
  let c1_i32_227 : BitVec 32 := 1#32
  let v282 : BitVec 32 := Scalar.addi arg0 c1_i32_227
  let c2_i32_228 : BitVec 32 := 2#32
  let c0_i32_229 : BitVec 32 := 0#32
  let v283 : BitVec 1 := Scalar.cmpi .eq c2_i32_228 c0_i32_229
  let c1_i32_230 : BitVec 32 := 1#32
  let v284 : BitVec 32 := Scalar.select v283 c1_i32_230 c2_i32_228
  let v285 : BitVec 32 := Scalar.remsi v282 v284
  let c0_i32_232 : BitVec 32 := 0#32
  let v287 : BitVec 1 := Scalar.cmpi .slt v285 c0_i32_232
  let c0_i32_233 : BitVec 32 := 0#32
  let v288 : BitVec 1 := Scalar.cmpi .slt v284 c0_i32_233
  let v289 : BitVec 1 := Scalar.xori v287 v288
  let c0_i32_231 : BitVec 32 := 0#32
  let v286 : BitVec 1 := Scalar.cmpi .ne v285 c0_i32_231
  let v290 : BitVec 1 := Scalar.andi v289 v286
  let v291 : BitVec 32 := Scalar.addi v285 v284
  let v292 : BitVec 32 := Scalar.select v290 v291 v285
  let c0_i32_273 : BitVec 32 := 0#32
  ![v292.toNat, 0]
def k0_off38 (i : grid0.Coords) : Fin 4 → Nat :=
  let arg0 : BitVec 32 := BitVec.ofNat 32 (i 0).val
  let c1_i32_227 : BitVec 32 := 1#32
  let v282 : BitVec 32 := Scalar.addi arg0 c1_i32_227
  let c2_i32_228 : BitVec 32 := 2#32
  let c0_i32_229 : BitVec 32 := 0#32
  let v283 : BitVec 1 := Scalar.cmpi .eq c2_i32_228 c0_i32_229
  let c1_i32_230 : BitVec 32 := 1#32
  let v284 : BitVec 32 := Scalar.select v283 c1_i32_230 c2_i32_228
  let v285 : BitVec 32 := Scalar.remsi v282 v284
  let c0_i32_232 : BitVec 32 := 0#32
  let v287 : BitVec 1 := Scalar.cmpi .slt v285 c0_i32_232
  let c0_i32_233 : BitVec 32 := 0#32
  let v288 : BitVec 1 := Scalar.cmpi .slt v284 c0_i32_233
  let v289 : BitVec 1 := Scalar.xori v287 v288
  let c0_i32_231 : BitVec 32 := 0#32
  let v286 : BitVec 1 := Scalar.cmpi .ne v285 c0_i32_231
  let v290 : BitVec 1 := Scalar.andi v289 v286
  let v291 : BitVec 32 := Scalar.addi v285 v284
  let v292 : BitVec 32 := Scalar.select v290 v291 v285
  let c0_i32_272 : BitVec 32 := 0#32
  let c0_i32_274 : BitVec 32 := 0#32
  let c0_i32_275 : BitVec 32 := 0#32
  ![v292.toNat, 0, 0, 0]
def k0_off39 (v296 : BitVec 32) : Fin 3 → Nat :=
  let c0_i32_276 : BitVec 32 := 0#32
  let c0_i32_277 : BitVec 32 := 0#32
  ![v296.toNat, 0, 0]

def k0_chk17 (i : grid0.Coords) (v296 : BitVec 32) : Prop :=
  (∀ (k0_h2 : k0_cond2 i = 1#1), ∀ a, (k0_off36 v296) a + S1x1x128.size a ≤ S4096x1x128.size a) ∧
  (∀ (k0_h2 : k0_cond2 i = 1#1), ∀ a, (k0_off39 v296) a + S1x1x3.size a ≤ S4096x1x3.size a)
theorem k0_off36_inb : ∀ (i : grid0.Coords) (v296 : BitVec 32) (k0_hw17 : k0_chk17 i v296), ∀ (k0_h2 : k0_cond2 i = 1#1), ∀ a, (k0_off36 v296) a + S1x1x128.size a ≤ S4096x1x128.size a := fun i v296 k0_hw17 k0_h2 => k0_hw17.1 k0_h2
theorem k0_off39_inb : ∀ (i : grid0.Coords) (v296 : BitVec 32) (k0_hw17 : k0_chk17 i v296), ∀ (k0_h2 : k0_cond2 i = 1#1), ∀ a, (k0_off39 v296) a + S1x1x3.size a ≤ S4096x1x3.size a := fun i v296 k0_hw17 k0_h2 => k0_hw17.2 k0_h2

def k0_off40 (i : grid0.Coords) : Fin 2 → Nat :=
  let arg0 : BitVec 32 := BitVec.ofNat 32 (i 0).val
  let c1_i32_227 : BitVec 32 := 1#32
  let v282 : BitVec 32 := Scalar.addi arg0 c1_i32_227
  let c2_i32_228 : BitVec 32 := 2#32
  let c0_i32_229 : BitVec 32 := 0#32
  let v283 : BitVec 1 := Scalar.cmpi .eq c2_i32_228 c0_i32_229
  let c1_i32_230 : BitVec 32 := 1#32
  let v284 : BitVec 32 := Scalar.select v283 c1_i32_230 c2_i32_228
  let v285 : BitVec 32 := Scalar.remsi v282 v284
  let c0_i32_232 : BitVec 32 := 0#32
  let v287 : BitVec 1 := Scalar.cmpi .slt v285 c0_i32_232
  let c0_i32_233 : BitVec 32 := 0#32
  let v288 : BitVec 1 := Scalar.cmpi .slt v284 c0_i32_233
  let v289 : BitVec 1 := Scalar.xori v287 v288
  let c0_i32_231 : BitVec 32 := 0#32
  let v286 : BitVec 1 := Scalar.cmpi .ne v285 c0_i32_231
  let v290 : BitVec 1 := Scalar.andi v289 v286
  let v291 : BitVec 32 := Scalar.addi v285 v284
  let v292 : BitVec 32 := Scalar.select v290 v291 v285
  let c1_i32_279 : BitVec 32 := 1#32
  ![v292.toNat, 1]
def k0_off41 (i : grid0.Coords) : Fin 4 → Nat :=
  let arg0 : BitVec 32 := BitVec.ofNat 32 (i 0).val
  let c1_i32_227 : BitVec 32 := 1#32
  let v282 : BitVec 32 := Scalar.addi arg0 c1_i32_227
  let c2_i32_228 : BitVec 32 := 2#32
  let c0_i32_229 : BitVec 32 := 0#32
  let v283 : BitVec 1 := Scalar.cmpi .eq c2_i32_228 c0_i32_229
  let c1_i32_230 : BitVec 32 := 1#32
  let v284 : BitVec 32 := Scalar.select v283 c1_i32_230 c2_i32_228
  let v285 : BitVec 32 := Scalar.remsi v282 v284
  let c0_i32_232 : BitVec 32 := 0#32
  let v287 : BitVec 1 := Scalar.cmpi .slt v285 c0_i32_232
  let c0_i32_233 : BitVec 32 := 0#32
  let v288 : BitVec 1 := Scalar.cmpi .slt v284 c0_i32_233
  let v289 : BitVec 1 := Scalar.xori v287 v288
  let c0_i32_231 : BitVec 32 := 0#32
  let v286 : BitVec 1 := Scalar.cmpi .ne v285 c0_i32_231
  let v290 : BitVec 1 := Scalar.andi v289 v286
  let v291 : BitVec 32 := Scalar.addi v285 v284
  let v292 : BitVec 32 := Scalar.select v290 v291 v285
  let c1_i32_278 : BitVec 32 := 1#32
  let c0_i32_280 : BitVec 32 := 0#32
  let c0_i32_281 : BitVec 32 := 0#32
  ![v292.toNat, 1, 0, 0]
def k0_off42 (v300 : BitVec 32) : Fin 3 → Nat :=
  let c0_i32_282 : BitVec 32 := 0#32
  let c0_i32_283 : BitVec 32 := 0#32
  ![v300.toNat, 0, 0]

def k0_off43 (i : grid0.Coords) : Fin 2 → Nat :=
  let arg0 : BitVec 32 := BitVec.ofNat 32 (i 0).val
  let c1_i32_227 : BitVec 32 := 1#32
  let v282 : BitVec 32 := Scalar.addi arg0 c1_i32_227
  let c2_i32_228 : BitVec 32 := 2#32
  let c0_i32_229 : BitVec 32 := 0#32
  let v283 : BitVec 1 := Scalar.cmpi .eq c2_i32_228 c0_i32_229
  let c1_i32_230 : BitVec 32 := 1#32
  let v284 : BitVec 32 := Scalar.select v283 c1_i32_230 c2_i32_228
  let v285 : BitVec 32 := Scalar.remsi v282 v284
  let c0_i32_232 : BitVec 32 := 0#32
  let v287 : BitVec 1 := Scalar.cmpi .slt v285 c0_i32_232
  let c0_i32_233 : BitVec 32 := 0#32
  let v288 : BitVec 1 := Scalar.cmpi .slt v284 c0_i32_233
  let v289 : BitVec 1 := Scalar.xori v287 v288
  let c0_i32_231 : BitVec 32 := 0#32
  let v286 : BitVec 1 := Scalar.cmpi .ne v285 c0_i32_231
  let v290 : BitVec 1 := Scalar.andi v289 v286
  let v291 : BitVec 32 := Scalar.addi v285 v284
  let v292 : BitVec 32 := Scalar.select v290 v291 v285
  let c1_i32_285 : BitVec 32 := 1#32
  ![v292.toNat, 1]
def k0_off44 (i : grid0.Coords) : Fin 4 → Nat :=
  let arg0 : BitVec 32 := BitVec.ofNat 32 (i 0).val
  let c1_i32_227 : BitVec 32 := 1#32
  let v282 : BitVec 32 := Scalar.addi arg0 c1_i32_227
  let c2_i32_228 : BitVec 32 := 2#32
  let c0_i32_229 : BitVec 32 := 0#32
  let v283 : BitVec 1 := Scalar.cmpi .eq c2_i32_228 c0_i32_229
  let c1_i32_230 : BitVec 32 := 1#32
  let v284 : BitVec 32 := Scalar.select v283 c1_i32_230 c2_i32_228
  let v285 : BitVec 32 := Scalar.remsi v282 v284
  let c0_i32_232 : BitVec 32 := 0#32
  let v287 : BitVec 1 := Scalar.cmpi .slt v285 c0_i32_232
  let c0_i32_233 : BitVec 32 := 0#32
  let v288 : BitVec 1 := Scalar.cmpi .slt v284 c0_i32_233
  let v289 : BitVec 1 := Scalar.xori v287 v288
  let c0_i32_231 : BitVec 32 := 0#32
  let v286 : BitVec 1 := Scalar.cmpi .ne v285 c0_i32_231
  let v290 : BitVec 1 := Scalar.andi v289 v286
  let v291 : BitVec 32 := Scalar.addi v285 v284
  let v292 : BitVec 32 := Scalar.select v290 v291 v285
  let c1_i32_284 : BitVec 32 := 1#32
  let c0_i32_286 : BitVec 32 := 0#32
  let c0_i32_287 : BitVec 32 := 0#32
  ![v292.toNat, 1, 0, 0]
def k0_off45 (v300 : BitVec 32) : Fin 3 → Nat :=
  let c0_i32_288 : BitVec 32 := 0#32
  let c0_i32_289 : BitVec 32 := 0#32
  ![v300.toNat, 0, 0]

def k0_chk18 (i : grid0.Coords) (v300 : BitVec 32) : Prop :=
  (∀ (k0_h2 : k0_cond2 i = 1#1), ∀ a, (k0_off42 v300) a + S1x1x128.size a ≤ S4096x1x128.size a) ∧
  (∀ (k0_h2 : k0_cond2 i = 1#1), ∀ a, (k0_off45 v300) a + S1x1x3.size a ≤ S4096x1x3.size a)
theorem k0_off42_inb : ∀ (i : grid0.Coords) (v300 : BitVec 32) (k0_hw18 : k0_chk18 i v300), ∀ (k0_h2 : k0_cond2 i = 1#1), ∀ a, (k0_off42 v300) a + S1x1x128.size a ≤ S4096x1x128.size a := fun i v300 k0_hw18 k0_h2 => k0_hw18.1 k0_h2
theorem k0_off45_inb : ∀ (i : grid0.Coords) (v300 : BitVec 32) (k0_hw18 : k0_chk18 i v300), ∀ (k0_h2 : k0_cond2 i = 1#1), ∀ a, (k0_off45 v300) a + S1x1x3.size a ≤ S4096x1x3.size a := fun i v300 k0_hw18 k0_h2 => k0_hw18.2 k0_h2

def k0_off46 (i : grid0.Coords) : Fin 2 → Nat :=
  let arg0 : BitVec 32 := BitVec.ofNat 32 (i 0).val
  let c1_i32_227 : BitVec 32 := 1#32
  let v282 : BitVec 32 := Scalar.addi arg0 c1_i32_227
  let c2_i32_228 : BitVec 32 := 2#32
  let c0_i32_229 : BitVec 32 := 0#32
  let v283 : BitVec 1 := Scalar.cmpi .eq c2_i32_228 c0_i32_229
  let c1_i32_230 : BitVec 32 := 1#32
  let v284 : BitVec 32 := Scalar.select v283 c1_i32_230 c2_i32_228
  let v285 : BitVec 32 := Scalar.remsi v282 v284
  let c0_i32_232 : BitVec 32 := 0#32
  let v287 : BitVec 1 := Scalar.cmpi .slt v285 c0_i32_232
  let c0_i32_233 : BitVec 32 := 0#32
  let v288 : BitVec 1 := Scalar.cmpi .slt v284 c0_i32_233
  let v289 : BitVec 1 := Scalar.xori v287 v288
  let c0_i32_231 : BitVec 32 := 0#32
  let v286 : BitVec 1 := Scalar.cmpi .ne v285 c0_i32_231
  let v290 : BitVec 1 := Scalar.andi v289 v286
  let v291 : BitVec 32 := Scalar.addi v285 v284
  let v292 : BitVec 32 := Scalar.select v290 v291 v285
  let c2_i32_291 : BitVec 32 := 2#32
  ![v292.toNat, 2]
def k0_off47 (i : grid0.Coords) : Fin 4 → Nat :=
  let arg0 : BitVec 32 := BitVec.ofNat 32 (i 0).val
  let c1_i32_227 : BitVec 32 := 1#32
  let v282 : BitVec 32 := Scalar.addi arg0 c1_i32_227
  let c2_i32_228 : BitVec 32 := 2#32
  let c0_i32_229 : BitVec 32 := 0#32
  let v283 : BitVec 1 := Scalar.cmpi .eq c2_i32_228 c0_i32_229
  let c1_i32_230 : BitVec 32 := 1#32
  let v284 : BitVec 32 := Scalar.select v283 c1_i32_230 c2_i32_228
  let v285 : BitVec 32 := Scalar.remsi v282 v284
  let c0_i32_232 : BitVec 32 := 0#32
  let v287 : BitVec 1 := Scalar.cmpi .slt v285 c0_i32_232
  let c0_i32_233 : BitVec 32 := 0#32
  let v288 : BitVec 1 := Scalar.cmpi .slt v284 c0_i32_233
  let v289 : BitVec 1 := Scalar.xori v287 v288
  let c0_i32_231 : BitVec 32 := 0#32
  let v286 : BitVec 1 := Scalar.cmpi .ne v285 c0_i32_231
  let v290 : BitVec 1 := Scalar.andi v289 v286
  let v291 : BitVec 32 := Scalar.addi v285 v284
  let v292 : BitVec 32 := Scalar.select v290 v291 v285
  let c2_i32_290 : BitVec 32 := 2#32
  let c0_i32_292 : BitVec 32 := 0#32
  let c0_i32_293 : BitVec 32 := 0#32
  ![v292.toNat, 2, 0, 0]
def k0_off48 (v304 : BitVec 32) : Fin 3 → Nat :=
  let c0_i32_294 : BitVec 32 := 0#32
  let c0_i32_295 : BitVec 32 := 0#32
  ![v304.toNat, 0, 0]

def k0_off49 (i : grid0.Coords) : Fin 2 → Nat :=
  let arg0 : BitVec 32 := BitVec.ofNat 32 (i 0).val
  let c1_i32_227 : BitVec 32 := 1#32
  let v282 : BitVec 32 := Scalar.addi arg0 c1_i32_227
  let c2_i32_228 : BitVec 32 := 2#32
  let c0_i32_229 : BitVec 32 := 0#32
  let v283 : BitVec 1 := Scalar.cmpi .eq c2_i32_228 c0_i32_229
  let c1_i32_230 : BitVec 32 := 1#32
  let v284 : BitVec 32 := Scalar.select v283 c1_i32_230 c2_i32_228
  let v285 : BitVec 32 := Scalar.remsi v282 v284
  let c0_i32_232 : BitVec 32 := 0#32
  let v287 : BitVec 1 := Scalar.cmpi .slt v285 c0_i32_232
  let c0_i32_233 : BitVec 32 := 0#32
  let v288 : BitVec 1 := Scalar.cmpi .slt v284 c0_i32_233
  let v289 : BitVec 1 := Scalar.xori v287 v288
  let c0_i32_231 : BitVec 32 := 0#32
  let v286 : BitVec 1 := Scalar.cmpi .ne v285 c0_i32_231
  let v290 : BitVec 1 := Scalar.andi v289 v286
  let v291 : BitVec 32 := Scalar.addi v285 v284
  let v292 : BitVec 32 := Scalar.select v290 v291 v285
  let c2_i32_297 : BitVec 32 := 2#32
  ![v292.toNat, 2]
def k0_off50 (i : grid0.Coords) : Fin 4 → Nat :=
  let arg0 : BitVec 32 := BitVec.ofNat 32 (i 0).val
  let c1_i32_227 : BitVec 32 := 1#32
  let v282 : BitVec 32 := Scalar.addi arg0 c1_i32_227
  let c2_i32_228 : BitVec 32 := 2#32
  let c0_i32_229 : BitVec 32 := 0#32
  let v283 : BitVec 1 := Scalar.cmpi .eq c2_i32_228 c0_i32_229
  let c1_i32_230 : BitVec 32 := 1#32
  let v284 : BitVec 32 := Scalar.select v283 c1_i32_230 c2_i32_228
  let v285 : BitVec 32 := Scalar.remsi v282 v284
  let c0_i32_232 : BitVec 32 := 0#32
  let v287 : BitVec 1 := Scalar.cmpi .slt v285 c0_i32_232
  let c0_i32_233 : BitVec 32 := 0#32
  let v288 : BitVec 1 := Scalar.cmpi .slt v284 c0_i32_233
  let v289 : BitVec 1 := Scalar.xori v287 v288
  let c0_i32_231 : BitVec 32 := 0#32
  let v286 : BitVec 1 := Scalar.cmpi .ne v285 c0_i32_231
  let v290 : BitVec 1 := Scalar.andi v289 v286
  let v291 : BitVec 32 := Scalar.addi v285 v284
  let v292 : BitVec 32 := Scalar.select v290 v291 v285
  let c2_i32_296 : BitVec 32 := 2#32
  let c0_i32_298 : BitVec 32 := 0#32
  let c0_i32_299 : BitVec 32 := 0#32
  ![v292.toNat, 2, 0, 0]
def k0_off51 (v304 : BitVec 32) : Fin 3 → Nat :=
  let c0_i32_300 : BitVec 32 := 0#32
  let c0_i32_301 : BitVec 32 := 0#32
  ![v304.toNat, 0, 0]

def k0_chk19 (i : grid0.Coords) (v304 : BitVec 32) : Prop :=
  (∀ (k0_h2 : k0_cond2 i = 1#1), ∀ a, (k0_off48 v304) a + S1x1x128.size a ≤ S4096x1x128.size a) ∧
  (∀ (k0_h2 : k0_cond2 i = 1#1), ∀ a, (k0_off51 v304) a + S1x1x3.size a ≤ S4096x1x3.size a)
theorem k0_off48_inb : ∀ (i : grid0.Coords) (v304 : BitVec 32) (k0_hw19 : k0_chk19 i v304), ∀ (k0_h2 : k0_cond2 i = 1#1), ∀ a, (k0_off48 v304) a + S1x1x128.size a ≤ S4096x1x128.size a := fun i v304 k0_hw19 k0_h2 => k0_hw19.1 k0_h2
theorem k0_off51_inb : ∀ (i : grid0.Coords) (v304 : BitVec 32) (k0_hw19 : k0_chk19 i v304), ∀ (k0_h2 : k0_cond2 i = 1#1), ∀ a, (k0_off51 v304) a + S1x1x3.size a ≤ S4096x1x3.size a := fun i v304 k0_hw19 k0_h2 => k0_hw19.2 k0_h2

def k0_off52 (i : grid0.Coords) : Fin 2 → Nat :=
  let arg0 : BitVec 32 := BitVec.ofNat 32 (i 0).val
  let c1_i32_227 : BitVec 32 := 1#32
  let v282 : BitVec 32 := Scalar.addi arg0 c1_i32_227
  let c2_i32_228 : BitVec 32 := 2#32
  let c0_i32_229 : BitVec 32 := 0#32
  let v283 : BitVec 1 := Scalar.cmpi .eq c2_i32_228 c0_i32_229
  let c1_i32_230 : BitVec 32 := 1#32
  let v284 : BitVec 32 := Scalar.select v283 c1_i32_230 c2_i32_228
  let v285 : BitVec 32 := Scalar.remsi v282 v284
  let c0_i32_232 : BitVec 32 := 0#32
  let v287 : BitVec 1 := Scalar.cmpi .slt v285 c0_i32_232
  let c0_i32_233 : BitVec 32 := 0#32
  let v288 : BitVec 1 := Scalar.cmpi .slt v284 c0_i32_233
  let v289 : BitVec 1 := Scalar.xori v287 v288
  let c0_i32_231 : BitVec 32 := 0#32
  let v286 : BitVec 1 := Scalar.cmpi .ne v285 c0_i32_231
  let v290 : BitVec 1 := Scalar.andi v289 v286
  let v291 : BitVec 32 := Scalar.addi v285 v284
  let v292 : BitVec 32 := Scalar.select v290 v291 v285
  let c3_i32_303 : BitVec 32 := 3#32
  ![v292.toNat, 3]
def k0_off53 (i : grid0.Coords) : Fin 4 → Nat :=
  let arg0 : BitVec 32 := BitVec.ofNat 32 (i 0).val
  let c1_i32_227 : BitVec 32 := 1#32
  let v282 : BitVec 32 := Scalar.addi arg0 c1_i32_227
  let c2_i32_228 : BitVec 32 := 2#32
  let c0_i32_229 : BitVec 32 := 0#32
  let v283 : BitVec 1 := Scalar.cmpi .eq c2_i32_228 c0_i32_229
  let c1_i32_230 : BitVec 32 := 1#32
  let v284 : BitVec 32 := Scalar.select v283 c1_i32_230 c2_i32_228
  let v285 : BitVec 32 := Scalar.remsi v282 v284
  let c0_i32_232 : BitVec 32 := 0#32
  let v287 : BitVec 1 := Scalar.cmpi .slt v285 c0_i32_232
  let c0_i32_233 : BitVec 32 := 0#32
  let v288 : BitVec 1 := Scalar.cmpi .slt v284 c0_i32_233
  let v289 : BitVec 1 := Scalar.xori v287 v288
  let c0_i32_231 : BitVec 32 := 0#32
  let v286 : BitVec 1 := Scalar.cmpi .ne v285 c0_i32_231
  let v290 : BitVec 1 := Scalar.andi v289 v286
  let v291 : BitVec 32 := Scalar.addi v285 v284
  let v292 : BitVec 32 := Scalar.select v290 v291 v285
  let c3_i32_302 : BitVec 32 := 3#32
  let c0_i32_304 : BitVec 32 := 0#32
  let c0_i32_305 : BitVec 32 := 0#32
  ![v292.toNat, 3, 0, 0]
def k0_off54 (v308 : BitVec 32) : Fin 3 → Nat :=
  let c0_i32_306 : BitVec 32 := 0#32
  let c0_i32_307 : BitVec 32 := 0#32
  ![v308.toNat, 0, 0]

def k0_off55 (i : grid0.Coords) : Fin 2 → Nat :=
  let arg0 : BitVec 32 := BitVec.ofNat 32 (i 0).val
  let c1_i32_227 : BitVec 32 := 1#32
  let v282 : BitVec 32 := Scalar.addi arg0 c1_i32_227
  let c2_i32_228 : BitVec 32 := 2#32
  let c0_i32_229 : BitVec 32 := 0#32
  let v283 : BitVec 1 := Scalar.cmpi .eq c2_i32_228 c0_i32_229
  let c1_i32_230 : BitVec 32 := 1#32
  let v284 : BitVec 32 := Scalar.select v283 c1_i32_230 c2_i32_228
  let v285 : BitVec 32 := Scalar.remsi v282 v284
  let c0_i32_232 : BitVec 32 := 0#32
  let v287 : BitVec 1 := Scalar.cmpi .slt v285 c0_i32_232
  let c0_i32_233 : BitVec 32 := 0#32
  let v288 : BitVec 1 := Scalar.cmpi .slt v284 c0_i32_233
  let v289 : BitVec 1 := Scalar.xori v287 v288
  let c0_i32_231 : BitVec 32 := 0#32
  let v286 : BitVec 1 := Scalar.cmpi .ne v285 c0_i32_231
  let v290 : BitVec 1 := Scalar.andi v289 v286
  let v291 : BitVec 32 := Scalar.addi v285 v284
  let v292 : BitVec 32 := Scalar.select v290 v291 v285
  let c3_i32_309 : BitVec 32 := 3#32
  ![v292.toNat, 3]
def k0_off56 (i : grid0.Coords) : Fin 4 → Nat :=
  let arg0 : BitVec 32 := BitVec.ofNat 32 (i 0).val
  let c1_i32_227 : BitVec 32 := 1#32
  let v282 : BitVec 32 := Scalar.addi arg0 c1_i32_227
  let c2_i32_228 : BitVec 32 := 2#32
  let c0_i32_229 : BitVec 32 := 0#32
  let v283 : BitVec 1 := Scalar.cmpi .eq c2_i32_228 c0_i32_229
  let c1_i32_230 : BitVec 32 := 1#32
  let v284 : BitVec 32 := Scalar.select v283 c1_i32_230 c2_i32_228
  let v285 : BitVec 32 := Scalar.remsi v282 v284
  let c0_i32_232 : BitVec 32 := 0#32
  let v287 : BitVec 1 := Scalar.cmpi .slt v285 c0_i32_232
  let c0_i32_233 : BitVec 32 := 0#32
  let v288 : BitVec 1 := Scalar.cmpi .slt v284 c0_i32_233
  let v289 : BitVec 1 := Scalar.xori v287 v288
  let c0_i32_231 : BitVec 32 := 0#32
  let v286 : BitVec 1 := Scalar.cmpi .ne v285 c0_i32_231
  let v290 : BitVec 1 := Scalar.andi v289 v286
  let v291 : BitVec 32 := Scalar.addi v285 v284
  let v292 : BitVec 32 := Scalar.select v290 v291 v285
  let c3_i32_308 : BitVec 32 := 3#32
  let c0_i32_310 : BitVec 32 := 0#32
  let c0_i32_311 : BitVec 32 := 0#32
  ![v292.toNat, 3, 0, 0]
def k0_off57 (v308 : BitVec 32) : Fin 3 → Nat :=
  let c0_i32_312 : BitVec 32 := 0#32
  let c0_i32_313 : BitVec 32 := 0#32
  ![v308.toNat, 0, 0]

def k0_chk20 (i : grid0.Coords) (v308 : BitVec 32) : Prop :=
  (∀ (k0_h2 : k0_cond2 i = 1#1), ∀ a, (k0_off54 v308) a + S1x1x128.size a ≤ S4096x1x128.size a) ∧
  (∀ (k0_h2 : k0_cond2 i = 1#1), ∀ a, (k0_off57 v308) a + S1x1x3.size a ≤ S4096x1x3.size a)
theorem k0_off54_inb : ∀ (i : grid0.Coords) (v308 : BitVec 32) (k0_hw20 : k0_chk20 i v308), ∀ (k0_h2 : k0_cond2 i = 1#1), ∀ a, (k0_off54 v308) a + S1x1x128.size a ≤ S4096x1x128.size a := fun i v308 k0_hw20 k0_h2 => k0_hw20.1 k0_h2
theorem k0_off57_inb : ∀ (i : grid0.Coords) (v308 : BitVec 32) (k0_hw20 : k0_chk20 i v308), ∀ (k0_h2 : k0_cond2 i = 1#1), ∀ a, (k0_off57 v308) a + S1x1x3.size a ≤ S4096x1x3.size a := fun i v308 k0_hw20 k0_h2 => k0_hw20.2 k0_h2

def k0_off58 (i : grid0.Coords) : Fin 2 → Nat :=
  let arg0 : BitVec 32 := BitVec.ofNat 32 (i 0).val
  let c1_i32_227 : BitVec 32 := 1#32
  let v282 : BitVec 32 := Scalar.addi arg0 c1_i32_227
  let c2_i32_228 : BitVec 32 := 2#32
  let c0_i32_229 : BitVec 32 := 0#32
  let v283 : BitVec 1 := Scalar.cmpi .eq c2_i32_228 c0_i32_229
  let c1_i32_230 : BitVec 32 := 1#32
  let v284 : BitVec 32 := Scalar.select v283 c1_i32_230 c2_i32_228
  let v285 : BitVec 32 := Scalar.remsi v282 v284
  let c0_i32_232 : BitVec 32 := 0#32
  let v287 : BitVec 1 := Scalar.cmpi .slt v285 c0_i32_232
  let c0_i32_233 : BitVec 32 := 0#32
  let v288 : BitVec 1 := Scalar.cmpi .slt v284 c0_i32_233
  let v289 : BitVec 1 := Scalar.xori v287 v288
  let c0_i32_231 : BitVec 32 := 0#32
  let v286 : BitVec 1 := Scalar.cmpi .ne v285 c0_i32_231
  let v290 : BitVec 1 := Scalar.andi v289 v286
  let v291 : BitVec 32 := Scalar.addi v285 v284
  let v292 : BitVec 32 := Scalar.select v290 v291 v285
  let c4_i32_315 : BitVec 32 := 4#32
  ![v292.toNat, 4]
def k0_off59 (i : grid0.Coords) : Fin 4 → Nat :=
  let arg0 : BitVec 32 := BitVec.ofNat 32 (i 0).val
  let c1_i32_227 : BitVec 32 := 1#32
  let v282 : BitVec 32 := Scalar.addi arg0 c1_i32_227
  let c2_i32_228 : BitVec 32 := 2#32
  let c0_i32_229 : BitVec 32 := 0#32
  let v283 : BitVec 1 := Scalar.cmpi .eq c2_i32_228 c0_i32_229
  let c1_i32_230 : BitVec 32 := 1#32
  let v284 : BitVec 32 := Scalar.select v283 c1_i32_230 c2_i32_228
  let v285 : BitVec 32 := Scalar.remsi v282 v284
  let c0_i32_232 : BitVec 32 := 0#32
  let v287 : BitVec 1 := Scalar.cmpi .slt v285 c0_i32_232
  let c0_i32_233 : BitVec 32 := 0#32
  let v288 : BitVec 1 := Scalar.cmpi .slt v284 c0_i32_233
  let v289 : BitVec 1 := Scalar.xori v287 v288
  let c0_i32_231 : BitVec 32 := 0#32
  let v286 : BitVec 1 := Scalar.cmpi .ne v285 c0_i32_231
  let v290 : BitVec 1 := Scalar.andi v289 v286
  let v291 : BitVec 32 := Scalar.addi v285 v284
  let v292 : BitVec 32 := Scalar.select v290 v291 v285
  let c4_i32_314 : BitVec 32 := 4#32
  let c0_i32_316 : BitVec 32 := 0#32
  let c0_i32_317 : BitVec 32 := 0#32
  ![v292.toNat, 4, 0, 0]
def k0_off60 (v312 : BitVec 32) : Fin 3 → Nat :=
  let c0_i32_318 : BitVec 32 := 0#32
  let c0_i32_319 : BitVec 32 := 0#32
  ![v312.toNat, 0, 0]

def k0_off61 (i : grid0.Coords) : Fin 2 → Nat :=
  let arg0 : BitVec 32 := BitVec.ofNat 32 (i 0).val
  let c1_i32_227 : BitVec 32 := 1#32
  let v282 : BitVec 32 := Scalar.addi arg0 c1_i32_227
  let c2_i32_228 : BitVec 32 := 2#32
  let c0_i32_229 : BitVec 32 := 0#32
  let v283 : BitVec 1 := Scalar.cmpi .eq c2_i32_228 c0_i32_229
  let c1_i32_230 : BitVec 32 := 1#32
  let v284 : BitVec 32 := Scalar.select v283 c1_i32_230 c2_i32_228
  let v285 : BitVec 32 := Scalar.remsi v282 v284
  let c0_i32_232 : BitVec 32 := 0#32
  let v287 : BitVec 1 := Scalar.cmpi .slt v285 c0_i32_232
  let c0_i32_233 : BitVec 32 := 0#32
  let v288 : BitVec 1 := Scalar.cmpi .slt v284 c0_i32_233
  let v289 : BitVec 1 := Scalar.xori v287 v288
  let c0_i32_231 : BitVec 32 := 0#32
  let v286 : BitVec 1 := Scalar.cmpi .ne v285 c0_i32_231
  let v290 : BitVec 1 := Scalar.andi v289 v286
  let v291 : BitVec 32 := Scalar.addi v285 v284
  let v292 : BitVec 32 := Scalar.select v290 v291 v285
  let c4_i32_321 : BitVec 32 := 4#32
  ![v292.toNat, 4]
def k0_off62 (i : grid0.Coords) : Fin 4 → Nat :=
  let arg0 : BitVec 32 := BitVec.ofNat 32 (i 0).val
  let c1_i32_227 : BitVec 32 := 1#32
  let v282 : BitVec 32 := Scalar.addi arg0 c1_i32_227
  let c2_i32_228 : BitVec 32 := 2#32
  let c0_i32_229 : BitVec 32 := 0#32
  let v283 : BitVec 1 := Scalar.cmpi .eq c2_i32_228 c0_i32_229
  let c1_i32_230 : BitVec 32 := 1#32
  let v284 : BitVec 32 := Scalar.select v283 c1_i32_230 c2_i32_228
  let v285 : BitVec 32 := Scalar.remsi v282 v284
  let c0_i32_232 : BitVec 32 := 0#32
  let v287 : BitVec 1 := Scalar.cmpi .slt v285 c0_i32_232
  let c0_i32_233 : BitVec 32 := 0#32
  let v288 : BitVec 1 := Scalar.cmpi .slt v284 c0_i32_233
  let v289 : BitVec 1 := Scalar.xori v287 v288
  let c0_i32_231 : BitVec 32 := 0#32
  let v286 : BitVec 1 := Scalar.cmpi .ne v285 c0_i32_231
  let v290 : BitVec 1 := Scalar.andi v289 v286
  let v291 : BitVec 32 := Scalar.addi v285 v284
  let v292 : BitVec 32 := Scalar.select v290 v291 v285
  let c4_i32_320 : BitVec 32 := 4#32
  let c0_i32_322 : BitVec 32 := 0#32
  let c0_i32_323 : BitVec 32 := 0#32
  ![v292.toNat, 4, 0, 0]
def k0_off63 (v312 : BitVec 32) : Fin 3 → Nat :=
  let c0_i32_324 : BitVec 32 := 0#32
  let c0_i32_325 : BitVec 32 := 0#32
  ![v312.toNat, 0, 0]

def k0_chk21 (i : grid0.Coords) (v312 : BitVec 32) : Prop :=
  (∀ (k0_h2 : k0_cond2 i = 1#1), ∀ a, (k0_off60 v312) a + S1x1x128.size a ≤ S4096x1x128.size a) ∧
  (∀ (k0_h2 : k0_cond2 i = 1#1), ∀ a, (k0_off63 v312) a + S1x1x3.size a ≤ S4096x1x3.size a)
theorem k0_off60_inb : ∀ (i : grid0.Coords) (v312 : BitVec 32) (k0_hw21 : k0_chk21 i v312), ∀ (k0_h2 : k0_cond2 i = 1#1), ∀ a, (k0_off60 v312) a + S1x1x128.size a ≤ S4096x1x128.size a := fun i v312 k0_hw21 k0_h2 => k0_hw21.1 k0_h2
theorem k0_off63_inb : ∀ (i : grid0.Coords) (v312 : BitVec 32) (k0_hw21 : k0_chk21 i v312), ∀ (k0_h2 : k0_cond2 i = 1#1), ∀ a, (k0_off63 v312) a + S1x1x3.size a ≤ S4096x1x3.size a := fun i v312 k0_hw21 k0_h2 => k0_hw21.2 k0_h2

def k0_off64 (i : grid0.Coords) : Fin 2 → Nat :=
  let arg0 : BitVec 32 := BitVec.ofNat 32 (i 0).val
  let c1_i32_227 : BitVec 32 := 1#32
  let v282 : BitVec 32 := Scalar.addi arg0 c1_i32_227
  let c2_i32_228 : BitVec 32 := 2#32
  let c0_i32_229 : BitVec 32 := 0#32
  let v283 : BitVec 1 := Scalar.cmpi .eq c2_i32_228 c0_i32_229
  let c1_i32_230 : BitVec 32 := 1#32
  let v284 : BitVec 32 := Scalar.select v283 c1_i32_230 c2_i32_228
  let v285 : BitVec 32 := Scalar.remsi v282 v284
  let c0_i32_232 : BitVec 32 := 0#32
  let v287 : BitVec 1 := Scalar.cmpi .slt v285 c0_i32_232
  let c0_i32_233 : BitVec 32 := 0#32
  let v288 : BitVec 1 := Scalar.cmpi .slt v284 c0_i32_233
  let v289 : BitVec 1 := Scalar.xori v287 v288
  let c0_i32_231 : BitVec 32 := 0#32
  let v286 : BitVec 1 := Scalar.cmpi .ne v285 c0_i32_231
  let v290 : BitVec 1 := Scalar.andi v289 v286
  let v291 : BitVec 32 := Scalar.addi v285 v284
  let v292 : BitVec 32 := Scalar.select v290 v291 v285
  let c5_i32_327 : BitVec 32 := 5#32
  ![v292.toNat, 5]
def k0_off65 (i : grid0.Coords) : Fin 4 → Nat :=
  let arg0 : BitVec 32 := BitVec.ofNat 32 (i 0).val
  let c1_i32_227 : BitVec 32 := 1#32
  let v282 : BitVec 32 := Scalar.addi arg0 c1_i32_227
  let c2_i32_228 : BitVec 32 := 2#32
  let c0_i32_229 : BitVec 32 := 0#32
  let v283 : BitVec 1 := Scalar.cmpi .eq c2_i32_228 c0_i32_229
  let c1_i32_230 : BitVec 32 := 1#32
  let v284 : BitVec 32 := Scalar.select v283 c1_i32_230 c2_i32_228
  let v285 : BitVec 32 := Scalar.remsi v282 v284
  let c0_i32_232 : BitVec 32 := 0#32
  let v287 : BitVec 1 := Scalar.cmpi .slt v285 c0_i32_232
  let c0_i32_233 : BitVec 32 := 0#32
  let v288 : BitVec 1 := Scalar.cmpi .slt v284 c0_i32_233
  let v289 : BitVec 1 := Scalar.xori v287 v288
  let c0_i32_231 : BitVec 32 := 0#32
  let v286 : BitVec 1 := Scalar.cmpi .ne v285 c0_i32_231
  let v290 : BitVec 1 := Scalar.andi v289 v286
  let v291 : BitVec 32 := Scalar.addi v285 v284
  let v292 : BitVec 32 := Scalar.select v290 v291 v285
  let c5_i32_326 : BitVec 32 := 5#32
  let c0_i32_328 : BitVec 32 := 0#32
  let c0_i32_329 : BitVec 32 := 0#32
  ![v292.toNat, 5, 0, 0]
def k0_off66 (v316 : BitVec 32) : Fin 3 → Nat :=
  let c0_i32_330 : BitVec 32 := 0#32
  let c0_i32_331 : BitVec 32 := 0#32
  ![v316.toNat, 0, 0]

def k0_off67 (i : grid0.Coords) : Fin 2 → Nat :=
  let arg0 : BitVec 32 := BitVec.ofNat 32 (i 0).val
  let c1_i32_227 : BitVec 32 := 1#32
  let v282 : BitVec 32 := Scalar.addi arg0 c1_i32_227
  let c2_i32_228 : BitVec 32 := 2#32
  let c0_i32_229 : BitVec 32 := 0#32
  let v283 : BitVec 1 := Scalar.cmpi .eq c2_i32_228 c0_i32_229
  let c1_i32_230 : BitVec 32 := 1#32
  let v284 : BitVec 32 := Scalar.select v283 c1_i32_230 c2_i32_228
  let v285 : BitVec 32 := Scalar.remsi v282 v284
  let c0_i32_232 : BitVec 32 := 0#32
  let v287 : BitVec 1 := Scalar.cmpi .slt v285 c0_i32_232
  let c0_i32_233 : BitVec 32 := 0#32
  let v288 : BitVec 1 := Scalar.cmpi .slt v284 c0_i32_233
  let v289 : BitVec 1 := Scalar.xori v287 v288
  let c0_i32_231 : BitVec 32 := 0#32
  let v286 : BitVec 1 := Scalar.cmpi .ne v285 c0_i32_231
  let v290 : BitVec 1 := Scalar.andi v289 v286
  let v291 : BitVec 32 := Scalar.addi v285 v284
  let v292 : BitVec 32 := Scalar.select v290 v291 v285
  let c5_i32_333 : BitVec 32 := 5#32
  ![v292.toNat, 5]
def k0_off68 (i : grid0.Coords) : Fin 4 → Nat :=
  let arg0 : BitVec 32 := BitVec.ofNat 32 (i 0).val
  let c1_i32_227 : BitVec 32 := 1#32
  let v282 : BitVec 32 := Scalar.addi arg0 c1_i32_227
  let c2_i32_228 : BitVec 32 := 2#32
  let c0_i32_229 : BitVec 32 := 0#32
  let v283 : BitVec 1 := Scalar.cmpi .eq c2_i32_228 c0_i32_229
  let c1_i32_230 : BitVec 32 := 1#32
  let v284 : BitVec 32 := Scalar.select v283 c1_i32_230 c2_i32_228
  let v285 : BitVec 32 := Scalar.remsi v282 v284
  let c0_i32_232 : BitVec 32 := 0#32
  let v287 : BitVec 1 := Scalar.cmpi .slt v285 c0_i32_232
  let c0_i32_233 : BitVec 32 := 0#32
  let v288 : BitVec 1 := Scalar.cmpi .slt v284 c0_i32_233
  let v289 : BitVec 1 := Scalar.xori v287 v288
  let c0_i32_231 : BitVec 32 := 0#32
  let v286 : BitVec 1 := Scalar.cmpi .ne v285 c0_i32_231
  let v290 : BitVec 1 := Scalar.andi v289 v286
  let v291 : BitVec 32 := Scalar.addi v285 v284
  let v292 : BitVec 32 := Scalar.select v290 v291 v285
  let c5_i32_332 : BitVec 32 := 5#32
  let c0_i32_334 : BitVec 32 := 0#32
  let c0_i32_335 : BitVec 32 := 0#32
  ![v292.toNat, 5, 0, 0]
def k0_off69 (v316 : BitVec 32) : Fin 3 → Nat :=
  let c0_i32_336 : BitVec 32 := 0#32
  let c0_i32_337 : BitVec 32 := 0#32
  ![v316.toNat, 0, 0]

def k0_chk22 (i : grid0.Coords) (v316 : BitVec 32) : Prop :=
  (∀ (k0_h2 : k0_cond2 i = 1#1), ∀ a, (k0_off66 v316) a + S1x1x128.size a ≤ S4096x1x128.size a) ∧
  (∀ (k0_h2 : k0_cond2 i = 1#1), ∀ a, (k0_off69 v316) a + S1x1x3.size a ≤ S4096x1x3.size a)
theorem k0_off66_inb : ∀ (i : grid0.Coords) (v316 : BitVec 32) (k0_hw22 : k0_chk22 i v316), ∀ (k0_h2 : k0_cond2 i = 1#1), ∀ a, (k0_off66 v316) a + S1x1x128.size a ≤ S4096x1x128.size a := fun i v316 k0_hw22 k0_h2 => k0_hw22.1 k0_h2
theorem k0_off69_inb : ∀ (i : grid0.Coords) (v316 : BitVec 32) (k0_hw22 : k0_chk22 i v316), ∀ (k0_h2 : k0_cond2 i = 1#1), ∀ a, (k0_off69 v316) a + S1x1x3.size a ≤ S4096x1x3.size a := fun i v316 k0_hw22 k0_h2 => k0_hw22.2 k0_h2

def k0_off70 (i : grid0.Coords) : Fin 2 → Nat :=
  let arg0 : BitVec 32 := BitVec.ofNat 32 (i 0).val
  let c1_i32_227 : BitVec 32 := 1#32
  let v282 : BitVec 32 := Scalar.addi arg0 c1_i32_227
  let c2_i32_228 : BitVec 32 := 2#32
  let c0_i32_229 : BitVec 32 := 0#32
  let v283 : BitVec 1 := Scalar.cmpi .eq c2_i32_228 c0_i32_229
  let c1_i32_230 : BitVec 32 := 1#32
  let v284 : BitVec 32 := Scalar.select v283 c1_i32_230 c2_i32_228
  let v285 : BitVec 32 := Scalar.remsi v282 v284
  let c0_i32_232 : BitVec 32 := 0#32
  let v287 : BitVec 1 := Scalar.cmpi .slt v285 c0_i32_232
  let c0_i32_233 : BitVec 32 := 0#32
  let v288 : BitVec 1 := Scalar.cmpi .slt v284 c0_i32_233
  let v289 : BitVec 1 := Scalar.xori v287 v288
  let c0_i32_231 : BitVec 32 := 0#32
  let v286 : BitVec 1 := Scalar.cmpi .ne v285 c0_i32_231
  let v290 : BitVec 1 := Scalar.andi v289 v286
  let v291 : BitVec 32 := Scalar.addi v285 v284
  let v292 : BitVec 32 := Scalar.select v290 v291 v285
  let c6_i32_339 : BitVec 32 := 6#32
  ![v292.toNat, 6]
def k0_off71 (i : grid0.Coords) : Fin 4 → Nat :=
  let arg0 : BitVec 32 := BitVec.ofNat 32 (i 0).val
  let c1_i32_227 : BitVec 32 := 1#32
  let v282 : BitVec 32 := Scalar.addi arg0 c1_i32_227
  let c2_i32_228 : BitVec 32 := 2#32
  let c0_i32_229 : BitVec 32 := 0#32
  let v283 : BitVec 1 := Scalar.cmpi .eq c2_i32_228 c0_i32_229
  let c1_i32_230 : BitVec 32 := 1#32
  let v284 : BitVec 32 := Scalar.select v283 c1_i32_230 c2_i32_228
  let v285 : BitVec 32 := Scalar.remsi v282 v284
  let c0_i32_232 : BitVec 32 := 0#32
  let v287 : BitVec 1 := Scalar.cmpi .slt v285 c0_i32_232
  let c0_i32_233 : BitVec 32 := 0#32
  let v288 : BitVec 1 := Scalar.cmpi .slt v284 c0_i32_233
  let v289 : BitVec 1 := Scalar.xori v287 v288
  let c0_i32_231 : BitVec 32 := 0#32
  let v286 : BitVec 1 := Scalar.cmpi .ne v285 c0_i32_231
  let v290 : BitVec 1 := Scalar.andi v289 v286
  let v291 : BitVec 32 := Scalar.addi v285 v284
  let v292 : BitVec 32 := Scalar.select v290 v291 v285
  let c6_i32_338 : BitVec 32 := 6#32
  let c0_i32_340 : BitVec 32 := 0#32
  let c0_i32_341 : BitVec 32 := 0#32
  ![v292.toNat, 6, 0, 0]
def k0_off72 (v320 : BitVec 32) : Fin 3 → Nat :=
  let c0_i32_342 : BitVec 32 := 0#32
  let c0_i32_343 : BitVec 32 := 0#32
  ![v320.toNat, 0, 0]

def k0_off73 (i : grid0.Coords) : Fin 2 → Nat :=
  let arg0 : BitVec 32 := BitVec.ofNat 32 (i 0).val
  let c1_i32_227 : BitVec 32 := 1#32
  let v282 : BitVec 32 := Scalar.addi arg0 c1_i32_227
  let c2_i32_228 : BitVec 32 := 2#32
  let c0_i32_229 : BitVec 32 := 0#32
  let v283 : BitVec 1 := Scalar.cmpi .eq c2_i32_228 c0_i32_229
  let c1_i32_230 : BitVec 32 := 1#32
  let v284 : BitVec 32 := Scalar.select v283 c1_i32_230 c2_i32_228
  let v285 : BitVec 32 := Scalar.remsi v282 v284
  let c0_i32_232 : BitVec 32 := 0#32
  let v287 : BitVec 1 := Scalar.cmpi .slt v285 c0_i32_232
  let c0_i32_233 : BitVec 32 := 0#32
  let v288 : BitVec 1 := Scalar.cmpi .slt v284 c0_i32_233
  let v289 : BitVec 1 := Scalar.xori v287 v288
  let c0_i32_231 : BitVec 32 := 0#32
  let v286 : BitVec 1 := Scalar.cmpi .ne v285 c0_i32_231
  let v290 : BitVec 1 := Scalar.andi v289 v286
  let v291 : BitVec 32 := Scalar.addi v285 v284
  let v292 : BitVec 32 := Scalar.select v290 v291 v285
  let c6_i32_345 : BitVec 32 := 6#32
  ![v292.toNat, 6]
def k0_off74 (i : grid0.Coords) : Fin 4 → Nat :=
  let arg0 : BitVec 32 := BitVec.ofNat 32 (i 0).val
  let c1_i32_227 : BitVec 32 := 1#32
  let v282 : BitVec 32 := Scalar.addi arg0 c1_i32_227
  let c2_i32_228 : BitVec 32 := 2#32
  let c0_i32_229 : BitVec 32 := 0#32
  let v283 : BitVec 1 := Scalar.cmpi .eq c2_i32_228 c0_i32_229
  let c1_i32_230 : BitVec 32 := 1#32
  let v284 : BitVec 32 := Scalar.select v283 c1_i32_230 c2_i32_228
  let v285 : BitVec 32 := Scalar.remsi v282 v284
  let c0_i32_232 : BitVec 32 := 0#32
  let v287 : BitVec 1 := Scalar.cmpi .slt v285 c0_i32_232
  let c0_i32_233 : BitVec 32 := 0#32
  let v288 : BitVec 1 := Scalar.cmpi .slt v284 c0_i32_233
  let v289 : BitVec 1 := Scalar.xori v287 v288
  let c0_i32_231 : BitVec 32 := 0#32
  let v286 : BitVec 1 := Scalar.cmpi .ne v285 c0_i32_231
  let v290 : BitVec 1 := Scalar.andi v289 v286
  let v291 : BitVec 32 := Scalar.addi v285 v284
  let v292 : BitVec 32 := Scalar.select v290 v291 v285
  let c6_i32_344 : BitVec 32 := 6#32
  let c0_i32_346 : BitVec 32 := 0#32
  let c0_i32_347 : BitVec 32 := 0#32
  ![v292.toNat, 6, 0, 0]
def k0_off75 (v320 : BitVec 32) : Fin 3 → Nat :=
  let c0_i32_348 : BitVec 32 := 0#32
  let c0_i32_349 : BitVec 32 := 0#32
  ![v320.toNat, 0, 0]

def k0_chk23 (i : grid0.Coords) (v320 : BitVec 32) : Prop :=
  (∀ (k0_h2 : k0_cond2 i = 1#1), ∀ a, (k0_off72 v320) a + S1x1x128.size a ≤ S4096x1x128.size a) ∧
  (∀ (k0_h2 : k0_cond2 i = 1#1), ∀ a, (k0_off75 v320) a + S1x1x3.size a ≤ S4096x1x3.size a)
theorem k0_off72_inb : ∀ (i : grid0.Coords) (v320 : BitVec 32) (k0_hw23 : k0_chk23 i v320), ∀ (k0_h2 : k0_cond2 i = 1#1), ∀ a, (k0_off72 v320) a + S1x1x128.size a ≤ S4096x1x128.size a := fun i v320 k0_hw23 k0_h2 => k0_hw23.1 k0_h2
theorem k0_off75_inb : ∀ (i : grid0.Coords) (v320 : BitVec 32) (k0_hw23 : k0_chk23 i v320), ∀ (k0_h2 : k0_cond2 i = 1#1), ∀ a, (k0_off75 v320) a + S1x1x3.size a ≤ S4096x1x3.size a := fun i v320 k0_hw23 k0_h2 => k0_hw23.2 k0_h2

def k0_off76 (i : grid0.Coords) : Fin 2 → Nat :=
  let arg0 : BitVec 32 := BitVec.ofNat 32 (i 0).val
  let c1_i32_227 : BitVec 32 := 1#32
  let v282 : BitVec 32 := Scalar.addi arg0 c1_i32_227
  let c2_i32_228 : BitVec 32 := 2#32
  let c0_i32_229 : BitVec 32 := 0#32
  let v283 : BitVec 1 := Scalar.cmpi .eq c2_i32_228 c0_i32_229
  let c1_i32_230 : BitVec 32 := 1#32
  let v284 : BitVec 32 := Scalar.select v283 c1_i32_230 c2_i32_228
  let v285 : BitVec 32 := Scalar.remsi v282 v284
  let c0_i32_232 : BitVec 32 := 0#32
  let v287 : BitVec 1 := Scalar.cmpi .slt v285 c0_i32_232
  let c0_i32_233 : BitVec 32 := 0#32
  let v288 : BitVec 1 := Scalar.cmpi .slt v284 c0_i32_233
  let v289 : BitVec 1 := Scalar.xori v287 v288
  let c0_i32_231 : BitVec 32 := 0#32
  let v286 : BitVec 1 := Scalar.cmpi .ne v285 c0_i32_231
  let v290 : BitVec 1 := Scalar.andi v289 v286
  let v291 : BitVec 32 := Scalar.addi v285 v284
  let v292 : BitVec 32 := Scalar.select v290 v291 v285
  let c7_i32_351 : BitVec 32 := 7#32
  ![v292.toNat, 7]
def k0_off77 (i : grid0.Coords) : Fin 4 → Nat :=
  let arg0 : BitVec 32 := BitVec.ofNat 32 (i 0).val
  let c1_i32_227 : BitVec 32 := 1#32
  let v282 : BitVec 32 := Scalar.addi arg0 c1_i32_227
  let c2_i32_228 : BitVec 32 := 2#32
  let c0_i32_229 : BitVec 32 := 0#32
  let v283 : BitVec 1 := Scalar.cmpi .eq c2_i32_228 c0_i32_229
  let c1_i32_230 : BitVec 32 := 1#32
  let v284 : BitVec 32 := Scalar.select v283 c1_i32_230 c2_i32_228
  let v285 : BitVec 32 := Scalar.remsi v282 v284
  let c0_i32_232 : BitVec 32 := 0#32
  let v287 : BitVec 1 := Scalar.cmpi .slt v285 c0_i32_232
  let c0_i32_233 : BitVec 32 := 0#32
  let v288 : BitVec 1 := Scalar.cmpi .slt v284 c0_i32_233
  let v289 : BitVec 1 := Scalar.xori v287 v288
  let c0_i32_231 : BitVec 32 := 0#32
  let v286 : BitVec 1 := Scalar.cmpi .ne v285 c0_i32_231
  let v290 : BitVec 1 := Scalar.andi v289 v286
  let v291 : BitVec 32 := Scalar.addi v285 v284
  let v292 : BitVec 32 := Scalar.select v290 v291 v285
  let c7_i32_350 : BitVec 32 := 7#32
  let c0_i32_352 : BitVec 32 := 0#32
  let c0_i32_353 : BitVec 32 := 0#32
  ![v292.toNat, 7, 0, 0]
def k0_off78 (v324 : BitVec 32) : Fin 3 → Nat :=
  let c0_i32_354 : BitVec 32 := 0#32
  let c0_i32_355 : BitVec 32 := 0#32
  ![v324.toNat, 0, 0]

def k0_off79 (i : grid0.Coords) : Fin 2 → Nat :=
  let arg0 : BitVec 32 := BitVec.ofNat 32 (i 0).val
  let c1_i32_227 : BitVec 32 := 1#32
  let v282 : BitVec 32 := Scalar.addi arg0 c1_i32_227
  let c2_i32_228 : BitVec 32 := 2#32
  let c0_i32_229 : BitVec 32 := 0#32
  let v283 : BitVec 1 := Scalar.cmpi .eq c2_i32_228 c0_i32_229
  let c1_i32_230 : BitVec 32 := 1#32
  let v284 : BitVec 32 := Scalar.select v283 c1_i32_230 c2_i32_228
  let v285 : BitVec 32 := Scalar.remsi v282 v284
  let c0_i32_232 : BitVec 32 := 0#32
  let v287 : BitVec 1 := Scalar.cmpi .slt v285 c0_i32_232
  let c0_i32_233 : BitVec 32 := 0#32
  let v288 : BitVec 1 := Scalar.cmpi .slt v284 c0_i32_233
  let v289 : BitVec 1 := Scalar.xori v287 v288
  let c0_i32_231 : BitVec 32 := 0#32
  let v286 : BitVec 1 := Scalar.cmpi .ne v285 c0_i32_231
  let v290 : BitVec 1 := Scalar.andi v289 v286
  let v291 : BitVec 32 := Scalar.addi v285 v284
  let v292 : BitVec 32 := Scalar.select v290 v291 v285
  let c7_i32_357 : BitVec 32 := 7#32
  ![v292.toNat, 7]
def k0_off80 (i : grid0.Coords) : Fin 4 → Nat :=
  let arg0 : BitVec 32 := BitVec.ofNat 32 (i 0).val
  let c1_i32_227 : BitVec 32 := 1#32
  let v282 : BitVec 32 := Scalar.addi arg0 c1_i32_227
  let c2_i32_228 : BitVec 32 := 2#32
  let c0_i32_229 : BitVec 32 := 0#32
  let v283 : BitVec 1 := Scalar.cmpi .eq c2_i32_228 c0_i32_229
  let c1_i32_230 : BitVec 32 := 1#32
  let v284 : BitVec 32 := Scalar.select v283 c1_i32_230 c2_i32_228
  let v285 : BitVec 32 := Scalar.remsi v282 v284
  let c0_i32_232 : BitVec 32 := 0#32
  let v287 : BitVec 1 := Scalar.cmpi .slt v285 c0_i32_232
  let c0_i32_233 : BitVec 32 := 0#32
  let v288 : BitVec 1 := Scalar.cmpi .slt v284 c0_i32_233
  let v289 : BitVec 1 := Scalar.xori v287 v288
  let c0_i32_231 : BitVec 32 := 0#32
  let v286 : BitVec 1 := Scalar.cmpi .ne v285 c0_i32_231
  let v290 : BitVec 1 := Scalar.andi v289 v286
  let v291 : BitVec 32 := Scalar.addi v285 v284
  let v292 : BitVec 32 := Scalar.select v290 v291 v285
  let c7_i32_356 : BitVec 32 := 7#32
  let c0_i32_358 : BitVec 32 := 0#32
  let c0_i32_359 : BitVec 32 := 0#32
  ![v292.toNat, 7, 0, 0]
def k0_off81 (v324 : BitVec 32) : Fin 3 → Nat :=
  let c0_i32_360 : BitVec 32 := 0#32
  let c0_i32_361 : BitVec 32 := 0#32
  ![v324.toNat, 0, 0]

def k0_chk24 (i : grid0.Coords) (v324 : BitVec 32) : Prop :=
  (∀ (k0_h2 : k0_cond2 i = 1#1), ∀ a, (k0_off78 v324) a + S1x1x128.size a ≤ S4096x1x128.size a) ∧
  (∀ (k0_h2 : k0_cond2 i = 1#1), ∀ a, (k0_off81 v324) a + S1x1x3.size a ≤ S4096x1x3.size a)
theorem k0_off78_inb : ∀ (i : grid0.Coords) (v324 : BitVec 32) (k0_hw24 : k0_chk24 i v324), ∀ (k0_h2 : k0_cond2 i = 1#1), ∀ a, (k0_off78 v324) a + S1x1x128.size a ≤ S4096x1x128.size a := fun i v324 k0_hw24 k0_h2 => k0_hw24.1 k0_h2
theorem k0_off81_inb : ∀ (i : grid0.Coords) (v324 : BitVec 32) (k0_hw24 : k0_chk24 i v324), ∀ (k0_h2 : k0_cond2 i = 1#1), ∀ a, (k0_off81 v324) a + S1x1x3.size a ≤ S4096x1x3.size a := fun i v324 k0_hw24 k0_h2 => k0_hw24.2 k0_h2

def k0_off82 (i : grid0.Coords) : Fin 2 → Nat :=
  let arg0 : BitVec 32 := BitVec.ofNat 32 (i 0).val
  let c1_i32_227 : BitVec 32 := 1#32
  let v282 : BitVec 32 := Scalar.addi arg0 c1_i32_227
  let c2_i32_228 : BitVec 32 := 2#32
  let c0_i32_229 : BitVec 32 := 0#32
  let v283 : BitVec 1 := Scalar.cmpi .eq c2_i32_228 c0_i32_229
  let c1_i32_230 : BitVec 32 := 1#32
  let v284 : BitVec 32 := Scalar.select v283 c1_i32_230 c2_i32_228
  let v285 : BitVec 32 := Scalar.remsi v282 v284
  let c0_i32_232 : BitVec 32 := 0#32
  let v287 : BitVec 1 := Scalar.cmpi .slt v285 c0_i32_232
  let c0_i32_233 : BitVec 32 := 0#32
  let v288 : BitVec 1 := Scalar.cmpi .slt v284 c0_i32_233
  let v289 : BitVec 1 := Scalar.xori v287 v288
  let c0_i32_231 : BitVec 32 := 0#32
  let v286 : BitVec 1 := Scalar.cmpi .ne v285 c0_i32_231
  let v290 : BitVec 1 := Scalar.andi v289 v286
  let v291 : BitVec 32 := Scalar.addi v285 v284
  let v292 : BitVec 32 := Scalar.select v290 v291 v285
  let c8_i32_363 : BitVec 32 := 8#32
  ![v292.toNat, 8]
def k0_off83 (i : grid0.Coords) : Fin 4 → Nat :=
  let arg0 : BitVec 32 := BitVec.ofNat 32 (i 0).val
  let c1_i32_227 : BitVec 32 := 1#32
  let v282 : BitVec 32 := Scalar.addi arg0 c1_i32_227
  let c2_i32_228 : BitVec 32 := 2#32
  let c0_i32_229 : BitVec 32 := 0#32
  let v283 : BitVec 1 := Scalar.cmpi .eq c2_i32_228 c0_i32_229
  let c1_i32_230 : BitVec 32 := 1#32
  let v284 : BitVec 32 := Scalar.select v283 c1_i32_230 c2_i32_228
  let v285 : BitVec 32 := Scalar.remsi v282 v284
  let c0_i32_232 : BitVec 32 := 0#32
  let v287 : BitVec 1 := Scalar.cmpi .slt v285 c0_i32_232
  let c0_i32_233 : BitVec 32 := 0#32
  let v288 : BitVec 1 := Scalar.cmpi .slt v284 c0_i32_233
  let v289 : BitVec 1 := Scalar.xori v287 v288
  let c0_i32_231 : BitVec 32 := 0#32
  let v286 : BitVec 1 := Scalar.cmpi .ne v285 c0_i32_231
  let v290 : BitVec 1 := Scalar.andi v289 v286
  let v291 : BitVec 32 := Scalar.addi v285 v284
  let v292 : BitVec 32 := Scalar.select v290 v291 v285
  let c8_i32_362 : BitVec 32 := 8#32
  let c0_i32_364 : BitVec 32 := 0#32
  let c0_i32_365 : BitVec 32 := 0#32
  ![v292.toNat, 8, 0, 0]
def k0_off84 (v328 : BitVec 32) : Fin 3 → Nat :=
  let c0_i32_366 : BitVec 32 := 0#32
  let c0_i32_367 : BitVec 32 := 0#32
  ![v328.toNat, 0, 0]

def k0_off85 (i : grid0.Coords) : Fin 2 → Nat :=
  let arg0 : BitVec 32 := BitVec.ofNat 32 (i 0).val
  let c1_i32_227 : BitVec 32 := 1#32
  let v282 : BitVec 32 := Scalar.addi arg0 c1_i32_227
  let c2_i32_228 : BitVec 32 := 2#32
  let c0_i32_229 : BitVec 32 := 0#32
  let v283 : BitVec 1 := Scalar.cmpi .eq c2_i32_228 c0_i32_229
  let c1_i32_230 : BitVec 32 := 1#32
  let v284 : BitVec 32 := Scalar.select v283 c1_i32_230 c2_i32_228
  let v285 : BitVec 32 := Scalar.remsi v282 v284
  let c0_i32_232 : BitVec 32 := 0#32
  let v287 : BitVec 1 := Scalar.cmpi .slt v285 c0_i32_232
  let c0_i32_233 : BitVec 32 := 0#32
  let v288 : BitVec 1 := Scalar.cmpi .slt v284 c0_i32_233
  let v289 : BitVec 1 := Scalar.xori v287 v288
  let c0_i32_231 : BitVec 32 := 0#32
  let v286 : BitVec 1 := Scalar.cmpi .ne v285 c0_i32_231
  let v290 : BitVec 1 := Scalar.andi v289 v286
  let v291 : BitVec 32 := Scalar.addi v285 v284
  let v292 : BitVec 32 := Scalar.select v290 v291 v285
  let c8_i32_369 : BitVec 32 := 8#32
  ![v292.toNat, 8]
def k0_off86 (i : grid0.Coords) : Fin 4 → Nat :=
  let arg0 : BitVec 32 := BitVec.ofNat 32 (i 0).val
  let c1_i32_227 : BitVec 32 := 1#32
  let v282 : BitVec 32 := Scalar.addi arg0 c1_i32_227
  let c2_i32_228 : BitVec 32 := 2#32
  let c0_i32_229 : BitVec 32 := 0#32
  let v283 : BitVec 1 := Scalar.cmpi .eq c2_i32_228 c0_i32_229
  let c1_i32_230 : BitVec 32 := 1#32
  let v284 : BitVec 32 := Scalar.select v283 c1_i32_230 c2_i32_228
  let v285 : BitVec 32 := Scalar.remsi v282 v284
  let c0_i32_232 : BitVec 32 := 0#32
  let v287 : BitVec 1 := Scalar.cmpi .slt v285 c0_i32_232
  let c0_i32_233 : BitVec 32 := 0#32
  let v288 : BitVec 1 := Scalar.cmpi .slt v284 c0_i32_233
  let v289 : BitVec 1 := Scalar.xori v287 v288
  let c0_i32_231 : BitVec 32 := 0#32
  let v286 : BitVec 1 := Scalar.cmpi .ne v285 c0_i32_231
  let v290 : BitVec 1 := Scalar.andi v289 v286
  let v291 : BitVec 32 := Scalar.addi v285 v284
  let v292 : BitVec 32 := Scalar.select v290 v291 v285
  let c8_i32_368 : BitVec 32 := 8#32
  let c0_i32_370 : BitVec 32 := 0#32
  let c0_i32_371 : BitVec 32 := 0#32
  ![v292.toNat, 8, 0, 0]
def k0_off87 (v328 : BitVec 32) : Fin 3 → Nat :=
  let c0_i32_372 : BitVec 32 := 0#32
  let c0_i32_373 : BitVec 32 := 0#32
  ![v328.toNat, 0, 0]

def k0_chk25 (i : grid0.Coords) (v328 : BitVec 32) : Prop :=
  (∀ (k0_h2 : k0_cond2 i = 1#1), ∀ a, (k0_off84 v328) a + S1x1x128.size a ≤ S4096x1x128.size a) ∧
  (∀ (k0_h2 : k0_cond2 i = 1#1), ∀ a, (k0_off87 v328) a + S1x1x3.size a ≤ S4096x1x3.size a)
theorem k0_off84_inb : ∀ (i : grid0.Coords) (v328 : BitVec 32) (k0_hw25 : k0_chk25 i v328), ∀ (k0_h2 : k0_cond2 i = 1#1), ∀ a, (k0_off84 v328) a + S1x1x128.size a ≤ S4096x1x128.size a := fun i v328 k0_hw25 k0_h2 => k0_hw25.1 k0_h2
theorem k0_off87_inb : ∀ (i : grid0.Coords) (v328 : BitVec 32) (k0_hw25 : k0_chk25 i v328), ∀ (k0_h2 : k0_cond2 i = 1#1), ∀ a, (k0_off87 v328) a + S1x1x3.size a ≤ S4096x1x3.size a := fun i v328 k0_hw25 k0_h2 => k0_hw25.2 k0_h2

def k0_off88 (i : grid0.Coords) : Fin 2 → Nat :=
  let arg0 : BitVec 32 := BitVec.ofNat 32 (i 0).val
  let c1_i32_227 : BitVec 32 := 1#32
  let v282 : BitVec 32 := Scalar.addi arg0 c1_i32_227
  let c2_i32_228 : BitVec 32 := 2#32
  let c0_i32_229 : BitVec 32 := 0#32
  let v283 : BitVec 1 := Scalar.cmpi .eq c2_i32_228 c0_i32_229
  let c1_i32_230 : BitVec 32 := 1#32
  let v284 : BitVec 32 := Scalar.select v283 c1_i32_230 c2_i32_228
  let v285 : BitVec 32 := Scalar.remsi v282 v284
  let c0_i32_232 : BitVec 32 := 0#32
  let v287 : BitVec 1 := Scalar.cmpi .slt v285 c0_i32_232
  let c0_i32_233 : BitVec 32 := 0#32
  let v288 : BitVec 1 := Scalar.cmpi .slt v284 c0_i32_233
  let v289 : BitVec 1 := Scalar.xori v287 v288
  let c0_i32_231 : BitVec 32 := 0#32
  let v286 : BitVec 1 := Scalar.cmpi .ne v285 c0_i32_231
  let v290 : BitVec 1 := Scalar.andi v289 v286
  let v291 : BitVec 32 := Scalar.addi v285 v284
  let v292 : BitVec 32 := Scalar.select v290 v291 v285
  let c9_i32_375 : BitVec 32 := 9#32
  ![v292.toNat, 9]
def k0_off89 (i : grid0.Coords) : Fin 4 → Nat :=
  let arg0 : BitVec 32 := BitVec.ofNat 32 (i 0).val
  let c1_i32_227 : BitVec 32 := 1#32
  let v282 : BitVec 32 := Scalar.addi arg0 c1_i32_227
  let c2_i32_228 : BitVec 32 := 2#32
  let c0_i32_229 : BitVec 32 := 0#32
  let v283 : BitVec 1 := Scalar.cmpi .eq c2_i32_228 c0_i32_229
  let c1_i32_230 : BitVec 32 := 1#32
  let v284 : BitVec 32 := Scalar.select v283 c1_i32_230 c2_i32_228
  let v285 : BitVec 32 := Scalar.remsi v282 v284
  let c0_i32_232 : BitVec 32 := 0#32
  let v287 : BitVec 1 := Scalar.cmpi .slt v285 c0_i32_232
  let c0_i32_233 : BitVec 32 := 0#32
  let v288 : BitVec 1 := Scalar.cmpi .slt v284 c0_i32_233
  let v289 : BitVec 1 := Scalar.xori v287 v288
  let c0_i32_231 : BitVec 32 := 0#32
  let v286 : BitVec 1 := Scalar.cmpi .ne v285 c0_i32_231
  let v290 : BitVec 1 := Scalar.andi v289 v286
  let v291 : BitVec 32 := Scalar.addi v285 v284
  let v292 : BitVec 32 := Scalar.select v290 v291 v285
  let c9_i32_374 : BitVec 32 := 9#32
  let c0_i32_376 : BitVec 32 := 0#32
  let c0_i32_377 : BitVec 32 := 0#32
  ![v292.toNat, 9, 0, 0]
def k0_off90 (v332 : BitVec 32) : Fin 3 → Nat :=
  let c0_i32_378 : BitVec 32 := 0#32
  let c0_i32_379 : BitVec 32 := 0#32
  ![v332.toNat, 0, 0]

def k0_off91 (i : grid0.Coords) : Fin 2 → Nat :=
  let arg0 : BitVec 32 := BitVec.ofNat 32 (i 0).val
  let c1_i32_227 : BitVec 32 := 1#32
  let v282 : BitVec 32 := Scalar.addi arg0 c1_i32_227
  let c2_i32_228 : BitVec 32 := 2#32
  let c0_i32_229 : BitVec 32 := 0#32
  let v283 : BitVec 1 := Scalar.cmpi .eq c2_i32_228 c0_i32_229
  let c1_i32_230 : BitVec 32 := 1#32
  let v284 : BitVec 32 := Scalar.select v283 c1_i32_230 c2_i32_228
  let v285 : BitVec 32 := Scalar.remsi v282 v284
  let c0_i32_232 : BitVec 32 := 0#32
  let v287 : BitVec 1 := Scalar.cmpi .slt v285 c0_i32_232
  let c0_i32_233 : BitVec 32 := 0#32
  let v288 : BitVec 1 := Scalar.cmpi .slt v284 c0_i32_233
  let v289 : BitVec 1 := Scalar.xori v287 v288
  let c0_i32_231 : BitVec 32 := 0#32
  let v286 : BitVec 1 := Scalar.cmpi .ne v285 c0_i32_231
  let v290 : BitVec 1 := Scalar.andi v289 v286
  let v291 : BitVec 32 := Scalar.addi v285 v284
  let v292 : BitVec 32 := Scalar.select v290 v291 v285
  let c9_i32_381 : BitVec 32 := 9#32
  ![v292.toNat, 9]
def k0_off92 (i : grid0.Coords) : Fin 4 → Nat :=
  let arg0 : BitVec 32 := BitVec.ofNat 32 (i 0).val
  let c1_i32_227 : BitVec 32 := 1#32
  let v282 : BitVec 32 := Scalar.addi arg0 c1_i32_227
  let c2_i32_228 : BitVec 32 := 2#32
  let c0_i32_229 : BitVec 32 := 0#32
  let v283 : BitVec 1 := Scalar.cmpi .eq c2_i32_228 c0_i32_229
  let c1_i32_230 : BitVec 32 := 1#32
  let v284 : BitVec 32 := Scalar.select v283 c1_i32_230 c2_i32_228
  let v285 : BitVec 32 := Scalar.remsi v282 v284
  let c0_i32_232 : BitVec 32 := 0#32
  let v287 : BitVec 1 := Scalar.cmpi .slt v285 c0_i32_232
  let c0_i32_233 : BitVec 32 := 0#32
  let v288 : BitVec 1 := Scalar.cmpi .slt v284 c0_i32_233
  let v289 : BitVec 1 := Scalar.xori v287 v288
  let c0_i32_231 : BitVec 32 := 0#32
  let v286 : BitVec 1 := Scalar.cmpi .ne v285 c0_i32_231
  let v290 : BitVec 1 := Scalar.andi v289 v286
  let v291 : BitVec 32 := Scalar.addi v285 v284
  let v292 : BitVec 32 := Scalar.select v290 v291 v285
  let c9_i32_380 : BitVec 32 := 9#32
  let c0_i32_382 : BitVec 32 := 0#32
  let c0_i32_383 : BitVec 32 := 0#32
  ![v292.toNat, 9, 0, 0]
def k0_off93 (v332 : BitVec 32) : Fin 3 → Nat :=
  let c0_i32_384 : BitVec 32 := 0#32
  let c0_i32_385 : BitVec 32 := 0#32
  ![v332.toNat, 0, 0]

def k0_chk26 (i : grid0.Coords) (v332 : BitVec 32) : Prop :=
  (∀ (k0_h2 : k0_cond2 i = 1#1), ∀ a, (k0_off90 v332) a + S1x1x128.size a ≤ S4096x1x128.size a) ∧
  (∀ (k0_h2 : k0_cond2 i = 1#1), ∀ a, (k0_off93 v332) a + S1x1x3.size a ≤ S4096x1x3.size a)
theorem k0_off90_inb : ∀ (i : grid0.Coords) (v332 : BitVec 32) (k0_hw26 : k0_chk26 i v332), ∀ (k0_h2 : k0_cond2 i = 1#1), ∀ a, (k0_off90 v332) a + S1x1x128.size a ≤ S4096x1x128.size a := fun i v332 k0_hw26 k0_h2 => k0_hw26.1 k0_h2
theorem k0_off93_inb : ∀ (i : grid0.Coords) (v332 : BitVec 32) (k0_hw26 : k0_chk26 i v332), ∀ (k0_h2 : k0_cond2 i = 1#1), ∀ a, (k0_off93 v332) a + S1x1x3.size a ≤ S4096x1x3.size a := fun i v332 k0_hw26 k0_h2 => k0_hw26.2 k0_h2

def k0_off94 (i : grid0.Coords) : Fin 2 → Nat :=
  let arg0 : BitVec 32 := BitVec.ofNat 32 (i 0).val
  let c1_i32_227 : BitVec 32 := 1#32
  let v282 : BitVec 32 := Scalar.addi arg0 c1_i32_227
  let c2_i32_228 : BitVec 32 := 2#32
  let c0_i32_229 : BitVec 32 := 0#32
  let v283 : BitVec 1 := Scalar.cmpi .eq c2_i32_228 c0_i32_229
  let c1_i32_230 : BitVec 32 := 1#32
  let v284 : BitVec 32 := Scalar.select v283 c1_i32_230 c2_i32_228
  let v285 : BitVec 32 := Scalar.remsi v282 v284
  let c0_i32_232 : BitVec 32 := 0#32
  let v287 : BitVec 1 := Scalar.cmpi .slt v285 c0_i32_232
  let c0_i32_233 : BitVec 32 := 0#32
  let v288 : BitVec 1 := Scalar.cmpi .slt v284 c0_i32_233
  let v289 : BitVec 1 := Scalar.xori v287 v288
  let c0_i32_231 : BitVec 32 := 0#32
  let v286 : BitVec 1 := Scalar.cmpi .ne v285 c0_i32_231
  let v290 : BitVec 1 := Scalar.andi v289 v286
  let v291 : BitVec 32 := Scalar.addi v285 v284
  let v292 : BitVec 32 := Scalar.select v290 v291 v285
  let c10_i32_387 : BitVec 32 := 10#32
  ![v292.toNat, 10]
def k0_off95 (i : grid0.Coords) : Fin 4 → Nat :=
  let arg0 : BitVec 32 := BitVec.ofNat 32 (i 0).val
  let c1_i32_227 : BitVec 32 := 1#32
  let v282 : BitVec 32 := Scalar.addi arg0 c1_i32_227
  let c2_i32_228 : BitVec 32 := 2#32
  let c0_i32_229 : BitVec 32 := 0#32
  let v283 : BitVec 1 := Scalar.cmpi .eq c2_i32_228 c0_i32_229
  let c1_i32_230 : BitVec 32 := 1#32
  let v284 : BitVec 32 := Scalar.select v283 c1_i32_230 c2_i32_228
  let v285 : BitVec 32 := Scalar.remsi v282 v284
  let c0_i32_232 : BitVec 32 := 0#32
  let v287 : BitVec 1 := Scalar.cmpi .slt v285 c0_i32_232
  let c0_i32_233 : BitVec 32 := 0#32
  let v288 : BitVec 1 := Scalar.cmpi .slt v284 c0_i32_233
  let v289 : BitVec 1 := Scalar.xori v287 v288
  let c0_i32_231 : BitVec 32 := 0#32
  let v286 : BitVec 1 := Scalar.cmpi .ne v285 c0_i32_231
  let v290 : BitVec 1 := Scalar.andi v289 v286
  let v291 : BitVec 32 := Scalar.addi v285 v284
  let v292 : BitVec 32 := Scalar.select v290 v291 v285
  let c10_i32_386 : BitVec 32 := 10#32
  let c0_i32_388 : BitVec 32 := 0#32
  let c0_i32_389 : BitVec 32 := 0#32
  ![v292.toNat, 10, 0, 0]
def k0_off96 (v336 : BitVec 32) : Fin 3 → Nat :=
  let c0_i32_390 : BitVec 32 := 0#32
  let c0_i32_391 : BitVec 32 := 0#32
  ![v336.toNat, 0, 0]

def k0_off97 (i : grid0.Coords) : Fin 2 → Nat :=
  let arg0 : BitVec 32 := BitVec.ofNat 32 (i 0).val
  let c1_i32_227 : BitVec 32 := 1#32
  let v282 : BitVec 32 := Scalar.addi arg0 c1_i32_227
  let c2_i32_228 : BitVec 32 := 2#32
  let c0_i32_229 : BitVec 32 := 0#32
  let v283 : BitVec 1 := Scalar.cmpi .eq c2_i32_228 c0_i32_229
  let c1_i32_230 : BitVec 32 := 1#32
  let v284 : BitVec 32 := Scalar.select v283 c1_i32_230 c2_i32_228
  let v285 : BitVec 32 := Scalar.remsi v282 v284
  let c0_i32_232 : BitVec 32 := 0#32
  let v287 : BitVec 1 := Scalar.cmpi .slt v285 c0_i32_232
  let c0_i32_233 : BitVec 32 := 0#32
  let v288 : BitVec 1 := Scalar.cmpi .slt v284 c0_i32_233
  let v289 : BitVec 1 := Scalar.xori v287 v288
  let c0_i32_231 : BitVec 32 := 0#32
  let v286 : BitVec 1 := Scalar.cmpi .ne v285 c0_i32_231
  let v290 : BitVec 1 := Scalar.andi v289 v286
  let v291 : BitVec 32 := Scalar.addi v285 v284
  let v292 : BitVec 32 := Scalar.select v290 v291 v285
  let c10_i32_393 : BitVec 32 := 10#32
  ![v292.toNat, 10]
def k0_off98 (i : grid0.Coords) : Fin 4 → Nat :=
  let arg0 : BitVec 32 := BitVec.ofNat 32 (i 0).val
  let c1_i32_227 : BitVec 32 := 1#32
  let v282 : BitVec 32 := Scalar.addi arg0 c1_i32_227
  let c2_i32_228 : BitVec 32 := 2#32
  let c0_i32_229 : BitVec 32 := 0#32
  let v283 : BitVec 1 := Scalar.cmpi .eq c2_i32_228 c0_i32_229
  let c1_i32_230 : BitVec 32 := 1#32
  let v284 : BitVec 32 := Scalar.select v283 c1_i32_230 c2_i32_228
  let v285 : BitVec 32 := Scalar.remsi v282 v284
  let c0_i32_232 : BitVec 32 := 0#32
  let v287 : BitVec 1 := Scalar.cmpi .slt v285 c0_i32_232
  let c0_i32_233 : BitVec 32 := 0#32
  let v288 : BitVec 1 := Scalar.cmpi .slt v284 c0_i32_233
  let v289 : BitVec 1 := Scalar.xori v287 v288
  let c0_i32_231 : BitVec 32 := 0#32
  let v286 : BitVec 1 := Scalar.cmpi .ne v285 c0_i32_231
  let v290 : BitVec 1 := Scalar.andi v289 v286
  let v291 : BitVec 32 := Scalar.addi v285 v284
  let v292 : BitVec 32 := Scalar.select v290 v291 v285
  let c10_i32_392 : BitVec 32 := 10#32
  let c0_i32_394 : BitVec 32 := 0#32
  let c0_i32_395 : BitVec 32 := 0#32
  ![v292.toNat, 10, 0, 0]
def k0_off99 (v336 : BitVec 32) : Fin 3 → Nat :=
  let c0_i32_396 : BitVec 32 := 0#32
  let c0_i32_397 : BitVec 32 := 0#32
  ![v336.toNat, 0, 0]

def k0_chk27 (i : grid0.Coords) (v336 : BitVec 32) : Prop :=
  (∀ (k0_h2 : k0_cond2 i = 1#1), ∀ a, (k0_off96 v336) a + S1x1x128.size a ≤ S4096x1x128.size a) ∧
  (∀ (k0_h2 : k0_cond2 i = 1#1), ∀ a, (k0_off99 v336) a + S1x1x3.size a ≤ S4096x1x3.size a)
theorem k0_off96_inb : ∀ (i : grid0.Coords) (v336 : BitVec 32) (k0_hw27 : k0_chk27 i v336), ∀ (k0_h2 : k0_cond2 i = 1#1), ∀ a, (k0_off96 v336) a + S1x1x128.size a ≤ S4096x1x128.size a := fun i v336 k0_hw27 k0_h2 => k0_hw27.1 k0_h2
theorem k0_off99_inb : ∀ (i : grid0.Coords) (v336 : BitVec 32) (k0_hw27 : k0_chk27 i v336), ∀ (k0_h2 : k0_cond2 i = 1#1), ∀ a, (k0_off99 v336) a + S1x1x3.size a ≤ S4096x1x3.size a := fun i v336 k0_hw27 k0_h2 => k0_hw27.2 k0_h2

def k0_off100 (i : grid0.Coords) : Fin 2 → Nat :=
  let arg0 : BitVec 32 := BitVec.ofNat 32 (i 0).val
  let c1_i32_227 : BitVec 32 := 1#32
  let v282 : BitVec 32 := Scalar.addi arg0 c1_i32_227
  let c2_i32_228 : BitVec 32 := 2#32
  let c0_i32_229 : BitVec 32 := 0#32
  let v283 : BitVec 1 := Scalar.cmpi .eq c2_i32_228 c0_i32_229
  let c1_i32_230 : BitVec 32 := 1#32
  let v284 : BitVec 32 := Scalar.select v283 c1_i32_230 c2_i32_228
  let v285 : BitVec 32 := Scalar.remsi v282 v284
  let c0_i32_232 : BitVec 32 := 0#32
  let v287 : BitVec 1 := Scalar.cmpi .slt v285 c0_i32_232
  let c0_i32_233 : BitVec 32 := 0#32
  let v288 : BitVec 1 := Scalar.cmpi .slt v284 c0_i32_233
  let v289 : BitVec 1 := Scalar.xori v287 v288
  let c0_i32_231 : BitVec 32 := 0#32
  let v286 : BitVec 1 := Scalar.cmpi .ne v285 c0_i32_231
  let v290 : BitVec 1 := Scalar.andi v289 v286
  let v291 : BitVec 32 := Scalar.addi v285 v284
  let v292 : BitVec 32 := Scalar.select v290 v291 v285
  let c11_i32_399 : BitVec 32 := 11#32
  ![v292.toNat, 11]
def k0_off101 (i : grid0.Coords) : Fin 4 → Nat :=
  let arg0 : BitVec 32 := BitVec.ofNat 32 (i 0).val
  let c1_i32_227 : BitVec 32 := 1#32
  let v282 : BitVec 32 := Scalar.addi arg0 c1_i32_227
  let c2_i32_228 : BitVec 32 := 2#32
  let c0_i32_229 : BitVec 32 := 0#32
  let v283 : BitVec 1 := Scalar.cmpi .eq c2_i32_228 c0_i32_229
  let c1_i32_230 : BitVec 32 := 1#32
  let v284 : BitVec 32 := Scalar.select v283 c1_i32_230 c2_i32_228
  let v285 : BitVec 32 := Scalar.remsi v282 v284
  let c0_i32_232 : BitVec 32 := 0#32
  let v287 : BitVec 1 := Scalar.cmpi .slt v285 c0_i32_232
  let c0_i32_233 : BitVec 32 := 0#32
  let v288 : BitVec 1 := Scalar.cmpi .slt v284 c0_i32_233
  let v289 : BitVec 1 := Scalar.xori v287 v288
  let c0_i32_231 : BitVec 32 := 0#32
  let v286 : BitVec 1 := Scalar.cmpi .ne v285 c0_i32_231
  let v290 : BitVec 1 := Scalar.andi v289 v286
  let v291 : BitVec 32 := Scalar.addi v285 v284
  let v292 : BitVec 32 := Scalar.select v290 v291 v285
  let c11_i32_398 : BitVec 32 := 11#32
  let c0_i32_400 : BitVec 32 := 0#32
  let c0_i32_401 : BitVec 32 := 0#32
  ![v292.toNat, 11, 0, 0]
def k0_off102 (v340 : BitVec 32) : Fin 3 → Nat :=
  let c0_i32_402 : BitVec 32 := 0#32
  let c0_i32_403 : BitVec 32 := 0#32
  ![v340.toNat, 0, 0]

def k0_off103 (i : grid0.Coords) : Fin 2 → Nat :=
  let arg0 : BitVec 32 := BitVec.ofNat 32 (i 0).val
  let c1_i32_227 : BitVec 32 := 1#32
  let v282 : BitVec 32 := Scalar.addi arg0 c1_i32_227
  let c2_i32_228 : BitVec 32 := 2#32
  let c0_i32_229 : BitVec 32 := 0#32
  let v283 : BitVec 1 := Scalar.cmpi .eq c2_i32_228 c0_i32_229
  let c1_i32_230 : BitVec 32 := 1#32
  let v284 : BitVec 32 := Scalar.select v283 c1_i32_230 c2_i32_228
  let v285 : BitVec 32 := Scalar.remsi v282 v284
  let c0_i32_232 : BitVec 32 := 0#32
  let v287 : BitVec 1 := Scalar.cmpi .slt v285 c0_i32_232
  let c0_i32_233 : BitVec 32 := 0#32
  let v288 : BitVec 1 := Scalar.cmpi .slt v284 c0_i32_233
  let v289 : BitVec 1 := Scalar.xori v287 v288
  let c0_i32_231 : BitVec 32 := 0#32
  let v286 : BitVec 1 := Scalar.cmpi .ne v285 c0_i32_231
  let v290 : BitVec 1 := Scalar.andi v289 v286
  let v291 : BitVec 32 := Scalar.addi v285 v284
  let v292 : BitVec 32 := Scalar.select v290 v291 v285
  let c11_i32_405 : BitVec 32 := 11#32
  ![v292.toNat, 11]
def k0_off104 (i : grid0.Coords) : Fin 4 → Nat :=
  let arg0 : BitVec 32 := BitVec.ofNat 32 (i 0).val
  let c1_i32_227 : BitVec 32 := 1#32
  let v282 : BitVec 32 := Scalar.addi arg0 c1_i32_227
  let c2_i32_228 : BitVec 32 := 2#32
  let c0_i32_229 : BitVec 32 := 0#32
  let v283 : BitVec 1 := Scalar.cmpi .eq c2_i32_228 c0_i32_229
  let c1_i32_230 : BitVec 32 := 1#32
  let v284 : BitVec 32 := Scalar.select v283 c1_i32_230 c2_i32_228
  let v285 : BitVec 32 := Scalar.remsi v282 v284
  let c0_i32_232 : BitVec 32 := 0#32
  let v287 : BitVec 1 := Scalar.cmpi .slt v285 c0_i32_232
  let c0_i32_233 : BitVec 32 := 0#32
  let v288 : BitVec 1 := Scalar.cmpi .slt v284 c0_i32_233
  let v289 : BitVec 1 := Scalar.xori v287 v288
  let c0_i32_231 : BitVec 32 := 0#32
  let v286 : BitVec 1 := Scalar.cmpi .ne v285 c0_i32_231
  let v290 : BitVec 1 := Scalar.andi v289 v286
  let v291 : BitVec 32 := Scalar.addi v285 v284
  let v292 : BitVec 32 := Scalar.select v290 v291 v285
  let c11_i32_404 : BitVec 32 := 11#32
  let c0_i32_406 : BitVec 32 := 0#32
  let c0_i32_407 : BitVec 32 := 0#32
  ![v292.toNat, 11, 0, 0]
def k0_off105 (v340 : BitVec 32) : Fin 3 → Nat :=
  let c0_i32_408 : BitVec 32 := 0#32
  let c0_i32_409 : BitVec 32 := 0#32
  ![v340.toNat, 0, 0]

def k0_chk28 (i : grid0.Coords) (v340 : BitVec 32) : Prop :=
  (∀ (k0_h2 : k0_cond2 i = 1#1), ∀ a, (k0_off102 v340) a + S1x1x128.size a ≤ S4096x1x128.size a) ∧
  (∀ (k0_h2 : k0_cond2 i = 1#1), ∀ a, (k0_off105 v340) a + S1x1x3.size a ≤ S4096x1x3.size a)
theorem k0_off102_inb : ∀ (i : grid0.Coords) (v340 : BitVec 32) (k0_hw28 : k0_chk28 i v340), ∀ (k0_h2 : k0_cond2 i = 1#1), ∀ a, (k0_off102 v340) a + S1x1x128.size a ≤ S4096x1x128.size a := fun i v340 k0_hw28 k0_h2 => k0_hw28.1 k0_h2
theorem k0_off105_inb : ∀ (i : grid0.Coords) (v340 : BitVec 32) (k0_hw28 : k0_chk28 i v340), ∀ (k0_h2 : k0_cond2 i = 1#1), ∀ a, (k0_off105 v340) a + S1x1x3.size a ≤ S4096x1x3.size a := fun i v340 k0_hw28 k0_h2 => k0_hw28.2 k0_h2

def k0_off106 (i : grid0.Coords) : Fin 2 → Nat :=
  let arg0 : BitVec 32 := BitVec.ofNat 32 (i 0).val
  let c1_i32_227 : BitVec 32 := 1#32
  let v282 : BitVec 32 := Scalar.addi arg0 c1_i32_227
  let c2_i32_228 : BitVec 32 := 2#32
  let c0_i32_229 : BitVec 32 := 0#32
  let v283 : BitVec 1 := Scalar.cmpi .eq c2_i32_228 c0_i32_229
  let c1_i32_230 : BitVec 32 := 1#32
  let v284 : BitVec 32 := Scalar.select v283 c1_i32_230 c2_i32_228
  let v285 : BitVec 32 := Scalar.remsi v282 v284
  let c0_i32_232 : BitVec 32 := 0#32
  let v287 : BitVec 1 := Scalar.cmpi .slt v285 c0_i32_232
  let c0_i32_233 : BitVec 32 := 0#32
  let v288 : BitVec 1 := Scalar.cmpi .slt v284 c0_i32_233
  let v289 : BitVec 1 := Scalar.xori v287 v288
  let c0_i32_231 : BitVec 32 := 0#32
  let v286 : BitVec 1 := Scalar.cmpi .ne v285 c0_i32_231
  let v290 : BitVec 1 := Scalar.andi v289 v286
  let v291 : BitVec 32 := Scalar.addi v285 v284
  let v292 : BitVec 32 := Scalar.select v290 v291 v285
  let c12_i32_411 : BitVec 32 := 12#32
  ![v292.toNat, 12]
def k0_off107 (i : grid0.Coords) : Fin 4 → Nat :=
  let arg0 : BitVec 32 := BitVec.ofNat 32 (i 0).val
  let c1_i32_227 : BitVec 32 := 1#32
  let v282 : BitVec 32 := Scalar.addi arg0 c1_i32_227
  let c2_i32_228 : BitVec 32 := 2#32
  let c0_i32_229 : BitVec 32 := 0#32
  let v283 : BitVec 1 := Scalar.cmpi .eq c2_i32_228 c0_i32_229
  let c1_i32_230 : BitVec 32 := 1#32
  let v284 : BitVec 32 := Scalar.select v283 c1_i32_230 c2_i32_228
  let v285 : BitVec 32 := Scalar.remsi v282 v284
  let c0_i32_232 : BitVec 32 := 0#32
  let v287 : BitVec 1 := Scalar.cmpi .slt v285 c0_i32_232
  let c0_i32_233 : BitVec 32 := 0#32
  let v288 : BitVec 1 := Scalar.cmpi .slt v284 c0_i32_233
  let v289 : BitVec 1 := Scalar.xori v287 v288
  let c0_i32_231 : BitVec 32 := 0#32
  let v286 : BitVec 1 := Scalar.cmpi .ne v285 c0_i32_231
  let v290 : BitVec 1 := Scalar.andi v289 v286
  let v291 : BitVec 32 := Scalar.addi v285 v284
  let v292 : BitVec 32 := Scalar.select v290 v291 v285
  let c12_i32_410 : BitVec 32 := 12#32
  let c0_i32_412 : BitVec 32 := 0#32
  let c0_i32_413 : BitVec 32 := 0#32
  ![v292.toNat, 12, 0, 0]
def k0_off108 (v344 : BitVec 32) : Fin 3 → Nat :=
  let c0_i32_414 : BitVec 32 := 0#32
  let c0_i32_415 : BitVec 32 := 0#32
  ![v344.toNat, 0, 0]

def k0_off109 (i : grid0.Coords) : Fin 2 → Nat :=
  let arg0 : BitVec 32 := BitVec.ofNat 32 (i 0).val
  let c1_i32_227 : BitVec 32 := 1#32
  let v282 : BitVec 32 := Scalar.addi arg0 c1_i32_227
  let c2_i32_228 : BitVec 32 := 2#32
  let c0_i32_229 : BitVec 32 := 0#32
  let v283 : BitVec 1 := Scalar.cmpi .eq c2_i32_228 c0_i32_229
  let c1_i32_230 : BitVec 32 := 1#32
  let v284 : BitVec 32 := Scalar.select v283 c1_i32_230 c2_i32_228
  let v285 : BitVec 32 := Scalar.remsi v282 v284
  let c0_i32_232 : BitVec 32 := 0#32
  let v287 : BitVec 1 := Scalar.cmpi .slt v285 c0_i32_232
  let c0_i32_233 : BitVec 32 := 0#32
  let v288 : BitVec 1 := Scalar.cmpi .slt v284 c0_i32_233
  let v289 : BitVec 1 := Scalar.xori v287 v288
  let c0_i32_231 : BitVec 32 := 0#32
  let v286 : BitVec 1 := Scalar.cmpi .ne v285 c0_i32_231
  let v290 : BitVec 1 := Scalar.andi v289 v286
  let v291 : BitVec 32 := Scalar.addi v285 v284
  let v292 : BitVec 32 := Scalar.select v290 v291 v285
  let c12_i32_417 : BitVec 32 := 12#32
  ![v292.toNat, 12]
def k0_off110 (i : grid0.Coords) : Fin 4 → Nat :=
  let arg0 : BitVec 32 := BitVec.ofNat 32 (i 0).val
  let c1_i32_227 : BitVec 32 := 1#32
  let v282 : BitVec 32 := Scalar.addi arg0 c1_i32_227
  let c2_i32_228 : BitVec 32 := 2#32
  let c0_i32_229 : BitVec 32 := 0#32
  let v283 : BitVec 1 := Scalar.cmpi .eq c2_i32_228 c0_i32_229
  let c1_i32_230 : BitVec 32 := 1#32
  let v284 : BitVec 32 := Scalar.select v283 c1_i32_230 c2_i32_228
  let v285 : BitVec 32 := Scalar.remsi v282 v284
  let c0_i32_232 : BitVec 32 := 0#32
  let v287 : BitVec 1 := Scalar.cmpi .slt v285 c0_i32_232
  let c0_i32_233 : BitVec 32 := 0#32
  let v288 : BitVec 1 := Scalar.cmpi .slt v284 c0_i32_233
  let v289 : BitVec 1 := Scalar.xori v287 v288
  let c0_i32_231 : BitVec 32 := 0#32
  let v286 : BitVec 1 := Scalar.cmpi .ne v285 c0_i32_231
  let v290 : BitVec 1 := Scalar.andi v289 v286
  let v291 : BitVec 32 := Scalar.addi v285 v284
  let v292 : BitVec 32 := Scalar.select v290 v291 v285
  let c12_i32_416 : BitVec 32 := 12#32
  let c0_i32_418 : BitVec 32 := 0#32
  let c0_i32_419 : BitVec 32 := 0#32
  ![v292.toNat, 12, 0, 0]
def k0_off111 (v344 : BitVec 32) : Fin 3 → Nat :=
  let c0_i32_420 : BitVec 32 := 0#32
  let c0_i32_421 : BitVec 32 := 0#32
  ![v344.toNat, 0, 0]

def k0_chk29 (i : grid0.Coords) (v344 : BitVec 32) : Prop :=
  (∀ (k0_h2 : k0_cond2 i = 1#1), ∀ a, (k0_off108 v344) a + S1x1x128.size a ≤ S4096x1x128.size a) ∧
  (∀ (k0_h2 : k0_cond2 i = 1#1), ∀ a, (k0_off111 v344) a + S1x1x3.size a ≤ S4096x1x3.size a)
theorem k0_off108_inb : ∀ (i : grid0.Coords) (v344 : BitVec 32) (k0_hw29 : k0_chk29 i v344), ∀ (k0_h2 : k0_cond2 i = 1#1), ∀ a, (k0_off108 v344) a + S1x1x128.size a ≤ S4096x1x128.size a := fun i v344 k0_hw29 k0_h2 => k0_hw29.1 k0_h2
theorem k0_off111_inb : ∀ (i : grid0.Coords) (v344 : BitVec 32) (k0_hw29 : k0_chk29 i v344), ∀ (k0_h2 : k0_cond2 i = 1#1), ∀ a, (k0_off111 v344) a + S1x1x3.size a ≤ S4096x1x3.size a := fun i v344 k0_hw29 k0_h2 => k0_hw29.2 k0_h2

def k0_off112 (i : grid0.Coords) : Fin 2 → Nat :=
  let arg0 : BitVec 32 := BitVec.ofNat 32 (i 0).val
  let c1_i32_227 : BitVec 32 := 1#32
  let v282 : BitVec 32 := Scalar.addi arg0 c1_i32_227
  let c2_i32_228 : BitVec 32 := 2#32
  let c0_i32_229 : BitVec 32 := 0#32
  let v283 : BitVec 1 := Scalar.cmpi .eq c2_i32_228 c0_i32_229
  let c1_i32_230 : BitVec 32 := 1#32
  let v284 : BitVec 32 := Scalar.select v283 c1_i32_230 c2_i32_228
  let v285 : BitVec 32 := Scalar.remsi v282 v284
  let c0_i32_232 : BitVec 32 := 0#32
  let v287 : BitVec 1 := Scalar.cmpi .slt v285 c0_i32_232
  let c0_i32_233 : BitVec 32 := 0#32
  let v288 : BitVec 1 := Scalar.cmpi .slt v284 c0_i32_233
  let v289 : BitVec 1 := Scalar.xori v287 v288
  let c0_i32_231 : BitVec 32 := 0#32
  let v286 : BitVec 1 := Scalar.cmpi .ne v285 c0_i32_231
  let v290 : BitVec 1 := Scalar.andi v289 v286
  let v291 : BitVec 32 := Scalar.addi v285 v284
  let v292 : BitVec 32 := Scalar.select v290 v291 v285
  let c13_i32_423 : BitVec 32 := 13#32
  ![v292.toNat, 13]
def k0_off113 (i : grid0.Coords) : Fin 4 → Nat :=
  let arg0 : BitVec 32 := BitVec.ofNat 32 (i 0).val
  let c1_i32_227 : BitVec 32 := 1#32
  let v282 : BitVec 32 := Scalar.addi arg0 c1_i32_227
  let c2_i32_228 : BitVec 32 := 2#32
  let c0_i32_229 : BitVec 32 := 0#32
  let v283 : BitVec 1 := Scalar.cmpi .eq c2_i32_228 c0_i32_229
  let c1_i32_230 : BitVec 32 := 1#32
  let v284 : BitVec 32 := Scalar.select v283 c1_i32_230 c2_i32_228
  let v285 : BitVec 32 := Scalar.remsi v282 v284
  let c0_i32_232 : BitVec 32 := 0#32
  let v287 : BitVec 1 := Scalar.cmpi .slt v285 c0_i32_232
  let c0_i32_233 : BitVec 32 := 0#32
  let v288 : BitVec 1 := Scalar.cmpi .slt v284 c0_i32_233
  let v289 : BitVec 1 := Scalar.xori v287 v288
  let c0_i32_231 : BitVec 32 := 0#32
  let v286 : BitVec 1 := Scalar.cmpi .ne v285 c0_i32_231
  let v290 : BitVec 1 := Scalar.andi v289 v286
  let v291 : BitVec 32 := Scalar.addi v285 v284
  let v292 : BitVec 32 := Scalar.select v290 v291 v285
  let c13_i32_422 : BitVec 32 := 13#32
  let c0_i32_424 : BitVec 32 := 0#32
  let c0_i32_425 : BitVec 32 := 0#32
  ![v292.toNat, 13, 0, 0]
def k0_off114 (v348 : BitVec 32) : Fin 3 → Nat :=
  let c0_i32_426 : BitVec 32 := 0#32
  let c0_i32_427 : BitVec 32 := 0#32
  ![v348.toNat, 0, 0]

def k0_off115 (i : grid0.Coords) : Fin 2 → Nat :=
  let arg0 : BitVec 32 := BitVec.ofNat 32 (i 0).val
  let c1_i32_227 : BitVec 32 := 1#32
  let v282 : BitVec 32 := Scalar.addi arg0 c1_i32_227
  let c2_i32_228 : BitVec 32 := 2#32
  let c0_i32_229 : BitVec 32 := 0#32
  let v283 : BitVec 1 := Scalar.cmpi .eq c2_i32_228 c0_i32_229
  let c1_i32_230 : BitVec 32 := 1#32
  let v284 : BitVec 32 := Scalar.select v283 c1_i32_230 c2_i32_228
  let v285 : BitVec 32 := Scalar.remsi v282 v284
  let c0_i32_232 : BitVec 32 := 0#32
  let v287 : BitVec 1 := Scalar.cmpi .slt v285 c0_i32_232
  let c0_i32_233 : BitVec 32 := 0#32
  let v288 : BitVec 1 := Scalar.cmpi .slt v284 c0_i32_233
  let v289 : BitVec 1 := Scalar.xori v287 v288
  let c0_i32_231 : BitVec 32 := 0#32
  let v286 : BitVec 1 := Scalar.cmpi .ne v285 c0_i32_231
  let v290 : BitVec 1 := Scalar.andi v289 v286
  let v291 : BitVec 32 := Scalar.addi v285 v284
  let v292 : BitVec 32 := Scalar.select v290 v291 v285
  let c13_i32_429 : BitVec 32 := 13#32
  ![v292.toNat, 13]
def k0_off116 (i : grid0.Coords) : Fin 4 → Nat :=
  let arg0 : BitVec 32 := BitVec.ofNat 32 (i 0).val
  let c1_i32_227 : BitVec 32 := 1#32
  let v282 : BitVec 32 := Scalar.addi arg0 c1_i32_227
  let c2_i32_228 : BitVec 32 := 2#32
  let c0_i32_229 : BitVec 32 := 0#32
  let v283 : BitVec 1 := Scalar.cmpi .eq c2_i32_228 c0_i32_229
  let c1_i32_230 : BitVec 32 := 1#32
  let v284 : BitVec 32 := Scalar.select v283 c1_i32_230 c2_i32_228
  let v285 : BitVec 32 := Scalar.remsi v282 v284
  let c0_i32_232 : BitVec 32 := 0#32
  let v287 : BitVec 1 := Scalar.cmpi .slt v285 c0_i32_232
  let c0_i32_233 : BitVec 32 := 0#32
  let v288 : BitVec 1 := Scalar.cmpi .slt v284 c0_i32_233
  let v289 : BitVec 1 := Scalar.xori v287 v288
  let c0_i32_231 : BitVec 32 := 0#32
  let v286 : BitVec 1 := Scalar.cmpi .ne v285 c0_i32_231
  let v290 : BitVec 1 := Scalar.andi v289 v286
  let v291 : BitVec 32 := Scalar.addi v285 v284
  let v292 : BitVec 32 := Scalar.select v290 v291 v285
  let c13_i32_428 : BitVec 32 := 13#32
  let c0_i32_430 : BitVec 32 := 0#32
  let c0_i32_431 : BitVec 32 := 0#32
  ![v292.toNat, 13, 0, 0]
def k0_off117 (v348 : BitVec 32) : Fin 3 → Nat :=
  let c0_i32_432 : BitVec 32 := 0#32
  let c0_i32_433 : BitVec 32 := 0#32
  ![v348.toNat, 0, 0]

def k0_chk30 (i : grid0.Coords) (v348 : BitVec 32) : Prop :=
  (∀ (k0_h2 : k0_cond2 i = 1#1), ∀ a, (k0_off114 v348) a + S1x1x128.size a ≤ S4096x1x128.size a) ∧
  (∀ (k0_h2 : k0_cond2 i = 1#1), ∀ a, (k0_off117 v348) a + S1x1x3.size a ≤ S4096x1x3.size a)
theorem k0_off114_inb : ∀ (i : grid0.Coords) (v348 : BitVec 32) (k0_hw30 : k0_chk30 i v348), ∀ (k0_h2 : k0_cond2 i = 1#1), ∀ a, (k0_off114 v348) a + S1x1x128.size a ≤ S4096x1x128.size a := fun i v348 k0_hw30 k0_h2 => k0_hw30.1 k0_h2
theorem k0_off117_inb : ∀ (i : grid0.Coords) (v348 : BitVec 32) (k0_hw30 : k0_chk30 i v348), ∀ (k0_h2 : k0_cond2 i = 1#1), ∀ a, (k0_off117 v348) a + S1x1x3.size a ≤ S4096x1x3.size a := fun i v348 k0_hw30 k0_h2 => k0_hw30.2 k0_h2

def k0_off118 (i : grid0.Coords) : Fin 2 → Nat :=
  let arg0 : BitVec 32 := BitVec.ofNat 32 (i 0).val
  let c1_i32_227 : BitVec 32 := 1#32
  let v282 : BitVec 32 := Scalar.addi arg0 c1_i32_227
  let c2_i32_228 : BitVec 32 := 2#32
  let c0_i32_229 : BitVec 32 := 0#32
  let v283 : BitVec 1 := Scalar.cmpi .eq c2_i32_228 c0_i32_229
  let c1_i32_230 : BitVec 32 := 1#32
  let v284 : BitVec 32 := Scalar.select v283 c1_i32_230 c2_i32_228
  let v285 : BitVec 32 := Scalar.remsi v282 v284
  let c0_i32_232 : BitVec 32 := 0#32
  let v287 : BitVec 1 := Scalar.cmpi .slt v285 c0_i32_232
  let c0_i32_233 : BitVec 32 := 0#32
  let v288 : BitVec 1 := Scalar.cmpi .slt v284 c0_i32_233
  let v289 : BitVec 1 := Scalar.xori v287 v288
  let c0_i32_231 : BitVec 32 := 0#32
  let v286 : BitVec 1 := Scalar.cmpi .ne v285 c0_i32_231
  let v290 : BitVec 1 := Scalar.andi v289 v286
  let v291 : BitVec 32 := Scalar.addi v285 v284
  let v292 : BitVec 32 := Scalar.select v290 v291 v285
  let c14_i32_435 : BitVec 32 := 14#32
  ![v292.toNat, 14]
def k0_off119 (i : grid0.Coords) : Fin 4 → Nat :=
  let arg0 : BitVec 32 := BitVec.ofNat 32 (i 0).val
  let c1_i32_227 : BitVec 32 := 1#32
  let v282 : BitVec 32 := Scalar.addi arg0 c1_i32_227
  let c2_i32_228 : BitVec 32 := 2#32
  let c0_i32_229 : BitVec 32 := 0#32
  let v283 : BitVec 1 := Scalar.cmpi .eq c2_i32_228 c0_i32_229
  let c1_i32_230 : BitVec 32 := 1#32
  let v284 : BitVec 32 := Scalar.select v283 c1_i32_230 c2_i32_228
  let v285 : BitVec 32 := Scalar.remsi v282 v284
  let c0_i32_232 : BitVec 32 := 0#32
  let v287 : BitVec 1 := Scalar.cmpi .slt v285 c0_i32_232
  let c0_i32_233 : BitVec 32 := 0#32
  let v288 : BitVec 1 := Scalar.cmpi .slt v284 c0_i32_233
  let v289 : BitVec 1 := Scalar.xori v287 v288
  let c0_i32_231 : BitVec 32 := 0#32
  let v286 : BitVec 1 := Scalar.cmpi .ne v285 c0_i32_231
  let v290 : BitVec 1 := Scalar.andi v289 v286
  let v291 : BitVec 32 := Scalar.addi v285 v284
  let v292 : BitVec 32 := Scalar.select v290 v291 v285
  let c14_i32_434 : BitVec 32 := 14#32
  let c0_i32_436 : BitVec 32 := 0#32
  let c0_i32_437 : BitVec 32 := 0#32
  ![v292.toNat, 14, 0, 0]
def k0_off120 (v352 : BitVec 32) : Fin 3 → Nat :=
  let c0_i32_438 : BitVec 32 := 0#32
  let c0_i32_439 : BitVec 32 := 0#32
  ![v352.toNat, 0, 0]

def k0_off121 (i : grid0.Coords) : Fin 2 → Nat :=
  let arg0 : BitVec 32 := BitVec.ofNat 32 (i 0).val
  let c1_i32_227 : BitVec 32 := 1#32
  let v282 : BitVec 32 := Scalar.addi arg0 c1_i32_227
  let c2_i32_228 : BitVec 32 := 2#32
  let c0_i32_229 : BitVec 32 := 0#32
  let v283 : BitVec 1 := Scalar.cmpi .eq c2_i32_228 c0_i32_229
  let c1_i32_230 : BitVec 32 := 1#32
  let v284 : BitVec 32 := Scalar.select v283 c1_i32_230 c2_i32_228
  let v285 : BitVec 32 := Scalar.remsi v282 v284
  let c0_i32_232 : BitVec 32 := 0#32
  let v287 : BitVec 1 := Scalar.cmpi .slt v285 c0_i32_232
  let c0_i32_233 : BitVec 32 := 0#32
  let v288 : BitVec 1 := Scalar.cmpi .slt v284 c0_i32_233
  let v289 : BitVec 1 := Scalar.xori v287 v288
  let c0_i32_231 : BitVec 32 := 0#32
  let v286 : BitVec 1 := Scalar.cmpi .ne v285 c0_i32_231
  let v290 : BitVec 1 := Scalar.andi v289 v286
  let v291 : BitVec 32 := Scalar.addi v285 v284
  let v292 : BitVec 32 := Scalar.select v290 v291 v285
  let c14_i32_441 : BitVec 32 := 14#32
  ![v292.toNat, 14]
def k0_off122 (i : grid0.Coords) : Fin 4 → Nat :=
  let arg0 : BitVec 32 := BitVec.ofNat 32 (i 0).val
  let c1_i32_227 : BitVec 32 := 1#32
  let v282 : BitVec 32 := Scalar.addi arg0 c1_i32_227
  let c2_i32_228 : BitVec 32 := 2#32
  let c0_i32_229 : BitVec 32 := 0#32
  let v283 : BitVec 1 := Scalar.cmpi .eq c2_i32_228 c0_i32_229
  let c1_i32_230 : BitVec 32 := 1#32
  let v284 : BitVec 32 := Scalar.select v283 c1_i32_230 c2_i32_228
  let v285 : BitVec 32 := Scalar.remsi v282 v284
  let c0_i32_232 : BitVec 32 := 0#32
  let v287 : BitVec 1 := Scalar.cmpi .slt v285 c0_i32_232
  let c0_i32_233 : BitVec 32 := 0#32
  let v288 : BitVec 1 := Scalar.cmpi .slt v284 c0_i32_233
  let v289 : BitVec 1 := Scalar.xori v287 v288
  let c0_i32_231 : BitVec 32 := 0#32
  let v286 : BitVec 1 := Scalar.cmpi .ne v285 c0_i32_231
  let v290 : BitVec 1 := Scalar.andi v289 v286
  let v291 : BitVec 32 := Scalar.addi v285 v284
  let v292 : BitVec 32 := Scalar.select v290 v291 v285
  let c14_i32_440 : BitVec 32 := 14#32
  let c0_i32_442 : BitVec 32 := 0#32
  let c0_i32_443 : BitVec 32 := 0#32
  ![v292.toNat, 14, 0, 0]
def k0_off123 (v352 : BitVec 32) : Fin 3 → Nat :=
  let c0_i32_444 : BitVec 32 := 0#32
  let c0_i32_445 : BitVec 32 := 0#32
  ![v352.toNat, 0, 0]

def k0_chk31 (i : grid0.Coords) (v352 : BitVec 32) : Prop :=
  (∀ (k0_h2 : k0_cond2 i = 1#1), ∀ a, (k0_off120 v352) a + S1x1x128.size a ≤ S4096x1x128.size a) ∧
  (∀ (k0_h2 : k0_cond2 i = 1#1), ∀ a, (k0_off123 v352) a + S1x1x3.size a ≤ S4096x1x3.size a)
theorem k0_off120_inb : ∀ (i : grid0.Coords) (v352 : BitVec 32) (k0_hw31 : k0_chk31 i v352), ∀ (k0_h2 : k0_cond2 i = 1#1), ∀ a, (k0_off120 v352) a + S1x1x128.size a ≤ S4096x1x128.size a := fun i v352 k0_hw31 k0_h2 => k0_hw31.1 k0_h2
theorem k0_off123_inb : ∀ (i : grid0.Coords) (v352 : BitVec 32) (k0_hw31 : k0_chk31 i v352), ∀ (k0_h2 : k0_cond2 i = 1#1), ∀ a, (k0_off123 v352) a + S1x1x3.size a ≤ S4096x1x3.size a := fun i v352 k0_hw31 k0_h2 => k0_hw31.2 k0_h2

def k0_off124 (i : grid0.Coords) : Fin 2 → Nat :=
  let arg0 : BitVec 32 := BitVec.ofNat 32 (i 0).val
  let c1_i32_227 : BitVec 32 := 1#32
  let v282 : BitVec 32 := Scalar.addi arg0 c1_i32_227
  let c2_i32_228 : BitVec 32 := 2#32
  let c0_i32_229 : BitVec 32 := 0#32
  let v283 : BitVec 1 := Scalar.cmpi .eq c2_i32_228 c0_i32_229
  let c1_i32_230 : BitVec 32 := 1#32
  let v284 : BitVec 32 := Scalar.select v283 c1_i32_230 c2_i32_228
  let v285 : BitVec 32 := Scalar.remsi v282 v284
  let c0_i32_232 : BitVec 32 := 0#32
  let v287 : BitVec 1 := Scalar.cmpi .slt v285 c0_i32_232
  let c0_i32_233 : BitVec 32 := 0#32
  let v288 : BitVec 1 := Scalar.cmpi .slt v284 c0_i32_233
  let v289 : BitVec 1 := Scalar.xori v287 v288
  let c0_i32_231 : BitVec 32 := 0#32
  let v286 : BitVec 1 := Scalar.cmpi .ne v285 c0_i32_231
  let v290 : BitVec 1 := Scalar.andi v289 v286
  let v291 : BitVec 32 := Scalar.addi v285 v284
  let v292 : BitVec 32 := Scalar.select v290 v291 v285
  let c15_i32_447 : BitVec 32 := 15#32
  ![v292.toNat, 15]
def k0_off125 (i : grid0.Coords) : Fin 4 → Nat :=
  let arg0 : BitVec 32 := BitVec.ofNat 32 (i 0).val
  let c1_i32_227 : BitVec 32 := 1#32
  let v282 : BitVec 32 := Scalar.addi arg0 c1_i32_227
  let c2_i32_228 : BitVec 32 := 2#32
  let c0_i32_229 : BitVec 32 := 0#32
  let v283 : BitVec 1 := Scalar.cmpi .eq c2_i32_228 c0_i32_229
  let c1_i32_230 : BitVec 32 := 1#32
  let v284 : BitVec 32 := Scalar.select v283 c1_i32_230 c2_i32_228
  let v285 : BitVec 32 := Scalar.remsi v282 v284
  let c0_i32_232 : BitVec 32 := 0#32
  let v287 : BitVec 1 := Scalar.cmpi .slt v285 c0_i32_232
  let c0_i32_233 : BitVec 32 := 0#32
  let v288 : BitVec 1 := Scalar.cmpi .slt v284 c0_i32_233
  let v289 : BitVec 1 := Scalar.xori v287 v288
  let c0_i32_231 : BitVec 32 := 0#32
  let v286 : BitVec 1 := Scalar.cmpi .ne v285 c0_i32_231
  let v290 : BitVec 1 := Scalar.andi v289 v286
  let v291 : BitVec 32 := Scalar.addi v285 v284
  let v292 : BitVec 32 := Scalar.select v290 v291 v285
  let c15_i32_446 : BitVec 32 := 15#32
  let c0_i32_448 : BitVec 32 := 0#32
  let c0_i32_449 : BitVec 32 := 0#32
  ![v292.toNat, 15, 0, 0]
def k0_off126 (v356 : BitVec 32) : Fin 3 → Nat :=
  let c0_i32_450 : BitVec 32 := 0#32
  let c0_i32_451 : BitVec 32 := 0#32
  ![v356.toNat, 0, 0]

def k0_off127 (i : grid0.Coords) : Fin 2 → Nat :=
  let arg0 : BitVec 32 := BitVec.ofNat 32 (i 0).val
  let c1_i32_227 : BitVec 32 := 1#32
  let v282 : BitVec 32 := Scalar.addi arg0 c1_i32_227
  let c2_i32_228 : BitVec 32 := 2#32
  let c0_i32_229 : BitVec 32 := 0#32
  let v283 : BitVec 1 := Scalar.cmpi .eq c2_i32_228 c0_i32_229
  let c1_i32_230 : BitVec 32 := 1#32
  let v284 : BitVec 32 := Scalar.select v283 c1_i32_230 c2_i32_228
  let v285 : BitVec 32 := Scalar.remsi v282 v284
  let c0_i32_232 : BitVec 32 := 0#32
  let v287 : BitVec 1 := Scalar.cmpi .slt v285 c0_i32_232
  let c0_i32_233 : BitVec 32 := 0#32
  let v288 : BitVec 1 := Scalar.cmpi .slt v284 c0_i32_233
  let v289 : BitVec 1 := Scalar.xori v287 v288
  let c0_i32_231 : BitVec 32 := 0#32
  let v286 : BitVec 1 := Scalar.cmpi .ne v285 c0_i32_231
  let v290 : BitVec 1 := Scalar.andi v289 v286
  let v291 : BitVec 32 := Scalar.addi v285 v284
  let v292 : BitVec 32 := Scalar.select v290 v291 v285
  let c15_i32_453 : BitVec 32 := 15#32
  ![v292.toNat, 15]
def k0_off128 (i : grid0.Coords) : Fin 4 → Nat :=
  let arg0 : BitVec 32 := BitVec.ofNat 32 (i 0).val
  let c1_i32_227 : BitVec 32 := 1#32
  let v282 : BitVec 32 := Scalar.addi arg0 c1_i32_227
  let c2_i32_228 : BitVec 32 := 2#32
  let c0_i32_229 : BitVec 32 := 0#32
  let v283 : BitVec 1 := Scalar.cmpi .eq c2_i32_228 c0_i32_229
  let c1_i32_230 : BitVec 32 := 1#32
  let v284 : BitVec 32 := Scalar.select v283 c1_i32_230 c2_i32_228
  let v285 : BitVec 32 := Scalar.remsi v282 v284
  let c0_i32_232 : BitVec 32 := 0#32
  let v287 : BitVec 1 := Scalar.cmpi .slt v285 c0_i32_232
  let c0_i32_233 : BitVec 32 := 0#32
  let v288 : BitVec 1 := Scalar.cmpi .slt v284 c0_i32_233
  let v289 : BitVec 1 := Scalar.xori v287 v288
  let c0_i32_231 : BitVec 32 := 0#32
  let v286 : BitVec 1 := Scalar.cmpi .ne v285 c0_i32_231
  let v290 : BitVec 1 := Scalar.andi v289 v286
  let v291 : BitVec 32 := Scalar.addi v285 v284
  let v292 : BitVec 32 := Scalar.select v290 v291 v285
  let c15_i32_452 : BitVec 32 := 15#32
  let c0_i32_454 : BitVec 32 := 0#32
  let c0_i32_455 : BitVec 32 := 0#32
  ![v292.toNat, 15, 0, 0]
def k0_off129 (v356 : BitVec 32) : Fin 3 → Nat :=
  let c0_i32_456 : BitVec 32 := 0#32
  let c0_i32_457 : BitVec 32 := 0#32
  ![v356.toNat, 0, 0]

def k0_chk32 (i : grid0.Coords) (v356 : BitVec 32) : Prop :=
  (∀ (k0_h2 : k0_cond2 i = 1#1), ∀ a, (k0_off126 v356) a + S1x1x128.size a ≤ S4096x1x128.size a) ∧
  (∀ (k0_h2 : k0_cond2 i = 1#1), ∀ a, (k0_off129 v356) a + S1x1x3.size a ≤ S4096x1x3.size a)
theorem k0_off126_inb : ∀ (i : grid0.Coords) (v356 : BitVec 32) (k0_hw32 : k0_chk32 i v356), ∀ (k0_h2 : k0_cond2 i = 1#1), ∀ a, (k0_off126 v356) a + S1x1x128.size a ≤ S4096x1x128.size a := fun i v356 k0_hw32 k0_h2 => k0_hw32.1 k0_h2
theorem k0_off129_inb : ∀ (i : grid0.Coords) (v356 : BitVec 32) (k0_hw32 : k0_chk32 i v356), ∀ (k0_h2 : k0_cond2 i = 1#1), ∀ a, (k0_off129 v356) a + S1x1x3.size a ≤ S4096x1x3.size a := fun i v356 k0_hw32 k0_h2 => k0_hw32.2 k0_h2

def k0_off130 (i : grid0.Coords) (c0_i32_7 : BitVec 32) : Fin 1 → Nat :=
  let arg0 : BitVec 32 := BitVec.ofNat 32 (i 0).val
  let c16_i32 : BitVec 32 := 16#32
  let v17 : BitVec 32 := Scalar.muli arg0 c16_i32
  let v18 : BitVec 32 := Scalar.addi v17 c0_i32_7
  let v19 : Index := Scalar.indexCast v18
  ![v19.toNat]
def k0_off131 (i : grid0.Coords) : Fin 2 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_26 : BitVec 32 := 0#32
  ![v16.toNat, 0]
def k0_off132 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_25 : BitVec 32 := 0#32
  let c0_i32_27 : BitVec 32 := 0#32
  let c0_i32_28 : BitVec 32 := 0#32
  ![v16.toNat, 0, 0, 0]
def k0_off133 (v20 : BitVec 32) : Fin 3 → Nat :=
  let c0_i32_29 : BitVec 32 := 0#32
  let c0_i32_30 : BitVec 32 := 0#32
  ![v20.toNat, 0, 0]

def k0_off134 (i : grid0.Coords) : Fin 2 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_32 : BitVec 32 := 0#32
  ![v16.toNat, 0]
def k0_off135 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_31 : BitVec 32 := 0#32
  let c0_i32_33 : BitVec 32 := 0#32
  let c0_i32_34 : BitVec 32 := 0#32
  ![v16.toNat, 0, 0, 0]
def k0_off136 (v20 : BitVec 32) : Fin 3 → Nat :=
  let c0_i32_35 : BitVec 32 := 0#32
  let c0_i32_36 : BitVec 32 := 0#32
  ![v20.toNat, 0, 0]

def k0_chk33 (v20 : BitVec 32) : Prop :=
  (∀ a, (k0_off133 v20) a + S1x1x128.size a ≤ S4096x1x128.size a) ∧
  (∀ a, (k0_off136 v20) a + S1x1x3.size a ≤ S4096x1x3.size a)
theorem k0_off133_inb : ∀ (v20 : BitVec 32) (k0_hw33 : k0_chk33 v20), ∀ a, (k0_off133 v20) a + S1x1x128.size a ≤ S4096x1x128.size a := fun v20 k0_hw33 => k0_hw33.1
theorem k0_off136_inb : ∀ (v20 : BitVec 32) (k0_hw33 : k0_chk33 v20), ∀ a, (k0_off136 v20) a + S1x1x3.size a ≤ S4096x1x3.size a := fun v20 k0_hw33 => k0_hw33.2

def k0_off137 (i : grid0.Coords) : Fin 2 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_38 : BitVec 32 := 1#32
  ![v16.toNat, 1]
def k0_off138 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_37 : BitVec 32 := 1#32
  let c0_i32_39 : BitVec 32 := 0#32
  let c0_i32_40 : BitVec 32 := 0#32
  ![v16.toNat, 1, 0, 0]
def k0_off139 (v24 : BitVec 32) : Fin 3 → Nat :=
  let c0_i32_41 : BitVec 32 := 0#32
  let c0_i32_42 : BitVec 32 := 0#32
  ![v24.toNat, 0, 0]

def k0_off140 (i : grid0.Coords) : Fin 2 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_44 : BitVec 32 := 1#32
  ![v16.toNat, 1]
def k0_off141 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_43 : BitVec 32 := 1#32
  let c0_i32_45 : BitVec 32 := 0#32
  let c0_i32_46 : BitVec 32 := 0#32
  ![v16.toNat, 1, 0, 0]
def k0_off142 (v24 : BitVec 32) : Fin 3 → Nat :=
  let c0_i32_47 : BitVec 32 := 0#32
  let c0_i32_48 : BitVec 32 := 0#32
  ![v24.toNat, 0, 0]

def k0_chk34 (v24 : BitVec 32) : Prop :=
  (∀ a, (k0_off139 v24) a + S1x1x128.size a ≤ S4096x1x128.size a) ∧
  (∀ a, (k0_off142 v24) a + S1x1x3.size a ≤ S4096x1x3.size a)
theorem k0_off139_inb : ∀ (v24 : BitVec 32) (k0_hw34 : k0_chk34 v24), ∀ a, (k0_off139 v24) a + S1x1x128.size a ≤ S4096x1x128.size a := fun v24 k0_hw34 => k0_hw34.1
theorem k0_off142_inb : ∀ (v24 : BitVec 32) (k0_hw34 : k0_chk34 v24), ∀ a, (k0_off142 v24) a + S1x1x3.size a ≤ S4096x1x3.size a := fun v24 k0_hw34 => k0_hw34.2

def k0_off143 (i : grid0.Coords) : Fin 2 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c2_i32_50 : BitVec 32 := 2#32
  ![v16.toNat, 2]
def k0_off144 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c2_i32_49 : BitVec 32 := 2#32
  let c0_i32_51 : BitVec 32 := 0#32
  let c0_i32_52 : BitVec 32 := 0#32
  ![v16.toNat, 2, 0, 0]
def k0_off145 (v28 : BitVec 32) : Fin 3 → Nat :=
  let c0_i32_53 : BitVec 32 := 0#32
  let c0_i32_54 : BitVec 32 := 0#32
  ![v28.toNat, 0, 0]

def k0_off146 (i : grid0.Coords) : Fin 2 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c2_i32_56 : BitVec 32 := 2#32
  ![v16.toNat, 2]
def k0_off147 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c2_i32_55 : BitVec 32 := 2#32
  let c0_i32_57 : BitVec 32 := 0#32
  let c0_i32_58 : BitVec 32 := 0#32
  ![v16.toNat, 2, 0, 0]
def k0_off148 (v28 : BitVec 32) : Fin 3 → Nat :=
  let c0_i32_59 : BitVec 32 := 0#32
  let c0_i32_60 : BitVec 32 := 0#32
  ![v28.toNat, 0, 0]

def k0_chk35 (v28 : BitVec 32) : Prop :=
  (∀ a, (k0_off145 v28) a + S1x1x128.size a ≤ S4096x1x128.size a) ∧
  (∀ a, (k0_off148 v28) a + S1x1x3.size a ≤ S4096x1x3.size a)
theorem k0_off145_inb : ∀ (v28 : BitVec 32) (k0_hw35 : k0_chk35 v28), ∀ a, (k0_off145 v28) a + S1x1x128.size a ≤ S4096x1x128.size a := fun v28 k0_hw35 => k0_hw35.1
theorem k0_off148_inb : ∀ (v28 : BitVec 32) (k0_hw35 : k0_chk35 v28), ∀ a, (k0_off148 v28) a + S1x1x3.size a ≤ S4096x1x3.size a := fun v28 k0_hw35 => k0_hw35.2

def k0_off149 (i : grid0.Coords) : Fin 2 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c3_i32_62 : BitVec 32 := 3#32
  ![v16.toNat, 3]
def k0_off150 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c3_i32_61 : BitVec 32 := 3#32
  let c0_i32_63 : BitVec 32 := 0#32
  let c0_i32_64 : BitVec 32 := 0#32
  ![v16.toNat, 3, 0, 0]
def k0_off151 (v32 : BitVec 32) : Fin 3 → Nat :=
  let c0_i32_65 : BitVec 32 := 0#32
  let c0_i32_66 : BitVec 32 := 0#32
  ![v32.toNat, 0, 0]

def k0_off152 (i : grid0.Coords) : Fin 2 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c3_i32_68 : BitVec 32 := 3#32
  ![v16.toNat, 3]
def k0_off153 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c3_i32_67 : BitVec 32 := 3#32
  let c0_i32_69 : BitVec 32 := 0#32
  let c0_i32_70 : BitVec 32 := 0#32
  ![v16.toNat, 3, 0, 0]
def k0_off154 (v32 : BitVec 32) : Fin 3 → Nat :=
  let c0_i32_71 : BitVec 32 := 0#32
  let c0_i32_72 : BitVec 32 := 0#32
  ![v32.toNat, 0, 0]

def k0_chk36 (v32 : BitVec 32) : Prop :=
  (∀ a, (k0_off151 v32) a + S1x1x128.size a ≤ S4096x1x128.size a) ∧
  (∀ a, (k0_off154 v32) a + S1x1x3.size a ≤ S4096x1x3.size a)
theorem k0_off151_inb : ∀ (v32 : BitVec 32) (k0_hw36 : k0_chk36 v32), ∀ a, (k0_off151 v32) a + S1x1x128.size a ≤ S4096x1x128.size a := fun v32 k0_hw36 => k0_hw36.1
theorem k0_off154_inb : ∀ (v32 : BitVec 32) (k0_hw36 : k0_chk36 v32), ∀ a, (k0_off154 v32) a + S1x1x3.size a ≤ S4096x1x3.size a := fun v32 k0_hw36 => k0_hw36.2

def k0_off155 (i : grid0.Coords) : Fin 2 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c4_i32_74 : BitVec 32 := 4#32
  ![v16.toNat, 4]
def k0_off156 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c4_i32_73 : BitVec 32 := 4#32
  let c0_i32_75 : BitVec 32 := 0#32
  let c0_i32_76 : BitVec 32 := 0#32
  ![v16.toNat, 4, 0, 0]
def k0_off157 (v36 : BitVec 32) : Fin 3 → Nat :=
  let c0_i32_77 : BitVec 32 := 0#32
  let c0_i32_78 : BitVec 32 := 0#32
  ![v36.toNat, 0, 0]

def k0_off158 (i : grid0.Coords) : Fin 2 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c4_i32_80 : BitVec 32 := 4#32
  ![v16.toNat, 4]
def k0_off159 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c4_i32_79 : BitVec 32 := 4#32
  let c0_i32_81 : BitVec 32 := 0#32
  let c0_i32_82 : BitVec 32 := 0#32
  ![v16.toNat, 4, 0, 0]
def k0_off160 (v36 : BitVec 32) : Fin 3 → Nat :=
  let c0_i32_83 : BitVec 32 := 0#32
  let c0_i32_84 : BitVec 32 := 0#32
  ![v36.toNat, 0, 0]

def k0_chk37 (v36 : BitVec 32) : Prop :=
  (∀ a, (k0_off157 v36) a + S1x1x128.size a ≤ S4096x1x128.size a) ∧
  (∀ a, (k0_off160 v36) a + S1x1x3.size a ≤ S4096x1x3.size a)
theorem k0_off157_inb : ∀ (v36 : BitVec 32) (k0_hw37 : k0_chk37 v36), ∀ a, (k0_off157 v36) a + S1x1x128.size a ≤ S4096x1x128.size a := fun v36 k0_hw37 => k0_hw37.1
theorem k0_off160_inb : ∀ (v36 : BitVec 32) (k0_hw37 : k0_chk37 v36), ∀ a, (k0_off160 v36) a + S1x1x3.size a ≤ S4096x1x3.size a := fun v36 k0_hw37 => k0_hw37.2

def k0_off161 (i : grid0.Coords) : Fin 2 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c5_i32_86 : BitVec 32 := 5#32
  ![v16.toNat, 5]
def k0_off162 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c5_i32_85 : BitVec 32 := 5#32
  let c0_i32_87 : BitVec 32 := 0#32
  let c0_i32_88 : BitVec 32 := 0#32
  ![v16.toNat, 5, 0, 0]
def k0_off163 (v40 : BitVec 32) : Fin 3 → Nat :=
  let c0_i32_89 : BitVec 32 := 0#32
  let c0_i32_90 : BitVec 32 := 0#32
  ![v40.toNat, 0, 0]

def k0_off164 (i : grid0.Coords) : Fin 2 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c5_i32_92 : BitVec 32 := 5#32
  ![v16.toNat, 5]
def k0_off165 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c5_i32_91 : BitVec 32 := 5#32
  let c0_i32_93 : BitVec 32 := 0#32
  let c0_i32_94 : BitVec 32 := 0#32
  ![v16.toNat, 5, 0, 0]
def k0_off166 (v40 : BitVec 32) : Fin 3 → Nat :=
  let c0_i32_95 : BitVec 32 := 0#32
  let c0_i32_96 : BitVec 32 := 0#32
  ![v40.toNat, 0, 0]

def k0_chk38 (v40 : BitVec 32) : Prop :=
  (∀ a, (k0_off163 v40) a + S1x1x128.size a ≤ S4096x1x128.size a) ∧
  (∀ a, (k0_off166 v40) a + S1x1x3.size a ≤ S4096x1x3.size a)
theorem k0_off163_inb : ∀ (v40 : BitVec 32) (k0_hw38 : k0_chk38 v40), ∀ a, (k0_off163 v40) a + S1x1x128.size a ≤ S4096x1x128.size a := fun v40 k0_hw38 => k0_hw38.1
theorem k0_off166_inb : ∀ (v40 : BitVec 32) (k0_hw38 : k0_chk38 v40), ∀ a, (k0_off166 v40) a + S1x1x3.size a ≤ S4096x1x3.size a := fun v40 k0_hw38 => k0_hw38.2

def k0_off167 (i : grid0.Coords) : Fin 2 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c6_i32_98 : BitVec 32 := 6#32
  ![v16.toNat, 6]
def k0_off168 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c6_i32_97 : BitVec 32 := 6#32
  let c0_i32_99 : BitVec 32 := 0#32
  let c0_i32_100 : BitVec 32 := 0#32
  ![v16.toNat, 6, 0, 0]
def k0_off169 (v44 : BitVec 32) : Fin 3 → Nat :=
  let c0_i32_101 : BitVec 32 := 0#32
  let c0_i32_102 : BitVec 32 := 0#32
  ![v44.toNat, 0, 0]

def k0_off170 (i : grid0.Coords) : Fin 2 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c6_i32_104 : BitVec 32 := 6#32
  ![v16.toNat, 6]
def k0_off171 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c6_i32_103 : BitVec 32 := 6#32
  let c0_i32_105 : BitVec 32 := 0#32
  let c0_i32_106 : BitVec 32 := 0#32
  ![v16.toNat, 6, 0, 0]
def k0_off172 (v44 : BitVec 32) : Fin 3 → Nat :=
  let c0_i32_107 : BitVec 32 := 0#32
  let c0_i32_108 : BitVec 32 := 0#32
  ![v44.toNat, 0, 0]

def k0_chk39 (v44 : BitVec 32) : Prop :=
  (∀ a, (k0_off169 v44) a + S1x1x128.size a ≤ S4096x1x128.size a) ∧
  (∀ a, (k0_off172 v44) a + S1x1x3.size a ≤ S4096x1x3.size a)
theorem k0_off169_inb : ∀ (v44 : BitVec 32) (k0_hw39 : k0_chk39 v44), ∀ a, (k0_off169 v44) a + S1x1x128.size a ≤ S4096x1x128.size a := fun v44 k0_hw39 => k0_hw39.1
theorem k0_off172_inb : ∀ (v44 : BitVec 32) (k0_hw39 : k0_chk39 v44), ∀ a, (k0_off172 v44) a + S1x1x3.size a ≤ S4096x1x3.size a := fun v44 k0_hw39 => k0_hw39.2

def k0_off173 (i : grid0.Coords) : Fin 2 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c7_i32_110 : BitVec 32 := 7#32
  ![v16.toNat, 7]
def k0_off174 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c7_i32_109 : BitVec 32 := 7#32
  let c0_i32_111 : BitVec 32 := 0#32
  let c0_i32_112 : BitVec 32 := 0#32
  ![v16.toNat, 7, 0, 0]
def k0_off175 (v48 : BitVec 32) : Fin 3 → Nat :=
  let c0_i32_113 : BitVec 32 := 0#32
  let c0_i32_114 : BitVec 32 := 0#32
  ![v48.toNat, 0, 0]

def k0_off176 (i : grid0.Coords) : Fin 2 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c7_i32_116 : BitVec 32 := 7#32
  ![v16.toNat, 7]
def k0_off177 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c7_i32_115 : BitVec 32 := 7#32
  let c0_i32_117 : BitVec 32 := 0#32
  let c0_i32_118 : BitVec 32 := 0#32
  ![v16.toNat, 7, 0, 0]
def k0_off178 (v48 : BitVec 32) : Fin 3 → Nat :=
  let c0_i32_119 : BitVec 32 := 0#32
  let c0_i32_120 : BitVec 32 := 0#32
  ![v48.toNat, 0, 0]

def k0_chk40 (v48 : BitVec 32) : Prop :=
  (∀ a, (k0_off175 v48) a + S1x1x128.size a ≤ S4096x1x128.size a) ∧
  (∀ a, (k0_off178 v48) a + S1x1x3.size a ≤ S4096x1x3.size a)
theorem k0_off175_inb : ∀ (v48 : BitVec 32) (k0_hw40 : k0_chk40 v48), ∀ a, (k0_off175 v48) a + S1x1x128.size a ≤ S4096x1x128.size a := fun v48 k0_hw40 => k0_hw40.1
theorem k0_off178_inb : ∀ (v48 : BitVec 32) (k0_hw40 : k0_chk40 v48), ∀ a, (k0_off178 v48) a + S1x1x3.size a ≤ S4096x1x3.size a := fun v48 k0_hw40 => k0_hw40.2

def k0_off179 (i : grid0.Coords) : Fin 2 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c8_i32_122 : BitVec 32 := 8#32
  ![v16.toNat, 8]
def k0_off180 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c8_i32_121 : BitVec 32 := 8#32
  let c0_i32_123 : BitVec 32 := 0#32
  let c0_i32_124 : BitVec 32 := 0#32
  ![v16.toNat, 8, 0, 0]
def k0_off181 (v52 : BitVec 32) : Fin 3 → Nat :=
  let c0_i32_125 : BitVec 32 := 0#32
  let c0_i32_126 : BitVec 32 := 0#32
  ![v52.toNat, 0, 0]

def k0_off182 (i : grid0.Coords) : Fin 2 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c8_i32_128 : BitVec 32 := 8#32
  ![v16.toNat, 8]
def k0_off183 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c8_i32_127 : BitVec 32 := 8#32
  let c0_i32_129 : BitVec 32 := 0#32
  let c0_i32_130 : BitVec 32 := 0#32
  ![v16.toNat, 8, 0, 0]
def k0_off184 (v52 : BitVec 32) : Fin 3 → Nat :=
  let c0_i32_131 : BitVec 32 := 0#32
  let c0_i32_132 : BitVec 32 := 0#32
  ![v52.toNat, 0, 0]

def k0_chk41 (v52 : BitVec 32) : Prop :=
  (∀ a, (k0_off181 v52) a + S1x1x128.size a ≤ S4096x1x128.size a) ∧
  (∀ a, (k0_off184 v52) a + S1x1x3.size a ≤ S4096x1x3.size a)
theorem k0_off181_inb : ∀ (v52 : BitVec 32) (k0_hw41 : k0_chk41 v52), ∀ a, (k0_off181 v52) a + S1x1x128.size a ≤ S4096x1x128.size a := fun v52 k0_hw41 => k0_hw41.1
theorem k0_off184_inb : ∀ (v52 : BitVec 32) (k0_hw41 : k0_chk41 v52), ∀ a, (k0_off184 v52) a + S1x1x3.size a ≤ S4096x1x3.size a := fun v52 k0_hw41 => k0_hw41.2

def k0_off185 (i : grid0.Coords) : Fin 2 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c9_i32_134 : BitVec 32 := 9#32
  ![v16.toNat, 9]
def k0_off186 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c9_i32_133 : BitVec 32 := 9#32
  let c0_i32_135 : BitVec 32 := 0#32
  let c0_i32_136 : BitVec 32 := 0#32
  ![v16.toNat, 9, 0, 0]
def k0_off187 (v56 : BitVec 32) : Fin 3 → Nat :=
  let c0_i32_137 : BitVec 32 := 0#32
  let c0_i32_138 : BitVec 32 := 0#32
  ![v56.toNat, 0, 0]

def k0_off188 (i : grid0.Coords) : Fin 2 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c9_i32_140 : BitVec 32 := 9#32
  ![v16.toNat, 9]
def k0_off189 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c9_i32_139 : BitVec 32 := 9#32
  let c0_i32_141 : BitVec 32 := 0#32
  let c0_i32_142 : BitVec 32 := 0#32
  ![v16.toNat, 9, 0, 0]
def k0_off190 (v56 : BitVec 32) : Fin 3 → Nat :=
  let c0_i32_143 : BitVec 32 := 0#32
  let c0_i32_144 : BitVec 32 := 0#32
  ![v56.toNat, 0, 0]

def k0_chk42 (v56 : BitVec 32) : Prop :=
  (∀ a, (k0_off187 v56) a + S1x1x128.size a ≤ S4096x1x128.size a) ∧
  (∀ a, (k0_off190 v56) a + S1x1x3.size a ≤ S4096x1x3.size a)
theorem k0_off187_inb : ∀ (v56 : BitVec 32) (k0_hw42 : k0_chk42 v56), ∀ a, (k0_off187 v56) a + S1x1x128.size a ≤ S4096x1x128.size a := fun v56 k0_hw42 => k0_hw42.1
theorem k0_off190_inb : ∀ (v56 : BitVec 32) (k0_hw42 : k0_chk42 v56), ∀ a, (k0_off190 v56) a + S1x1x3.size a ≤ S4096x1x3.size a := fun v56 k0_hw42 => k0_hw42.2

def k0_off191 (i : grid0.Coords) : Fin 2 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c10_i32_146 : BitVec 32 := 10#32
  ![v16.toNat, 10]
def k0_off192 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c10_i32_145 : BitVec 32 := 10#32
  let c0_i32_147 : BitVec 32 := 0#32
  let c0_i32_148 : BitVec 32 := 0#32
  ![v16.toNat, 10, 0, 0]
def k0_off193 (v60 : BitVec 32) : Fin 3 → Nat :=
  let c0_i32_149 : BitVec 32 := 0#32
  let c0_i32_150 : BitVec 32 := 0#32
  ![v60.toNat, 0, 0]

def k0_off194 (i : grid0.Coords) : Fin 2 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c10_i32_152 : BitVec 32 := 10#32
  ![v16.toNat, 10]
def k0_off195 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c10_i32_151 : BitVec 32 := 10#32
  let c0_i32_153 : BitVec 32 := 0#32
  let c0_i32_154 : BitVec 32 := 0#32
  ![v16.toNat, 10, 0, 0]
def k0_off196 (v60 : BitVec 32) : Fin 3 → Nat :=
  let c0_i32_155 : BitVec 32 := 0#32
  let c0_i32_156 : BitVec 32 := 0#32
  ![v60.toNat, 0, 0]

def k0_chk43 (v60 : BitVec 32) : Prop :=
  (∀ a, (k0_off193 v60) a + S1x1x128.size a ≤ S4096x1x128.size a) ∧
  (∀ a, (k0_off196 v60) a + S1x1x3.size a ≤ S4096x1x3.size a)
theorem k0_off193_inb : ∀ (v60 : BitVec 32) (k0_hw43 : k0_chk43 v60), ∀ a, (k0_off193 v60) a + S1x1x128.size a ≤ S4096x1x128.size a := fun v60 k0_hw43 => k0_hw43.1
theorem k0_off196_inb : ∀ (v60 : BitVec 32) (k0_hw43 : k0_chk43 v60), ∀ a, (k0_off196 v60) a + S1x1x3.size a ≤ S4096x1x3.size a := fun v60 k0_hw43 => k0_hw43.2

def k0_off197 (i : grid0.Coords) : Fin 2 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c11_i32_158 : BitVec 32 := 11#32
  ![v16.toNat, 11]
def k0_off198 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c11_i32_157 : BitVec 32 := 11#32
  let c0_i32_159 : BitVec 32 := 0#32
  let c0_i32_160 : BitVec 32 := 0#32
  ![v16.toNat, 11, 0, 0]
def k0_off199 (v64 : BitVec 32) : Fin 3 → Nat :=
  let c0_i32_161 : BitVec 32 := 0#32
  let c0_i32_162 : BitVec 32 := 0#32
  ![v64.toNat, 0, 0]

def k0_off200 (i : grid0.Coords) : Fin 2 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c11_i32_164 : BitVec 32 := 11#32
  ![v16.toNat, 11]
def k0_off201 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c11_i32_163 : BitVec 32 := 11#32
  let c0_i32_165 : BitVec 32 := 0#32
  let c0_i32_166 : BitVec 32 := 0#32
  ![v16.toNat, 11, 0, 0]
def k0_off202 (v64 : BitVec 32) : Fin 3 → Nat :=
  let c0_i32_167 : BitVec 32 := 0#32
  let c0_i32_168 : BitVec 32 := 0#32
  ![v64.toNat, 0, 0]

def k0_chk44 (v64 : BitVec 32) : Prop :=
  (∀ a, (k0_off199 v64) a + S1x1x128.size a ≤ S4096x1x128.size a) ∧
  (∀ a, (k0_off202 v64) a + S1x1x3.size a ≤ S4096x1x3.size a)
theorem k0_off199_inb : ∀ (v64 : BitVec 32) (k0_hw44 : k0_chk44 v64), ∀ a, (k0_off199 v64) a + S1x1x128.size a ≤ S4096x1x128.size a := fun v64 k0_hw44 => k0_hw44.1
theorem k0_off202_inb : ∀ (v64 : BitVec 32) (k0_hw44 : k0_chk44 v64), ∀ a, (k0_off202 v64) a + S1x1x3.size a ≤ S4096x1x3.size a := fun v64 k0_hw44 => k0_hw44.2

def k0_off203 (i : grid0.Coords) : Fin 2 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c12_i32_170 : BitVec 32 := 12#32
  ![v16.toNat, 12]
def k0_off204 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c12_i32_169 : BitVec 32 := 12#32
  let c0_i32_171 : BitVec 32 := 0#32
  let c0_i32_172 : BitVec 32 := 0#32
  ![v16.toNat, 12, 0, 0]
def k0_off205 (v68 : BitVec 32) : Fin 3 → Nat :=
  let c0_i32_173 : BitVec 32 := 0#32
  let c0_i32_174 : BitVec 32 := 0#32
  ![v68.toNat, 0, 0]

def k0_off206 (i : grid0.Coords) : Fin 2 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c12_i32_176 : BitVec 32 := 12#32
  ![v16.toNat, 12]
def k0_off207 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c12_i32_175 : BitVec 32 := 12#32
  let c0_i32_177 : BitVec 32 := 0#32
  let c0_i32_178 : BitVec 32 := 0#32
  ![v16.toNat, 12, 0, 0]
def k0_off208 (v68 : BitVec 32) : Fin 3 → Nat :=
  let c0_i32_179 : BitVec 32 := 0#32
  let c0_i32_180 : BitVec 32 := 0#32
  ![v68.toNat, 0, 0]

def k0_chk45 (v68 : BitVec 32) : Prop :=
  (∀ a, (k0_off205 v68) a + S1x1x128.size a ≤ S4096x1x128.size a) ∧
  (∀ a, (k0_off208 v68) a + S1x1x3.size a ≤ S4096x1x3.size a)
theorem k0_off205_inb : ∀ (v68 : BitVec 32) (k0_hw45 : k0_chk45 v68), ∀ a, (k0_off205 v68) a + S1x1x128.size a ≤ S4096x1x128.size a := fun v68 k0_hw45 => k0_hw45.1
theorem k0_off208_inb : ∀ (v68 : BitVec 32) (k0_hw45 : k0_chk45 v68), ∀ a, (k0_off208 v68) a + S1x1x3.size a ≤ S4096x1x3.size a := fun v68 k0_hw45 => k0_hw45.2

def k0_off209 (i : grid0.Coords) : Fin 2 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c13_i32_182 : BitVec 32 := 13#32
  ![v16.toNat, 13]
def k0_off210 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c13_i32_181 : BitVec 32 := 13#32
  let c0_i32_183 : BitVec 32 := 0#32
  let c0_i32_184 : BitVec 32 := 0#32
  ![v16.toNat, 13, 0, 0]
def k0_off211 (v72 : BitVec 32) : Fin 3 → Nat :=
  let c0_i32_185 : BitVec 32 := 0#32
  let c0_i32_186 : BitVec 32 := 0#32
  ![v72.toNat, 0, 0]

def k0_off212 (i : grid0.Coords) : Fin 2 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c13_i32_188 : BitVec 32 := 13#32
  ![v16.toNat, 13]
def k0_off213 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c13_i32_187 : BitVec 32 := 13#32
  let c0_i32_189 : BitVec 32 := 0#32
  let c0_i32_190 : BitVec 32 := 0#32
  ![v16.toNat, 13, 0, 0]
def k0_off214 (v72 : BitVec 32) : Fin 3 → Nat :=
  let c0_i32_191 : BitVec 32 := 0#32
  let c0_i32_192 : BitVec 32 := 0#32
  ![v72.toNat, 0, 0]

def k0_chk46 (v72 : BitVec 32) : Prop :=
  (∀ a, (k0_off211 v72) a + S1x1x128.size a ≤ S4096x1x128.size a) ∧
  (∀ a, (k0_off214 v72) a + S1x1x3.size a ≤ S4096x1x3.size a)
theorem k0_off211_inb : ∀ (v72 : BitVec 32) (k0_hw46 : k0_chk46 v72), ∀ a, (k0_off211 v72) a + S1x1x128.size a ≤ S4096x1x128.size a := fun v72 k0_hw46 => k0_hw46.1
theorem k0_off214_inb : ∀ (v72 : BitVec 32) (k0_hw46 : k0_chk46 v72), ∀ a, (k0_off214 v72) a + S1x1x3.size a ≤ S4096x1x3.size a := fun v72 k0_hw46 => k0_hw46.2

def k0_off215 (i : grid0.Coords) : Fin 2 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c14_i32_194 : BitVec 32 := 14#32
  ![v16.toNat, 14]
def k0_off216 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c14_i32_193 : BitVec 32 := 14#32
  let c0_i32_195 : BitVec 32 := 0#32
  let c0_i32_196 : BitVec 32 := 0#32
  ![v16.toNat, 14, 0, 0]
def k0_off217 (v76 : BitVec 32) : Fin 3 → Nat :=
  let c0_i32_197 : BitVec 32 := 0#32
  let c0_i32_198 : BitVec 32 := 0#32
  ![v76.toNat, 0, 0]

def k0_off218 (i : grid0.Coords) : Fin 2 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c14_i32_200 : BitVec 32 := 14#32
  ![v16.toNat, 14]
def k0_off219 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c14_i32_199 : BitVec 32 := 14#32
  let c0_i32_201 : BitVec 32 := 0#32
  let c0_i32_202 : BitVec 32 := 0#32
  ![v16.toNat, 14, 0, 0]
def k0_off220 (v76 : BitVec 32) : Fin 3 → Nat :=
  let c0_i32_203 : BitVec 32 := 0#32
  let c0_i32_204 : BitVec 32 := 0#32
  ![v76.toNat, 0, 0]

def k0_chk47 (v76 : BitVec 32) : Prop :=
  (∀ a, (k0_off217 v76) a + S1x1x128.size a ≤ S4096x1x128.size a) ∧
  (∀ a, (k0_off220 v76) a + S1x1x3.size a ≤ S4096x1x3.size a)
theorem k0_off217_inb : ∀ (v76 : BitVec 32) (k0_hw47 : k0_chk47 v76), ∀ a, (k0_off217 v76) a + S1x1x128.size a ≤ S4096x1x128.size a := fun v76 k0_hw47 => k0_hw47.1
theorem k0_off220_inb : ∀ (v76 : BitVec 32) (k0_hw47 : k0_chk47 v76), ∀ a, (k0_off220 v76) a + S1x1x3.size a ≤ S4096x1x3.size a := fun v76 k0_hw47 => k0_hw47.2

def k0_off221 (i : grid0.Coords) : Fin 2 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c15_i32_206 : BitVec 32 := 15#32
  ![v16.toNat, 15]
def k0_off222 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c15_i32_205 : BitVec 32 := 15#32
  let c0_i32_207 : BitVec 32 := 0#32
  let c0_i32_208 : BitVec 32 := 0#32
  ![v16.toNat, 15, 0, 0]
def k0_off223 (v80 : BitVec 32) : Fin 3 → Nat :=
  let c0_i32_209 : BitVec 32 := 0#32
  let c0_i32_210 : BitVec 32 := 0#32
  ![v80.toNat, 0, 0]

def k0_off224 (i : grid0.Coords) : Fin 2 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c15_i32_212 : BitVec 32 := 15#32
  ![v16.toNat, 15]
def k0_off225 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c15_i32_211 : BitVec 32 := 15#32
  let c0_i32_213 : BitVec 32 := 0#32
  let c0_i32_214 : BitVec 32 := 0#32
  ![v16.toNat, 15, 0, 0]
def k0_off226 (v80 : BitVec 32) : Fin 3 → Nat :=
  let c0_i32_215 : BitVec 32 := 0#32
  let c0_i32_216 : BitVec 32 := 0#32
  ![v80.toNat, 0, 0]

def k0_chk48 (v80 : BitVec 32) : Prop :=
  (∀ a, (k0_off223 v80) a + S1x1x128.size a ≤ S4096x1x128.size a) ∧
  (∀ a, (k0_off226 v80) a + S1x1x3.size a ≤ S4096x1x3.size a)
theorem k0_off223_inb : ∀ (v80 : BitVec 32) (k0_hw48 : k0_chk48 v80), ∀ a, (k0_off223 v80) a + S1x1x128.size a ≤ S4096x1x128.size a := fun v80 k0_hw48 => k0_hw48.1
theorem k0_off226_inb : ∀ (v80 : BitVec 32) (k0_hw48 : k0_chk48 v80), ∀ a, (k0_off226 v80) a + S1x1x3.size a ≤ S4096x1x3.size a := fun v80 k0_hw48 => k0_hw48.2

def k0_off227 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v273 : Index := Scalar.indexCast v16
  let c0 : Index := 0#32
  let c0_217 : Index := 0#32
  let c0_218 : Index := 0#32
  ![v273.toNat, 0, 0, 0]
def k0_off228 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v277 : Index := Scalar.indexCast v16
  let c0_221 : Index := 0#32
  let c0_222 : Index := 0#32
  let c0_223 : Index := 0#32
  ![v277.toNat, 0, 0, 0]
def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== GatherReferenceIdeal.lean ====
abbrev S4096 : Shape := ⟨1, ![4096]⟩
abbrev S4096x1x128 : Shape := ⟨3, ![4096, 1, 128]⟩
abbrev S4096x1x3 : Shape := ⟨3, ![4096, 1, 3]⟩
abbrev S4096x128 : Shape := ⟨2, ![4096, 128]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S4096x3 : Shape := ⟨2, ![4096, 3]⟩

abbrev nBuf : Space → Nat
  | .hbm => 51
  | .vmem => 0
  | .smem => 0
  | _ => 0

abbrev bufTy : (tb : Table) → Fin (tcTables nBuf tb) → BufTy
  | .hbm, ⟨0, _⟩ => ⟨S4096, .i32⟩
  | .hbm, ⟨1, _⟩ => ⟨S4096x1x128, .f32⟩
  | .hbm, ⟨2, _⟩ => ⟨S4096x1x3, .f32⟩
  | .hbm, ⟨3, _⟩ => ⟨S4096x128, .f32⟩
  | .hbm, ⟨4, _⟩ => ⟨S_, .i32⟩
  | .hbm, ⟨5, _⟩ => ⟨S4096, .i32⟩
  | .hbm, ⟨6, _⟩ => ⟨S4096, .i1⟩
  | .hbm, ⟨7, _⟩ => ⟨S_, .i32⟩
  | .hbm, ⟨8, _⟩ => ⟨S4096, .i32⟩
  | .hbm, ⟨9, _⟩ => ⟨S4096, .i32⟩
  | .hbm, ⟨10, _⟩ => ⟨S4096, .i32⟩
  | .hbm, ⟨11, _⟩ => ⟨S4096x1, .i32⟩
  | .hbm, ⟨12, _⟩ => ⟨S1, .i32⟩
  | .hbm, ⟨13, _⟩ => ⟨S_, .i32⟩
  | .hbm, ⟨14, _⟩ => ⟨S4096x1, .i32⟩
  | .hbm, ⟨15, _⟩ => ⟨S4096x1, .i1⟩
  | .hbm, ⟨16, _⟩ => ⟨S1x1, .i32⟩
  | .hbm, ⟨17, _⟩ => ⟨S4096x1, .i32⟩
  | .hbm, ⟨18, _⟩ => ⟨S4096x1, .i1⟩
  | .hbm, ⟨19, _⟩ => ⟨S4096x1, .i1⟩
  | .hbm, ⟨20, _⟩ => ⟨S_, .i1⟩
  | .hbm, ⟨21, _⟩ => ⟨S4096, .i1⟩
  | .hbm, ⟨22, _⟩ => ⟨S4096x128, .f32⟩
  | .hbm, ⟨23, _⟩ => ⟨S4096x128, .i1⟩
  | .hbm, ⟨24, _⟩ => ⟨S_, .f32⟩
  | .hbm, ⟨25, _⟩ => ⟨S4096x128, .f32⟩
  | .hbm, ⟨26, _⟩ => ⟨S4096x128, .f32⟩
  | .hbm, ⟨27, _⟩ => ⟨S4096x3, .f32⟩
  | .hbm, ⟨28, _⟩ => ⟨S_, .i32⟩
  | .hbm, ⟨29, _⟩ => ⟨S4096, .i32⟩
  | .hbm, ⟨30, _⟩ => ⟨S4096, .i1⟩
  | .hbm, ⟨31, _⟩ => ⟨S_, .i32⟩
  | .hbm, ⟨32, _⟩ => ⟨S4096, .i32⟩
  | .hbm, ⟨33, _⟩ => ⟨S4096, .i32⟩
  | .hbm, ⟨34, _⟩ => ⟨S4096, .i32⟩
  | .hbm, ⟨35, _⟩ => ⟨S4096x1, .i32⟩
  | .hbm, ⟨36, _⟩ => ⟨S1, .i32⟩
  | .hbm, ⟨37, _⟩ => ⟨S_, .i32⟩
  | .hbm, ⟨38, _⟩ => ⟨S4096x1, .i32⟩
  | .hbm, ⟨39, _⟩ => ⟨S4096x1, .i1⟩
  | .hbm, ⟨40, _⟩ => ⟨S1x1, .i32⟩
  | .hbm, ⟨41, _⟩ => ⟨S4096x1, .i32⟩
  | .hbm, ⟨42, _⟩ => ⟨S4096x1, .i1⟩
  | .hbm, ⟨43, _⟩ => ⟨S4096x1, .i1⟩
  | .hbm, ⟨44, _⟩ => ⟨S_, .i1⟩
  | .hbm, ⟨45, _⟩ => ⟨S4096, .i1⟩
  | .hbm, ⟨46, _⟩ => ⟨S4096x3, .f32⟩
  | .hbm, ⟨47, _⟩ => ⟨S4096x3, .i1⟩
  | .hbm, ⟨48, _⟩ => ⟨S_, .f32⟩
  | .hbm, ⟨49, _⟩ => ⟨S4096x3, .f32⟩
  | .hbm, ⟨50, _⟩ => ⟨S4096x3, .f32⟩
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v1 : Ref sig .tc := ⟨.hbm, 26, rfl⟩
abbrev main_v2 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v3 : Ref sig .tc := ⟨.hbm, 50, rfl⟩

abbrev nD : Nat := 1
abbrev τ : Topo := Topo.v7x

variable {F : FTy → Type} [FloatOps F]
-- ==== Proof.LayerSpec.lean ====
/- The recurrent layer on one row, over the extended reals: the mean of eight entries, the inner affine map, the hidden
   state after a number of steps, the gate read off a hidden state, and the gated sum of the equivariant features. -/
module

public import Idealize.ShloMosaic.PureOps.Ideal

@[expose] public section

noncomputable section

namespace Cert.Layer

open Idealize.ShloMosaic

/-- The mean of eight entries: their sum times an eighth. -/
def mean8 (x : Fin 8 → EReal) : EReal :=
  (x 0 + x 1 + x 2 + x 3 + x 4 + x 5 + x 6 + x 7) * ((1 / 8 : ℝ) : EReal)

/-- The part of the hidden state's argument that does not change from step to step: the pooled row times `Win`, plus `b`. -/
def inner (P : Fin 128 → EReal) (Win : Fin 128 → Fin 128 → EReal) (b : Fin 128 → EReal) (j : Fin 128) : EReal :=
  (∑ k : Fin 128, P k * Win k j) + b j

/-- The hidden row after `n` steps from zero, given the unchanging part `a` of the argument. -/
def hid (a : Fin 128 → EReal) (Wh : Fin 128 → Fin 128 → EReal) : ℕ → Fin 128 → EReal
  | 0 => fun _ => 0
  | n + 1 => fun j => Ideal.tanh (a j + ∑ k : Fin 128, hid a Wh n k * Wh k j)

/-- The gate of channel `c` read off a hidden row. -/
def gate (h : Fin 128 → EReal) (Wg : Fin 128 → Fin 16 → EReal) (c : Fin 16) : EReal :=
  Ideal.logistic (∑ k : Fin 128, h k * Wg k c)

/-- The equivariant feature of channel `c` after `n` steps from zero: each step multiplies it by the gate of that step's
    hidden row and adds the source `s`. -/
def equi (a : Fin 128 → EReal) (Wh : Fin 128 → Fin 128 → EReal) (Wg : Fin 128 → Fin 16 → EReal) (c : Fin 16) (s : EReal) : ℕ → EReal
  | 0 => 0
  | n + 1 => equi a Wh Wg c s n * gate (hid a Wh (n + 1)) Wg c + s

end Cert.Layer

end
-- ==== Proof.LayerBlock.lean ====
/- What one block of the recurrent call's body computes: its eight hidden blocks and its eight times three blocks of
   equivariant features, entry by entry, as the row recurrence of `LayerSpec`. -/
module

public import proofs.«01_k».proof.Proof.Gen.KernelIdeal.Value
public import proofs.«01_k».proof.Proof.LayerSpec
public import Idealize.ShloMosaic.Lib.Pointwise
public import Idealize.ShloMosaic.Lib.IdealHost

@[expose] public section

noncomputable section

namespace Cert.KernelIdeal.Layer

open Idealize.ShloMosaic Idealize.SL.Sem Cert.KernelIdeal Cert.KernelIdeal.Gen

/-- The block's hidden state after `n` steps, as the body writes it, from the unchanging part `a` of the argument. -/
def kH (a : FVec Ideal S512x128 .f32) (Wh : Vec Ideal S128x128 .f32) : ℕ → FVec Ideal S512x128 .f32
  | 0 => broadcast S512x128 (Scalar.ofBits .f32 0x00000000#32)
  | n + 1 => tanh (addf a (matmul (φ₂ := .f32) dot_S512x128_S128x128_S512x128_1_0_0_1_n_n none (kH a Wh n) Wh (constant S512x128 .f32 0x00000000#32)))

/-- The block's gates from a hidden state, as the body writes them. -/
def kG (Wg : Vec Ideal S128x16 .f32) (h : FVec Ideal S512x128 .f32) : FVec Ideal S512x16 .f32 :=
  logistic (matmul (φ₂ := .f32) dot_S512x128_S128x16_S512x16_1_0_0_1_n_n none h Wg (constant S512x16 .f32 0x00000000#32))

/-- One component of the block's equivariant features after `n` steps, as the body writes it, from its source. -/
def kE (a : FVec Ideal S512x128 .f32) (Wh : Vec Ideal S128x128 .f32) (Wg : Vec Ideal S128x16 .f32) (src : FVec Ideal S512x16 .f32) : ℕ → FVec Ideal S512x16 .f32
  | 0 => broadcast S512x16 (Scalar.ofBits .f32 0x00000000#32)
  | n + 1 => addf (mulf (kE a Wh Wg src n) (kG Wg (kH a Wh (n + 1)))) src

/-- The hidden state of the body at an entry is the row recurrence's. -/
theorem kH_apply (a : FVec Ideal S512x128 .f32) (Wh : Vec Ideal S128x128 .f32) (n : ℕ) (r : Fin 512) (j : Fin 128) :
    kH a Wh n (ix2 r j) = Cert.Layer.hid (fun j => a (ix2 r j)) (fun k j => Wh (ix2 k j)) n j := by
  induction n generalizing j with
  | zero => show Ideal.ofBits .f32 0x00000000#32 = 0; exact Ideal.ofBits_zero_f32
  | succ n ih =>
    simp only [kH, Cert.Layer.hid, ← ih]
    pointwise

/-- The gates of the body at an entry are the row's. -/
theorem kG_apply (Wg : Vec Ideal S128x16 .f32) (h : FVec Ideal S512x128 .f32) (r : Fin 512) (c : Fin 16) :
    kG Wg h (ix2 r c) = Cert.Layer.gate (fun k => h (ix2 r k)) (fun k c => Wg (ix2 k c)) c := by
  unfold kG Cert.Layer.gate
  pointwise

/-- The features of the body at an entry are the row recurrence's, from the source there. -/
theorem kE_apply (a : FVec Ideal S512x128 .f32) (Wh : Vec Ideal S128x128 .f32) (Wg : Vec Ideal S128x16 .f32) (src : FVec Ideal S512x16 .f32)
    (n : ℕ) (r : Fin 512) (c : Fin 16) :
    kE a Wh Wg src n (ix2 r c)
      = Cert.Layer.equi (fun j => a (ix2 r j)) (fun k j => Wh (ix2 k j)) (fun k c => Wg (ix2 k c)) c (src (ix2 r c)) n := by
  induction n with
  | zero => show Ideal.ofBits .f32 0x00000000#32 = 0; exact Ideal.ofBits_zero_f32
  | succ n ih =>
    simp only [kE, Cert.Layer.equi, ← ih]
    have hg := kG_apply Wg (kH a Wh (n + 1)) r c
    simp only [kH_apply] at hg
    rw [← hg]
    rfl

/-- An eighth, as the body's constant writes it. -/
theorem ofBits_eighth : Ideal.ofBits .f32 0x3E000000#32 = ((1 / 8 : ℝ) : EReal) := by
  simp [Ideal.ofBits, Ideal.ieee]
  rw [← EReal.coe_mul]
  norm_num

section
variable (x0 : Vec Ideal S512x128 .f32) (x1 : Vec Ideal S512x128 .f32) (x2 : Vec Ideal S512x128 .f32) (x3 : Vec Ideal S512x128 .f32) (x4 : Vec Ideal S512x128 .f32) (x5 : Vec Ideal S512x128 .f32) (x6 : Vec Ideal S512x128 .f32) (x7 : Vec Ideal S512x128 .f32) (x8 : Vec Ideal S512x3 .f32) (x9 : Vec Ideal S512x3 .f32) (x10 : Vec Ideal S512x3 .f32) (x11 : Vec Ideal S512x3 .f32) (x12 : Vec Ideal S512x3 .f32) (x13 : Vec Ideal S512x3 .f32) (x14 : Vec Ideal S512x3 .f32) (x15 : Vec Ideal S512x3 .f32) (x16 : Vec Ideal S128x128 .f32) (x17 : Vec Ideal S128x128 .f32) (x18 : Vec Ideal S1x128 .f32) (x19 : Vec Ideal S128x16 .f32) (x20 : Vec Ideal S1x16 .f32)

/-- The pooled block of the first stack at an entry: the mean of the eight columns there. -/
theorem pool_apply (r : Fin 512) (k : Fin 128) :
    k0_pay82 x0 x1 x2 x3 x4 x5 x6 x7 x8 x9 x10 x11 x12 x13 x14 x15 x16 x17 x18 x19 x20 (ix2 r k) = Cert.Layer.mean8 ![x0 (ix2 r k), x1 (ix2 r k), x2 (ix2 r k), x3 (ix2 r k), x4 (ix2 r k), x5 (ix2 r k), x6 (ix2 r k), x7 (ix2 r k)] := by
  unfold Cert.Layer.mean8
  pointwise [k0_pay82, k0_pay7, ofBits_eighth]

/-- The unchanging part of the block's argument at an entry. -/
theorem inner_apply (r : Fin 512) (j : Fin 128) :
    k0_pay84 x0 x1 x2 x3 x4 x5 x6 x7 x8 x9 x10 x11 x12 x13 x14 x15 x16 x17 x18 x19 x20 (ix2 r j)
      = Cert.Layer.inner (fun k => Cert.Layer.mean8 ![x0 (ix2 r k), x1 (ix2 r k), x2 (ix2 r k), x3 (ix2 r k), x4 (ix2 r k), x5 (ix2 r k), x6 (ix2 r k), x7 (ix2 r k)]) (fun k j => x16 (ix2 k j)) (fun j => x18 (ix2 0 j)) j := by
  unfold Cert.Layer.inner
  simp only [← pool_apply x0 x1 x2 x3 x4 x5 x6 x7 x8 x9 x10 x11 x12 x13 x14 x15 x16 x17 x18 x19 x20]
  pointwise [k0_pay84, k0_pay11]

/-- Component 0 of the source at an entry: the mean of the eight columns' component 0, times the channel's weight. -/
theorem src0_apply (r : Fin 512) (c : Fin 16) :
    k0_pay85 x0 x1 x2 x3 x4 x5 x6 x7 x8 x9 x10 x11 x12 x13 x14 x15 x16 x17 x18 x19 x20 (ix2 r c) = Cert.Layer.mean8 ![x8 (ix2 r 0), x9 (ix2 r 0), x10 (ix2 r 0), x11 (ix2 r 0), x12 (ix2 r 0), x13 (ix2 r 0), x14 (ix2 r 0), x15 (ix2 r 0)] * x20 (ix2 0 c) := by
  unfold Cert.Layer.mean8
  pointwise [k0_pay85, k0_pay12, k0_pay9, k0_pay10, k0_pay83, k0_pay8, ofBits_eighth]

/-- Component 1 of the source at an entry: the mean of the eight columns' component 1, times the channel's weight. -/
theorem src1_apply (r : Fin 512) (c : Fin 16) :
    k0_pay86 x0 x1 x2 x3 x4 x5 x6 x7 x8 x9 x10 x11 x12 x13 x14 x15 x16 x17 x18 x19 x20 (ix2 r c) = Cert.Layer.mean8 ![x8 (ix2 r 1), x9 (ix2 r 1), x10 (ix2 r 1), x11 (ix2 r 1), x12 (ix2 r 1), x13 (ix2 r 1), x14 (ix2 r 1), x15 (ix2 r 1)] * x20 (ix2 0 c) := by
  unfold Cert.Layer.mean8
  pointwise [k0_pay86, k0_pay13, k0_pay9, k0_pay10, k0_pay83, k0_pay8, ofBits_eighth]

/-- Component 2 of the source at an entry: the mean of the eight columns' component 2, times the channel's weight. -/
theorem src2_apply (r : Fin 512) (c : Fin 16) :
    k0_pay87 x0 x1 x2 x3 x4 x5 x6 x7 x8 x9 x10 x11 x12 x13 x14 x15 x16 x17 x18 x19 x20 (ix2 r c) = Cert.Layer.mean8 ![x8 (ix2 r 2), x9 (ix2 r 2), x10 (ix2 r 2), x11 (ix2 r 2), x12 (ix2 r 2), x13 (ix2 r 2), x14 (ix2 r 2), x15 (ix2 r 2)] * x20 (ix2 0 c) := by
  unfold Cert.Layer.mean8
  pointwise [k0_pay87, k0_pay14, k0_pay9, k0_pay10, k0_pay83, k0_pay8, ofBits_eighth]

/-- The block's three sources. -/
def kS (d : ℕ) : FVec Ideal S512x16 .f32 :=
  if d = 0 then k0_pay85 x0 x1 x2 x3 x4 x5 x6 x7 x8 x9 x10 x11 x12 x13 x14 x15 x16 x17 x18 x19 x20 else if d = 1 then k0_pay86 x0 x1 x2 x3 x4 x5 x6 x7 x8 x9 x10 x11 x12 x13 x14 x15 x16 x17 x18 x19 x20 else k0_pay87 x0 x1 x2 x3 x4 x5 x6 x7 x8 x9 x10 x11 x12 x13 x14 x15 x16 x17 x18 x19 x20

end

end Cert.KernelIdeal.Layer

end
-- ==== Proof.LayerOut.lean ====
/- What one block of the recurrent call's body leaves in its two output buffers, read at an entry. -/
module

public import proofs.«01_k».proof.Proof.LayerBlock

@[expose] public section

noncomputable section

namespace Cert.KernelIdeal.Layer

open Idealize.ShloMosaic Idealize.SL.Sem Cert.KernelIdeal Cert.KernelIdeal.Gen

/-- The hidden output block of a family of steps: slab `s` holds step `s + 1`. -/
def slabH (G : ℕ → FVec Ideal S512x128 .f32) (y : S8x512x128.Idx) : Elt Ideal .f32 := G ((y 0).val + 1) (ix2 (y 1) (y 2))

/-- The equivariant output block of three families of steps: slab `s`, component `d` holds step `s + 1` of family `d`. -/
def slabE (G : ℕ → ℕ → FVec Ideal S512x16 .f32) (y : S8x512x3x16.Idx) : Elt Ideal .f32 := G (y 2).val ((y 0).val + 1) (ix2 (y 1) (y 3))

/-- The piece stored at step `s` of the hidden output is step `s + 1` of the family, at the piece's place in the buffer. -/
theorem pieceH (G : ℕ → FVec Ideal S512x128 .f32) (s : ℕ) (inb) (x : S1x512x128.Idx) :
    shapeCast S1x512x128 (G (s + 1)) shapeCasts_S512x128_S1x512x128 x
      = slabH G ((Rect.unit (s := S8x512x128) ![s, 0, 0] S1x512x128.size inb).emb x) := by
  obtain ⟨a, r, j, rfl⟩ : ∃ a r j, x = ix3 a r j := ⟨_, _, _, eq_ix3 x⟩
  unfold slabH
  have h0 : (((Rect.unit (s := S8x512x128) ![s, 0, 0] S1x512x128.size inb).emb (ix3 a r j)) 0).val = s := by
    have := a.isLt
    show s + 1 * a.val = s
    omega
  have h1 : ((Rect.unit (s := S8x512x128) ![s, 0, 0] S1x512x128.size inb).emb (ix3 a r j)) 1 = r := Fin.ext (by show 0 + 1 * r.val = r.val; omega)
  have h2 : ((Rect.unit (s := S8x512x128) ![s, 0, 0] S1x512x128.size inb).emb (ix3 a r j)) 2 = j := Fin.ext (by show 0 + 1 * j.val = j.val; omega)
  rw [h0, h1, h2]
  pointwise

/-- The piece stored at step `s` and component `d` of the equivariant output is step `s + 1` of family `d`, at the piece's place. -/
theorem pieceE (G : ℕ → ℕ → FVec Ideal S512x16 .f32) (s d : ℕ) (inb) (x : S1x512x1x16.Idx) :
    shapeCast S1x512x1x16 (G d (s + 1)) shapeCasts_S512x16_S1x512x1x16 x
      = slabE G ((Rect.unit (s := S8x512x3x16) ![s, 0, d, 0] S1x512x1x16.size inb).emb x) := by
  obtain ⟨a, r, e, c, rfl⟩ : ∃ a r e c, x = ix4 a r e c := ⟨_, _, _, _, eq_ix4 x⟩
  unfold slabE
  have h0 : (((Rect.unit (s := S8x512x3x16) ![s, 0, d, 0] S1x512x1x16.size inb).emb (ix4 a r e c)) 0).val = s := by
    have := a.isLt
    show s + 1 * a.val = s
    omega
  have h1 : ((Rect.unit (s := S8x512x3x16) ![s, 0, d, 0] S1x512x1x16.size inb).emb (ix4 a r e c)) 1 = r := Fin.ext (by show 0 + 1 * r.val = r.val; omega)
  have h2 : (((Rect.unit (s := S8x512x3x16) ![s, 0, d, 0] S1x512x1x16.size inb).emb (ix4 a r e c)) 2).val = d := by
    have := e.isLt
    show d + 1 * e.val = d
    omega
  have h3 : ((Rect.unit (s := S8x512x3x16) ![s, 0, d, 0] S1x512x1x16.size inb).emb (ix4 a r e c)) 3 = c := Fin.ext (by show 0 + 1 * c.val = c.val; omega)
  rw [h0, h1, h2, h3]
  pointwise

section
variable (x0 : Vec Ideal S512x128 .f32) (x1 : Vec Ideal S512x128 .f32) (x2 : Vec Ideal S512x128 .f32) (x3 : Vec Ideal S512x128 .f32) (x4 : Vec Ideal S512x128 .f32) (x5 : Vec Ideal S512x128 .f32) (x6 : Vec Ideal S512x128 .f32) (x7 : Vec Ideal S512x128 .f32) (x8 : Vec Ideal S512x3 .f32) (x9 : Vec Ideal S512x3 .f32) (x10 : Vec Ideal S512x3 .f32) (x11 : Vec Ideal S512x3 .f32) (x12 : Vec Ideal S512x3 .f32) (x13 : Vec Ideal S512x3 .f32) (x14 : Vec Ideal S512x3 .f32) (x15 : Vec Ideal S512x3 .f32) (x16 : Vec Ideal S128x128 .f32) (x17 : Vec Ideal S128x128 .f32) (x18 : Vec Ideal S1x128 .f32) (x19 : Vec Ideal S128x16 .f32) (x20 : Vec Ideal S1x16 .f32)

/-- A load of the whole hidden weight reads its contents. -/
theorem ld17 : View.ld x17 r0_2 = x17 := by
  funext i
  pointwise

/-- A load of the whole gate weight reads its contents. -/
theorem ld19 : View.ld x19 r0_4 = x19 := by
  funext i
  pointwise

/-- A value the body names is a component of the features of the recurrence. -/
theorem val88 : k0_pay88 x0 x1 x2 x3 x4 x5 x6 x7 x8 x9 x10 x11 x12 x13 x14 x15 x16 x17 x18 x19 x20 = kE (k0_pay84 x0 x1 x2 x3 x4 x5 x6 x7 x8 x9 x10 x11 x12 x13 x14 x15 x16 x17 x18 x19 x20) (View.ld x17 r0_2) (View.ld x19 r0_4) (k0_pay85 x0 x1 x2 x3 x4 x5 x6 x7 x8 x9 x10 x11 x12 x13 x14 x15 x16 x17 x18 x19 x20) 0 := by
  rfl

/-- A value the body names is a component of the features of the recurrence. -/
theorem val89 : k0_pay89 x0 x1 x2 x3 x4 x5 x6 x7 x8 x9 x10 x11 x12 x13 x14 x15 x16 x17 x18 x19 x20 = kE (k0_pay84 x0 x1 x2 x3 x4 x5 x6 x7 x8 x9 x10 x11 x12 x13 x14 x15 x16 x17 x18 x19 x20) (View.ld x17 r0_2) (View.ld x19 r0_4) (k0_pay86 x0 x1 x2 x3 x4 x5 x6 x7 x8 x9 x10 x11 x12 x13 x14 x15 x16 x17 x18 x19 x20) 0 := by
  rfl

/-- A value the body names is a component of the features of the recurrence. -/
theorem val90 : k0_pay90 x0 x1 x2 x3 x4 x5 x6 x7 x8 x9 x10 x11 x12 x13 x14 x15 x16 x17 x18 x19 x20 = kE (k0_pay84 x0 x1 x2 x3 x4 x5 x6 x7 x8 x9 x10 x11 x12 x13 x14 x15 x16 x17 x18 x19 x20) (View.ld x17 r0_2) (View.ld x19 r0_4) (k0_pay87 x0 x1 x2 x3 x4 x5 x6 x7 x8 x9 x10 x11 x12 x13 x14 x15 x16 x17 x18 x19 x20) 0 := by
  rfl

/-- A value the body names is a hidden state of the recurrence. -/
theorem val91 : k0_pay91 x0 x1 x2 x3 x4 x5 x6 x7 x8 x9 x10 x11 x12 x13 x14 x15 x16 x17 x18 x19 x20 = kH (k0_pay84 x0 x1 x2 x3 x4 x5 x6 x7 x8 x9 x10 x11 x12 x13 x14 x15 x16 x17 x18 x19 x20) (View.ld x17 r0_2) 1 := by
  rfl

/-- A value the body names is the gates of a hidden state of the recurrence. -/
theorem val92 : k0_pay92 x0 x1 x2 x3 x4 x5 x6 x7 x8 x9 x10 x11 x12 x13 x14 x15 x16 x17 x18 x19 x20 = kG (View.ld x19 r0_4) (kH (k0_pay84 x0 x1 x2 x3 x4 x5 x6 x7 x8 x9 x10 x11 x12 x13 x14 x15 x16 x17 x18 x19 x20) (View.ld x17 r0_2) 1) := by
  rfl

/-- A value the body names is a component of the features of the recurrence. -/
theorem val93 : k0_pay93 x0 x1 x2 x3 x4 x5 x6 x7 x8 x9 x10 x11 x12 x13 x14 x15 x16 x17 x18 x19 x20 = kE (k0_pay84 x0 x1 x2 x3 x4 x5 x6 x7 x8 x9 x10 x11 x12 x13 x14 x15 x16 x17 x18 x19 x20) (View.ld x17 r0_2) (View.ld x19 r0_4) (k0_pay87 x0 x1 x2 x3 x4 x5 x6 x7 x8 x9 x10 x11 x12 x13 x14 x15 x16 x17 x18 x19 x20) 1 := by
  unfold k0_pay93
  rw [val90 x0 x1 x2 x3 x4 x5 x6 x7 x8 x9 x10 x11 x12 x13 x14 x15 x16 x17 x18 x19 x20, val92 x0 x1 x2 x3 x4 x5 x6 x7 x8 x9 x10 x11 x12 x13 x14 x15 x16 x17 x18 x19 x20]
  rfl

/-- A value the body names is a hidden state of the recurrence. -/
theorem val94 : k0_pay94 x0 x1 x2 x3 x4 x5 x6 x7 x8 x9 x10 x11 x12 x13 x14 x15 x16 x17 x18 x19 x20 = kH (k0_pay84 x0 x1 x2 x3 x4 x5 x6 x7 x8 x9 x10 x11 x12 x13 x14 x15 x16 x17 x18 x19 x20) (View.ld x17 r0_2) 2 := by
  unfold k0_pay94
  rw [val91 x0 x1 x2 x3 x4 x5 x6 x7 x8 x9 x10 x11 x12 x13 x14 x15 x16 x17 x18 x19 x20]
  rfl

/-- A value the body names is the gates of a hidden state of the recurrence. -/
theorem val95 : k0_pay95 x0 x1 x2 x3 x4 x5 x6 x7 x8 x9 x10 x11 x12 x13 x14 x15 x16 x17 x18 x19 x20 = kG (View.ld x19 r0_4) (kH (k0_pay84 x0 x1 x2 x3 x4 x5 x6 x7 x8 x9 x10 x11 x12 x13 x14 x15 x16 x17 x18 x19 x20) (View.ld x17 r0_2) 2) := by
  unfold k0_pay95
  rw [val91 x0 x1 x2 x3 x4 x5 x6 x7 x8 x9 x10 x11 x12 x13 x14 x15 x16 x17 x18 x19 x20]
  rfl

/-- A value the body names is a component of the features of the recurrence. -/
theorem val96 : k0_pay96 x0 x1 x2 x3 x4 x5 x6 x7 x8 x9 x10 x11 x12 x13 x14 x15 x16 x17 x18 x19 x20 = kE (k0_pay84 x0 x1 x2 x3 x4 x5 x6 x7 x8 x9 x10 x11 x12 x13 x14 x15 x16 x17 x18 x19 x20) (View.ld x17 r0_2) (View.ld x19 r0_4) (k0_pay85 x0 x1 x2 x3 x4 x5 x6 x7 x8 x9 x10 x11 x12 x13 x14 x15 x16 x17 x18 x19 x20) 2 := by
  unfold k0_pay96
  rw [val88 x0 x1 x2 x3 x4 x5 x6 x7 x8 x9 x10 x11 x12 x13 x14 x15 x16 x17 x18 x19 x20, val91 x0 x1 x2 x3 x4 x5 x6 x7 x8 x9 x10 x11 x12 x13 x14 x15 x16 x17 x18 x19 x20, val92 x0 x1 x2 x3 x4 x5 x6 x7 x8 x9 x10 x11 x12 x13 x14 x15 x16 x17 x18 x19 x20]
  rfl

/-- A value the body names is a component of the features of the recurrence. -/
theorem val97 : k0_pay97 x0 x1 x2 x3 x4 x5 x6 x7 x8 x9 x10 x11 x12 x13 x14 x15 x16 x17 x18 x19 x20 = kE (k0_pay84 x0 x1 x2 x3 x4 x5 x6 x7 x8 x9 x10 x11 x12 x13 x14 x15 x16 x17 x18 x19 x20) (View.ld x17 r0_2) (View.ld x19 r0_4) (k0_pay86 x0 x1 x2 x3 x4 x5 x6 x7 x8 x9 x10 x11 x12 x13 x14 x15 x16 x17 x18 x19 x20) 2 := by
  unfold k0_pay97
  rw [val89 x0 x1 x2 x3 x4 x5 x6 x7 x8 x9 x10 x11 x12 x13 x14 x15 x16 x17 x18 x19 x20, val91 x0 x1 x2 x3 x4 x5 x6 x7 x8 x9 x10 x11 x12 x13 x14 x15 x16 x17 x18 x19 x20, val92 x0 x1 x2 x3 x4 x5 x6 x7 x8 x9 x10 x11 x12 x13 x14 x15 x16 x17 x18 x19 x20]
  rfl

/-- A value the body names is a hidden state of the recurrence. -/
theorem val98 : k0_pay98 x0 x1 x2 x3 x4 x5 x6 x7 x8 x9 x10 x11 x12 x13 x14 x15 x16 x17 x18 x19 x20 = kH (k0_pay84 x0 x1 x2 x3 x4 x5 x6 x7 x8 x9 x10 x11 x12 x13 x14 x15 x16 x17 x18 x19 x20) (View.ld x17 r0_2) 3 := by
  unfold k0_pay98
  rw [val94 x0 x1 x2 x3 x4 x5 x6 x7 x8 x9 x10 x11 x12 x13 x14 x15 x16 x17 x18 x19 x20]
  rfl

/-- A value the body names is a component of the features of the recurrence. -/
theorem val99 : k0_pay99 x0 x1 x2 x3 x4 x5 x6 x7 x8 x9 x10 x11 x12 x13 x14 x15 x16 x17 x18 x19 x20 = kE (k0_pay84 x0 x1 x2 x3 x4 x5 x6 x7 x8 x9 x10 x11 x12 x13 x14 x15 x16 x17 x18 x19 x20) (View.ld x17 r0_2) (View.ld x19 r0_4) (k0_pay85 x0 x1 x2 x3 x4 x5 x6 x7 x8 x9 x10 x11 x12 x13 x14 x15 x16 x17 x18 x19 x20) 3 := by
  unfold k0_pay99
  rw [val94 x0 x1 x2 x3 x4 x5 x6 x7 x8 x9 x10 x11 x12 x13 x14 x15 x16 x17 x18 x19 x20, val96 x0 x1 x2 x3 x4 x5 x6 x7 x8 x9 x10 x11 x12 x13 x14 x15 x16 x17 x18 x19 x20]
  rfl

/-- A value the body names is a component of the features of the recurrence. -/
theorem val100 : k0_pay100 x0 x1 x2 x3 x4 x5 x6 x7 x8 x9 x10 x11 x12 x13 x14 x15 x16 x17 x18 x19 x20 = kE (k0_pay84 x0 x1 x2 x3 x4 x5 x6 x7 x8 x9 x10 x11 x12 x13 x14 x15 x16 x17 x18 x19 x20) (View.ld x17 r0_2) (View.ld x19 r0_4) (k0_pay86 x0 x1 x2 x3 x4 x5 x6 x7 x8 x9 x10 x11 x12 x13 x14 x15 x16 x17 x18 x19 x20) 3 := by
  unfold k0_pay100
  rw [val94 x0 x1 x2 x3 x4 x5 x6 x7 x8 x9 x10 x11 x12 x13 x14 x15 x16 x17 x18 x19 x20, val97 x0 x1 x2 x3 x4 x5 x6 x7 x8 x9 x10 x11 x12 x13 x14 x15 x16 x17 x18 x19 x20]
  rfl

/-- A value the body names is a component of the features of the recurrence. -/
theorem val101 : k0_pay101 x0 x1 x2 x3 x4 x5 x6 x7 x8 x9 x10 x11 x12 x13 x14 x15 x16 x17 x18 x19 x20 = kE (k0_pay84 x0 x1 x2 x3 x4 x5 x6 x7 x8 x9 x10 x11 x12 x13 x14 x15 x16 x17 x18 x19 x20) (View.ld x17 r0_2) (View.ld x19 r0_4) (k0_pay87 x0 x1 x2 x3 x4 x5 x6 x7 x8 x9 x10 x11 x12 x13 x14 x15 x16 x17 x18 x19 x20) 3 := by
  unfold k0_pay101
  rw [val93 x0 x1 x2 x3 x4 x5 x6 x7 x8 x9 x10 x11 x12 x13 x14 x15 x16 x17 x18 x19 x20, val94 x0 x1 x2 x3 x4 x5 x6 x7 x8 x9 x10 x11 x12 x13 x14 x15 x16 x17 x18 x19 x20, val95 x0 x1 x2 x3 x4 x5 x6 x7 x8 x9 x10 x11 x12 x13 x14 x15 x16 x17 x18 x19 x20]
  rfl

/-- A value the body names is a component of the features of the recurrence. -/
theorem val102 : k0_pay102 x0 x1 x2 x3 x4 x5 x6 x7 x8 x9 x10 x11 x12 x13 x14 x15 x16 x17 x18 x19 x20 = kE (k0_pay84 x0 x1 x2 x3 x4 x5 x6 x7 x8 x9 x10 x11 x12 x13 x14 x15 x16 x17 x18 x19 x20) (View.ld x17 r0_2) (View.ld x19 r0_4) (k0_pay85 x0 x1 x2 x3 x4 x5 x6 x7 x8 x9 x10 x11 x12 x13 x14 x15 x16 x17 x18 x19 x20) 4 := by
  unfold k0_pay102
  rw [val98 x0 x1 x2 x3 x4 x5 x6 x7 x8 x9 x10 x11 x12 x13 x14 x15 x16 x17 x18 x19 x20, val99 x0 x1 x2 x3 x4 x5 x6 x7 x8 x9 x10 x11 x12 x13 x14 x15 x16 x17 x18 x19 x20]
  rfl

/-- A value the body names is a component of the features of the recurrence. -/
theorem val103 : k0_pay103 x0 x1 x2 x3 x4 x5 x6 x7 x8 x9 x10 x11 x12 x13 x14 x15 x16 x17 x18 x19 x20 = kE (k0_pay84 x0 x1 x2 x3 x4 x5 x6 x7 x8 x9 x10 x11 x12 x13 x14 x15 x16 x17 x18 x19 x20) (View.ld x17 r0_2) (View.ld x19 r0_4) (k0_pay86 x0 x1 x2 x3 x4 x5 x6 x7 x8 x9 x10 x11 x12 x13 x14 x15 x16 x17 x18 x19 x20) 4 := by
  unfold k0_pay103
  rw [val98 x0 x1 x2 x3 x4 x5 x6 x7 x8 x9 x10 x11 x12 x13 x14 x15 x16 x17 x18 x19 x20, val100 x0 x1 x2 x3 x4 x5 x6 x7 x8 x9 x10 x11 x12 x13 x14 x15 x16 x17 x18 x19 x20]
  rfl

/-- A value the body names is a component of the features of the recurrence. -/
theorem val104 : k0_pay104 x0 x1 x2 x3 x4 x5 x6 x7 x8 x9 x10 x11 x12 x13 x14 x15 x16 x17 x18 x19 x20 = kE (k0_pay84 x0 x1 x2 x3 x4 x5 x6 x7 x8 x9 x10 x11 x12 x13 x14 x15 x16 x17 x18 x19 x20) (View.ld x17 r0_2) (View.ld x19 r0_4) (k0_pay87 x0 x1 x2 x3 x4 x5 x6 x7 x8 x9 x10 x11 x12 x13 x14 x15 x16 x17 x18 x19 x20) 4 := by
  unfold k0_pay104
  rw [val98 x0 x1 x2 x3 x4 x5 x6 x7 x8 x9 x10 x11 x12 x13 x14 x15 x16 x17 x18 x19 x20, val101 x0 x1 x2 x3 x4 x5 x6 x7 x8 x9 x10 x11 x12 x13 x14 x15 x16 x17 x18 x19 x20]
  rfl

/-- A value the body names is a hidden state of the recurrence. -/
theorem val105 : k0_pay105 x0 x1 x2 x3 x4 x5 x6 x7 x8 x9 x10 x11 x12 x13 x14 x15 x16 x17 x18 x19 x20 = kH (k0_pay84 x0 x1 x2 x3 x4 x5 x6 x7 x8 x9 x10 x11 x12 x13 x14 x15 x16 x17 x18 x19 x20) (View.ld x17 r0_2) 5 := by
  unfold k0_pay105
  rw [val98 x0 x1 x2 x3 x4 x5 x6 x7 x8 x9 x10 x11 x12 x13 x14 x15 x16 x17 x18 x19 x20]
  rfl

/-- A value the body names is the gates of a hidden state of the recurrence. -/
theorem val106 : k0_pay106 x0 x1 x2 x3 x4 x5 x6 x7 x8 x9 x10 x11 x12 x13 x14 x15 x16 x17 x18 x19 x20 = kG (View.ld x19 r0_4) (kH (k0_pay84 x0 x1 x2 x3 x4 x5 x6 x7 x8 x9 x10 x11 x12 x13 x14 x15 x16 x17 x18 x19 x20) (View.ld x17 r0_2) 5) := by
  unfold k0_pay106
  rw [val98 x0 x1 x2 x3 x4 x5 x6 x7 x8 x9 x10 x11 x12 x13 x14 x15 x16 x17 x18 x19 x20]
  rfl

/-- A value the body names is a component of the features of the recurrence. -/
theorem val107 : k0_pay107 x0 x1 x2 x3 x4 x5 x6 x7 x8 x9 x10 x11 x12 x13 x14 x15 x16 x17 x18 x19 x20 = kE (k0_pay84 x0 x1 x2 x3 x4 x5 x6 x7 x8 x9 x10 x11 x12 x13 x14 x15 x16 x17 x18 x19 x20) (View.ld x17 r0_2) (View.ld x19 r0_4) (k0_pay87 x0 x1 x2 x3 x4 x5 x6 x7 x8 x9 x10 x11 x12 x13 x14 x15 x16 x17 x18 x19 x20) 5 := by
  unfold k0_pay107
  rw [val104 x0 x1 x2 x3 x4 x5 x6 x7 x8 x9 x10 x11 x12 x13 x14 x15 x16 x17 x18 x19 x20, val106 x0 x1 x2 x3 x4 x5 x6 x7 x8 x9 x10 x11 x12 x13 x14 x15 x16 x17 x18 x19 x20]
  rfl

/-- A value the body names is a hidden state of the recurrence. -/
theorem val108 : k0_pay108 x0 x1 x2 x3 x4 x5 x6 x7 x8 x9 x10 x11 x12 x13 x14 x15 x16 x17 x18 x19 x20 = kH (k0_pay84 x0 x1 x2 x3 x4 x5 x6 x7 x8 x9 x10 x11 x12 x13 x14 x15 x16 x17 x18 x19 x20) (View.ld x17 r0_2) 6 := by
  unfold k0_pay108
  rw [val105 x0 x1 x2 x3 x4 x5 x6 x7 x8 x9 x10 x11 x12 x13 x14 x15 x16 x17 x18 x19 x20]
  rfl

/-- A value the body names is the gates of a hidden state of the recurrence. -/
theorem val109 : k0_pay109 x0 x1 x2 x3 x4 x5 x6 x7 x8 x9 x10 x11 x12 x13 x14 x15 x16 x17 x18 x19 x20 = kG (View.ld x19 r0_4) (kH (k0_pay84 x0 x1 x2 x3 x4 x5 x6 x7 x8 x9 x10 x11 x12 x13 x14 x15 x16 x17 x18 x19 x20) (View.ld x17 r0_2) 6) := by
  unfold k0_pay109
  rw [val105 x0 x1 x2 x3 x4 x5 x6 x7 x8 x9 x10 x11 x12 x13 x14 x15 x16 x17 x18 x19 x20]
  rfl

/-- A value the body names is a component of the features of the recurrence. -/
theorem val110 : k0_pay110 x0 x1 x2 x3 x4 x5 x6 x7 x8 x9 x10 x11 x12 x13 x14 x15 x16 x17 x18 x19 x20 = kE (k0_pay84 x0 x1 x2 x3 x4 x5 x6 x7 x8 x9 x10 x11 x12 x13 x14 x15 x16 x17 x18 x19 x20) (View.ld x17 r0_2) (View.ld x19 r0_4) (k0_pay85 x0 x1 x2 x3 x4 x5 x6 x7 x8 x9 x10 x11 x12 x13 x14 x15 x16 x17 x18 x19 x20) 6 := by
  unfold k0_pay110
  rw [val102 x0 x1 x2 x3 x4 x5 x6 x7 x8 x9 x10 x11 x12 x13 x14 x15 x16 x17 x18 x19 x20, val105 x0 x1 x2 x3 x4 x5 x6 x7 x8 x9 x10 x11 x12 x13 x14 x15 x16 x17 x18 x19 x20, val106 x0 x1 x2 x3 x4 x5 x6 x7 x8 x9 x10 x11 x12 x13 x14 x15 x16 x17 x18 x19 x20]
  rfl

/-- A value the body names is a component of the features of the recurrence. -/
theorem val111 : k0_pay111 x0 x1 x2 x3 x4 x5 x6 x7 x8 x9 x10 x11 x12 x13 x14 x15 x16 x17 x18 x19 x20 = kE (k0_pay84 x0 x1 x2 x3 x4 x5 x6 x7 x8 x9 x10 x11 x12 x13 x14 x15 x16 x17 x18 x19 x20) (View.ld x17 r0_2) (View.ld x19 r0_4) (k0_pay86 x0 x1 x2 x3 x4 x5 x6 x7 x8 x9 x10 x11 x12 x13 x14 x15 x16 x17 x18 x19 x20) 6 := by
  unfold k0_pay111
  rw [val103 x0 x1 x2 x3 x4 x5 x6 x7 x8 x9 x10 x11 x12 x13 x14 x15 x16 x17 x18 x19 x20, val105 x0 x1 x2 x3 x4 x5 x6 x7 x8 x9 x10 x11 x12 x13 x14 x15 x16 x17 x18 x19 x20, val106 x0 x1 x2 x3 x4 x5 x6 x7 x8 x9 x10 x11 x12 x13 x14 x15 x16 x17 x18 x19 x20]
  rfl

/-- A value the body names is the last hidden product of the recurrence. -/
theorem val112 : k0_pay112 x0 x1 x2 x3 x4 x5 x6 x7 x8 x9 x10 x11 x12 x13 x14 x15 x16 x17 x18 x19 x20 = matmul (φ₂ := .f32) dot_S512x128_S128x128_S512x128_1_0_0_1_n_n none (kH (k0_pay84 x0 x1 x2 x3 x4 x5 x6 x7 x8 x9 x10 x11 x12 x13 x14 x15 x16 x17 x18 x19 x20) (View.ld x17 r0_2) 7) (View.ld x17 r0_2) (constant S512x128 .f32 0x00000000#32) := by
  unfold k0_pay112
  rw [val108 x0 x1 x2 x3 x4 x5 x6 x7 x8 x9 x10 x11 x12 x13 x14 x15 x16 x17 x18 x19 x20]
  rfl

/-- The hidden output of the block: slab `s` is the body's hidden state after `s + 1` steps. -/
theorem out21_apply (s : Fin 8) (r : Fin 512) (j : Fin 128) :
    out0_21 x0 x1 x2 x3 x4 x5 x6 x7 x8 x9 x10 x11 x12 x13 x14 x15 x16 x17 x18 x19 x20 (ix3 s r j) = kH (k0_pay84 x0 x1 x2 x3 x4 x5 x6 x7 x8 x9 x10 x11 x12 x13 x14 x15 x16 x17 x18 x19 x20) x17 (s.val + 1) (ix2 r j) := by
  suffices h : out0_21 x0 x1 x2 x3 x4 x5 x6 x7 x8 x9 x10 x11 x12 x13 x14 x15 x16 x17 x18 x19 x20 (ix3 s r j) = kH (k0_pay84 x0 x1 x2 x3 x4 x5 x6 x7 x8 x9 x10 x11 x12 x13 x14 x15 x16 x17 x18 x19 x20) (View.ld x17 r0_2) (s.val + 1) (ix2 r j) by rwa [ld17] at h
  unfold out0_21
  rw [val91 x0 x1 x2 x3 x4 x5 x6 x7 x8 x9 x10 x11 x12 x13 x14 x15 x16 x17 x18 x19 x20, val94 x0 x1 x2 x3 x4 x5 x6 x7 x8 x9 x10 x11 x12 x13 x14 x15 x16 x17 x18 x19 x20, val98 x0 x1 x2 x3 x4 x5 x6 x7 x8 x9 x10 x11 x12 x13 x14 x15 x16 x17 x18 x19 x20, val105 x0 x1 x2 x3 x4 x5 x6 x7 x8 x9 x10 x11 x12 x13 x14 x15 x16 x17 x18 x19 x20, val108 x0 x1 x2 x3 x4 x5 x6 x7 x8 x9 x10 x11 x12 x13 x14 x15 x16 x17 x18 x19 x20, val112 x0 x1 x2 x3 x4 x5 x6 x7 x8 x9 x10 x11 x12 x13 x14 x15 x16 x17 x18 x19 x20]
  refine View.canon_apply_of_pieces (slabH (kH (k0_pay84 x0 x1 x2 x3 x4 x5 x6 x7 x8 x9 x10 x11 x12 x13 x14 x15 x16 x17 x18 x19 x20) (View.ld x17 r0_2))) _ ?_ _ (cover0_21 _ _ _ _ _ _ _ _ _)
  simp only [List.forall_mem_cons, List.not_mem_nil, false_imp_iff, implies_true, and_true]
  refine ⟨?_, ?_, ?_, ?_, ?_, ?_, ?_, ?_⟩ <;> intro x
  · exact pieceH (kH (k0_pay84 x0 x1 x2 x3 x4 x5 x6 x7 x8 x9 x10 x11 x12 x13 x14 x15 x16 x17 x18 x19 x20) (View.ld x17 r0_2)) 7 _ x
  · exact pieceH (kH (k0_pay84 x0 x1 x2 x3 x4 x5 x6 x7 x8 x9 x10 x11 x12 x13 x14 x15 x16 x17 x18 x19 x20) (View.ld x17 r0_2)) 6 _ x
  · exact pieceH (kH (k0_pay84 x0 x1 x2 x3 x4 x5 x6 x7 x8 x9 x10 x11 x12 x13 x14 x15 x16 x17 x18 x19 x20) (View.ld x17 r0_2)) 5 _ x
  · exact pieceH (kH (k0_pay84 x0 x1 x2 x3 x4 x5 x6 x7 x8 x9 x10 x11 x12 x13 x14 x15 x16 x17 x18 x19 x20) (View.ld x17 r0_2)) 4 _ x
  · exact pieceH (kH (k0_pay84 x0 x1 x2 x3 x4 x5 x6 x7 x8 x9 x10 x11 x12 x13 x14 x15 x16 x17 x18 x19 x20) (View.ld x17 r0_2)) 3 _ x
  · exact pieceH (kH (k0_pay84 x0 x1 x2 x3 x4 x5 x6 x7 x8 x9 x10 x11 x12 x13 x14 x15 x16 x17 x18 x19 x20) (View.ld x17 r0_2)) 2 _ x
  · exact pieceH (kH (k0_pay84 x0 x1 x2 x3 x4 x5 x6 x7 x8 x9 x10 x11 x12 x13 x14 x15 x16 x17 x18 x19 x20) (View.ld x17 r0_2)) 1 _ x
  · exact pieceH (kH (k0_pay84 x0 x1 x2 x3 x4 x5 x6 x7 x8 x9 x10 x11 x12 x13 x14 x15 x16 x17 x18 x19 x20) (View.ld x17 r0_2)) 0 _ x

/-- The equivariant output of the block: slab `s`, component `d` is the body's feature after `s + 1` steps from source `d`. -/
theorem out22_apply (s : Fin 8) (r : Fin 512) (d : Fin 3) (c : Fin 16) :
    out0_22 x0 x1 x2 x3 x4 x5 x6 x7 x8 x9 x10 x11 x12 x13 x14 x15 x16 x17 x18 x19 x20 (ix4 s r d c) = kE (k0_pay84 x0 x1 x2 x3 x4 x5 x6 x7 x8 x9 x10 x11 x12 x13 x14 x15 x16 x17 x18 x19 x20) x17 x19 (kS x0 x1 x2 x3 x4 x5 x6 x7 x8 x9 x10 x11 x12 x13 x14 x15 x16 x17 x18 x19 x20 d.val) (s.val + 1) (ix2 r c) := by
  suffices h : out0_22 x0 x1 x2 x3 x4 x5 x6 x7 x8 x9 x10 x11 x12 x13 x14 x15 x16 x17 x18 x19 x20 (ix4 s r d c) = kE (k0_pay84 x0 x1 x2 x3 x4 x5 x6 x7 x8 x9 x10 x11 x12 x13 x14 x15 x16 x17 x18 x19 x20) (View.ld x17 r0_2) (View.ld x19 r0_4) (kS x0 x1 x2 x3 x4 x5 x6 x7 x8 x9 x10 x11 x12 x13 x14 x15 x16 x17 x18 x19 x20 d.val) (s.val + 1) (ix2 r c) by rwa [ld17, ld19] at h
  unfold out0_22
  rw [val88 x0 x1 x2 x3 x4 x5 x6 x7 x8 x9 x10 x11 x12 x13 x14 x15 x16 x17 x18 x19 x20, val89 x0 x1 x2 x3 x4 x5 x6 x7 x8 x9 x10 x11 x12 x13 x14 x15 x16 x17 x18 x19 x20, val90 x0 x1 x2 x3 x4 x5 x6 x7 x8 x9 x10 x11 x12 x13 x14 x15 x16 x17 x18 x19 x20, val91 x0 x1 x2 x3 x4 x5 x6 x7 x8 x9 x10 x11 x12 x13 x14 x15 x16 x17 x18 x19 x20, val92 x0 x1 x2 x3 x4 x5 x6 x7 x8 x9 x10 x11 x12 x13 x14 x15 x16 x17 x18 x19 x20, val93 x0 x1 x2 x3 x4 x5 x6 x7 x8 x9 x10 x11 x12 x13 x14 x15 x16 x17 x18 x19 x20, val94 x0 x1 x2 x3 x4 x5 x6 x7 x8 x9 x10 x11 x12 x13 x14 x15 x16 x17 x18 x19 x20, val95 x0 x1 x2 x3 x4 x5 x6 x7 x8 x9 x10 x11 x12 x13 x14 x15 x16 x17 x18 x19 x20, val96 x0 x1 x2 x3 x4 x5 x6 x7 x8 x9 x10 x11 x12 x13 x14 x15 x16 x17 x18 x19 x20, val97 x0 x1 x2 x3 x4 x5 x6 x7 x8 x9 x10 x11 x12 x13 x14 x15 x16 x17 x18 x19 x20, val98 x0 x1 x2 x3 x4 x5 x6 x7 x8 x9 x10 x11 x12 x13 x14 x15 x16 x17 x18 x19 x20, val99 x0 x1 x2 x3 x4 x5 x6 x7 x8 x9 x10 x11 x12 x13 x14 x15 x16 x17 x18 x19 x20, val100 x0 x1 x2 x3 x4 x5 x6 x7 x8 x9 x10 x11 x12 x13 x14 x15 x16 x17 x18 x19 x20, val101 x0 x1 x2 x3 x4 x5 x6 x7 x8 x9 x10 x11 x12 x13 x14 x15 x16 x17 x18 x19 x20, val102 x0 x1 x2 x3 x4 x5 x6 x7 x8 x9 x10 x11 x12 x13 x14 x15 x16 x17 x18 x19 x20, val103 x0 x1 x2 x3 x4 x5 x6 x7 x8 x9 x10 x11 x12 x13 x14 x15 x16 x17 x18 x19 x20, val104 x0 x1 x2 x3 x4 x5 x6 x7 x8 x9 x10 x11 x12 x13 x14 x15 x16 x17 x18 x19 x20, val105 x0 x1 x2 x3 x4 x5 x6 x7 x8 x9 x10 x11 x12 x13 x14 x15 x16 x17 x18 x19 x20, val106 x0 x1 x2 x3 x4 x5 x6 x7 x8 x9 x10 x11 x12 x13 x14 x15 x16 x17 x18 x19 x20, val107 x0 x1 x2 x3 x4 x5 x6 x7 x8 x9 x10 x11 x12 x13 x14 x15 x16 x17 x18 x19 x20, val108 x0 x1 x2 x3 x4 x5 x6 x7 x8 x9 x10 x11 x12 x13 x14 x15 x16 x17 x18 x19 x20, val109 x0 x1 x2 x3 x4 x5 x6 x7 x8 x9 x10 x11 x12 x13 x14 x15 x16 x17 x18 x19 x20, val110 x0 x1 x2 x3 x4 x5 x6 x7 x8 x9 x10 x11 x12 x13 x14 x15 x16 x17 x18 x19 x20, val111 x0 x1 x2 x3 x4 x5 x6 x7 x8 x9 x10 x11 x12 x13 x14 x15 x16 x17 x18 x19 x20, val112 x0 x1 x2 x3 x4 x5 x6 x7 x8 x9 x10 x11 x12 x13 x14 x15 x16 x17 x18 x19 x20]
  refine View.canon_apply_of_pieces (slabE (fun d => kE (k0_pay84 x0 x1 x2 x3 x4 x5 x6 x7 x8 x9 x10 x11 x12 x13 x14 x15 x16 x17 x18 x19 x20) (View.ld x17 r0_2) (View.ld x19 r0_4) (kS x0 x1 x2 x3 x4 x5 x6 x7 x8 x9 x10 x11 x12 x13 x14 x15 x16 x17 x18 x19 x20 d))) _ ?_ _ (cover0_22 _ _ _ _ _ _ _ _ _ _ _ _ _ _ _ _ _ _ _ _ _ _ _ _ _ )
  simp only [List.forall_mem_cons, List.not_mem_nil, false_imp_iff, implies_true, and_true]
  refine ⟨?_, ?_, ?_, ?_, ?_, ?_, ?_, ?_, ?_, ?_, ?_, ?_, ?_, ?_, ?_, ?_, ?_, ?_, ?_, ?_, ?_, ?_, ?_, ?_⟩ <;> intro x
  · exact pieceE (fun d => kE (k0_pay84 x0 x1 x2 x3 x4 x5 x6 x7 x8 x9 x10 x11 x12 x13 x14 x15 x16 x17 x18 x19 x20) (View.ld x17 r0_2) (View.ld x19 r0_4) (kS x0 x1 x2 x3 x4 x5 x6 x7 x8 x9 x10 x11 x12 x13 x14 x15 x16 x17 x18 x19 x20 d)) 7 2 _ x
  · exact pieceE (fun d => kE (k0_pay84 x0 x1 x2 x3 x4 x5 x6 x7 x8 x9 x10 x11 x12 x13 x14 x15 x16 x17 x18 x19 x20) (View.ld x17 r0_2) (View.ld x19 r0_4) (kS x0 x1 x2 x3 x4 x5 x6 x7 x8 x9 x10 x11 x12 x13 x14 x15 x16 x17 x18 x19 x20 d)) 7 1 _ x
  · exact pieceE (fun d => kE (k0_pay84 x0 x1 x2 x3 x4 x5 x6 x7 x8 x9 x10 x11 x12 x13 x14 x15 x16 x17 x18 x19 x20) (View.ld x17 r0_2) (View.ld x19 r0_4) (kS x0 x1 x2 x3 x4 x5 x6 x7 x8 x9 x10 x11 x12 x13 x14 x15 x16 x17 x18 x19 x20 d)) 7 0 _ x
  · exact pieceE (fun d => kE (k0_pay84 x0 x1 x2 x3 x4 x5 x6 x7 x8 x9 x10 x11 x12 x13 x14 x15 x16 x17 x18 x19 x20) (View.ld x17 r0_2) (View.ld x19 r0_4) (kS x0 x1 x2 x3 x4 x5 x6 x7 x8 x9 x10 x11 x12 x13 x14 x15 x16 x17 x18 x19 x20 d)) 6 2 _ x
  · exact pieceE (fun d => kE (k0_pay84 x0 x1 x2 x3 x4 x5 x6 x7 x8 x9 x10 x11 x12 x13 x14 x15 x16 x17 x18 x19 x20) (View.ld x17 r0_2) (View.ld x19 r0_4) (kS x0 x1 x2 x3 x4 x5 x6 x7 x8 x9 x10 x11 x12 x13 x14 x15 x16 x17 x18 x19 x20 d)) 6 1 _ x
  · exact pieceE (fun d => kE (k0_pay84 x0 x1 x2 x3 x4 x5 x6 x7 x8 x9 x10 x11 x12 x13 x14 x15 x16 x17 x18 x19 x20) (View.ld x17 r0_2) (View.ld x19 r0_4) (kS x0 x1 x2 x3 x4 x5 x6 x7 x8 x9 x10 x11 x12 x13 x14 x15 x16 x17 x18 x19 x20 d)) 6 0 _ x
  · exact pieceE (fun d => kE (k0_pay84 x0 x1 x2 x3 x4 x5 x6 x7 x8 x9 x10 x11 x12 x13 x14 x15 x16 x17 x18 x19 x20) (View.ld x17 r0_2) (View.ld x19 r0_4) (kS x0 x1 x2 x3 x4 x5 x6 x7 x8 x9 x10 x11 x12 x13 x14 x15 x16 x17 x18 x19 x20 d)) 5 2 _ x
  · exact pieceE (fun d => kE (k0_pay84 x0 x1 x2 x3 x4 x5 x6 x7 x8 x9 x10 x11 x12 x13 x14 x15 x16 x17 x18 x19 x20) (View.ld x17 r0_2) (View.ld x19 r0_4) (kS x0 x1 x2 x3 x4 x5 x6 x7 x8 x9 x10 x11 x12 x13 x14 x15 x16 x17 x18 x19 x20 d)) 5 1 _ x
  · exact pieceE (fun d => kE (k0_pay84 x0 x1 x2 x3 x4 x5 x6 x7 x8 x9 x10 x11 x12 x13 x14 x15 x16 x17 x18 x19 x20) (View.ld x17 r0_2) (View.ld x19 r0_4) (kS x0 x1 x2 x3 x4 x5 x6 x7 x8 x9 x10 x11 x12 x13 x14 x15 x16 x17 x18 x19 x20 d)) 5 0 _ x
  · exact pieceE (fun d => kE (k0_pay84 x0 x1 x2 x3 x4 x5 x6 x7 x8 x9 x10 x11 x12 x13 x14 x15 x16 x17 x18 x19 x20) (View.ld x17 r0_2) (View.ld x19 r0_4) (kS x0 x1 x2 x3 x4 x5 x6 x7 x8 x9 x10 x11 x12 x13 x14 x15 x16 x17 x18 x19 x20 d)) 4 2 _ x
  · exact pieceE (fun d => kE (k0_pay84 x0 x1 x2 x3 x4 x5 x6 x7 x8 x9 x10 x11 x12 x13 x14 x15 x16 x17 x18 x19 x20) (View.ld x17 r0_2) (View.ld x19 r0_4) (kS x0 x1 x2 x3 x4 x5 x6 x7 x8 x9 x10 x11 x12 x13 x14 x15 x16 x17 x18 x19 x20 d)) 4 1 _ x
  · exact pieceE (fun d => kE (k0_pay84 x0 x1 x2 x3 x4 x5 x6 x7 x8 x9 x10 x11 x12 x13 x14 x15 x16 x17 x18 x19 x20) (View.ld x17 r0_2) (View.ld x19 r0_4) (kS x0 x1 x2 x3 x4 x5 x6 x7 x8 x9 x10 x11 x12 x13 x14 x15 x16 x17 x18 x19 x20 d)) 4 0 _ x
  · exact pieceE (fun d => kE (k0_pay84 x0 x1 x2 x3 x4 x5 x6 x7 x8 x9 x10 x11 x12 x13 x14 x15 x16 x17 x18 x19 x20) (View.ld x17 r0_2) (View.ld x19 r0_4) (kS x0 x1 x2 x3 x4 x5 x6 x7 x8 x9 x10 x11 x12 x13 x14 x15 x16 x17 x18 x19 x20 d)) 3 2 _ x
  · exact pieceE (fun d => kE (k0_pay84 x0 x1 x2 x3 x4 x5 x6 x7 x8 x9 x10 x11 x12 x13 x14 x15 x16 x17 x18 x19 x20) (View.ld x17 r0_2) (View.ld x19 r0_4) (kS x0 x1 x2 x3 x4 x5 x6 x7 x8 x9 x10 x11 x12 x13 x14 x15 x16 x17 x18 x19 x20 d)) 3 1 _ x
  · exact pieceE (fun d => kE (k0_pay84 x0 x1 x2 x3 x4 x5 x6 x7 x8 x9 x10 x11 x12 x13 x14 x15 x16 x17 x18 x19 x20) (View.ld x17 r0_2) (View.ld x19 r0_4) (kS x0 x1 x2 x3 x4 x5 x6 x7 x8 x9 x10 x11 x12 x13 x14 x15 x16 x17 x18 x19 x20 d)) 3 0 _ x
  · exact pieceE (fun d => kE (k0_pay84 x0 x1 x2 x3 x4 x5 x6 x7 x8 x9 x10 x11 x12 x13 x14 x15 x16 x17 x18 x19 x20) (View.ld x17 r0_2) (View.ld x19 r0_4) (kS x0 x1 x2 x3 x4 x5 x6 x7 x8 x9 x10 x11 x12 x13 x14 x15 x16 x17 x18 x19 x20 d)) 2 2 _ x
  · exact pieceE (fun d => kE (k0_pay84 x0 x1 x2 x3 x4 x5 x6 x7 x8 x9 x10 x11 x12 x13 x14 x15 x16 x17 x18 x19 x20) (View.ld x17 r0_2) (View.ld x19 r0_4) (kS x0 x1 x2 x3 x4 x5 x6 x7 x8 x9 x10 x11 x12 x13 x14 x15 x16 x17 x18 x19 x20 d)) 2 1 _ x
  · exact pieceE (fun d => kE (k0_pay84 x0 x1 x2 x3 x4 x5 x6 x7 x8 x9 x10 x11 x12 x13 x14 x15 x16 x17 x18 x19 x20) (View.ld x17 r0_2) (View.ld x19 r0_4) (kS x0 x1 x2 x3 x4 x5 x6 x7 x8 x9 x10 x11 x12 x13 x14 x15 x16 x17 x18 x19 x20 d)) 2 0 _ x
  · exact pieceE (fun d => kE (k0_pay84 x0 x1 x2 x3 x4 x5 x6 x7 x8 x9 x10 x11 x12 x13 x14 x15 x16 x17 x18 x19 x20) (View.ld x17 r0_2) (View.ld x19 r0_4) (kS x0 x1 x2 x3 x4 x5 x6 x7 x8 x9 x10 x11 x12 x13 x14 x15 x16 x17 x18 x19 x20 d)) 1 2 _ x
  · exact pieceE (fun d => kE (k0_pay84 x0 x1 x2 x3 x4 x5 x6 x7 x8 x9 x10 x11 x12 x13 x14 x15 x16 x17 x18 x19 x20) (View.ld x17 r0_2) (View.ld x19 r0_4) (kS x0 x1 x2 x3 x4 x5 x6 x7 x8 x9 x10 x11 x12 x13 x14 x15 x16 x17 x18 x19 x20 d)) 1 1 _ x
  · exact pieceE (fun d => kE (k0_pay84 x0 x1 x2 x3 x4 x5 x6 x7 x8 x9 x10 x11 x12 x13 x14 x15 x16 x17 x18 x19 x20) (View.ld x17 r0_2) (View.ld x19 r0_4) (kS x0 x1 x2 x3 x4 x5 x6 x7 x8 x9 x10 x11 x12 x13 x14 x15 x16 x17 x18 x19 x20 d)) 1 0 _ x
  · exact pieceE (fun d => kE (k0_pay84 x0 x1 x2 x3 x4 x5 x6 x7 x8 x9 x10 x11 x12 x13 x14 x15 x16 x17 x18 x19 x20) (View.ld x17 r0_2) (View.ld x19 r0_4) (kS x0 x1 x2 x3 x4 x5 x6 x7 x8 x9 x10 x11 x12 x13 x14 x15 x16 x17 x18 x19 x20 d)) 0 2 _ x
  · exact pieceE (fun d => kE (k0_pay84 x0 x1 x2 x3 x4 x5 x6 x7 x8 x9 x10 x11 x12 x13 x14 x15 x16 x17 x18 x19 x20) (View.ld x17 r0_2) (View.ld x19 r0_4) (kS x0 x1 x2 x3 x4 x5 x6 x7 x8 x9 x10 x11 x12 x13 x14 x15 x16 x17 x18 x19 x20 d)) 0 1 _ x
  · exact pieceE (fun d => kE (k0_pay84 x0 x1 x2 x3 x4 x5 x6 x7 x8 x9 x10 x11 x12 x13 x14 x15 x16 x17 x18 x19 x20) (View.ld x17 r0_2) (View.ld x19 r0_4) (kS x0 x1 x2 x3 x4 x5 x6 x7 x8 x9 x10 x11 x12 x13 x14 x15 x16 x17 x18 x19 x20 d)) 0 0 _ x

end

end Cert.KernelIdeal.Layer

end
-- ==== Proof.LayerArray.lean ====
/- What the recurrent call leaves in its two result arrays, entry by entry, as the row recurrence over the argument arrays. -/
module

public import proofs.«01_k».proof.Proof.LayerOut
public import Idealize.ShloMosaic.Lib.Pipeline.ValueKit

@[expose] public section

set_option maxRecDepth 16384

noncomputable section

namespace Cert.KernelIdeal.Layer

open Idealize.ShloMosaic Idealize.ShloMosaic.TcCoe Idealize.SL.Sem Cert.KernelIdeal Cert.KernelIdeal.Gen

variable (m : (ℓ : Loc nD τ sig) → Buf (Elt Ideal) ℓ)

/-- Row `n` of the pooled first stack. -/
def rowP (c : Dev nD) (n : Fin 4096) (k : Fin 128) : EReal :=
  Cert.Layer.mean8 ![m ((c : Thread nD τ).loc main_arg0) (ix2 n k), m ((c : Thread nD τ).loc main_arg1) (ix2 n k), m ((c : Thread nD τ).loc main_arg2) (ix2 n k), m ((c : Thread nD τ).loc main_arg3) (ix2 n k), m ((c : Thread nD τ).loc main_arg4) (ix2 n k), m ((c : Thread nD τ).loc main_arg5) (ix2 n k), m ((c : Thread nD τ).loc main_arg6) (ix2 n k), m ((c : Thread nD τ).loc main_arg7) (ix2 n k)]

/-- The unchanging part of row `n`'s argument. -/
def rowA (c : Dev nD) (n : Fin 4096) (j : Fin 128) : EReal :=
  Cert.Layer.inner (rowP m c n) (fun k j => m ((c : Thread nD τ).loc main_arg16) (ix2 k j)) (fun j => m ((c : Thread nD τ).loc main_arg18) (ix1 j)) j

/-- Row `n`'s hidden row after `s` steps. -/
def rowH (c : Dev nD) (n : Fin 4096) (s : ℕ) (j : Fin 128) : EReal :=
  Cert.Layer.hid (rowA m c n) (fun k j => m ((c : Thread nD τ).loc main_arg17) (ix2 k j)) s j

/-- Row `n`'s source at component `d` and channel `e`. -/
def rowS (c : Dev nD) (n : Fin 4096) (d : Fin 3) (e : Fin 16) : EReal :=
  Cert.Layer.mean8 ![m ((c : Thread nD τ).loc main_arg8) (ix2 n d), m ((c : Thread nD τ).loc main_arg9) (ix2 n d), m ((c : Thread nD τ).loc main_arg10) (ix2 n d), m ((c : Thread nD τ).loc main_arg11) (ix2 n d), m ((c : Thread nD τ).loc main_arg12) (ix2 n d), m ((c : Thread nD τ).loc main_arg13) (ix2 n d), m ((c : Thread nD τ).loc main_arg14) (ix2 n d), m ((c : Thread nD τ).loc main_arg15) (ix2 n d)] * m ((c : Thread nD τ).loc main_arg20) (ix1 e)

/-- Row `n`'s equivariant feature at component `d` and channel `e` after `s` steps. -/
def rowE (c : Dev nD) (n : Fin 4096) (s : ℕ) (d : Fin 3) (e : Fin 16) : EReal :=
  Cert.Layer.equi (rowA m c n) (fun k j => m ((c : Thread nD τ).loc main_arg17) (ix2 k j)) (fun k e => m ((c : Thread nD τ).loc main_arg19) (ix2 k e)) e (rowS m c n d e) s

/-- Each moving input window and each output window is at the point's own row block; the others stay at the origin. -/
theorem idx : ∀ t : Fin grid0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] ∧ win0_10.index t = ![t.val, 0] ∧ win0_11.index t = ![t.val, 0] ∧ win0_12.index t = ![t.val, 0] ∧ win0_13.index t = ![t.val, 0] ∧ win0_14.index t = ![t.val, 0] ∧ win0_15.index t = ![t.val, 0] ∧ win0_16.index t = ![0, 0] ∧ win0_17.index t = ![0, 0] ∧ win0_18.index t = ![0, 0] ∧ win0_19.index t = ![0, 0] ∧ win0_20.index t = ![0, 0]
    ∧ win0_21.index t = ![0, t.val, 0] ∧ win0_22.index t = ![0, t.val, 0, 0] := by
  decide +kernel

/-- The array row of row `r` of point `t`'s block. -/
def rowOf (t : Fin cfg0.grid.N) (r : Fin 512) : Fin 4096 :=
  ⟨t.val * 512 + r.val, by have := t.isLt; have e : cfg0.grid.N = 8 := N_0; have := r.isLt; omega⟩

section
variable (c : Dev nD) (t : Fin cfg0.grid.N)

/-- Block `t` of operand 0 is its rows from `512 t`. -/
theorem blk0 (r : Fin 512) (k : Fin 128) : iblk m c 0 t (ix2 r k) = m ((c : Thread nD τ).loc main_arg0) (ix2 (rowOf t r) k) := by
  blk_point [iblk, V, idx t, rowOf]

/-- Block `t` of operand 1 is its rows from `512 t`. -/
theorem blk1 (r : Fin 512) (k : Fin 128) : iblk m c 1 t (ix2 r k) = m ((c : Thread nD τ).loc main_arg1) (ix2 (rowOf t r) k) := by
  blk_point [iblk, V, idx t, rowOf]

/-- Block `t` of operand 2 is its rows from `512 t`. -/
theorem blk2 (r : Fin 512) (k : Fin 128) : iblk m c 2 t (ix2 r k) = m ((c : Thread nD τ).loc main_arg2) (ix2 (rowOf t r) k) := by
  blk_point [iblk, V, idx t, rowOf]

/-- Block `t` of operand 3 is its rows from `512 t`. -/
theorem blk3 (r : Fin 512) (k : Fin 128) : iblk m c 3 t (ix2 r k) = m ((c : Thread nD τ).loc main_arg3) (ix2 (rowOf t r) k) := by
  blk_point [iblk, V, idx t, rowOf]

/-- Block `t` of operand 4 is its rows from `512 t`. -/
theorem blk4 (r : Fin 512) (k : Fin 128) : iblk m c 4 t (ix2 r k) = m ((c : Thread nD τ).loc main_arg4) (ix2 (rowOf t r) k) := by
  blk_point [iblk, V, idx t, rowOf]

/-- Block `t` of operand 5 is its rows from `512 t`. -/
theorem blk5 (r : Fin 512) (k : Fin 128) : iblk m c 5 t (ix2 r k) = m ((c : Thread nD τ).loc main_arg5) (ix2 (rowOf t r) k) := by
  blk_point [iblk, V, idx t, rowOf]

/-- Block `t` of operand 6 is its rows from `512 t`. -/
theorem blk6 (r : Fin 512) (k : Fin 128) : iblk m c 6 t (ix2 r k) = m ((c : Thread nD τ).loc main_arg6) (ix2 (rowOf t r) k) := by
  blk_point [iblk, V, idx t, rowOf]

/-- Block `t` of operand 7 is its rows from `512 t`. -/
theorem blk7 (r : Fin 512) (k : Fin 128) : iblk m c 7 t (ix2 r k) = m ((c : Thread nD τ).loc main_arg7) (ix2 (rowOf t r) k) := by
  blk_point [iblk, V, idx t, rowOf]

/-- Block `t` of operand 8 is its rows from `512 t`. -/
theorem blk8 (r : Fin 512) (k : Fin 3) : iblk m c 8 t (ix2 r k) = m ((c : Thread nD τ).loc main_arg8) (ix2 (rowOf t r) k) := by
  blk_point [iblk, V, idx t, rowOf]

/-- Block `t` of operand 9 is its rows from `512 t`. -/
theorem blk9 (r : Fin 512) (k : Fin 3) : iblk m c 9 t (ix2 r k) = m ((c : Thread nD τ).loc main_arg9) (ix2 (rowOf t r) k) := by
  blk_point [iblk, V, idx t, rowOf]

/-- Block `t` of operand 10 is its rows from `512 t`. -/
theorem blk10 (r : Fin 512) (k : Fin 3) : iblk m c 10 t (ix2 r k) = m ((c : Thread nD τ).loc main_arg10) (ix2 (rowOf t r) k) := by
  blk_point [iblk, V, idx t, rowOf]

/-- Block `t` of operand 11 is its rows from `512 t`. -/
theorem blk11 (r : Fin 512) (k : Fin 3) : iblk m c 11 t (ix2 r k) = m ((c : Thread nD τ).loc main_arg11) (ix2 (rowOf t r) k) := by
  blk_point [iblk, V, idx t, rowOf]

/-- Block `t` of operand 12 is its rows from `512 t`. -/
theorem blk12 (r : Fin 512) (k : Fin 3) : iblk m c 12 t (ix2 r k) = m ((c : Thread nD τ).loc main_arg12) (ix2 (rowOf t r) k) := by
  blk_point [iblk, V, idx t, rowOf]

/-- Block `t` of operand 13 is its rows from `512 t`. -/
theorem blk13 (r : Fin 512) (k : Fin 3) : iblk m c 13 t (ix2 r k) = m ((c : Thread nD τ).loc main_arg13) (ix2 (rowOf t r) k) := by
  blk_point [iblk, V, idx t, rowOf]

/-- Block `t` of operand 14 is its rows from `512 t`. -/
theorem blk14 (r : Fin 512) (k : Fin 3) : iblk m c 14 t (ix2 r k) = m ((c : Thread nD τ).loc main_arg14) (ix2 (rowOf t r) k) := by
  blk_point [iblk, V, idx t, rowOf]

/-- Block `t` of operand 15 is its rows from `512 t`. -/
theorem blk15 (r : Fin 512) (k : Fin 3) : iblk m c 15 t (ix2 r k) = m ((c : Thread nD τ).loc main_arg15) (ix2 (rowOf t r) k) := by
  blk_point [iblk, V, idx t, rowOf]

/-- The block of operand 16 is the whole array. -/
theorem blk16 (k : Fin 128) (j : Fin 128) : iblk m c 16 t (ix2 k j) = m ((c : Thread nD τ).loc main_arg16) (ix2 k j) := by
  blk_point [iblk, V, idx t]

/-- The block of operand 17 is the whole array. -/
theorem blk17 (k : Fin 128) (j : Fin 128) : iblk m c 17 t (ix2 k j) = m ((c : Thread nD τ).loc main_arg17) (ix2 k j) := by
  blk_point [iblk, V, idx t]

/-- The block of operand 19 is the whole array. -/
theorem blk19 (k : Fin 128) (j : Fin 16) : iblk m c 19 t (ix2 k j) = m ((c : Thread nD τ).loc main_arg19) (ix2 k j) := by
  blk_point [iblk, V, idx t]

/-- The block of operand 18 is the whole row, which the host wrote from the vector argument. -/
theorem blk18 (j : Fin 128) : iblk m c 18 t (ix2 0 j) = m ((c : Thread nD τ).loc main_arg18) (ix1 j) := by
  blk_point [iblk, V, idx t]

/-- The block of operand 20 is the whole row, which the host wrote from the vector argument. -/
theorem blk20 (j : Fin 16) : iblk m c 20 t (ix2 0 j) = m ((c : Thread nD τ).loc main_arg20) (ix1 j) := by
  blk_point [iblk, V, idx t]

end

/-- What point `t`'s body leaves in the hidden output block, in terms of the argument arrays. -/
theorem pt21 (c : Dev nD) (t : Fin cfg0.grid.N) (s : Fin 8) (r : Fin 512) (j : Fin 128) :
    out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (ix3 s r j) = rowH m c (rowOf t r) (s.val + 1) j := by
  rw [out21_apply, kH_apply]
  simp only [inner_apply, blk0, blk1, blk2, blk3, blk4, blk5, blk6, blk7, blk8, blk9, blk10, blk11, blk12, blk13, blk14, blk15, blk16, blk17, blk18, blk19, blk20]
  rfl

/-- The source at an entry of point `t`'s block, in terms of the argument arrays. -/
theorem ptS (c : Dev nD) (t : Fin cfg0.grid.N) (r : Fin 512) (d : Fin 3) (e : Fin 16) :
    kS (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) d.val (ix2 r e) = rowS m c (rowOf t r) d e := by
  fin_cases d
  · exact (src0_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) r e).trans (by simp only [blk0, blk1, blk2, blk3, blk4, blk5, blk6, blk7, blk8, blk9, blk10, blk11, blk12, blk13, blk14, blk15, blk16, blk17, blk18, blk19, blk20]; rfl)
  · exact (src1_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) r e).trans (by simp only [blk0, blk1, blk2, blk3, blk4, blk5, blk6, blk7, blk8, blk9, blk10, blk11, blk12, blk13, blk14, blk15, blk16, blk17, blk18, blk19, blk20]; rfl)
  · exact (src2_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) r e).trans (by simp only [blk0, blk1, blk2, blk3, blk4, blk5, blk6, blk7, blk8, blk9, blk10, blk11, blk12, blk13, blk14, blk15, blk16, blk17, blk18, blk19, blk20]; rfl)

/-- What point `t`'s body leaves in the equivariant output block, in terms of the argument arrays. -/
theorem pt22 (c : Dev nD) (t : Fin cfg0.grid.N) (s : Fin 8) (r : Fin 512) (d : Fin 3) (e : Fin 16) :
    out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (ix4 s r d e) = rowE m c (rowOf t r) (s.val + 1) d e := by
  rw [out22_apply, kE_apply, ptS]
  simp only [inner_apply, blk0, blk1, blk2, blk3, blk4, blk5, blk6, blk7, blk8, blk9, blk10, blk11, blk12, blk13, blk14, blk15, blk16, blk17, blk18, blk19, blk20]
  rfl

end Cert.KernelIdeal.Layer

end
-- ==== Proof.LayerFinal.lean ====
/- The recurrent call's two result arrays after the run, whole. -/
module

public import proofs.«01_k».proof.Proof.LayerArray

@[expose] public section

set_option maxRecDepth 16384

noncomputable section

namespace Cert.KernelIdeal.Layer

open Idealize.ShloMosaic Idealize.ShloMosaic.TcCoe Idealize.SL.Sem Cert.KernelIdeal Cert.KernelIdeal.Gen

variable (m : (ℓ : Loc nD τ sig) → Buf (Elt Ideal) ℓ)

/-- Where entry (s, r, j) of point `t`'s hidden block lies in the array. -/
theorem emb21 (t : Fin cfg0.grid.N) (s : Fin 8) (r : Fin 512) (j : Fin 128) :
    ((cfg0.win 21).blk t).view.emb (ix3 s r j) = ix3 s (rowOf t r) j := by
  have h := (idx t).2.2.2.2.2.2.2.2.2.2.2.2.2.2.2.2.2.2.2.2.2.1
  funext a
  apply Fin.ext
  fin_cases a
  · show win0_21.index t 0 * 8 + 1 * s.val = s.val
    rw [h]; show 0 * 8 + 1 * s.val = s.val; omega
  · show win0_21.index t 1 * 512 + 1 * r.val = t.val * 512 + r.val
    rw [h]; show t.val * 512 + 1 * r.val = _; omega
  · show win0_21.index t 2 * 128 + 1 * j.val = j.val
    rw [h]; show 0 * 128 + 1 * j.val = j.val; omega

/-- Where entry (s, r, d, e) of point `t`'s equivariant block lies in the array. -/
theorem emb22 (t : Fin cfg0.grid.N) (s : Fin 8) (r : Fin 512) (d : Fin 3) (e : Fin 16) :
    ((cfg0.win 22).blk t).view.emb (ix4 s r d e) = ix4 s (rowOf t r) d e := by
  have h := (idx t).2.2.2.2.2.2.2.2.2.2.2.2.2.2.2.2.2.2.2.2.2.2
  funext a
  apply Fin.ext
  fin_cases a
  · show win0_22.index t 0 * 8 + 1 * s.val = s.val
    rw [h]; show 0 * 8 + 1 * s.val = s.val; omega
  · show win0_22.index t 1 * 512 + 1 * r.val = t.val * 512 + r.val
    rw [h]; show t.val * 512 + 1 * r.val = _; omega
  · show win0_22.index t 2 * 3 + 1 * d.val = d.val
    rw [h]; show 0 * 3 + 1 * d.val = d.val; omega
  · show win0_22.index t 3 * 16 + 1 * e.val = e.val
    rw [h]; show 0 * 16 + 1 * e.val = e.val; omega

/-- The hidden result as one function of its index. -/
def resH (c : Dev nD) (i : S8x4096x128.Idx) : EReal := rowH m c (i 1) ((i 0).val + 1) (i 2)

/-- The equivariant result as one function of its index. -/
def resE (c : Dev nD) (i : S8x4096x3x16.Idx) : EReal := rowE m c (i 1) ((i 0).val + 1) (i 2) (i 3)

/-- The hidden result: slab `s`, row `n` is row `n`'s hidden row after `s + 1` steps. -/
theorem final21 (c : Dev nD) : (dats m 0 c).arrAt 21 cfg0.N = resH m c := by
  refine (dats m 0 c).arrAt_eq_of_covers 21 _ (by decide +kernel) fun t hf y => ?_
  obtain ⟨s, r, j, rfl⟩ : ∃ (s : Fin 8) (r : Fin 512) (j : Fin 128), y = ix3 s r j := ⟨_, _, _, eq_ix3 y⟩
  rw [emb21 t s r j]
  blk_simp
  rw [after0_21]
  exact pt21 m c t s r j

/-- The equivariant result: slab `s`, row `n` is row `n`'s features after `s + 1` steps. -/
theorem final22 (c : Dev nD) : (dats m 0 c).arrAt 22 cfg0.N = resE m c := by
  refine (dats m 0 c).arrAt_eq_of_covers 22 _ (by decide +kernel) fun t hf y => ?_
  obtain ⟨s, r, d, e, rfl⟩ : ∃ (s : Fin 8) (r : Fin 512) (d : Fin 3) (e : Fin 16), y = ix4 s r d e := ⟨_, _, _, _, eq_ix4 y⟩
  rw [emb22 t s r d e]
  blk_simp
  rw [after0_22]
  exact pt22 m c t s r d e

end Cert.KernelIdeal.Layer

end
-- ==== Proof.LayerRef.lean ====
/- What the reference computes: its result arrays, entry by entry, as the row recurrence over the argument arrays. -/
module

public import proofs.«01_k».proof.Proof.Gen.ReferenceIdeal.Run
public import proofs.«01_k».proof.Proof.LayerSpec
public import Idealize.ShloMosaic.Lib.Pointwise
public import Idealize.ShloMosaic.Lib.IdealHost

@[expose] public section

set_option maxRecDepth 16384

noncomputable section

namespace Cert.ReferenceIdeal.Layer

open Idealize.ShloMosaic Idealize.SL.Sem Cert.ReferenceIdeal Cert.ReferenceIdeal.Gen Cert.ReferenceIdeal.Value

variable (V0 : Valuation τ sig (Elt Ideal))

/-- Row `n` of the pooled first stack. -/
def rowP (n : Fin 4096) (k : Fin 128) : EReal :=
  Cert.Layer.mean8 ![V0 (Proc.devRef .tc main_arg0) (ix2 n k), V0 (Proc.devRef .tc main_arg1) (ix2 n k), V0 (Proc.devRef .tc main_arg2) (ix2 n k), V0 (Proc.devRef .tc main_arg3) (ix2 n k), V0 (Proc.devRef .tc main_arg4) (ix2 n k), V0 (Proc.devRef .tc main_arg5) (ix2 n k), V0 (Proc.devRef .tc main_arg6) (ix2 n k), V0 (Proc.devRef .tc main_arg7) (ix2 n k)]

/-- The unchanging part of row `n`'s argument. -/
def rowA (n : Fin 4096) (j : Fin 128) : EReal :=
  Cert.Layer.inner (rowP V0 n) (fun k j => V0 (Proc.devRef .tc main_arg16) (ix2 k j)) (fun j => V0 (Proc.devRef .tc main_arg18) (ix1 j)) j

/-- Row `n`'s hidden row after `s` steps. -/
def rowH (n : Fin 4096) (s : ℕ) (j : Fin 128) : EReal :=
  Cert.Layer.hid (rowA V0 n) (fun k j => V0 (Proc.devRef .tc main_arg17) (ix2 k j)) s j

/-- Row `n`'s source at component `d` and channel `e`. -/
def rowS (n : Fin 4096) (d : Fin 3) (e : Fin 16) : EReal :=
  Cert.Layer.mean8 ![V0 (Proc.devRef .tc main_arg8) (ix2 n d), V0 (Proc.devRef .tc main_arg9) (ix2 n d), V0 (Proc.devRef .tc main_arg10) (ix2 n d), V0 (Proc.devRef .tc main_arg11) (ix2 n d), V0 (Proc.devRef .tc main_arg12) (ix2 n d), V0 (Proc.devRef .tc main_arg13) (ix2 n d), V0 (Proc.devRef .tc main_arg14) (ix2 n d), V0 (Proc.devRef .tc main_arg15) (ix2 n d)] * V0 (Proc.devRef .tc main_arg20) (ix1 e)

/-- Row `n`'s equivariant feature at component `d` and channel `e` after `s` steps. -/
def rowE (n : Fin 4096) (s : ℕ) (d : Fin 3) (e : Fin 16) : EReal :=
  Cert.Layer.equi (rowA V0 n) (fun k j => V0 (Proc.devRef .tc main_arg17) (ix2 k j)) (fun k e => V0 (Proc.devRef .tc main_arg19) (ix2 k e)) e (rowS V0 n d e) s

/-- The pooled first stack, as the reference writes it. -/
def poolR : FVec Ideal S4096x128 .f32 := (Host.divf (Host.reduceAdd (res_main_v10 V0) (constant S_ .f32 0x00000000#32) reducesTo_S4096x8x128_S4096x128_d1 h_S_) (broadcastInDim S4096x128 ![] bcast_S_S4096x128 (constant S_ .f32 0x41000000#32)))

/-- The pooled second stack, as the reference writes it. -/
def poolE : FVec Ideal S4096x3 .f32 := (Host.divf (Host.reduceAdd (res_main_v19 V0) (constant S_ .f32 0x00000000#32) reducesTo_S4096x8x3_S4096x3_d1 h_S_) (broadcastInDim S4096x3 ![] bcast_S_S4096x3 (constant S_ .f32 0x41000000#32)))

/-- One step of the hidden state, as the reference writes it. -/
def stepH (h : FVec Ideal S4096x128 .f32) : FVec Ideal S4096x128 .f32 := Host.tanh (addf (addf (Host.dotGeneral (φ₂ := .f32) dot_S4096x128_S128x128_S4096x128_1_0_0_1_n_n none (poolR V0) (V0 (Proc.devRef .tc main_arg16))) (Host.dotGeneral (φ₂ := .f32) dot_S4096x128_S128x128_S4096x128_1_0_0_1_n_n none h (V0 (Proc.devRef .tc main_arg17)))) (broadcastInDim S4096x128 ![0, 1] bcast_S1x128_S4096x128_0_1 (broadcastInDim S1x128 ![1] bcast_S128_S1x128_1 (V0 (Proc.devRef .tc main_arg18)))))

/-- One step of the equivariant features, as the reference writes it. -/
def stepE (h : FVec Ideal S4096x128 .f32) (e : FVec Ideal S4096x3x16 .f32) : FVec Ideal S4096x3x16 .f32 := addf (mulf e (broadcastInDim S4096x3x16 ![0, 1, 2] bcast_S4096x1x16_S4096x3x16_0_1_2 (broadcastInDim S4096x1x16 ![0, 2] bcast_S4096x16_S4096x1x16_0_2 (Host.divf (broadcastInDim S4096x16 ![] bcast_S_S4096x16 (constant S_ .f32 0x3F800000#32)) (addf (broadcastInDim S4096x16 ![] bcast_S_S4096x16 (constant S_ .f32 0x3F800000#32)) (Host.exp (Host.negf (Host.dotGeneral (φ₂ := .f32) dot_S4096x128_S128x16_S4096x16_1_0_0_1_n_n none h (V0 (Proc.devRef .tc main_arg19)))))))))) (mulf (broadcastInDim S4096x3x16 ![0, 1, 2] bcast_S4096x3x1_S4096x3x16_0_1_2 (broadcastInDim S4096x3x1 ![0, 1] bcast_S4096x3_S4096x3x1_0_1 (poolE V0))) (broadcastInDim S4096x3x16 ![0, 1, 2] bcast_S1x1x16_S4096x3x16_0_1_2 (broadcastInDim S1x1x16 ![2] bcast_S16_S1x1x16_2 (V0 (Proc.devRef .tc main_arg20)))))

/-- The reference's hidden state after `s` steps. -/
def refH : ℕ → FVec Ideal S4096x128 .f32
  | 0 => (broadcastInDim S4096x128 ![] bcast_S_S4096x128 (constant S_ .f32 0x00000000#32))
  | s + 1 => stepH V0 (refH s)

/-- The reference's equivariant features after `s` steps. -/
def refE : ℕ → FVec Ideal S4096x3x16 .f32
  | 0 => (broadcastInDim S4096x3x16 ![] bcast_S_S4096x3x16 (constant S_ .f32 0x00000000#32))
  | s + 1 => stepE V0 (refH V0 (s + 1)) (refE s)

/-- Eight, as the reference's constant writes it. -/
theorem ofBits_eight : Ideal.ofBits .f32 0x41000000#32 = ((8 : ℝ) : EReal) := by
  simp [Ideal.ofBits, Ideal.ieee]
  rw [← EReal.coe_mul]
  norm_num

/-- The pooled first stack at an entry. -/
theorem poolR_apply (n : Fin 4096) (k : Fin 128) : poolR V0 (ix2 n k) = rowP V0 n k := by
  unfold poolR rowP Cert.Layer.mean8
  pointwise [res_main_v10, Fin.sum_univ_eight, ofBits_eight]
  exact Ideal.div_coe (by norm_num) _

/-- The pooled second stack at an entry. -/
theorem poolE_apply (n : Fin 4096) (d : Fin 3) : poolE V0 (ix2 n d) = Cert.Layer.mean8 ![V0 (Proc.devRef .tc main_arg8) (ix2 n d), V0 (Proc.devRef .tc main_arg9) (ix2 n d), V0 (Proc.devRef .tc main_arg10) (ix2 n d), V0 (Proc.devRef .tc main_arg11) (ix2 n d), V0 (Proc.devRef .tc main_arg12) (ix2 n d), V0 (Proc.devRef .tc main_arg13) (ix2 n d), V0 (Proc.devRef .tc main_arg14) (ix2 n d), V0 (Proc.devRef .tc main_arg15) (ix2 n d)] := by
  unfold poolE Cert.Layer.mean8
  pointwise [res_main_v19, Fin.sum_univ_eight, ofBits_eight]
  exact Ideal.div_coe (by norm_num) _

/-- The reference's hidden state at an entry is the row recurrence's. -/
theorem refH_apply (s : ℕ) (n : Fin 4096) (j : Fin 128) : refH V0 s (ix2 n j) = rowH V0 n s j := by
  induction s generalizing j with
  | zero =>
    unfold refH rowH Cert.Layer.hid
    pointwise
  | succ s ih =>
    unfold refH rowH Cert.Layer.hid rowA Cert.Layer.inner
    have hp := poolR_apply V0 n
    unfold rowH rowA at ih
    unfold Cert.Layer.inner at ih
    simp only [← hp] at ih ⊢
    simp only [← ih]
    unfold stepH
    pointwise
    rw [add_right_comm]

/-- The reference's equivariant features at an entry are the row recurrence's. -/
theorem refE_apply (s : ℕ) (n : Fin 4096) (d : Fin 3) (e : Fin 16) : refE V0 s (ix3 n d e) = rowE V0 n s d e := by
  induction s with
  | zero =>
    unfold refE rowE Cert.Layer.equi
    pointwise
  | succ s ih =>
    unfold refE rowE Cert.Layer.equi Cert.Layer.gate
    unfold rowE at ih
    rw [← ih]
    have hh := fun k => refH_apply V0 (s + 1) n k
    unfold rowH at hh
    simp only [← hh]
    unfold rowS
    rw [← poolE_apply]
    unfold stepE
    pointwise
    rfl

/-- The reference's hidden state after step 1, by its name in the run. -/
theorem refH_1 : res_main_v32 V0 = refH V0 1 := by
  rfl

/-- The reference's hidden state after step 2, by its name in the run. -/
theorem refH_2 : res_main_v61 V0 = refH V0 2 := by
  show stepH V0 (res_main_v32 V0) = _
  rw [refH_1]
  rfl

/-- The reference's hidden state after step 3, by its name in the run. -/
theorem refH_3 : res_main_v90 V0 = refH V0 3 := by
  show stepH V0 (res_main_v61 V0) = _
  rw [refH_2]
  rfl

/-- The reference's hidden state after step 4, by its name in the run. -/
theorem refH_4 : res_main_v119 V0 = refH V0 4 := by
  show stepH V0 (res_main_v90 V0) = _
  rw [refH_3]
  rfl

/-- The reference's hidden state after step 5, by its name in the run. -/
theorem refH_5 : res_main_v148 V0 = refH V0 5 := by
  show stepH V0 (res_main_v119 V0) = _
  rw [refH_4]
  rfl

/-- The reference's hidden state after step 6, by its name in the run. -/
theorem refH_6 : res_main_v177 V0 = refH V0 6 := by
  show stepH V0 (res_main_v148 V0) = _
  rw [refH_5]
  rfl

/-- The reference's hidden state after step 7, by its name in the run. -/
theorem refH_7 : res_main_v206 V0 = refH V0 7 := by
  show stepH V0 (res_main_v177 V0) = _
  rw [refH_6]
  rfl

/-- The reference's hidden state after step 8, by its name in the run. -/
theorem refH_8 : res_main_v235 V0 = refH V0 8 := by
  show stepH V0 (res_main_v206 V0) = _
  rw [refH_7]
  rfl

/-- The reference's features after step 1, by their name in the run. -/
theorem refE_1 : res_main_v48 V0 = refE V0 1 := by
  show stepE V0 (res_main_v32 V0) _ = _
  rw [refH_1]
  rfl

/-- The reference's features after step 2, by their name in the run. -/
theorem refE_2 : res_main_v77 V0 = refE V0 2 := by
  show stepE V0 (res_main_v61 V0) (res_main_v48 V0) = _
  rw [refE_1, refH_2]
  rfl

/-- The reference's features after step 3, by their name in the run. -/
theorem refE_3 : res_main_v106 V0 = refE V0 3 := by
  show stepE V0 (res_main_v90 V0) (res_main_v77 V0) = _
  rw [refE_2, refH_3]
  rfl

/-- The reference's features after step 4, by their name in the run. -/
theorem refE_4 : res_main_v135 V0 = refE V0 4 := by
  show stepE V0 (res_main_v119 V0) (res_main_v106 V0) = _
  rw [refE_3, refH_4]
  rfl

/-- The reference's features after step 5, by their name in the run. -/
theorem refE_5 : res_main_v164 V0 = refE V0 5 := by
  show stepE V0 (res_main_v148 V0) (res_main_v135 V0) = _
  rw [refE_4, refH_5]
  rfl

/-- The reference's features after step 6, by their name in the run. -/
theorem refE_6 : res_main_v193 V0 = refE V0 6 := by
  show stepE V0 (res_main_v177 V0) (res_main_v164 V0) = _
  rw [refE_5, refH_6]
  rfl

/-- The reference's features after step 7, by their name in the run. -/
theorem refE_7 : res_main_v222 V0 = refE V0 7 := by
  show stepE V0 (res_main_v206 V0) (res_main_v193 V0) = _
  rw [refE_6, refH_7]
  rfl

/-- The hidden result as one function of its index. -/
def resH (i : S8x4096x128.Idx) : EReal := rowH V0 (i 1) ((i 0).val + 1) (i 2)

/-- The equivariant result as one function of its index. -/
def resE (i : S8x4096x3x16.Idx) : EReal := rowE V0 (i 1) ((i 0).val + 1) (i 2) (i 3)

/-- The reference's features after the last step, as the run spells them. -/
theorem refE_8 : (addf (mulf (res_main_v222 V0) (broadcastInDim S4096x3x16 ![0, 1, 2] bcast_S4096x1x16_S4096x3x16_0_1_2 (broadcastInDim S4096x1x16 ![0, 2] bcast_S4096x16_S4096x1x16_0_2 (Host.divf (broadcastInDim S4096x16 ![] bcast_S_S4096x16 (constant S_ .f32 0x3F800000#32)) (addf (broadcastInDim S4096x16 ![] bcast_S_S4096x16 (constant S_ .f32 0x3F800000#32)) (Host.exp (Host.negf (Host.dotGeneral (φ₁ := .f32) (φ₂ := .f32) dot_S4096x128_S128x16_S4096x16_1_0_0_1_n_n none (res_main_v235 V0) (V0 (Proc.devRef .tc main_arg19)))))))))) (mulf (broadcastInDim S4096x3x16 ![0, 1, 2] bcast_S4096x3x1_S4096x3x16_0_1_2 (broadcastInDim S4096x3x1 ![0, 1] bcast_S4096x3_S4096x3x1_0_1 (Host.divf (Host.reduceAdd (res_main_v19 V0) (constant S_ .f32 0x00000000#32) reducesTo_S4096x8x3_S4096x3_d1 h_S_) (broadcastInDim S4096x3 ![] bcast_S_S4096x3 (constant S_ .f32 0x41000000#32))))) (broadcastInDim S4096x3x16 ![0, 1, 2] bcast_S1x1x16_S4096x3x16_0_1_2 (broadcastInDim S1x1x16 ![2] bcast_S16_S1x1x16_2 (V0 (Proc.devRef .tc main_arg20)))))) = refE V0 8 := by
  show stepE V0 (res_main_v235 V0) (res_main_v222 V0) = _
  rw [refE_7, refH_8]
  rfl

/-- The reference's hidden result, read whole. -/
theorem outH : (concatenate S8x4096x128 0 [⟨S1x4096x128, ((broadcastInDim S1x4096x128 ![1, 2] bcast_S4096x128_S1x4096x128_1_2 (res_main_v32 V0)) : (⟨S1x4096x128, .f32⟩ : BufTy).Contents (Elt Ideal))⟩, ⟨S1x4096x128, ((broadcastInDim S1x4096x128 ![1, 2] bcast_S4096x128_S1x4096x128_1_2 (res_main_v61 V0)) : (⟨S1x4096x128, .f32⟩ : BufTy).Contents (Elt Ideal))⟩, ⟨S1x4096x128, ((broadcastInDim S1x4096x128 ![1, 2] bcast_S4096x128_S1x4096x128_1_2 (res_main_v90 V0)) : (⟨S1x4096x128, .f32⟩ : BufTy).Contents (Elt Ideal))⟩, ⟨S1x4096x128, ((broadcastInDim S1x4096x128 ![1, 2] bcast_S4096x128_S1x4096x128_1_2 (res_main_v119 V0)) : (⟨S1x4096x128, .f32⟩ : BufTy).Contents (Elt Ideal))⟩, ⟨S1x4096x128, ((broadcastInDim S1x4096x128 ![1, 2] bcast_S4096x128_S1x4096x128_1_2 (res_main_v148 V0)) : (⟨S1x4096x128, .f32⟩ : BufTy).Contents (Elt Ideal))⟩, ⟨S1x4096x128, ((broadcastInDim S1x4096x128 ![1, 2] bcast_S4096x128_S1x4096x128_1_2 (res_main_v177 V0)) : (⟨S1x4096x128, .f32⟩ : BufTy).Contents (Elt Ideal))⟩, ⟨S1x4096x128, ((broadcastInDim S1x4096x128 ![1, 2] bcast_S4096x128_S1x4096x128_1_2 (res_main_v206 V0)) : (⟨S1x4096x128, .f32⟩ : BufTy).Contents (Elt Ideal))⟩, ⟨S1x4096x128, ((broadcastInDim S1x4096x128 ![1, 2] bcast_S4096x128_S1x4096x128_1_2 (res_main_v235 V0)) : (⟨S1x4096x128, .f32⟩ : BufTy).Contents (Elt Ideal))⟩] concatenates_S1x4096x128_S1x4096x128_S1x4096x128_S1x4096x128_S1x4096x128_S1x4096x128_S1x4096x128_S1x4096x128_S8x4096x128_d0 : (⟨S8x4096x128, .f32⟩ : BufTy).Contents (Elt Ideal)) = resH V0 := by
  rw [refH_1, refH_2, refH_3, refH_4, refH_5, refH_6, refH_7, refH_8]
  funext i
  obtain ⟨s, n, j, rfl⟩ : ∃ (s : Fin 8) (n : Fin 4096) (j : Fin 128), i = ix3 s n j := ⟨_, _, _, eq_ix3 i⟩
  show _ = rowH V0 n (s.val + 1) j
  rw [← refH_apply]
  fin_cases s <;> pointwise

/-- The reference's equivariant result, read whole. -/
theorem outE : (concatenate S8x4096x3x16 0 [⟨S1x4096x3x16, ((broadcastInDim S1x4096x3x16 ![1, 2, 3] bcast_S4096x3x16_S1x4096x3x16_1_2_3 (res_main_v48 V0)) : (⟨S1x4096x3x16, .f32⟩ : BufTy).Contents (Elt Ideal))⟩, ⟨S1x4096x3x16, ((broadcastInDim S1x4096x3x16 ![1, 2, 3] bcast_S4096x3x16_S1x4096x3x16_1_2_3 (res_main_v77 V0)) : (⟨S1x4096x3x16, .f32⟩ : BufTy).Contents (Elt Ideal))⟩, ⟨S1x4096x3x16, ((broadcastInDim S1x4096x3x16 ![1, 2, 3] bcast_S4096x3x16_S1x4096x3x16_1_2_3 (res_main_v106 V0)) : (⟨S1x4096x3x16, .f32⟩ : BufTy).Contents (Elt Ideal))⟩, ⟨S1x4096x3x16, ((broadcastInDim S1x4096x3x16 ![1, 2, 3] bcast_S4096x3x16_S1x4096x3x16_1_2_3 (res_main_v135 V0)) : (⟨S1x4096x3x16, .f32⟩ : BufTy).Contents (Elt Ideal))⟩, ⟨S1x4096x3x16, ((broadcastInDim S1x4096x3x16 ![1, 2, 3] bcast_S4096x3x16_S1x4096x3x16_1_2_3 (res_main_v164 V0)) : (⟨S1x4096x3x16, .f32⟩ : BufTy).Contents (Elt Ideal))⟩, ⟨S1x4096x3x16, ((broadcastInDim S1x4096x3x16 ![1, 2, 3] bcast_S4096x3x16_S1x4096x3x16_1_2_3 (res_main_v193 V0)) : (⟨S1x4096x3x16, .f32⟩ : BufTy).Contents (Elt Ideal))⟩, ⟨S1x4096x3x16, ((broadcastInDim S1x4096x3x16 ![1, 2, 3] bcast_S4096x3x16_S1x4096x3x16_1_2_3 (res_main_v222 V0)) : (⟨S1x4096x3x16, .f32⟩ : BufTy).Contents (Elt Ideal))⟩, ⟨S1x4096x3x16, ((broadcastInDim S1x4096x3x16 ![1, 2, 3] bcast_S4096x3x16_S1x4096x3x16_1_2_3 (addf (mulf (res_main_v222 V0) (broadcastInDim S4096x3x16 ![0, 1, 2] bcast_S4096x1x16_S4096x3x16_0_1_2 (broadcastInDim S4096x1x16 ![0, 2] bcast_S4096x16_S4096x1x16_0_2 (Host.divf (broadcastInDim S4096x16 ![] bcast_S_S4096x16 (constant S_ .f32 0x3F800000#32)) (addf (broadcastInDim S4096x16 ![] bcast_S_S4096x16 (constant S_ .f32 0x3F800000#32)) (Host.exp (Host.negf (Host.dotGeneral (φ₁ := .f32) (φ₂ := .f32) dot_S4096x128_S128x16_S4096x16_1_0_0_1_n_n none (res_main_v235 V0) (V0 (Proc.devRef .tc main_arg19)))))))))) (mulf (broadcastInDim S4096x3x16 ![0, 1, 2] bcast_S4096x3x1_S4096x3x16_0_1_2 (broadcastInDim S4096x3x1 ![0, 1] bcast_S4096x3_S4096x3x1_0_1 (Host.divf (Host.reduceAdd (res_main_v19 V0) (constant S_ .f32 0x00000000#32) reducesTo_S4096x8x3_S4096x3_d1 h_S_) (broadcastInDim S4096x3 ![] bcast_S_S4096x3 (constant S_ .f32 0x41000000#32))))) (broadcastInDim S4096x3x16 ![0, 1, 2] bcast_S1x1x16_S4096x3x16_0_1_2 (broadcastInDim S1x1x16 ![2] bcast_S16_S1x1x16_2 (V0 (Proc.devRef .tc main_arg20))))))) : (⟨S1x4096x3x16, .f32⟩ : BufTy).Contents (Elt Ideal))⟩] concatenates_S1x4096x3x16_S1x4096x3x16_S1x4096x3x16_S1x4096x3x16_S1x4096x3x16_S1x4096x3x16_S1x4096x3x16_S1x4096x3x16_S8x4096x3x16_d0 : (⟨S8x4096x3x16, .f32⟩ : BufTy).Contents (Elt Ideal)) = resE V0 := by
  rw [refE_8, refE_1, refE_2, refE_3, refE_4, refE_5, refE_6, refE_7]
  funext i
  obtain ⟨s, n, d, e, rfl⟩ : ∃ (s : Fin 8) (n : Fin 4096) (d : Fin 3) (e : Fin 16), i = ix4 s n d e := ⟨_, _, _, _, eq_ix4 i⟩
  show _ = rowE V0 n (s.val + 1) d e
  rw [← refE_apply]
  fin_cases s <;> pointwise

end Cert.ReferenceIdeal.Layer

end
-- ==== Proof.LayerClaims.lean ====
/- The reference's frame, and the equation of the kernel's two results with the reference's. -/
module

public import proofs.«01_k».proof.Defs
public import proofs.«01_k».proof.Proof.LayerFinal
public import proofs.«01_k».proof.Proof.LayerRef

@[expose] public section

noncomputable section

namespace Cert.Layer

open Idealize.ShloMosaic Idealize.ShloMosaic.StableHlo Idealize.SL.Sem

/-- The reference leaves its arguments as they were and its counters at zero. -/
theorem frame_ref : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (hagree : ∀ c : Dev Cert.KernelIdeal.nD, m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0) ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1) ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2) ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3) ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4) ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5) ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6) ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7) ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8) ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9) ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10) ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11) ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12) ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13) ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14) ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15) ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16) ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17) ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18) ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19) ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
include hagree

/-- On arguments that agree, the reference's hidden result and equivariant result are the kernel's. -/
theorem results_eq (c : Dev Cert.KernelIdeal.nD) :
    Cert.ReferenceIdeal.Layer.resH (launchContents m' c) = Cert.KernelIdeal.Layer.resH m c
    ∧ Cert.ReferenceIdeal.Layer.resE (launchContents m' c) = Cert.KernelIdeal.Layer.resE m c := by
  have a0 : launchContents m' c (Proc.devRef .tc Cert.ReferenceIdeal.main_arg0) = m ((c.tc : Thread Cert.KernelIdeal.nD Cert.KernelIdeal.τ).loc Cert.KernelIdeal.main_arg0) := (hagree c).1
  have a1 : launchContents m' c (Proc.devRef .tc Cert.ReferenceIdeal.main_arg1) = m ((c.tc : Thread Cert.KernelIdeal.nD Cert.KernelIdeal.τ).loc Cert.KernelIdeal.main_arg1) := (hagree c).2.1
  have a2 : launchContents m' c (Proc.devRef .tc Cert.ReferenceIdeal.main_arg2) = m ((c.tc : Thread Cert.KernelIdeal.nD Cert.KernelIdeal.τ).loc Cert.KernelIdeal.main_arg2) := (hagree c).2.2.1
  have a3 : launchContents m' c (Proc.devRef .tc Cert.ReferenceIdeal.main_arg3) = m ((c.tc : Thread Cert.KernelIdeal.nD Cert.KernelIdeal.τ).loc Cert.KernelIdeal.main_arg3) := (hagree c).2.2.2.1
  have a4 : launchContents m' c (Proc.devRef .tc Cert.ReferenceIdeal.main_arg4) = m ((c.tc : Thread Cert.KernelIdeal.nD Cert.KernelIdeal.τ).loc Cert.KernelIdeal.main_arg4) := (hagree c).2.2.2.2.1
  have a5 : launchContents m' c (Proc.devRef .tc Cert.ReferenceIdeal.main_arg5) = m ((c.tc : Thread Cert.KernelIdeal.nD Cert.KernelIdeal.τ).loc Cert.KernelIdeal.main_arg5) := (hagree c).2.2.2.2.2.1
  have a6 : launchContents m' c (Proc.devRef .tc Cert.ReferenceIdeal.main_arg6) = m ((c.tc : Thread Cert.KernelIdeal.nD Cert.KernelIdeal.τ).loc Cert.KernelIdeal.main_arg6) := (hagree c).2.2.2.2.2.2.1
  have a7 : launchContents m' c (Proc.devRef .tc Cert.ReferenceIdeal.main_arg7) = m ((c.tc : Thread Cert.KernelIdeal.nD Cert.KernelIdeal.τ).loc Cert.KernelIdeal.main_arg7) := (hagree c).2.2.2.2.2.2.2.1
  have a8 : launchContents m' c (Proc.devRef .tc Cert.ReferenceIdeal.main_arg8) = m ((c.tc : Thread Cert.KernelIdeal.nD Cert.KernelIdeal.τ).loc Cert.KernelIdeal.main_arg8) := (hagree c).2.2.2.2.2.2.2.2.1
  have a9 : launchContents m' c (Proc.devRef .tc Cert.ReferenceIdeal.main_arg9) = m ((c.tc : Thread Cert.KernelIdeal.nD Cert.KernelIdeal.τ).loc Cert.KernelIdeal.main_arg9) := (hagree c).2.2.2.2.2.2.2.2.2.1
  have a10 : launchContents m' c (Proc.devRef .tc Cert.ReferenceIdeal.main_arg10) = m ((c.tc : Thread Cert.KernelIdeal.nD Cert.KernelIdeal.τ).loc Cert.KernelIdeal.main_arg10) := (hagree c).2.2.2.2.2.2.2.2.2.2.1
  have a11 : launchContents m' c (Proc.devRef .tc Cert.ReferenceIdeal.main_arg11) = m ((c.tc : Thread Cert.KernelIdeal.nD Cert.KernelIdeal.τ).loc Cert.KernelIdeal.main_arg11) := (hagree c).2.2.2.2.2.2.2.2.2.2.2.1
  have a12 : launchContents m' c (Proc.devRef .tc Cert.ReferenceIdeal.main_arg12) = m ((c.tc : Thread Cert.KernelIdeal.nD Cert.KernelIdeal.τ).loc Cert.KernelIdeal.main_arg12) := (hagree c).2.2.2.2.2.2.2.2.2.2.2.2.1
  have a13 : launchContents m' c (Proc.devRef .tc Cert.ReferenceIdeal.main_arg13) = m ((c.tc : Thread Cert.KernelIdeal.nD Cert.KernelIdeal.τ).loc Cert.KernelIdeal.main_arg13) := (hagree c).2.2.2.2.2.2.2.2.2.2.2.2.2.1
  have a14 : launchContents m' c (Proc.devRef .tc Cert.ReferenceIdeal.main_arg14) = m ((c.tc : Thread Cert.KernelIdeal.nD Cert.KernelIdeal.τ).loc Cert.KernelIdeal.main_arg14) := (hagree c).2.2.2.2.2.2.2.2.2.2.2.2.2.2.1
  have a15 : launchContents m' c (Proc.devRef .tc Cert.ReferenceIdeal.main_arg15) = m ((c.tc : Thread Cert.KernelIdeal.nD Cert.KernelIdeal.τ).loc Cert.KernelIdeal.main_arg15) := (hagree c).2.2.2.2.2.2.2.2.2.2.2.2.2.2.2.1
  have a16 : launchContents m' c (Proc.devRef .tc Cert.ReferenceIdeal.main_arg16) = m ((c.tc : Thread Cert.KernelIdeal.nD Cert.KernelIdeal.τ).loc Cert.KernelIdeal.main_arg16) := (hagree c).2.2.2.2.2.2.2.2.2.2.2.2.2.2.2.2.1
  have a17 : launchContents m' c (Proc.devRef .tc Cert.ReferenceIdeal.main_arg17) = m ((c.tc : Thread Cert.KernelIdeal.nD Cert.KernelIdeal.τ).loc Cert.KernelIdeal.main_arg17) := (hagree c).2.2.2.2.2.2.2.2.2.2.2.2.2.2.2.2.2.1
  have a18 : launchContents m' c (Proc.devRef .tc Cert.ReferenceIdeal.main_arg18) = m ((c.tc : Thread Cert.KernelIdeal.nD Cert.KernelIdeal.τ).loc Cert.KernelIdeal.main_arg18) := (hagree c).2.2.2.2.2.2.2.2.2.2.2.2.2.2.2.2.2.2.1
  have a19 : launchContents m' c (Proc.devRef .tc Cert.ReferenceIdeal.main_arg19) = m ((c.tc : Thread Cert.KernelIdeal.nD Cert.KernelIdeal.τ).loc Cert.KernelIdeal.main_arg19) := (hagree c).2.2.2.2.2.2.2.2.2.2.2.2.2.2.2.2.2.2.2.1
  have a20 : launchContents m' c (Proc.devRef .tc Cert.ReferenceIdeal.main_arg20) = m ((c.tc : Thread Cert.KernelIdeal.nD Cert.KernelIdeal.τ).loc Cert.KernelIdeal.main_arg20) := (hagree c).2.2.2.2.2.2.2.2.2.2.2.2.2.2.2.2.2.2.2.2
  constructor <;> funext i
  · unfold Cert.ReferenceIdeal.Layer.resH Cert.ReferenceIdeal.Layer.rowH Cert.ReferenceIdeal.Layer.rowA Cert.ReferenceIdeal.Layer.rowP
    rw [a0, a1, a2, a3, a4, a5, a6, a7, a16, a17, a18]
    rfl
  · unfold Cert.ReferenceIdeal.Layer.resE Cert.ReferenceIdeal.Layer.rowE Cert.ReferenceIdeal.Layer.rowA Cert.ReferenceIdeal.Layer.rowP Cert.ReferenceIdeal.Layer.rowS
    rw [a0, a1, a2, a3, a4, a5, a6, a7, a8, a9, a10, a11, a12, a13, a14, a15, a16, a17, a18, a19, a20]
    rfl

end

/-- Over the extended reals, on arguments that agree, the kernel's two results are the reference's. -/
theorem algebraic : Cert.algebraic_KernelIdeal_ReferenceIdeal := by
  intro m g m' g' _ hagree
  refine ⟨fun c => Cert.KernelIdeal.Layer.resH m c, fun c => Cert.KernelIdeal.Layer.resE m c, ?_, ?_⟩
  · exact (θ_run Cert.KernelIdeal.defs _ _).mono
      (fun _ h c => ⟨(h c).1.trans (Cert.KernelIdeal.Layer.final21 m c), (h c).2.1.trans (Cert.KernelIdeal.Layer.final22 m c), (h c).2.2⟩)
      (Cert.KernelIdeal.Value.run_blocks m g)
  · exact (θ_run Cert.ReferenceIdeal.defs _ _).mono
      (fun _ h c => ⟨((h c).1.trans (Cert.ReferenceIdeal.Layer.outH (launchContents m' c))).trans (results_eq m m' hagree c).1,
        ((h c).2.1.trans (Cert.ReferenceIdeal.Layer.outE (launchContents m' c))).trans (results_eq m m' hagree c).2, (h c).2.2⟩)
      (Cert.ReferenceIdeal.Value.run m' g')

end Cert.Layer

end
-- ==== Proof.IdealNames.lean ====
/- Names for the pieces the gather body works on: row `k` of slot `s` of each scratch buffer, the cell that row's
   transfer completes on, and the source row a table word names. Each printed slice of the body is one of them. -/
module

public import proofs.«01_k».proof.Defs
public import proofs.«01_k».proof.Proof.Gen.GatherIdeal.Launch
public import proofs.«01_k».proof.Proof.Gen.GatherIdeal.Skeleton
public import Idealize.ShloMosaic.Lib.Pipeline.Frame
public import Idealize.ShloMosaic.Lib.Ring
public import Idealize.ShloMosaic.Lib.Transfers
public import Idealize.ShloMosaic.Lib.Tactic

@[expose] public section

noncomputable section

namespace Cert.GatherIdealWork

open Cert.GatherIdeal Cert.GatherIdeal.Gen
open Idealize.ShloMosaic
open Idealize.ShloMosaic.TcCoe Idealize.ShloMosaic.Tactic

abbrev invM : Memref sig .tc .hbm S4096x1x128 .f32 := Memref.whole main_arg1
abbrev eqM : Memref sig .tc .hbm S4096x1x3 .f32 := Memref.whole main_arg2
abbrev ibM : Memref sig .tc .vmem S2x16x1x128 .f32 := Memref.whole cc0_scratch0
abbrev ebM : Memref sig .tc .vmem S2x16x1x3 .f32 := Memref.whole cc0_scratch1

/-! ## Offsets -/

abbrev rowOff (s : Fin 2) (k : Fin 16) : Fin 4 → Nat := ![s.val, k.val, 0, 0]
abbrev cellOff (s : Fin 2) (k : Fin 16) : Fin 2 → Nat := ![s.val, k.val]
/-- The row a word names, kept inside the array. -/
def rowOf (v : BitVec 32) : Fin 4096 := ⟨min v.toNat 4095, by omega⟩
theorem rowOf_val {v : BitVec 32} (h : v.toNat < 4096) : (rowOf v).val = v.toNat := by
  show min v.toNat 4095 = _; omega
abbrev srcOff (r : Fin 4096) : Fin 3 → Nat := ![r.val, 0, 0]

theorem rowOff_inb_i (s : Fin 2) (k : Fin 16) : ∀ a, rowOff s k a + S1x1x1x128.size a ≤ S2x16x1x128.size a := by
  have := s.isLt; have := k.isLt; intro a; fin_cases a
  · show s.val + 1 ≤ 2; omega
  · show k.val + 1 ≤ 16; omega
  · show 0 + 1 ≤ 1; omega
  · show 0 + 128 ≤ 128; omega
theorem rowOff_inb_e (s : Fin 2) (k : Fin 16) : ∀ a, rowOff s k a + S1x1x1x3.size a ≤ S2x16x1x3.size a := by
  have := s.isLt; have := k.isLt; intro a; fin_cases a
  · show s.val + 1 ≤ 2; omega
  · show k.val + 1 ≤ 16; omega
  · show 0 + 1 ≤ 1; omega
  · show 0 + 3 ≤ 3; omega
theorem cellOff_inb (s : Fin 2) (k : Fin 16) : ∀ a, cellOff s k a + S1x1.size a ≤ S2x16.size a := by
  have := s.isLt; have := k.isLt; intro a; fin_cases a
  · show s.val + 1 ≤ 2; omega
  · show k.val + 1 ≤ 16; omega
theorem srcOff_inb_i (r : Fin 4096) : ∀ a, srcOff r a + S1x1x128.size a ≤ S4096x1x128.size a := by
  have := r.isLt; intro a; fin_cases a
  · show r.val + 1 ≤ 4096; omega
  · show 0 + 1 ≤ 1; omega
  · show 0 + 128 ≤ 128; omega
theorem srcOff_inb_e (r : Fin 4096) : ∀ a, srcOff r a + S1x1x3.size a ≤ S4096x1x3.size a := by
  have := r.isLt; intro a; fin_cases a
  · show r.val + 1 ≤ 4096; omega
  · show 0 + 1 ≤ 1; omega
  · show 0 + 3 ≤ 3; omega

/-! ## The names -/

/-- Row `k` of slot `s` of the buffer of feature rows. -/
def irow (s : Fin 2) (k : Fin 16) : Memref sig .tc .vmem S1x128 .f32 :=
  (ibM.slice (Rect.unit (s := S2x16x1x128) (rowOff s k) S1x1x1x128.size (rowOff_inb_i s k)) (fun _ => rfl)).squeeze S1x128 squeezes_S1x1x1x128_S1x128
/-- Row `k` of slot `s` of the buffer of coordinate rows. -/
def erow (s : Fin 2) (k : Fin 16) : Memref sig .tc .vmem S1x3 .f32 :=
  (ebM.slice (Rect.unit (s := S2x16x1x3) (rowOff s k) S1x1x1x3.size (rowOff_inb_e s k)) (fun _ => rfl)).squeeze S1x3 squeezes_S1x1x1x3_S1x3
/-- The cells of row `k` of slot `s`. -/
def icel (s : Fin 2) (k : Fin 16) : DmaSems sig S_ :=
  (cc0_scratch2.slice (Rect.unit (s := S2x16) (cellOff s k) S1x1.size (cellOff_inb s k))).squeeze S_ squeezes_S1x1_S_
def ecel (s : Fin 2) (k : Fin 16) : DmaSems sig S_ :=
  (cc0_scratch3.slice (Rect.unit (s := S2x16) (cellOff s k) S1x1.size (cellOff_inb s k))).squeeze S_ squeezes_S1x1_S_
/-- The row of the feature array, and of the coordinate array, a word names. -/
def isrc (v : BitVec 32) : Memref sig .tc .hbm S1x128 .f32 :=
  (invM.slice (Rect.unit (s := S4096x1x128) (srcOff (rowOf v)) S1x1x128.size (srcOff_inb_i (rowOf v))) (fun _ => rfl)).squeeze S1x128 squeezes_S1x1x128_S1x128
def esrc (v : BitVec 32) : Memref sig .tc .hbm S1x3 .f32 :=
  (eqM.slice (Rect.unit (s := S4096x1x3) (srcOff (rowOf v)) S1x1x3.size (srcOff_inb_e (rowOf v))) (fun _ => rfl)).squeeze S1x3 squeezes_S1x1x3_S1x3

instance (s : Fin 2) (k : Fin 16) : ClosedOff (rowOff s k) := ⟨rowOff s k, rfl⟩
instance (s : Fin 2) (k : Fin 16) : ClosedOff (cellOff s k) := ⟨cellOff s k, rfl⟩
instance (r : Fin 4096) : ClosedOff (srcOff r) := ⟨srcOff r, rfl⟩

theorem irow_congr {off : Fin 4 → Nat} {s : Fin 2} {k : Fin 16} (e : off = rowOff s k) (hh hs) :
    (ibM.slice (Rect.unit (s := S2x16x1x128) off S1x1x1x128.size hh) hs).squeeze S1x128 squeezes_S1x1x1x128_S1x128 = irow s k :=
  congrArg (fun M : Memref sig .tc .vmem S1x1x1x128 .f32 => M.squeeze S1x128 squeezes_S1x1x1x128_S1x128) (Memref.slice_unit_congr _ e _ _ _ _)
theorem erow_congr {off : Fin 4 → Nat} {s : Fin 2} {k : Fin 16} (e : off = rowOff s k) (hh hs) :
    (ebM.slice (Rect.unit (s := S2x16x1x3) off S1x1x1x3.size hh) hs).squeeze S1x3 squeezes_S1x1x1x3_S1x3 = erow s k :=
  congrArg (fun M : Memref sig .tc .vmem S1x1x1x3 .f32 => M.squeeze S1x3 squeezes_S1x1x1x3_S1x3) (Memref.slice_unit_congr _ e _ _ _ _)
theorem icel_congr {off : Fin 2 → Nat} {s : Fin 2} {k : Fin 16} (e : off = cellOff s k) (hh) :
    (cc0_scratch2.slice (Rect.unit (s := S2x16) off S1x1.size hh)).squeeze S_ squeezes_S1x1_S_ = icel s k :=
  congrArg (fun A : DmaSems sig S1x1 => A.squeeze S_ squeezes_S1x1_S_) (SemArray.slice_unit_congr _ e _ _)
theorem ecel_congr {off : Fin 2 → Nat} {s : Fin 2} {k : Fin 16} (e : off = cellOff s k) (hh) :
    (cc0_scratch3.slice (Rect.unit (s := S2x16) off S1x1.size hh)).squeeze S_ squeezes_S1x1_S_ = ecel s k :=
  congrArg (fun A : DmaSems sig S1x1 => A.squeeze S_ squeezes_S1x1_S_) (SemArray.slice_unit_congr _ e _ _)
/-- A slice whose first offset is the word, known inside the array, is the named row. -/
theorem isrc_congr {off : Fin 3 → Nat} (v : BitVec 32) (e : off = ![v.toNat, 0, 0]) (hh : ∀ a, off a + S1x1x128.size a ≤ S4096x1x128.size a) (hs) :
    (invM.slice (Rect.unit (s := S4096x1x128) off S1x1x128.size hh) hs).squeeze S1x128 squeezes_S1x1x128_S1x128 = isrc v := by
  have h : v.toNat + 1 ≤ 4096 := by subst e; exact hh 0
  have e' : off = srcOff (rowOf v) := by rw [e, srcOff, rowOf_val (by omega)]
  exact congrArg (fun M : Memref sig .tc .hbm S1x1x128 .f32 => M.squeeze S1x128 squeezes_S1x1x128_S1x128) (Memref.slice_unit_congr _ e' _ _ _ _)
theorem esrc_congr {off : Fin 3 → Nat} (v : BitVec 32) (e : off = ![v.toNat, 0, 0]) (hh : ∀ a, off a + S1x1x3.size a ≤ S4096x1x3.size a) (hs) :
    (eqM.slice (Rect.unit (s := S4096x1x3) off S1x1x3.size hh) hs).squeeze S1x3 squeezes_S1x1x3_S1x3 = esrc v := by
  have h : v.toNat + 1 ≤ 4096 := by subst e; exact hh 0
  have e' : off = srcOff (rowOf v) := by rw [e, srcOff, rowOf_val (by omega)]
  exact congrArg (fun M : Memref sig .tc .hbm S1x1x3 .f32 => M.squeeze S1x3 squeezes_S1x1x3_S1x3) (Memref.slice_unit_congr _ e' _ _ _ _)

/-! ## The slots of a point: the one it waits for, the one it fills for the next point -/

abbrev slN (i : grid0.Coords) : Fin 2 := Ring.sl 2 ((i 0).val + 1)
abbrev slW (i : grid0.Coords) : Fin 2 := Ring.sl 2 (i 0).val

theorem nextSlot : ∀ i : grid0.Coords, (k0_off34 i) 0 = (slN i).val := by decide +kernel
theorem waitSlot : ∀ i : grid0.Coords, (k0_off131 i) 0 = (slW i).val := by decide +kernel

theorem cellN {off : Fin 2 → Nat} (i : grid0.Coords) (k : Fin 16) (e : off = ![(k0_off34 i) 0, k.val]) : off = cellOff (slN i) k := by rw [e, nextSlot]
theorem rowN {off : Fin 4 → Nat} (i : grid0.Coords) (k : Fin 16) (e : off = ![(k0_off34 i) 0, k.val, 0, 0]) : off = rowOff (slN i) k := by rw [e, nextSlot]
theorem cellW {off : Fin 2 → Nat} (i : grid0.Coords) (k : Fin 16) (e : off = ![(k0_off131 i) 0, k.val]) : off = cellOff (slW i) k := by rw [e, waitSlot]
theorem rowW {off : Fin 4 → Nat} (i : grid0.Coords) (k : Fin 16) (e : off = ![(k0_off131 i) 0, k.val, 0, 0]) : off = rowOff (slW i) k := by rw [e, waitSlot]

/-! ## Each printed slice under its name -/

@[sl_canon] theorem cI0_0 (hh hs) : (ibM.slice (Rect.unit (s := S2x16x1x128) ![0, 0, 0, 0] S1x1x1x128.size hh) hs).squeeze S1x128 squeezes_S1x1x1x128_S1x128 = irow 0 0 := irow_congr (by decide) _ _
@[sl_canon] theorem cE0_0 (hh hs) : (ebM.slice (Rect.unit (s := S2x16x1x3) ![0, 0, 0, 0] S1x1x1x3.size hh) hs).squeeze S1x3 squeezes_S1x1x1x3_S1x3 = erow 0 0 := erow_congr (by decide) _ _
@[sl_canon] theorem cJ0_0 (hh) : (cc0_scratch2.slice (Rect.unit (s := S2x16) ![0, 0] S1x1.size hh)).squeeze S_ squeezes_S1x1_S_ = icel 0 0 := icel_congr (by decide) _
@[sl_canon] theorem cF0_0 (hh) : (cc0_scratch3.slice (Rect.unit (s := S2x16) ![0, 0] S1x1.size hh)).squeeze S_ squeezes_S1x1_S_ = ecel 0 0 := ecel_congr (by decide) _
@[sl_canon] theorem cJN_0 (i : grid0.Coords) (hh) : (cc0_scratch2.slice (Rect.unit (s := S2x16) (k0_off34 i) S1x1.size hh)).squeeze S_ squeezes_S1x1_S_ = icel (slN i) 0 := icel_congr (cellN i 0 rfl) _
@[sl_canon] theorem cIN_0 (i : grid0.Coords) (hh hs) : (ibM.slice (Rect.unit (s := S2x16x1x128) (k0_off35 i) S1x1x1x128.size hh) hs).squeeze S1x128 squeezes_S1x1x1x128_S1x128 = irow (slN i) 0 := irow_congr (rowN i 0 rfl) _ _
@[sl_canon] theorem cFN_0 (i : grid0.Coords) (hh) : (cc0_scratch3.slice (Rect.unit (s := S2x16) (k0_off37 i) S1x1.size hh)).squeeze S_ squeezes_S1x1_S_ = ecel (slN i) 0 := ecel_congr (cellN i 0 rfl) _
@[sl_canon] theorem cEN_0 (i : grid0.Coords) (hh hs) : (ebM.slice (Rect.unit (s := S2x16x1x3) (k0_off38 i) S1x1x1x3.size hh) hs).squeeze S1x3 squeezes_S1x1x1x3_S1x3 = erow (slN i) 0 := erow_congr (rowN i 0 rfl) _ _
@[sl_canon] theorem sIN_0 (v : BitVec 32) (hh hs) : (invM.slice (Rect.unit (s := S4096x1x128) (k0_off36 v) S1x1x128.size hh) hs).squeeze S1x128 squeezes_S1x1x128_S1x128 = isrc v := isrc_congr v rfl _ _
@[sl_canon] theorem sEN_0 (v : BitVec 32) (hh hs) : (eqM.slice (Rect.unit (s := S4096x1x3) (k0_off39 v) S1x1x3.size hh) hs).squeeze S1x3 squeezes_S1x1x3_S1x3 = esrc v := esrc_congr v rfl _ _
@[sl_canon] theorem cJW_0 (i : grid0.Coords) (hh) : (cc0_scratch2.slice (Rect.unit (s := S2x16) (k0_off131 i) S1x1.size hh)).squeeze S_ squeezes_S1x1_S_ = icel (slW i) 0 := icel_congr (cellW i 0 rfl) _
@[sl_canon] theorem cIW_0 (i : grid0.Coords) (hh hs) : (ibM.slice (Rect.unit (s := S2x16x1x128) (k0_off132 i) S1x1x1x128.size hh) hs).squeeze S1x128 squeezes_S1x1x1x128_S1x128 = irow (slW i) 0 := irow_congr (rowW i 0 rfl) _ _
@[sl_canon] theorem cFW_0 (i : grid0.Coords) (hh) : (cc0_scratch3.slice (Rect.unit (s := S2x16) (k0_off134 i) S1x1.size hh)).squeeze S_ squeezes_S1x1_S_ = ecel (slW i) 0 := ecel_congr (cellW i 0 rfl) _
@[sl_canon] theorem cEW_0 (i : grid0.Coords) (hh hs) : (ebM.slice (Rect.unit (s := S2x16x1x3) (k0_off135 i) S1x1x1x3.size hh) hs).squeeze S1x3 squeezes_S1x1x1x3_S1x3 = erow (slW i) 0 := erow_congr (rowW i 0 rfl) _ _
@[sl_canon] theorem sIW_0 (v : BitVec 32) (hh hs) : (invM.slice (Rect.unit (s := S4096x1x128) (k0_off133 v) S1x1x128.size hh) hs).squeeze S1x128 squeezes_S1x1x128_S1x128 = isrc v := isrc_congr v rfl _ _
@[sl_canon] theorem sEW_0 (v : BitVec 32) (hh hs) : (eqM.slice (Rect.unit (s := S4096x1x3) (k0_off136 v) S1x1x3.size hh) hs).squeeze S1x3 squeezes_S1x1x3_S1x3 = esrc v := esrc_congr v rfl _ _
@[sl_canon] theorem sI0_0 (v : BitVec 32) (hh hs) : (invM.slice (Rect.unit (s := S4096x1x128) (k0_off1 v) S1x1x128.size hh) hs).squeeze S1x128 squeezes_S1x1x128_S1x128 = isrc v := isrc_congr v rfl _ _
@[sl_canon] theorem sE0_0 (v : BitVec 32) (hh hs) : (eqM.slice (Rect.unit (s := S4096x1x3) (k0_off2 v) S1x1x3.size hh) hs).squeeze S1x3 squeezes_S1x1x3_S1x3 = esrc v := esrc_congr v rfl _ _
@[sl_canon] theorem cI0_1 (hh hs) : (ibM.slice (Rect.unit (s := S2x16x1x128) ![0, 1, 0, 0] S1x1x1x128.size hh) hs).squeeze S1x128 squeezes_S1x1x1x128_S1x128 = irow 0 1 := irow_congr (by decide) _ _
@[sl_canon] theorem cE0_1 (hh hs) : (ebM.slice (Rect.unit (s := S2x16x1x3) ![0, 1, 0, 0] S1x1x1x3.size hh) hs).squeeze S1x3 squeezes_S1x1x1x3_S1x3 = erow 0 1 := erow_congr (by decide) _ _
@[sl_canon] theorem cJ0_1 (hh) : (cc0_scratch2.slice (Rect.unit (s := S2x16) ![0, 1] S1x1.size hh)).squeeze S_ squeezes_S1x1_S_ = icel 0 1 := icel_congr (by decide) _
@[sl_canon] theorem cF0_1 (hh) : (cc0_scratch3.slice (Rect.unit (s := S2x16) ![0, 1] S1x1.size hh)).squeeze S_ squeezes_S1x1_S_ = ecel 0 1 := ecel_congr (by decide) _
@[sl_canon] theorem cJN_1 (i : grid0.Coords) (hh) : (cc0_scratch2.slice (Rect.unit (s := S2x16) (k0_off40 i) S1x1.size hh)).squeeze S_ squeezes_S1x1_S_ = icel (slN i) 1 := icel_congr (cellN i 1 rfl) _
@[sl_canon] theorem cIN_1 (i : grid0.Coords) (hh hs) : (ibM.slice (Rect.unit (s := S2x16x1x128) (k0_off41 i) S1x1x1x128.size hh) hs).squeeze S1x128 squeezes_S1x1x1x128_S1x128 = irow (slN i) 1 := irow_congr (rowN i 1 rfl) _ _
@[sl_canon] theorem cFN_1 (i : grid0.Coords) (hh) : (cc0_scratch3.slice (Rect.unit (s := S2x16) (k0_off43 i) S1x1.size hh)).squeeze S_ squeezes_S1x1_S_ = ecel (slN i) 1 := ecel_congr (cellN i 1 rfl) _
@[sl_canon] theorem cEN_1 (i : grid0.Coords) (hh hs) : (ebM.slice (Rect.unit (s := S2x16x1x3) (k0_off44 i) S1x1x1x3.size hh) hs).squeeze S1x3 squeezes_S1x1x1x3_S1x3 = erow (slN i) 1 := erow_congr (rowN i 1 rfl) _ _
@[sl_canon] theorem sIN_1 (v : BitVec 32) (hh hs) : (invM.slice (Rect.unit (s := S4096x1x128) (k0_off42 v) S1x1x128.size hh) hs).squeeze S1x128 squeezes_S1x1x128_S1x128 = isrc v := isrc_congr v rfl _ _
@[sl_canon] theorem sEN_1 (v : BitVec 32) (hh hs) : (eqM.slice (Rect.unit (s := S4096x1x3) (k0_off45 v) S1x1x3.size hh) hs).squeeze S1x3 squeezes_S1x1x3_S1x3 = esrc v := esrc_congr v rfl _ _
@[sl_canon] theorem cJW_1 (i : grid0.Coords) (hh) : (cc0_scratch2.slice (Rect.unit (s := S2x16) (k0_off137 i) S1x1.size hh)).squeeze S_ squeezes_S1x1_S_ = icel (slW i) 1 := icel_congr (cellW i 1 rfl) _
@[sl_canon] theorem cIW_1 (i : grid0.Coords) (hh hs) : (ibM.slice (Rect.unit (s := S2x16x1x128) (k0_off138 i) S1x1x1x128.size hh) hs).squeeze S1x128 squeezes_S1x1x1x128_S1x128 = irow (slW i) 1 := irow_congr (rowW i 1 rfl) _ _
@[sl_canon] theorem cFW_1 (i : grid0.Coords) (hh) : (cc0_scratch3.slice (Rect.unit (s := S2x16) (k0_off140 i) S1x1.size hh)).squeeze S_ squeezes_S1x1_S_ = ecel (slW i) 1 := ecel_congr (cellW i 1 rfl) _
@[sl_canon] theorem cEW_1 (i : grid0.Coords) (hh hs) : (ebM.slice (Rect.unit (s := S2x16x1x3) (k0_off141 i) S1x1x1x3.size hh) hs).squeeze S1x3 squeezes_S1x1x1x3_S1x3 = erow (slW i) 1 := erow_congr (rowW i 1 rfl) _ _
@[sl_canon] theorem sIW_1 (v : BitVec 32) (hh hs) : (invM.slice (Rect.unit (s := S4096x1x128) (k0_off139 v) S1x1x128.size hh) hs).squeeze S1x128 squeezes_S1x1x128_S1x128 = isrc v := isrc_congr v rfl _ _
@[sl_canon] theorem sEW_1 (v : BitVec 32) (hh hs) : (eqM.slice (Rect.unit (s := S4096x1x3) (k0_off142 v) S1x1x3.size hh) hs).squeeze S1x3 squeezes_S1x1x3_S1x3 = esrc v := esrc_congr v rfl _ _
@[sl_canon] theorem sI0_1 (v : BitVec 32) (hh hs) : (invM.slice (Rect.unit (s := S4096x1x128) (k0_off3 v) S1x1x128.size hh) hs).squeeze S1x128 squeezes_S1x1x128_S1x128 = isrc v := isrc_congr v rfl _ _
@[sl_canon] theorem sE0_1 (v : BitVec 32) (hh hs) : (eqM.slice (Rect.unit (s := S4096x1x3) (k0_off4 v) S1x1x3.size hh) hs).squeeze S1x3 squeezes_S1x1x3_S1x3 = esrc v := esrc_congr v rfl _ _
@[sl_canon] theorem cI0_2 (hh hs) : (ibM.slice (Rect.unit (s := S2x16x1x128) ![0, 2, 0, 0] S1x1x1x128.size hh) hs).squeeze S1x128 squeezes_S1x1x1x128_S1x128 = irow 0 2 := irow_congr (by decide) _ _
@[sl_canon] theorem cE0_2 (hh hs) : (ebM.slice (Rect.unit (s := S2x16x1x3) ![0, 2, 0, 0] S1x1x1x3.size hh) hs).squeeze S1x3 squeezes_S1x1x1x3_S1x3 = erow 0 2 := erow_congr (by decide) _ _
@[sl_canon] theorem cJ0_2 (hh) : (cc0_scratch2.slice (Rect.unit (s := S2x16) ![0, 2] S1x1.size hh)).squeeze S_ squeezes_S1x1_S_ = icel 0 2 := icel_congr (by decide) _
@[sl_canon] theorem cF0_2 (hh) : (cc0_scratch3.slice (Rect.unit (s := S2x16) ![0, 2] S1x1.size hh)).squeeze S_ squeezes_S1x1_S_ = ecel 0 2 := ecel_congr (by decide) _
@[sl_canon] theorem cJN_2 (i : grid0.Coords) (hh) : (cc0_scratch2.slice (Rect.unit (s := S2x16) (k0_off46 i) S1x1.size hh)).squeeze S_ squeezes_S1x1_S_ = icel (slN i) 2 := icel_congr (cellN i 2 rfl) _
@[sl_canon] theorem cIN_2 (i : grid0.Coords) (hh hs) : (ibM.slice (Rect.unit (s := S2x16x1x128) (k0_off47 i) S1x1x1x128.size hh) hs).squeeze S1x128 squeezes_S1x1x1x128_S1x128 = irow (slN i) 2 := irow_congr (rowN i 2 rfl) _ _
@[sl_canon] theorem cFN_2 (i : grid0.Coords) (hh) : (cc0_scratch3.slice (Rect.unit (s := S2x16) (k0_off49 i) S1x1.size hh)).squeeze S_ squeezes_S1x1_S_ = ecel (slN i) 2 := ecel_congr (cellN i 2 rfl) _
@[sl_canon] theorem cEN_2 (i : grid0.Coords) (hh hs) : (ebM.slice (Rect.unit (s := S2x16x1x3) (k0_off50 i) S1x1x1x3.size hh) hs).squeeze S1x3 squeezes_S1x1x1x3_S1x3 = erow (slN i) 2 := erow_congr (rowN i 2 rfl) _ _
@[sl_canon] theorem sIN_2 (v : BitVec 32) (hh hs) : (invM.slice (Rect.unit (s := S4096x1x128) (k0_off48 v) S1x1x128.size hh) hs).squeeze S1x128 squeezes_S1x1x128_S1x128 = isrc v := isrc_congr v rfl _ _
@[sl_canon] theorem sEN_2 (v : BitVec 32) (hh hs) : (eqM.slice (Rect.unit (s := S4096x1x3) (k0_off51 v) S1x1x3.size hh) hs).squeeze S1x3 squeezes_S1x1x3_S1x3 = esrc v := esrc_congr v rfl _ _
@[sl_canon] theorem cJW_2 (i : grid0.Coords) (hh) : (cc0_scratch2.slice (Rect.unit (s := S2x16) (k0_off143 i) S1x1.size hh)).squeeze S_ squeezes_S1x1_S_ = icel (slW i) 2 := icel_congr (cellW i 2 rfl) _
@[sl_canon] theorem cIW_2 (i : grid0.Coords) (hh hs) : (ibM.slice (Rect.unit (s := S2x16x1x128) (k0_off144 i) S1x1x1x128.size hh) hs).squeeze S1x128 squeezes_S1x1x1x128_S1x128 = irow (slW i) 2 := irow_congr (rowW i 2 rfl) _ _
@[sl_canon] theorem cFW_2 (i : grid0.Coords) (hh) : (cc0_scratch3.slice (Rect.unit (s := S2x16) (k0_off146 i) S1x1.size hh)).squeeze S_ squeezes_S1x1_S_ = ecel (slW i) 2 := ecel_congr (cellW i 2 rfl) _
@[sl_canon] theorem cEW_2 (i : grid0.Coords) (hh hs) : (ebM.slice (Rect.unit (s := S2x16x1x3) (k0_off147 i) S1x1x1x3.size hh) hs).squeeze S1x3 squeezes_S1x1x1x3_S1x3 = erow (slW i) 2 := erow_congr (rowW i 2 rfl) _ _
@[sl_canon] theorem sIW_2 (v : BitVec 32) (hh hs) : (invM.slice (Rect.unit (s := S4096x1x128) (k0_off145 v) S1x1x128.size hh) hs).squeeze S1x128 squeezes_S1x1x128_S1x128 = isrc v := isrc_congr v rfl _ _
@[sl_canon] theorem sEW_2 (v : BitVec 32) (hh hs) : (eqM.slice (Rect.unit (s := S4096x1x3) (k0_off148 v) S1x1x3.size hh) hs).squeeze S1x3 squeezes_S1x1x3_S1x3 = esrc v := esrc_congr v rfl _ _
@[sl_canon] theorem sI0_2 (v : BitVec 32) (hh hs) : (invM.slice (Rect.unit (s := S4096x1x128) (k0_off5 v) S1x1x128.size hh) hs).squeeze S1x128 squeezes_S1x1x128_S1x128 = isrc v := isrc_congr v rfl _ _
@[sl_canon] theorem sE0_2 (v : BitVec 32) (hh hs) : (eqM.slice (Rect.unit (s := S4096x1x3) (k0_off6 v) S1x1x3.size hh) hs).squeeze S1x3 squeezes_S1x1x3_S1x3 = esrc v := esrc_congr v rfl _ _
@[sl_canon] theorem cI0_3 (hh hs) : (ibM.slice (Rect.unit (s := S2x16x1x128) ![0, 3, 0, 0] S1x1x1x128.size hh) hs).squeeze S1x128 squeezes_S1x1x1x128_S1x128 = irow 0 3 := irow_congr (by decide) _ _
@[sl_canon] theorem cE0_3 (hh hs) : (ebM.slice (Rect.unit (s := S2x16x1x3) ![0, 3, 0, 0] S1x1x1x3.size hh) hs).squeeze S1x3 squeezes_S1x1x1x3_S1x3 = erow 0 3 := erow_congr (by decide) _ _
@[sl_canon] theorem cJ0_3 (hh) : (cc0_scratch2.slice (Rect.unit (s := S2x16) ![0, 3] S1x1.size hh)).squeeze S_ squeezes_S1x1_S_ = icel 0 3 := icel_congr (by decide) _
@[sl_canon] theorem cF0_3 (hh) : (cc0_scratch3.slice (Rect.unit (s := S2x16) ![0, 3] S1x1.size hh)).squeeze S_ squeezes_S1x1_S_ = ecel 0 3 := ecel_congr (by decide) _
@[sl_canon] theorem cJN_3 (i : grid0.Coords) (hh) : (cc0_scratch2.slice (Rect.unit (s := S2x16) (k0_off52 i) S1x1.size hh)).squeeze S_ squeezes_S1x1_S_ = icel (slN i) 3 := icel_congr (cellN i 3 rfl) _
@[sl_canon] theorem cIN_3 (i : grid0.Coords) (hh hs) : (ibM.slice (Rect.unit (s := S2x16x1x128) (k0_off53 i) S1x1x1x128.size hh) hs).squeeze S1x128 squeezes_S1x1x1x128_S1x128 = irow (slN i) 3 := irow_congr (rowN i 3 rfl) _ _
@[sl_canon] theorem cFN_3 (i : grid0.Coords) (hh) : (cc0_scratch3.slice (Rect.unit (s := S2x16) (k0_off55 i) S1x1.size hh)).squeeze S_ squeezes_S1x1_S_ = ecel (slN i) 3 := ecel_congr (cellN i 3 rfl) _
@[sl_canon] theorem cEN_3 (i : grid0.Coords) (hh hs) : (ebM.slice (Rect.unit (s := S2x16x1x3) (k0_off56 i) S1x1x1x3.size hh) hs).squeeze S1x3 squeezes_S1x1x1x3_S1x3 = erow (slN i) 3 := erow_congr (rowN i 3 rfl) _ _
@[sl_canon] theorem sIN_3 (v : BitVec 32) (hh hs) : (invM.slice (Rect.unit (s := S4096x1x128) (k0_off54 v) S1x1x128.size hh) hs).squeeze S1x128 squeezes_S1x1x128_S1x128 = isrc v := isrc_congr v rfl _ _
@[sl_canon] theorem sEN_3 (v : BitVec 32) (hh hs) : (eqM.slice (Rect.unit (s := S4096x1x3) (k0_off57 v) S1x1x3.size hh) hs).squeeze S1x3 squeezes_S1x1x3_S1x3 = esrc v := esrc_congr v rfl _ _
@[sl_canon] theorem cJW_3 (i : grid0.Coords) (hh) : (cc0_scratch2.slice (Rect.unit (s := S2x16) (k0_off149 i) S1x1.size hh)).squeeze S_ squeezes_S1x1_S_ = icel (slW i) 3 := icel_congr (cellW i 3 rfl) _
@[sl_canon] theorem cIW_3 (i : grid0.Coords) (hh hs) : (ibM.slice (Rect.unit (s := S2x16x1x128) (k0_off150 i) S1x1x1x128.size hh) hs).squeeze S1x128 squeezes_S1x1x1x128_S1x128 = irow (slW i) 3 := irow_congr (rowW i 3 rfl) _ _
@[sl_canon] theorem cFW_3 (i : grid0.Coords) (hh) : (cc0_scratch3.slice (Rect.unit (s := S2x16) (k0_off152 i) S1x1.size hh)).squeeze S_ squeezes_S1x1_S_ = ecel (slW i) 3 := ecel_congr (cellW i 3 rfl) _
@[sl_canon] theorem cEW_3 (i : grid0.Coords) (hh hs) : (ebM.slice (Rect.unit (s := S2x16x1x3) (k0_off153 i) S1x1x1x3.size hh) hs).squeeze S1x3 squeezes_S1x1x1x3_S1x3 = erow (slW i) 3 := erow_congr (rowW i 3 rfl) _ _
@[sl_canon] theorem sIW_3 (v : BitVec 32) (hh hs) : (invM.slice (Rect.unit (s := S4096x1x128) (k0_off151 v) S1x1x128.size hh) hs).squeeze S1x128 squeezes_S1x1x128_S1x128 = isrc v := isrc_congr v rfl _ _
@[sl_canon] theorem sEW_3 (v : BitVec 32) (hh hs) : (eqM.slice (Rect.unit (s := S4096x1x3) (k0_off154 v) S1x1x3.size hh) hs).squeeze S1x3 squeezes_S1x1x3_S1x3 = esrc v := esrc_congr v rfl _ _
@[sl_canon] theorem sI0_3 (v : BitVec 32) (hh hs) : (invM.slice (Rect.unit (s := S4096x1x128) (k0_off7 v) S1x1x128.size hh) hs).squeeze S1x128 squeezes_S1x1x128_S1x128 = isrc v := isrc_congr v rfl _ _
@[sl_canon] theorem sE0_3 (v : BitVec 32) (hh hs) : (eqM.slice (Rect.unit (s := S4096x1x3) (k0_off8 v) S1x1x3.size hh) hs).squeeze S1x3 squeezes_S1x1x3_S1x3 = esrc v := esrc_congr v rfl _ _
@[sl_canon] theorem cI0_4 (hh hs) : (ibM.slice (Rect.unit (s := S2x16x1x128) ![0, 4, 0, 0] S1x1x1x128.size hh) hs).squeeze S1x128 squeezes_S1x1x1x128_S1x128 = irow 0 4 := irow_congr (by decide) _ _
@[sl_canon] theorem cE0_4 (hh hs) : (ebM.slice (Rect.unit (s := S2x16x1x3) ![0, 4, 0, 0] S1x1x1x3.size hh) hs).squeeze S1x3 squeezes_S1x1x1x3_S1x3 = erow 0 4 := erow_congr (by decide) _ _
@[sl_canon] theorem cJ0_4 (hh) : (cc0_scratch2.slice (Rect.unit (s := S2x16) ![0, 4] S1x1.size hh)).squeeze S_ squeezes_S1x1_S_ = icel 0 4 := icel_congr (by decide) _
@[sl_canon] theorem cF0_4 (hh) : (cc0_scratch3.slice (Rect.unit (s := S2x16) ![0, 4] S1x1.size hh)).squeeze S_ squeezes_S1x1_S_ = ecel 0 4 := ecel_congr (by decide) _
@[sl_canon] theorem cJN_4 (i : grid0.Coords) (hh) : (cc0_scratch2.slice (Rect.unit (s := S2x16) (k0_off58 i) S1x1.size hh)).squeeze S_ squeezes_S1x1_S_ = icel (slN i) 4 := icel_congr (cellN i 4 rfl) _
@[sl_canon] theorem cIN_4 (i : grid0.Coords) (hh hs) : (ibM.slice (Rect.unit (s := S2x16x1x128) (k0_off59 i) S1x1x1x128.size hh) hs).squeeze S1x128 squeezes_S1x1x1x128_S1x128 = irow (slN i) 4 := irow_congr (rowN i 4 rfl) _ _
@[sl_canon] theorem cFN_4 (i : grid0.Coords) (hh) : (cc0_scratch3.slice (Rect.unit (s := S2x16) (k0_off61 i) S1x1.size hh)).squeeze S_ squeezes_S1x1_S_ = ecel (slN i) 4 := ecel_congr (cellN i 4 rfl) _
@[sl_canon] theorem cEN_4 (i : grid0.Coords) (hh hs) : (ebM.slice (Rect.unit (s := S2x16x1x3) (k0_off62 i) S1x1x1x3.size hh) hs).squeeze S1x3 squeezes_S1x1x1x3_S1x3 = erow (slN i) 4 := erow_congr (rowN i 4 rfl) _ _
@[sl_canon] theorem sIN_4 (v : BitVec 32) (hh hs) : (invM.slice (Rect.unit (s := S4096x1x128) (k0_off60 v) S1x1x128.size hh) hs).squeeze S1x128 squeezes_S1x1x128_S1x128 = isrc v := isrc_congr v rfl _ _
@[sl_canon] theorem sEN_4 (v : BitVec 32) (hh hs) : (eqM.slice (Rect.unit (s := S4096x1x3) (k0_off63 v) S1x1x3.size hh) hs).squeeze S1x3 squeezes_S1x1x3_S1x3 = esrc v := esrc_congr v rfl _ _
@[sl_canon] theorem cJW_4 (i : grid0.Coords) (hh) : (cc0_scratch2.slice (Rect.unit (s := S2x16) (k0_off155 i) S1x1.size hh)).squeeze S_ squeezes_S1x1_S_ = icel (slW i) 4 := icel_congr (cellW i 4 rfl) _
@[sl_canon] theorem cIW_4 (i : grid0.Coords) (hh hs) : (ibM.slice (Rect.unit (s := S2x16x1x128) (k0_off156 i) S1x1x1x128.size hh) hs).squeeze S1x128 squeezes_S1x1x1x128_S1x128 = irow (slW i) 4 := irow_congr (rowW i 4 rfl) _ _
@[sl_canon] theorem cFW_4 (i : grid0.Coords) (hh) : (cc0_scratch3.slice (Rect.unit (s := S2x16) (k0_off158 i) S1x1.size hh)).squeeze S_ squeezes_S1x1_S_ = ecel (slW i) 4 := ecel_congr (cellW i 4 rfl) _
@[sl_canon] theorem cEW_4 (i : grid0.Coords) (hh hs) : (ebM.slice (Rect.unit (s := S2x16x1x3) (k0_off159 i) S1x1x1x3.size hh) hs).squeeze S1x3 squeezes_S1x1x1x3_S1x3 = erow (slW i) 4 := erow_congr (rowW i 4 rfl) _ _
@[sl_canon] theorem sIW_4 (v : BitVec 32) (hh hs) : (invM.slice (Rect.unit (s := S4096x1x128) (k0_off157 v) S1x1x128.size hh) hs).squeeze S1x128 squeezes_S1x1x128_S1x128 = isrc v := isrc_congr v rfl _ _
@[sl_canon] theorem sEW_4 (v : BitVec 32) (hh hs) : (eqM.slice (Rect.unit (s := S4096x1x3) (k0_off160 v) S1x1x3.size hh) hs).squeeze S1x3 squeezes_S1x1x3_S1x3 = esrc v := esrc_congr v rfl _ _
@[sl_canon] theorem sI0_4 (v : BitVec 32) (hh hs) : (invM.slice (Rect.unit (s := S4096x1x128) (k0_off9 v) S1x1x128.size hh) hs).squeeze S1x128 squeezes_S1x1x128_S1x128 = isrc v := isrc_congr v rfl _ _
@[sl_canon] theorem sE0_4 (v : BitVec 32) (hh hs) : (eqM.slice (Rect.unit (s := S4096x1x3) (k0_off10 v) S1x1x3.size hh) hs).squeeze S1x3 squeezes_S1x1x3_S1x3 = esrc v := esrc_congr v rfl _ _
@[sl_canon] theorem cI0_5 (hh hs) : (ibM.slice (Rect.unit (s := S2x16x1x128) ![0, 5, 0, 0] S1x1x1x128.size hh) hs).squeeze S1x128 squeezes_S1x1x1x128_S1x128 = irow 0 5 := irow_congr (by decide) _ _
@[sl_canon] theorem cE0_5 (hh hs) : (ebM.slice (Rect.unit (s := S2x16x1x3) ![0, 5, 0, 0] S1x1x1x3.size hh) hs).squeeze S1x3 squeezes_S1x1x1x3_S1x3 = erow 0 5 := erow_congr (by decide) _ _
@[sl_canon] theorem cJ0_5 (hh) : (cc0_scratch2.slice (Rect.unit (s := S2x16) ![0, 5] S1x1.size hh)).squeeze S_ squeezes_S1x1_S_ = icel 0 5 := icel_congr (by decide) _
@[sl_canon] theorem cF0_5 (hh) : (cc0_scratch3.slice (Rect.unit (s := S2x16) ![0, 5] S1x1.size hh)).squeeze S_ squeezes_S1x1_S_ = ecel 0 5 := ecel_congr (by decide) _
@[sl_canon] theorem cJN_5 (i : grid0.Coords) (hh) : (cc0_scratch2.slice (Rect.unit (s := S2x16) (k0_off64 i) S1x1.size hh)).squeeze S_ squeezes_S1x1_S_ = icel (slN i) 5 := icel_congr (cellN i 5 rfl) _
@[sl_canon] theorem cIN_5 (i : grid0.Coords) (hh hs) : (ibM.slice (Rect.unit (s := S2x16x1x128) (k0_off65 i) S1x1x1x128.size hh) hs).squeeze S1x128 squeezes_S1x1x1x128_S1x128 = irow (slN i) 5 := irow_congr (rowN i 5 rfl) _ _
@[sl_canon] theorem cFN_5 (i : grid0.Coords) (hh) : (cc0_scratch3.slice (Rect.unit (s := S2x16) (k0_off67 i) S1x1.size hh)).squeeze S_ squeezes_S1x1_S_ = ecel (slN i) 5 := ecel_congr (cellN i 5 rfl) _
@[sl_canon] theorem cEN_5 (i : grid0.Coords) (hh hs) : (ebM.slice (Rect.unit (s := S2x16x1x3) (k0_off68 i) S1x1x1x3.size hh) hs).squeeze S1x3 squeezes_S1x1x1x3_S1x3 = erow (slN i) 5 := erow_congr (rowN i 5 rfl) _ _
@[sl_canon] theorem sIN_5 (v : BitVec 32) (hh hs) : (invM.slice (Rect.unit (s := S4096x1x128) (k0_off66 v) S1x1x128.size hh) hs).squeeze S1x128 squeezes_S1x1x128_S1x128 = isrc v := isrc_congr v rfl _ _
@[sl_canon] theorem sEN_5 (v : BitVec 32) (hh hs) : (eqM.slice (Rect.unit (s := S4096x1x3) (k0_off69 v) S1x1x3.size hh) hs).squeeze S1x3 squeezes_S1x1x3_S1x3 = esrc v := esrc_congr v rfl _ _
@[sl_canon] theorem cJW_5 (i : grid0.Coords) (hh) : (cc0_scratch2.slice (Rect.unit (s := S2x16) (k0_off161 i) S1x1.size hh)).squeeze S_ squeezes_S1x1_S_ = icel (slW i) 5 := icel_congr (cellW i 5 rfl) _
@[sl_canon] theorem cIW_5 (i : grid0.Coords) (hh hs) : (ibM.slice (Rect.unit (s := S2x16x1x128) (k0_off162 i) S1x1x1x128.size hh) hs).squeeze S1x128 squeezes_S1x1x1x128_S1x128 = irow (slW i) 5 := irow_congr (rowW i 5 rfl) _ _
@[sl_canon] theorem cFW_5 (i : grid0.Coords) (hh) : (cc0_scratch3.slice (Rect.unit (s := S2x16) (k0_off164 i) S1x1.size hh)).squeeze S_ squeezes_S1x1_S_ = ecel (slW i) 5 := ecel_congr (cellW i 5 rfl) _
@[sl_canon] theorem cEW_5 (i : grid0.Coords) (hh hs) : (ebM.slice (Rect.unit (s := S2x16x1x3) (k0_off165 i) S1x1x1x3.size hh) hs).squeeze S1x3 squeezes_S1x1x1x3_S1x3 = erow (slW i) 5 := erow_congr (rowW i 5 rfl) _ _
@[sl_canon] theorem sIW_5 (v : BitVec 32) (hh hs) : (invM.slice (Rect.unit (s := S4096x1x128) (k0_off163 v) S1x1x128.size hh) hs).squeeze S1x128 squeezes_S1x1x128_S1x128 = isrc v := isrc_congr v rfl _ _
@[sl_canon] theorem sEW_5 (v : BitVec 32) (hh hs) : (eqM.slice (Rect.unit (s := S4096x1x3) (k0_off166 v) S1x1x3.size hh) hs).squeeze S1x3 squeezes_S1x1x3_S1x3 = esrc v := esrc_congr v rfl _ _
@[sl_canon] theorem sI0_5 (v : BitVec 32) (hh hs) : (invM.slice (Rect.unit (s := S4096x1x128) (k0_off11 v) S1x1x128.size hh) hs).squeeze S1x128 squeezes_S1x1x128_S1x128 = isrc v := isrc_congr v rfl _ _
@[sl_canon] theorem sE0_5 (v : BitVec 32) (hh hs) : (eqM.slice (Rect.unit (s := S4096x1x3) (k0_off12 v) S1x1x3.size hh) hs).squeeze S1x3 squeezes_S1x1x3_S1x3 = esrc v := esrc_congr v rfl _ _
@[sl_canon] theorem cI0_6 (hh hs) : (ibM.slice (Rect.unit (s := S2x16x1x128) ![0, 6, 0, 0] S1x1x1x128.size hh) hs).squeeze S1x128 squeezes_S1x1x1x128_S1x128 = irow 0 6 := irow_congr (by decide) _ _
@[sl_canon] theorem cE0_6 (hh hs) : (ebM.slice (Rect.unit (s := S2x16x1x3) ![0, 6, 0, 0] S1x1x1x3.size hh) hs).squeeze S1x3 squeezes_S1x1x1x3_S1x3 = erow 0 6 := erow_congr (by decide) _ _
@[sl_canon] theorem cJ0_6 (hh) : (cc0_scratch2.slice (Rect.unit (s := S2x16) ![0, 6] S1x1.size hh)).squeeze S_ squeezes_S1x1_S_ = icel 0 6 := icel_congr (by decide) _
@[sl_canon] theorem cF0_6 (hh) : (cc0_scratch3.slice (Rect.unit (s := S2x16) ![0, 6] S1x1.size hh)).squeeze S_ squeezes_S1x1_S_ = ecel 0 6 := ecel_congr (by decide) _
@[sl_canon] theorem cJN_6 (i : grid0.Coords) (hh) : (cc0_scratch2.slice (Rect.unit (s := S2x16) (k0_off70 i) S1x1.size hh)).squeeze S_ squeezes_S1x1_S_ = icel (slN i) 6 := icel_congr (cellN i 6 rfl) _
@[sl_canon] theorem cIN_6 (i : grid0.Coords) (hh hs) : (ibM.slice (Rect.unit (s := S2x16x1x128) (k0_off71 i) S1x1x1x128.size hh) hs).squeeze S1x128 squeezes_S1x1x1x128_S1x128 = irow (slN i) 6 := irow_congr (rowN i 6 rfl) _ _
@[sl_canon] theorem cFN_6 (i : grid0.Coords) (hh) : (cc0_scratch3.slice (Rect.unit (s := S2x16) (k0_off73 i) S1x1.size hh)).squeeze S_ squeezes_S1x1_S_ = ecel (slN i) 6 := ecel_congr (cellN i 6 rfl) _
@[sl_canon] theorem cEN_6 (i : grid0.Coords) (hh hs) : (ebM.slice (Rect.unit (s := S2x16x1x3) (k0_off74 i) S1x1x1x3.size hh) hs).squeeze S1x3 squeezes_S1x1x1x3_S1x3 = erow (slN i) 6 := erow_congr (rowN i 6 rfl) _ _
@[sl_canon] theorem sIN_6 (v : BitVec 32) (hh hs) : (invM.slice (Rect.unit (s := S4096x1x128) (k0_off72 v) S1x1x128.size hh) hs).squeeze S1x128 squeezes_S1x1x128_S1x128 = isrc v := isrc_congr v rfl _ _
@[sl_canon] theorem sEN_6 (v : BitVec 32) (hh hs) : (eqM.slice (Rect.unit (s := S4096x1x3) (k0_off75 v) S1x1x3.size hh) hs).squeeze S1x3 squeezes_S1x1x3_S1x3 = esrc v := esrc_congr v rfl _ _
@[sl_canon] theorem cJW_6 (i : grid0.Coords) (hh) : (cc0_scratch2.slice (Rect.unit (s := S2x16) (k0_off167 i) S1x1.size hh)).squeeze S_ squeezes_S1x1_S_ = icel (slW i) 6 := icel_congr (cellW i 6 rfl) _
@[sl_canon] theorem cIW_6 (i : grid0.Coords) (hh hs) : (ibM.slice (Rect.unit (s := S2x16x1x128) (k0_off168 i) S1x1x1x128.size hh) hs).squeeze S1x128 squeezes_S1x1x1x128_S1x128 = irow (slW i) 6 := irow_congr (rowW i 6 rfl) _ _
@[sl_canon] theorem cFW_6 (i : grid0.Coords) (hh) : (cc0_scratch3.slice (Rect.unit (s := S2x16) (k0_off170 i) S1x1.size hh)).squeeze S_ squeezes_S1x1_S_ = ecel (slW i) 6 := ecel_congr (cellW i 6 rfl) _
@[sl_canon] theorem cEW_6 (i : grid0.Coords) (hh hs) : (ebM.slice (Rect.unit (s := S2x16x1x3) (k0_off171 i) S1x1x1x3.size hh) hs).squeeze S1x3 squeezes_S1x1x1x3_S1x3 = erow (slW i) 6 := erow_congr (rowW i 6 rfl) _ _
@[sl_canon] theorem sIW_6 (v : BitVec 32) (hh hs) : (invM.slice (Rect.unit (s := S4096x1x128) (k0_off169 v) S1x1x128.size hh) hs).squeeze S1x128 squeezes_S1x1x128_S1x128 = isrc v := isrc_congr v rfl _ _
@[sl_canon] theorem sEW_6 (v : BitVec 32) (hh hs) : (eqM.slice (Rect.unit (s := S4096x1x3) (k0_off172 v) S1x1x3.size hh) hs).squeeze S1x3 squeezes_S1x1x3_S1x3 = esrc v := esrc_congr v rfl _ _
@[sl_canon] theorem sI0_6 (v : BitVec 32) (hh hs) : (invM.slice (Rect.unit (s := S4096x1x128) (k0_off13 v) S1x1x128.size hh) hs).squeeze S1x128 squeezes_S1x1x128_S1x128 = isrc v := isrc_congr v rfl _ _
@[sl_canon] theorem sE0_6 (v : BitVec 32) (hh hs) : (eqM.slice (Rect.unit (s := S4096x1x3) (k0_off14 v) S1x1x3.size hh) hs).squeeze S1x3 squeezes_S1x1x3_S1x3 = esrc v := esrc_congr v rfl _ _
@[sl_canon] theorem cI0_7 (hh hs) : (ibM.slice (Rect.unit (s := S2x16x1x128) ![0, 7, 0, 0] S1x1x1x128.size hh) hs).squeeze S1x128 squeezes_S1x1x1x128_S1x128 = irow 0 7 := irow_congr (by decide) _ _
@[sl_canon] theorem cE0_7 (hh hs) : (ebM.slice (Rect.unit (s := S2x16x1x3) ![0, 7, 0, 0] S1x1x1x3.size hh) hs).squeeze S1x3 squeezes_S1x1x1x3_S1x3 = erow 0 7 := erow_congr (by decide) _ _
@[sl_canon] theorem cJ0_7 (hh) : (cc0_scratch2.slice (Rect.unit (s := S2x16) ![0, 7] S1x1.size hh)).squeeze S_ squeezes_S1x1_S_ = icel 0 7 := icel_congr (by decide) _
@[sl_canon] theorem cF0_7 (hh) : (cc0_scratch3.slice (Rect.unit (s := S2x16) ![0, 7] S1x1.size hh)).squeeze S_ squeezes_S1x1_S_ = ecel 0 7 := ecel_congr (by decide) _
@[sl_canon] theorem cJN_7 (i : grid0.Coords) (hh) : (cc0_scratch2.slice (Rect.unit (s := S2x16) (k0_off76 i) S1x1.size hh)).squeeze S_ squeezes_S1x1_S_ = icel (slN i) 7 := icel_congr (cellN i 7 rfl) _
@[sl_canon] theorem cIN_7 (i : grid0.Coords) (hh hs) : (ibM.slice (Rect.unit (s := S2x16x1x128) (k0_off77 i) S1x1x1x128.size hh) hs).squeeze S1x128 squeezes_S1x1x1x128_S1x128 = irow (slN i) 7 := irow_congr (rowN i 7 rfl) _ _
@[sl_canon] theorem cFN_7 (i : grid0.Coords) (hh) : (cc0_scratch3.slice (Rect.unit (s := S2x16) (k0_off79 i) S1x1.size hh)).squeeze S_ squeezes_S1x1_S_ = ecel (slN i) 7 := ecel_congr (cellN i 7 rfl) _
@[sl_canon] theorem cEN_7 (i : grid0.Coords) (hh hs) : (ebM.slice (Rect.unit (s := S2x16x1x3) (k0_off80 i) S1x1x1x3.size hh) hs).squeeze S1x3 squeezes_S1x1x1x3_S1x3 = erow (slN i) 7 := erow_congr (rowN i 7 rfl) _ _
@[sl_canon] theorem sIN_7 (v : BitVec 32) (hh hs) : (invM.slice (Rect.unit (s := S4096x1x128) (k0_off78 v) S1x1x128.size hh) hs).squeeze S1x128 squeezes_S1x1x128_S1x128 = isrc v := isrc_congr v rfl _ _
@[sl_canon] theorem sEN_7 (v : BitVec 32) (hh hs) : (eqM.slice (Rect.unit (s := S4096x1x3) (k0_off81 v) S1x1x3.size hh) hs).squeeze S1x3 squeezes_S1x1x3_S1x3 = esrc v := esrc_congr v rfl _ _
@[sl_canon] theorem cJW_7 (i : grid0.Coords) (hh) : (cc0_scratch2.slice (Rect.unit (s := S2x16) (k0_off173 i) S1x1.size hh)).squeeze S_ squeezes_S1x1_S_ = icel (slW i) 7 := icel_congr (cellW i 7 rfl) _
@[sl_canon] theorem cIW_7 (i : grid0.Coords) (hh hs) : (ibM.slice (Rect.unit (s := S2x16x1x128) (k0_off174 i) S1x1x1x128.size hh) hs).squeeze S1x128 squeezes_S1x1x1x128_S1x128 = irow (slW i) 7 := irow_congr (rowW i 7 rfl) _ _
@[sl_canon] theorem cFW_7 (i : grid0.Coords) (hh) : (cc0_scratch3.slice (Rect.unit (s := S2x16) (k0_off176 i) S1x1.size hh)).squeeze S_ squeezes_S1x1_S_ = ecel (slW i) 7 := ecel_congr (cellW i 7 rfl) _
@[sl_canon] theorem cEW_7 (i : grid0.Coords) (hh hs) : (ebM.slice (Rect.unit (s := S2x16x1x3) (k0_off177 i) S1x1x1x3.size hh) hs).squeeze S1x3 squeezes_S1x1x1x3_S1x3 = erow (slW i) 7 := erow_congr (rowW i 7 rfl) _ _
@[sl_canon] theorem sIW_7 (v : BitVec 32) (hh hs) : (invM.slice (Rect.unit (s := S4096x1x128) (k0_off175 v) S1x1x128.size hh) hs).squeeze S1x128 squeezes_S1x1x128_S1x128 = isrc v := isrc_congr v rfl _ _
@[sl_canon] theorem sEW_7 (v : BitVec 32) (hh hs) : (eqM.slice (Rect.unit (s := S4096x1x3) (k0_off178 v) S1x1x3.size hh) hs).squeeze S1x3 squeezes_S1x1x3_S1x3 = esrc v := esrc_congr v rfl _ _
@[sl_canon] theorem sI0_7 (v : BitVec 32) (hh hs) : (invM.slice (Rect.unit (s := S4096x1x128) (k0_off15 v) S1x1x128.size hh) hs).squeeze S1x128 squeezes_S1x1x128_S1x128 = isrc v := isrc_congr v rfl _ _
@[sl_canon] theorem sE0_7 (v : BitVec 32) (hh hs) : (eqM.slice (Rect.unit (s := S4096x1x3) (k0_off16 v) S1x1x3.size hh) hs).squeeze S1x3 squeezes_S1x1x3_S1x3 = esrc v := esrc_congr v rfl _ _
@[sl_canon] theorem cI0_8 (hh hs) : (ibM.slice (Rect.unit (s := S2x16x1x128) ![0, 8, 0, 0] S1x1x1x128.size hh) hs).squeeze S1x128 squeezes_S1x1x1x128_S1x128 = irow 0 8 := irow_congr (by decide) _ _
@[sl_canon] theorem cE0_8 (hh hs) : (ebM.slice (Rect.unit (s := S2x16x1x3) ![0, 8, 0, 0] S1x1x1x3.size hh) hs).squeeze S1x3 squeezes_S1x1x1x3_S1x3 = erow 0 8 := erow_congr (by decide) _ _
@[sl_canon] theorem cJ0_8 (hh) : (cc0_scratch2.slice (Rect.unit (s := S2x16) ![0, 8] S1x1.size hh)).squeeze S_ squeezes_S1x1_S_ = icel 0 8 := icel_congr (by decide) _
@[sl_canon] theorem cF0_8 (hh) : (cc0_scratch3.slice (Rect.unit (s := S2x16) ![0, 8] S1x1.size hh)).squeeze S_ squeezes_S1x1_S_ = ecel 0 8 := ecel_congr (by decide) _
@[sl_canon] theorem cJN_8 (i : grid0.Coords) (hh) : (cc0_scratch2.slice (Rect.unit (s := S2x16) (k0_off82 i) S1x1.size hh)).squeeze S_ squeezes_S1x1_S_ = icel (slN i) 8 := icel_congr (cellN i 8 rfl) _
@[sl_canon] theorem cIN_8 (i : grid0.Coords) (hh hs) : (ibM.slice (Rect.unit (s := S2x16x1x128) (k0_off83 i) S1x1x1x128.size hh) hs).squeeze S1x128 squeezes_S1x1x1x128_S1x128 = irow (slN i) 8 := irow_congr (rowN i 8 rfl) _ _
@[sl_canon] theorem cFN_8 (i : grid0.Coords) (hh) : (cc0_scratch3.slice (Rect.unit (s := S2x16) (k0_off85 i) S1x1.size hh)).squeeze S_ squeezes_S1x1_S_ = ecel (slN i) 8 := ecel_congr (cellN i 8 rfl) _
@[sl_canon] theorem cEN_8 (i : grid0.Coords) (hh hs) : (ebM.slice (Rect.unit (s := S2x16x1x3) (k0_off86 i) S1x1x1x3.size hh) hs).squeeze S1x3 squeezes_S1x1x1x3_S1x3 = erow (slN i) 8 := erow_congr (rowN i 8 rfl) _ _
@[sl_canon] theorem sIN_8 (v : BitVec 32) (hh hs) : (invM.slice (Rect.unit (s := S4096x1x128) (k0_off84 v) S1x1x128.size hh) hs).squeeze S1x128 squeezes_S1x1x128_S1x128 = isrc v := isrc_congr v rfl _ _
@[sl_canon] theorem sEN_8 (v : BitVec 32) (hh hs) : (eqM.slice (Rect.unit (s := S4096x1x3) (k0_off87 v) S1x1x3.size hh) hs).squeeze S1x3 squeezes_S1x1x3_S1x3 = esrc v := esrc_congr v rfl _ _
@[sl_canon] theorem cJW_8 (i : grid0.Coords) (hh) : (cc0_scratch2.slice (Rect.unit (s := S2x16) (k0_off179 i) S1x1.size hh)).squeeze S_ squeezes_S1x1_S_ = icel (slW i) 8 := icel_congr (cellW i 8 rfl) _
@[sl_canon] theorem cIW_8 (i : grid0.Coords) (hh hs) : (ibM.slice (Rect.unit (s := S2x16x1x128) (k0_off180 i) S1x1x1x128.size hh) hs).squeeze S1x128 squeezes_S1x1x1x128_S1x128 = irow (slW i) 8 := irow_congr (rowW i 8 rfl) _ _
@[sl_canon] theorem cFW_8 (i : grid0.Coords) (hh) : (cc0_scratch3.slice (Rect.unit (s := S2x16) (k0_off182 i) S1x1.size hh)).squeeze S_ squeezes_S1x1_S_ = ecel (slW i) 8 := ecel_congr (cellW i 8 rfl) _
@[sl_canon] theorem cEW_8 (i : grid0.Coords) (hh hs) : (ebM.slice (Rect.unit (s := S2x16x1x3) (k0_off183 i) S1x1x1x3.size hh) hs).squeeze S1x3 squeezes_S1x1x1x3_S1x3 = erow (slW i) 8 := erow_congr (rowW i 8 rfl) _ _
@[sl_canon] theorem sIW_8 (v : BitVec 32) (hh hs) : (invM.slice (Rect.unit (s := S4096x1x128) (k0_off181 v) S1x1x128.size hh) hs).squeeze S1x128 squeezes_S1x1x128_S1x128 = isrc v := isrc_congr v rfl _ _
@[sl_canon] theorem sEW_8 (v : BitVec 32) (hh hs) : (eqM.slice (Rect.unit (s := S4096x1x3) (k0_off184 v) S1x1x3.size hh) hs).squeeze S1x3 squeezes_S1x1x3_S1x3 = esrc v := esrc_congr v rfl _ _
@[sl_canon] theorem sI0_8 (v : BitVec 32) (hh hs) : (invM.slice (Rect.unit (s := S4096x1x128) (k0_off17 v) S1x1x128.size hh) hs).squeeze S1x128 squeezes_S1x1x128_S1x128 = isrc v := isrc_congr v rfl _ _
@[sl_canon] theorem sE0_8 (v : BitVec 32) (hh hs) : (eqM.slice (Rect.unit (s := S4096x1x3) (k0_off18 v) S1x1x3.size hh) hs).squeeze S1x3 squeezes_S1x1x3_S1x3 = esrc v := esrc_congr v rfl _ _
@[sl_canon] theorem cI0_9 (hh hs) : (ibM.slice (Rect.unit (s := S2x16x1x128) ![0, 9, 0, 0] S1x1x1x128.size hh) hs).squeeze S1x128 squeezes_S1x1x1x128_S1x128 = irow 0 9 := irow_congr (by decide) _ _
@[sl_canon] theorem cE0_9 (hh hs) : (ebM.slice (Rect.unit (s := S2x16x1x3) ![0, 9, 0, 0] S1x1x1x3.size hh) hs).squeeze S1x3 squeezes_S1x1x1x3_S1x3 = erow 0 9 := erow_congr (by decide) _ _
@[sl_canon] theorem cJ0_9 (hh) : (cc0_scratch2.slice (Rect.unit (s := S2x16) ![0, 9] S1x1.size hh)).squeeze S_ squeezes_S1x1_S_ = icel 0 9 := icel_congr (by decide) _
@[sl_canon] theorem cF0_9 (hh) : (cc0_scratch3.slice (Rect.unit (s := S2x16) ![0, 9] S1x1.size hh)).squeeze S_ squeezes_S1x1_S_ = ecel 0 9 := ecel_congr (by decide) _
@[sl_canon] theorem cJN_9 (i : grid0.Coords) (hh) : (cc0_scratch2.slice (Rect.unit (s := S2x16) (k0_off88 i) S1x1.size hh)).squeeze S_ squeezes_S1x1_S_ = icel (slN i) 9 := icel_congr (cellN i 9 rfl) _
@[sl_canon] theorem cIN_9 (i : grid0.Coords) (hh hs) : (ibM.slice (Rect.unit (s := S2x16x1x128) (k0_off89 i) S1x1x1x128.size hh) hs).squeeze S1x128 squeezes_S1x1x1x128_S1x128 = irow (slN i) 9 := irow_congr (rowN i 9 rfl) _ _
@[sl_canon] theorem cFN_9 (i : grid0.Coords) (hh) : (cc0_scratch3.slice (Rect.unit (s := S2x16) (k0_off91 i) S1x1.size hh)).squeeze S_ squeezes_S1x1_S_ = ecel (slN i) 9 := ecel_congr (cellN i 9 rfl) _
@[sl_canon] theorem cEN_9 (i : grid0.Coords) (hh hs) : (ebM.slice (Rect.unit (s := S2x16x1x3) (k0_off92 i) S1x1x1x3.size hh) hs).squeeze S1x3 squeezes_S1x1x1x3_S1x3 = erow (slN i) 9 := erow_congr (rowN i 9 rfl) _ _
@[sl_canon] theorem sIN_9 (v : BitVec 32) (hh hs) : (invM.slice (Rect.unit (s := S4096x1x128) (k0_off90 v) S1x1x128.size hh) hs).squeeze S1x128 squeezes_S1x1x128_S1x128 = isrc v := isrc_congr v rfl _ _
@[sl_canon] theorem sEN_9 (v : BitVec 32) (hh hs) : (eqM.slice (Rect.unit (s := S4096x1x3) (k0_off93 v) S1x1x3.size hh) hs).squeeze S1x3 squeezes_S1x1x3_S1x3 = esrc v := esrc_congr v rfl _ _
@[sl_canon] theorem cJW_9 (i : grid0.Coords) (hh) : (cc0_scratch2.slice (Rect.unit (s := S2x16) (k0_off185 i) S1x1.size hh)).squeeze S_ squeezes_S1x1_S_ = icel (slW i) 9 := icel_congr (cellW i 9 rfl) _
@[sl_canon] theorem cIW_9 (i : grid0.Coords) (hh hs) : (ibM.slice (Rect.unit (s := S2x16x1x128) (k0_off186 i) S1x1x1x128.size hh) hs).squeeze S1x128 squeezes_S1x1x1x128_S1x128 = irow (slW i) 9 := irow_congr (rowW i 9 rfl) _ _
@[sl_canon] theorem cFW_9 (i : grid0.Coords) (hh) : (cc0_scratch3.slice (Rect.unit (s := S2x16) (k0_off188 i) S1x1.size hh)).squeeze S_ squeezes_S1x1_S_ = ecel (slW i) 9 := ecel_congr (cellW i 9 rfl) _
@[sl_canon] theorem cEW_9 (i : grid0.Coords) (hh hs) : (ebM.slice (Rect.unit (s := S2x16x1x3) (k0_off189 i) S1x1x1x3.size hh) hs).squeeze S1x3 squeezes_S1x1x1x3_S1x3 = erow (slW i) 9 := erow_congr (rowW i 9 rfl) _ _
@[sl_canon] theorem sIW_9 (v : BitVec 32) (hh hs) : (invM.slice (Rect.unit (s := S4096x1x128) (k0_off187 v) S1x1x128.size hh) hs).squeeze S1x128 squeezes_S1x1x128_S1x128 = isrc v := isrc_congr v rfl _ _
@[sl_canon] theorem sEW_9 (v : BitVec 32) (hh hs) : (eqM.slice (Rect.unit (s := S4096x1x3) (k0_off190 v) S1x1x3.size hh) hs).squeeze S1x3 squeezes_S1x1x3_S1x3 = esrc v := esrc_congr v rfl _ _
@[sl_canon] theorem sI0_9 (v : BitVec 32) (hh hs) : (invM.slice (Rect.unit (s := S4096x1x128) (k0_off19 v) S1x1x128.size hh) hs).squeeze S1x128 squeezes_S1x1x128_S1x128 = isrc v := isrc_congr v rfl _ _
@[sl_canon] theorem sE0_9 (v : BitVec 32) (hh hs) : (eqM.slice (Rect.unit (s := S4096x1x3) (k0_off20 v) S1x1x3.size hh) hs).squeeze S1x3 squeezes_S1x1x3_S1x3 = esrc v := esrc_congr v rfl _ _
@[sl_canon] theorem cI0_10 (hh hs) : (ibM.slice (Rect.unit (s := S2x16x1x128) ![0, 10, 0, 0] S1x1x1x128.size hh) hs).squeeze S1x128 squeezes_S1x1x1x128_S1x128 = irow 0 10 := irow_congr (by decide) _ _
@[sl_canon] theorem cE0_10 (hh hs) : (ebM.slice (Rect.unit (s := S2x16x1x3) ![0, 10, 0, 0] S1x1x1x3.size hh) hs).squeeze S1x3 squeezes_S1x1x1x3_S1x3 = erow 0 10 := erow_congr (by decide) _ _
@[sl_canon] theorem cJ0_10 (hh) : (cc0_scratch2.slice (Rect.unit (s := S2x16) ![0, 10] S1x1.size hh)).squeeze S_ squeezes_S1x1_S_ = icel 0 10 := icel_congr (by decide) _
@[sl_canon] theorem cF0_10 (hh) : (cc0_scratch3.slice (Rect.unit (s := S2x16) ![0, 10] S1x1.size hh)).squeeze S_ squeezes_S1x1_S_ = ecel 0 10 := ecel_congr (by decide) _
@[sl_canon] theorem cJN_10 (i : grid0.Coords) (hh) : (cc0_scratch2.slice (Rect.unit (s := S2x16) (k0_off94 i) S1x1.size hh)).squeeze S_ squeezes_S1x1_S_ = icel (slN i) 10 := icel_congr (cellN i 10 rfl) _
@[sl_canon] theorem cIN_10 (i : grid0.Coords) (hh hs) : (ibM.slice (Rect.unit (s := S2x16x1x128) (k0_off95 i) S1x1x1x128.size hh) hs).squeeze S1x128 squeezes_S1x1x1x128_S1x128 = irow (slN i) 10 := irow_congr (rowN i 10 rfl) _ _
@[sl_canon] theorem cFN_10 (i : grid0.Coords) (hh) : (cc0_scratch3.slice (Rect.unit (s := S2x16) (k0_off97 i) S1x1.size hh)).squeeze S_ squeezes_S1x1_S_ = ecel (slN i) 10 := ecel_congr (cellN i 10 rfl) _
@[sl_canon] theorem cEN_10 (i : grid0.Coords) (hh hs) : (ebM.slice (Rect.unit (s := S2x16x1x3) (k0_off98 i) S1x1x1x3.size hh) hs).squeeze S1x3 squeezes_S1x1x1x3_S1x3 = erow (slN i) 10 := erow_congr (rowN i 10 rfl) _ _
@[sl_canon] theorem sIN_10 (v : BitVec 32) (hh hs) : (invM.slice (Rect.unit (s := S4096x1x128) (k0_off96 v) S1x1x128.size hh) hs).squeeze S1x128 squeezes_S1x1x128_S1x128 = isrc v := isrc_congr v rfl _ _
@[sl_canon] theorem sEN_10 (v : BitVec 32) (hh hs) : (eqM.slice (Rect.unit (s := S4096x1x3) (k0_off99 v) S1x1x3.size hh) hs).squeeze S1x3 squeezes_S1x1x3_S1x3 = esrc v := esrc_congr v rfl _ _
@[sl_canon] theorem cJW_10 (i : grid0.Coords) (hh) : (cc0_scratch2.slice (Rect.unit (s := S2x16) (k0_off191 i) S1x1.size hh)).squeeze S_ squeezes_S1x1_S_ = icel (slW i) 10 := icel_congr (cellW i 10 rfl) _
@[sl_canon] theorem cIW_10 (i : grid0.Coords) (hh hs) : (ibM.slice (Rect.unit (s := S2x16x1x128) (k0_off192 i) S1x1x1x128.size hh) hs).squeeze S1x128 squeezes_S1x1x1x128_S1x128 = irow (slW i) 10 := irow_congr (rowW i 10 rfl) _ _
@[sl_canon] theorem cFW_10 (i : grid0.Coords) (hh) : (cc0_scratch3.slice (Rect.unit (s := S2x16) (k0_off194 i) S1x1.size hh)).squeeze S_ squeezes_S1x1_S_ = ecel (slW i) 10 := ecel_congr (cellW i 10 rfl) _
@[sl_canon] theorem cEW_10 (i : grid0.Coords) (hh hs) : (ebM.slice (Rect.unit (s := S2x16x1x3) (k0_off195 i) S1x1x1x3.size hh) hs).squeeze S1x3 squeezes_S1x1x1x3_S1x3 = erow (slW i) 10 := erow_congr (rowW i 10 rfl) _ _
@[sl_canon] theorem sIW_10 (v : BitVec 32) (hh hs) : (invM.slice (Rect.unit (s := S4096x1x128) (k0_off193 v) S1x1x128.size hh) hs).squeeze S1x128 squeezes_S1x1x128_S1x128 = isrc v := isrc_congr v rfl _ _
@[sl_canon] theorem sEW_10 (v : BitVec 32) (hh hs) : (eqM.slice (Rect.unit (s := S4096x1x3) (k0_off196 v) S1x1x3.size hh) hs).squeeze S1x3 squeezes_S1x1x3_S1x3 = esrc v := esrc_congr v rfl _ _
@[sl_canon] theorem sI0_10 (v : BitVec 32) (hh hs) : (invM.slice (Rect.unit (s := S4096x1x128) (k0_off21 v) S1x1x128.size hh) hs).squeeze S1x128 squeezes_S1x1x128_S1x128 = isrc v := isrc_congr v rfl _ _
@[sl_canon] theorem sE0_10 (v : BitVec 32) (hh hs) : (eqM.slice (Rect.unit (s := S4096x1x3) (k0_off22 v) S1x1x3.size hh) hs).squeeze S1x3 squeezes_S1x1x3_S1x3 = esrc v := esrc_congr v rfl _ _
@[sl_canon] theorem cI0_11 (hh hs) : (ibM.slice (Rect.unit (s := S2x16x1x128) ![0, 11, 0, 0] S1x1x1x128.size hh) hs).squeeze S1x128 squeezes_S1x1x1x128_S1x128 = irow 0 11 := irow_congr (by decide) _ _
@[sl_canon] theorem cE0_11 (hh hs) : (ebM.slice (Rect.unit (s := S2x16x1x3) ![0, 11, 0, 0] S1x1x1x3.size hh) hs).squeeze S1x3 squeezes_S1x1x1x3_S1x3 = erow 0 11 := erow_congr (by decide) _ _
@[sl_canon] theorem cJ0_11 (hh) : (cc0_scratch2.slice (Rect.unit (s := S2x16) ![0, 11] S1x1.size hh)).squeeze S_ squeezes_S1x1_S_ = icel 0 11 := icel_congr (by decide) _
@[sl_canon] theorem cF0_11 (hh) : (cc0_scratch3.slice (Rect.unit (s := S2x16) ![0, 11] S1x1.size hh)).squeeze S_ squeezes_S1x1_S_ = ecel 0 11 := ecel_congr (by decide) _
@[sl_canon] theorem cJN_11 (i : grid0.Coords) (hh) : (cc0_scratch2.slice (Rect.unit (s := S2x16) (k0_off100 i) S1x1.size hh)).squeeze S_ squeezes_S1x1_S_ = icel (slN i) 11 := icel_congr (cellN i 11 rfl) _
@[sl_canon] theorem cIN_11 (i : grid0.Coords) (hh hs) : (ibM.slice (Rect.unit (s := S2x16x1x128) (k0_off101 i) S1x1x1x128.size hh) hs).squeeze S1x128 squeezes_S1x1x1x128_S1x128 = irow (slN i) 11 := irow_congr (rowN i 11 rfl) _ _
@[sl_canon] theorem cFN_11 (i : grid0.Coords) (hh) : (cc0_scratch3.slice (Rect.unit (s := S2x16) (k0_off103 i) S1x1.size hh)).squeeze S_ squeezes_S1x1_S_ = ecel (slN i) 11 := ecel_congr (cellN i 11 rfl) _
@[sl_canon] theorem cEN_11 (i : grid0.Coords) (hh hs) : (ebM.slice (Rect.unit (s := S2x16x1x3) (k0_off104 i) S1x1x1x3.size hh) hs).squeeze S1x3 squeezes_S1x1x1x3_S1x3 = erow (slN i) 11 := erow_congr (rowN i 11 rfl) _ _
@[sl_canon] theorem sIN_11 (v : BitVec 32) (hh hs) : (invM.slice (Rect.unit (s := S4096x1x128) (k0_off102 v) S1x1x128.size hh) hs).squeeze S1x128 squeezes_S1x1x128_S1x128 = isrc v := isrc_congr v rfl _ _
@[sl_canon] theorem sEN_11 (v : BitVec 32) (hh hs) : (eqM.slice (Rect.unit (s := S4096x1x3) (k0_off105 v) S1x1x3.size hh) hs).squeeze S1x3 squeezes_S1x1x3_S1x3 = esrc v := esrc_congr v rfl _ _
@[sl_canon] theorem cJW_11 (i : grid0.Coords) (hh) : (cc0_scratch2.slice (Rect.unit (s := S2x16) (k0_off197 i) S1x1.size hh)).squeeze S_ squeezes_S1x1_S_ = icel (slW i) 11 := icel_congr (cellW i 11 rfl) _
@[sl_canon] theorem cIW_11 (i : grid0.Coords) (hh hs) : (ibM.slice (Rect.unit (s := S2x16x1x128) (k0_off198 i) S1x1x1x128.size hh) hs).squeeze S1x128 squeezes_S1x1x1x128_S1x128 = irow (slW i) 11 := irow_congr (rowW i 11 rfl) _ _
@[sl_canon] theorem cFW_11 (i : grid0.Coords) (hh) : (cc0_scratch3.slice (Rect.unit (s := S2x16) (k0_off200 i) S1x1.size hh)).squeeze S_ squeezes_S1x1_S_ = ecel (slW i) 11 := ecel_congr (cellW i 11 rfl) _
@[sl_canon] theorem cEW_11 (i : grid0.Coords) (hh hs) : (ebM.slice (Rect.unit (s := S2x16x1x3) (k0_off201 i) S1x1x1x3.size hh) hs).squeeze S1x3 squeezes_S1x1x1x3_S1x3 = erow (slW i) 11 := erow_congr (rowW i 11 rfl) _ _
@[sl_canon] theorem sIW_11 (v : BitVec 32) (hh hs) : (invM.slice (Rect.unit (s := S4096x1x128) (k0_off199 v) S1x1x128.size hh) hs).squeeze S1x128 squeezes_S1x1x128_S1x128 = isrc v := isrc_congr v rfl _ _
@[sl_canon] theorem sEW_11 (v : BitVec 32) (hh hs) : (eqM.slice (Rect.unit (s := S4096x1x3) (k0_off202 v) S1x1x3.size hh) hs).squeeze S1x3 squeezes_S1x1x3_S1x3 = esrc v := esrc_congr v rfl _ _
@[sl_canon] theorem sI0_11 (v : BitVec 32) (hh hs) : (invM.slice (Rect.unit (s := S4096x1x128) (k0_off23 v) S1x1x128.size hh) hs).squeeze S1x128 squeezes_S1x1x128_S1x128 = isrc v := isrc_congr v rfl _ _
@[sl_canon] theorem sE0_11 (v : BitVec 32) (hh hs) : (eqM.slice (Rect.unit (s := S4096x1x3) (k0_off24 v) S1x1x3.size hh) hs).squeeze S1x3 squeezes_S1x1x3_S1x3 = esrc v := esrc_congr v rfl _ _
@[sl_canon] theorem cI0_12 (hh hs) : (ibM.slice (Rect.unit (s := S2x16x1x128) ![0, 12, 0, 0] S1x1x1x128.size hh) hs).squeeze S1x128 squeezes_S1x1x1x128_S1x128 = irow 0 12 := irow_congr (by decide) _ _
@[sl_canon] theorem cE0_12 (hh hs) : (ebM.slice (Rect.unit (s := S2x16x1x3) ![0, 12, 0, 0] S1x1x1x3.size hh) hs).squeeze S1x3 squeezes_S1x1x1x3_S1x3 = erow 0 12 := erow_congr (by decide) _ _
@[sl_canon] theorem cJ0_12 (hh) : (cc0_scratch2.slice (Rect.unit (s := S2x16) ![0, 12] S1x1.size hh)).squeeze S_ squeezes_S1x1_S_ = icel 0 12 := icel_congr (by decide) _
@[sl_canon] theorem cF0_12 (hh) : (cc0_scratch3.slice (Rect.unit (s := S2x16) ![0, 12] S1x1.size hh)).squeeze S_ squeezes_S1x1_S_ = ecel 0 12 := ecel_congr (by decide) _
@[sl_canon] theorem cJN_12 (i : grid0.Coords) (hh) : (cc0_scratch2.slice (Rect.unit (s := S2x16) (k0_off106 i) S1x1.size hh)).squeeze S_ squeezes_S1x1_S_ = icel (slN i) 12 := icel_congr (cellN i 12 rfl) _
@[sl_canon] theorem cIN_12 (i : grid0.Coords) (hh hs) : (ibM.slice (Rect.unit (s := S2x16x1x128) (k0_off107 i) S1x1x1x128.size hh) hs).squeeze S1x128 squeezes_S1x1x1x128_S1x128 = irow (slN i) 12 := irow_congr (rowN i 12 rfl) _ _
@[sl_canon] theorem cFN_12 (i : grid0.Coords) (hh) : (cc0_scratch3.slice (Rect.unit (s := S2x16) (k0_off109 i) S1x1.size hh)).squeeze S_ squeezes_S1x1_S_ = ecel (slN i) 12 := ecel_congr (cellN i 12 rfl) _
@[sl_canon] theorem cEN_12 (i : grid0.Coords) (hh hs) : (ebM.slice (Rect.unit (s := S2x16x1x3) (k0_off110 i) S1x1x1x3.size hh) hs).squeeze S1x3 squeezes_S1x1x1x3_S1x3 = erow (slN i) 12 := erow_congr (rowN i 12 rfl) _ _
@[sl_canon] theorem sIN_12 (v : BitVec 32) (hh hs) : (invM.slice (Rect.unit (s := S4096x1x128) (k0_off108 v) S1x1x128.size hh) hs).squeeze S1x128 squeezes_S1x1x128_S1x128 = isrc v := isrc_congr v rfl _ _
@[sl_canon] theorem sEN_12 (v : BitVec 32) (hh hs) : (eqM.slice (Rect.unit (s := S4096x1x3) (k0_off111 v) S1x1x3.size hh) hs).squeeze S1x3 squeezes_S1x1x3_S1x3 = esrc v := esrc_congr v rfl _ _
@[sl_canon] theorem cJW_12 (i : grid0.Coords) (hh) : (cc0_scratch2.slice (Rect.unit (s := S2x16) (k0_off203 i) S1x1.size hh)).squeeze S_ squeezes_S1x1_S_ = icel (slW i) 12 := icel_congr (cellW i 12 rfl) _
@[sl_canon] theorem cIW_12 (i : grid0.Coords) (hh hs) : (ibM.slice (Rect.unit (s := S2x16x1x128) (k0_off204 i) S1x1x1x128.size hh) hs).squeeze S1x128 squeezes_S1x1x1x128_S1x128 = irow (slW i) 12 := irow_congr (rowW i 12 rfl) _ _
@[sl_canon] theorem cFW_12 (i : grid0.Coords) (hh) : (cc0_scratch3.slice (Rect.unit (s := S2x16) (k0_off206 i) S1x1.size hh)).squeeze S_ squeezes_S1x1_S_ = ecel (slW i) 12 := ecel_congr (cellW i 12 rfl) _
@[sl_canon] theorem cEW_12 (i : grid0.Coords) (hh hs) : (ebM.slice (Rect.unit (s := S2x16x1x3) (k0_off207 i) S1x1x1x3.size hh) hs).squeeze S1x3 squeezes_S1x1x1x3_S1x3 = erow (slW i) 12 := erow_congr (rowW i 12 rfl) _ _
@[sl_canon] theorem sIW_12 (v : BitVec 32) (hh hs) : (invM.slice (Rect.unit (s := S4096x1x128) (k0_off205 v) S1x1x128.size hh) hs).squeeze S1x128 squeezes_S1x1x128_S1x128 = isrc v := isrc_congr v rfl _ _
@[sl_canon] theorem sEW_12 (v : BitVec 32) (hh hs) : (eqM.slice (Rect.unit (s := S4096x1x3) (k0_off208 v) S1x1x3.size hh) hs).squeeze S1x3 squeezes_S1x1x3_S1x3 = esrc v := esrc_congr v rfl _ _
@[sl_canon] theorem sI0_12 (v : BitVec 32) (hh hs) : (invM.slice (Rect.unit (s := S4096x1x128) (k0_off25 v) S1x1x128.size hh) hs).squeeze S1x128 squeezes_S1x1x128_S1x128 = isrc v := isrc_congr v rfl _ _
@[sl_canon] theorem sE0_12 (v : BitVec 32) (hh hs) : (eqM.slice (Rect.unit (s := S4096x1x3) (k0_off26 v) S1x1x3.size hh) hs).squeeze S1x3 squeezes_S1x1x3_S1x3 = esrc v := esrc_congr v rfl _ _
@[sl_canon] theorem cI0_13 (hh hs) : (ibM.slice (Rect.unit (s := S2x16x1x128) ![0, 13, 0, 0] S1x1x1x128.size hh) hs).squeeze S1x128 squeezes_S1x1x1x128_S1x128 = irow 0 13 := irow_congr (by decide) _ _
@[sl_canon] theorem cE0_13 (hh hs) : (ebM.slice (Rect.unit (s := S2x16x1x3) ![0, 13, 0, 0] S1x1x1x3.size hh) hs).squeeze S1x3 squeezes_S1x1x1x3_S1x3 = erow 0 13 := erow_congr (by decide) _ _
@[sl_canon] theorem cJ0_13 (hh) : (cc0_scratch2.slice (Rect.unit (s := S2x16) ![0, 13] S1x1.size hh)).squeeze S_ squeezes_S1x1_S_ = icel 0 13 := icel_congr (by decide) _
@[sl_canon] theorem cF0_13 (hh) : (cc0_scratch3.slice (Rect.unit (s := S2x16) ![0, 13] S1x1.size hh)).squeeze S_ squeezes_S1x1_S_ = ecel 0 13 := ecel_congr (by decide) _
@[sl_canon] theorem cJN_13 (i : grid0.Coords) (hh) : (cc0_scratch2.slice (Rect.unit (s := S2x16) (k0_off112 i) S1x1.size hh)).squeeze S_ squeezes_S1x1_S_ = icel (slN i) 13 := icel_congr (cellN i 13 rfl) _
@[sl_canon] theorem cIN_13 (i : grid0.Coords) (hh hs) : (ibM.slice (Rect.unit (s := S2x16x1x128) (k0_off113 i) S1x1x1x128.size hh) hs).squeeze S1x128 squeezes_S1x1x1x128_S1x128 = irow (slN i) 13 := irow_congr (rowN i 13 rfl) _ _
@[sl_canon] theorem cFN_13 (i : grid0.Coords) (hh) : (cc0_scratch3.slice (Rect.unit (s := S2x16) (k0_off115 i) S1x1.size hh)).squeeze S_ squeezes_S1x1_S_ = ecel (slN i) 13 := ecel_congr (cellN i 13 rfl) _
@[sl_canon] theorem cEN_13 (i : grid0.Coords) (hh hs) : (ebM.slice (Rect.unit (s := S2x16x1x3) (k0_off116 i) S1x1x1x3.size hh) hs).squeeze S1x3 squeezes_S1x1x1x3_S1x3 = erow (slN i) 13 := erow_congr (rowN i 13 rfl) _ _
@[sl_canon] theorem sIN_13 (v : BitVec 32) (hh hs) : (invM.slice (Rect.unit (s := S4096x1x128) (k0_off114 v) S1x1x128.size hh) hs).squeeze S1x128 squeezes_S1x1x128_S1x128 = isrc v := isrc_congr v rfl _ _
@[sl_canon] theorem sEN_13 (v : BitVec 32) (hh hs) : (eqM.slice (Rect.unit (s := S4096x1x3) (k0_off117 v) S1x1x3.size hh) hs).squeeze S1x3 squeezes_S1x1x3_S1x3 = esrc v := esrc_congr v rfl _ _
@[sl_canon] theorem cJW_13 (i : grid0.Coords) (hh) : (cc0_scratch2.slice (Rect.unit (s := S2x16) (k0_off209 i) S1x1.size hh)).squeeze S_ squeezes_S1x1_S_ = icel (slW i) 13 := icel_congr (cellW i 13 rfl) _
@[sl_canon] theorem cIW_13 (i : grid0.Coords) (hh hs) : (ibM.slice (Rect.unit (s := S2x16x1x128) (k0_off210 i) S1x1x1x128.size hh) hs).squeeze S1x128 squeezes_S1x1x1x128_S1x128 = irow (slW i) 13 := irow_congr (rowW i 13 rfl) _ _
@[sl_canon] theorem cFW_13 (i : grid0.Coords) (hh) : (cc0_scratch3.slice (Rect.unit (s := S2x16) (k0_off212 i) S1x1.size hh)).squeeze S_ squeezes_S1x1_S_ = ecel (slW i) 13 := ecel_congr (cellW i 13 rfl) _
@[sl_canon] theorem cEW_13 (i : grid0.Coords) (hh hs) : (ebM.slice (Rect.unit (s := S2x16x1x3) (k0_off213 i) S1x1x1x3.size hh) hs).squeeze S1x3 squeezes_S1x1x1x3_S1x3 = erow (slW i) 13 := erow_congr (rowW i 13 rfl) _ _
@[sl_canon] theorem sIW_13 (v : BitVec 32) (hh hs) : (invM.slice (Rect.unit (s := S4096x1x128) (k0_off211 v) S1x1x128.size hh) hs).squeeze S1x128 squeezes_S1x1x128_S1x128 = isrc v := isrc_congr v rfl _ _
@[sl_canon] theorem sEW_13 (v : BitVec 32) (hh hs) : (eqM.slice (Rect.unit (s := S4096x1x3) (k0_off214 v) S1x1x3.size hh) hs).squeeze S1x3 squeezes_S1x1x3_S1x3 = esrc v := esrc_congr v rfl _ _
@[sl_canon] theorem sI0_13 (v : BitVec 32) (hh hs) : (invM.slice (Rect.unit (s := S4096x1x128) (k0_off27 v) S1x1x128.size hh) hs).squeeze S1x128 squeezes_S1x1x128_S1x128 = isrc v := isrc_congr v rfl _ _
@[sl_canon] theorem sE0_13 (v : BitVec 32) (hh hs) : (eqM.slice (Rect.unit (s := S4096x1x3) (k0_off28 v) S1x1x3.size hh) hs).squeeze S1x3 squeezes_S1x1x3_S1x3 = esrc v := esrc_congr v rfl _ _
@[sl_canon] theorem cI0_14 (hh hs) : (ibM.slice (Rect.unit (s := S2x16x1x128) ![0, 14, 0, 0] S1x1x1x128.size hh) hs).squeeze S1x128 squeezes_S1x1x1x128_S1x128 = irow 0 14 := irow_congr (by decide) _ _
@[sl_canon] theorem cE0_14 (hh hs) : (ebM.slice (Rect.unit (s := S2x16x1x3) ![0, 14, 0, 0] S1x1x1x3.size hh) hs).squeeze S1x3 squeezes_S1x1x1x3_S1x3 = erow 0 14 := erow_congr (by decide) _ _
@[sl_canon] theorem cJ0_14 (hh) : (cc0_scratch2.slice (Rect.unit (s := S2x16) ![0, 14] S1x1.size hh)).squeeze S_ squeezes_S1x1_S_ = icel 0 14 := icel_congr (by decide) _
@[sl_canon] theorem cF0_14 (hh) : (cc0_scratch3.slice (Rect.unit (s := S2x16) ![0, 14] S1x1.size hh)).squeeze S_ squeezes_S1x1_S_ = ecel 0 14 := ecel_congr (by decide) _
@[sl_canon] theorem cJN_14 (i : grid0.Coords) (hh) : (cc0_scratch2.slice (Rect.unit (s := S2x16) (k0_off118 i) S1x1.size hh)).squeeze S_ squeezes_S1x1_S_ = icel (slN i) 14 := icel_congr (cellN i 14 rfl) _
@[sl_canon] theorem cIN_14 (i : grid0.Coords) (hh hs) : (ibM.slice (Rect.unit (s := S2x16x1x128) (k0_off119 i) S1x1x1x128.size hh) hs).squeeze S1x128 squeezes_S1x1x1x128_S1x128 = irow (slN i) 14 := irow_congr (rowN i 14 rfl) _ _
@[sl_canon] theorem cFN_14 (i : grid0.Coords) (hh) : (cc0_scratch3.slice (Rect.unit (s := S2x16) (k0_off121 i) S1x1.size hh)).squeeze S_ squeezes_S1x1_S_ = ecel (slN i) 14 := ecel_congr (cellN i 14 rfl) _
@[sl_canon] theorem cEN_14 (i : grid0.Coords) (hh hs) : (ebM.slice (Rect.unit (s := S2x16x1x3) (k0_off122 i) S1x1x1x3.size hh) hs).squeeze S1x3 squeezes_S1x1x1x3_S1x3 = erow (slN i) 14 := erow_congr (rowN i 14 rfl) _ _
@[sl_canon] theorem sIN_14 (v : BitVec 32) (hh hs) : (invM.slice (Rect.unit (s := S4096x1x128) (k0_off120 v) S1x1x128.size hh) hs).squeeze S1x128 squeezes_S1x1x128_S1x128 = isrc v := isrc_congr v rfl _ _
@[sl_canon] theorem sEN_14 (v : BitVec 32) (hh hs) : (eqM.slice (Rect.unit (s := S4096x1x3) (k0_off123 v) S1x1x3.size hh) hs).squeeze S1x3 squeezes_S1x1x3_S1x3 = esrc v := esrc_congr v rfl _ _
@[sl_canon] theorem cJW_14 (i : grid0.Coords) (hh) : (cc0_scratch2.slice (Rect.unit (s := S2x16) (k0_off215 i) S1x1.size hh)).squeeze S_ squeezes_S1x1_S_ = icel (slW i) 14 := icel_congr (cellW i 14 rfl) _
@[sl_canon] theorem cIW_14 (i : grid0.Coords) (hh hs) : (ibM.slice (Rect.unit (s := S2x16x1x128) (k0_off216 i) S1x1x1x128.size hh) hs).squeeze S1x128 squeezes_S1x1x1x128_S1x128 = irow (slW i) 14 := irow_congr (rowW i 14 rfl) _ _
@[sl_canon] theorem cFW_14 (i : grid0.Coords) (hh) : (cc0_scratch3.slice (Rect.unit (s := S2x16) (k0_off218 i) S1x1.size hh)).squeeze S_ squeezes_S1x1_S_ = ecel (slW i) 14 := ecel_congr (cellW i 14 rfl) _
@[sl_canon] theorem cEW_14 (i : grid0.Coords) (hh hs) : (ebM.slice (Rect.unit (s := S2x16x1x3) (k0_off219 i) S1x1x1x3.size hh) hs).squeeze S1x3 squeezes_S1x1x1x3_S1x3 = erow (slW i) 14 := erow_congr (rowW i 14 rfl) _ _
@[sl_canon] theorem sIW_14 (v : BitVec 32) (hh hs) : (invM.slice (Rect.unit (s := S4096x1x128) (k0_off217 v) S1x1x128.size hh) hs).squeeze S1x128 squeezes_S1x1x128_S1x128 = isrc v := isrc_congr v rfl _ _
@[sl_canon] theorem sEW_14 (v : BitVec 32) (hh hs) : (eqM.slice (Rect.unit (s := S4096x1x3) (k0_off220 v) S1x1x3.size hh) hs).squeeze S1x3 squeezes_S1x1x3_S1x3 = esrc v := esrc_congr v rfl _ _
@[sl_canon] theorem sI0_14 (v : BitVec 32) (hh hs) : (invM.slice (Rect.unit (s := S4096x1x128) (k0_off29 v) S1x1x128.size hh) hs).squeeze S1x128 squeezes_S1x1x128_S1x128 = isrc v := isrc_congr v rfl _ _
@[sl_canon] theorem sE0_14 (v : BitVec 32) (hh hs) : (eqM.slice (Rect.unit (s := S4096x1x3) (k0_off30 v) S1x1x3.size hh) hs).squeeze S1x3 squeezes_S1x1x3_S1x3 = esrc v := esrc_congr v rfl _ _
@[sl_canon] theorem cI0_15 (hh hs) : (ibM.slice (Rect.unit (s := S2x16x1x128) ![0, 15, 0, 0] S1x1x1x128.size hh) hs).squeeze S1x128 squeezes_S1x1x1x128_S1x128 = irow 0 15 := irow_congr (by decide) _ _
@[sl_canon] theorem cE0_15 (hh hs) : (ebM.slice (Rect.unit (s := S2x16x1x3) ![0, 15, 0, 0] S1x1x1x3.size hh) hs).squeeze S1x3 squeezes_S1x1x1x3_S1x3 = erow 0 15 := erow_congr (by decide) _ _
@[sl_canon] theorem cJ0_15 (hh) : (cc0_scratch2.slice (Rect.unit (s := S2x16) ![0, 15] S1x1.size hh)).squeeze S_ squeezes_S1x1_S_ = icel 0 15 := icel_congr (by decide) _
@[sl_canon] theorem cF0_15 (hh) : (cc0_scratch3.slice (Rect.unit (s := S2x16) ![0, 15] S1x1.size hh)).squeeze S_ squeezes_S1x1_S_ = ecel 0 15 := ecel_congr (by decide) _
@[sl_canon] theorem cJN_15 (i : grid0.Coords) (hh) : (cc0_scratch2.slice (Rect.unit (s := S2x16) (k0_off124 i) S1x1.size hh)).squeeze S_ squeezes_S1x1_S_ = icel (slN i) 15 := icel_congr (cellN i 15 rfl) _
@[sl_canon] theorem cIN_15 (i : grid0.Coords) (hh hs) : (ibM.slice (Rect.unit (s := S2x16x1x128) (k0_off125 i) S1x1x1x128.size hh) hs).squeeze S1x128 squeezes_S1x1x1x128_S1x128 = irow (slN i) 15 := irow_congr (rowN i 15 rfl) _ _
@[sl_canon] theorem cFN_15 (i : grid0.Coords) (hh) : (cc0_scratch3.slice (Rect.unit (s := S2x16) (k0_off127 i) S1x1.size hh)).squeeze S_ squeezes_S1x1_S_ = ecel (slN i) 15 := ecel_congr (cellN i 15 rfl) _
@[sl_canon] theorem cEN_15 (i : grid0.Coords) (hh hs) : (ebM.slice (Rect.unit (s := S2x16x1x3) (k0_off128 i) S1x1x1x3.size hh) hs).squeeze S1x3 squeezes_S1x1x1x3_S1x3 = erow (slN i) 15 := erow_congr (rowN i 15 rfl) _ _
@[sl_canon] theorem sIN_15 (v : BitVec 32) (hh hs) : (invM.slice (Rect.unit (s := S4096x1x128) (k0_off126 v) S1x1x128.size hh) hs).squeeze S1x128 squeezes_S1x1x128_S1x128 = isrc v := isrc_congr v rfl _ _
@[sl_canon] theorem sEN_15 (v : BitVec 32) (hh hs) : (eqM.slice (Rect.unit (s := S4096x1x3) (k0_off129 v) S1x1x3.size hh) hs).squeeze S1x3 squeezes_S1x1x3_S1x3 = esrc v := esrc_congr v rfl _ _
@[sl_canon] theorem cJW_15 (i : grid0.Coords) (hh) : (cc0_scratch2.slice (Rect.unit (s := S2x16) (k0_off221 i) S1x1.size hh)).squeeze S_ squeezes_S1x1_S_ = icel (slW i) 15 := icel_congr (cellW i 15 rfl) _
@[sl_canon] theorem cIW_15 (i : grid0.Coords) (hh hs) : (ibM.slice (Rect.unit (s := S2x16x1x128) (k0_off222 i) S1x1x1x128.size hh) hs).squeeze S1x128 squeezes_S1x1x1x128_S1x128 = irow (slW i) 15 := irow_congr (rowW i 15 rfl) _ _
@[sl_canon] theorem cFW_15 (i : grid0.Coords) (hh) : (cc0_scratch3.slice (Rect.unit (s := S2x16) (k0_off224 i) S1x1.size hh)).squeeze S_ squeezes_S1x1_S_ = ecel (slW i) 15 := ecel_congr (cellW i 15 rfl) _
@[sl_canon] theorem cEW_15 (i : grid0.Coords) (hh hs) : (ebM.slice (Rect.unit (s := S2x16x1x3) (k0_off225 i) S1x1x1x3.size hh) hs).squeeze S1x3 squeezes_S1x1x1x3_S1x3 = erow (slW i) 15 := erow_congr (rowW i 15 rfl) _ _
@[sl_canon] theorem sIW_15 (v : BitVec 32) (hh hs) : (invM.slice (Rect.unit (s := S4096x1x128) (k0_off223 v) S1x1x128.size hh) hs).squeeze S1x128 squeezes_S1x1x128_S1x128 = isrc v := isrc_congr v rfl _ _
@[sl_canon] theorem sEW_15 (v : BitVec 32) (hh hs) : (eqM.slice (Rect.unit (s := S4096x1x3) (k0_off226 v) S1x1x3.size hh) hs).squeeze S1x3 squeezes_S1x1x3_S1x3 = esrc v := esrc_congr v rfl _ _
@[sl_canon] theorem sI0_15 (v : BitVec 32) (hh hs) : (invM.slice (Rect.unit (s := S4096x1x128) (k0_off31 v) S1x1x128.size hh) hs).squeeze S1x128 squeezes_S1x1x128_S1x128 = isrc v := isrc_congr v rfl _ _
@[sl_canon] theorem sE0_15 (v : BitVec 32) (hh hs) : (eqM.slice (Rect.unit (s := S4096x1x3) (k0_off32 v) S1x1x3.size hh) hs).squeeze S1x3 squeezes_S1x1x3_S1x3 = esrc v := esrc_congr v rfl _ _

end Cert.GatherIdealWork

end
-- ==== Proof.IdealRows.lean ====
/- The pieces of the gather body: what is held of each row, of each cell and of the arrays the rows come from; how a
   landed row reads; how sixteen landed rows make the slot the body loads. -/
module

public import proofs.«01_k».proof.Proof.IdealNames

@[expose] public section

noncomputable section

namespace Cert.GatherIdealWork

open Cert.GatherIdeal Cert.GatherIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

/-- The threads of this program's devices. -/
abbrev TT : Type := Thread nD τ

section Rows
variable {F : FTy → Type} [FloatOps F]
local notation "𝕄" => MT nD τ sig Unit (Elt F) ℕ (Pipeline.UD sig nD τ) ℕ

/-! ## The index words -/

abbrev tbM : Memref sig .tc .smem S4096 .i32 := Memref.whole main_arg0
/-- Indices by their coordinates. -/
def ixW (n : Fin 4096) : S4096.Idx := fun | 0 => n
/-- The table's word at place `n`. -/
def wd {c : Dev nD} (g : Buf (Elt F) (tbM.view.loc (c : TT))) (n : Fin 4096) : BitVec 32 := g (ixW n)
/-- The word of row `k` of block `t` (blocks counted modulo their number). -/
def bw {c : Dev nD} (g : Buf (Elt F) (tbM.view.loc (c : TT))) (t : ℕ) (k : Fin 16) : BitVec 32 :=
  wd g ⟨(16 * t + k.val) % 4096, Nat.mod_lt _ (by decide)⟩
/-- Every word names a row. -/
def InTab {c : Dev nD} (g : Buf (Elt F) (tbM.view.loc (c : TT))) : Prop := ∀ n, (wd g n).toNat < 4096
/-- A one-word load of the table reads the word at its offset. -/
theorem word_at {c : Dev nD} (g : Buf (Elt F) (tbM.view.loc (c : TT))) (off : Fin 1 → ℕ) (hi) (n : ℕ) (hn : off = ![n]) (hl : n < 4096) (j) :
    (tbM.view.readAt (Elt F) (Rect.unit (s := S4096) off S1.size hi).toLoadRect g j : BitVec 32) = wd g ⟨n, hl⟩ := by
  subst hn
  have hj : (j 0).val = 0 := Nat.lt_one_iff.mp (j 0).isLt
  refine congrArg (fun x : S4096.Idx => (g x : BitVec 32)) (funext fun a => ?_)
  fin_cases a
  refine Fin.ext ?_
  show n + 1 * (j 0).val = n
  omega
theorem word_lt {c : Dev nD} {g : Buf (Elt F) (tbM.view.loc (c : TT))} (hg : InTab g) (L : LoadRect S4096) (j) :
    ((tbM.view.readAt (Elt F) L g j) : BitVec 32).toNat < 4096 := by
  have : (tbM.view.readAt (Elt F) L g j : BitVec 32) = wd g (L.idx j 0) :=
    congrArg (fun x : S4096.Idx => (g x : BitVec 32)) (funext fun a => by fin_cases a; rfl)
  rw [this]; exact hg _
theorem bw_lt {c : Dev nD} {g : Buf (Elt F) (tbM.view.loc (c : TT))} (hg : InTab g) (t k) : (bw g t k).toNat < 4096 := hg _

/-! ## Where the pieces sit -/

def bI (s : Fin 2) (k : Fin 16) (l : Fin 128) : S2x16x1x128.Idx := fun | 0 => s | 1 => k | 2 => (0 : Fin 1) | 3 => l
def rI (r : Fin 4096) (l : Fin 128) : S4096x1x128.Idx := fun | 0 => r | 1 => (0 : Fin 1) | 2 => l
def oI (l : Fin 128) : S1x128.Idx := fun | 0 => (0 : Fin 1) | 1 => l
def qI (l : Fin 128) : S1x1x1x128.Idx := fun | 0 => (0 : Fin 1) | 1 => (0 : Fin 1) | 2 => (0 : Fin 1) | 3 => l
def uI (l : Fin 128) : S1x1x128.Idx := fun | 0 => (0 : Fin 1) | 1 => (0 : Fin 1) | 2 => l
def hI (k : Fin 16) (l : Fin 128) : S1x16x1x128.Idx := fun | 0 => (0 : Fin 1) | 1 => k | 2 => (0 : Fin 1) | 3 => l
theorem irow_emb (s : Fin 2) (k : Fin 16) (y : S1x128.Idx) : @Eq S2x16x1x128.Idx ((irow s k).view.emb y) (bI s k (y 1)) := by
  have hy : (y 0).val = 0 := Nat.lt_one_iff.mp (y 0).isLt
  show (Rect.unit (s := S2x16x1x128) (rowOff s k) S1x1x1x128.size (rowOff_inb_i s k)).emb (Shape.reshapeEquiv _ y) = _
  rw [Shape.reshapeEquiv_eq_of_rowMajor _ (x := y) (y := qI (y 1))
    (by rw [Shape.rowMajor_val_four, Shape.rowMajor_val_two, hy]; show ((0 * 1 + 0) * 1 + 0) * 128 + (y 1).val = 0 * 128 + (y 1).val; omega)]
  funext a; refine Fin.ext ?_; fin_cases a
  · show s.val + 1 * 0 = s.val; omega
  · show k.val + 1 * 0 = k.val; omega
  · rfl
  · show 0 + 1 * (y 1).val = (y 1).val; omega
theorem isrc_emb (v : BitVec 32) (y : S1x128.Idx) : @Eq S4096x1x128.Idx ((isrc v).view.emb y) (rI (rowOf v) (y 1)) := by
  have hy : (y 0).val = 0 := Nat.lt_one_iff.mp (y 0).isLt
  show (Rect.unit (s := S4096x1x128) (srcOff (rowOf v)) S1x1x128.size (srcOff_inb_i (rowOf v))).emb (Shape.reshapeEquiv _ y) = _
  rw [Shape.reshapeEquiv_eq_of_rowMajor _ (x := y) (y := uI (y 1))
    (by rw [Shape.rowMajor_val_three, Shape.rowMajor_val_two, hy]; show (0 * 1 + 0) * 128 + (y 1).val = 0 * 128 + (y 1).val; omega)]
  funext a; refine Fin.ext ?_; fin_cases a
  · show (rowOf v).val + 1 * 0 = (rowOf v).val; omega
  · rfl
  · show 0 + 1 * (y 1).val = (y 1).val; omega

theorem mem_irow (s : Fin 2) (k : Fin 16) (x : S2x16x1x128.Idx) : x ∈ ((irow s k).view.set : Finset S2x16x1x128.Idx) ↔ x 0 = s ∧ x 1 = k := by
  constructor
  · intro h
    obtain ⟨y, -, rfl⟩ := Finset.mem_map.mp h
    have e := irow_emb s k y
    exact ⟨congrArg (fun z : S2x16x1x128.Idx => z 0) e, congrArg (fun z : S2x16x1x128.Idx => z 1) e⟩
  · rintro ⟨h0, h1⟩
    refine Finset.mem_map.mpr ⟨oI (x 3), Finset.mem_univ _, (irow_emb s k _).trans ?_⟩
    funext a; fin_cases a
    · exact h0.symm
    · exact h1.symm
    · exact Subsingleton.elim (α := Fin 1) _ _
    · rfl

/-! ## A slot -/

abbrev slotOff (s : Fin 2) : Fin 4 → ℕ := ![s.val, 0, 0, 0]
theorem slotOff_inb_i (s : Fin 2) : ∀ a, slotOff s a + S1x16x1x128.size a ≤ S2x16x1x128.size a := by
  have := s.isLt; intro a; fin_cases a
  · show s.val + 1 ≤ 2; omega
  · show 0 + 16 ≤ 16; omega
  · show 0 + 1 ≤ 1; omega
  · show 0 + 128 ≤ 128; omega
instance (s : Fin 2) : ClosedOff (slotOff s) := ⟨slotOff s, rfl⟩
def islot (s : Fin 2) : Memref sig .tc .vmem S1x16x1x128 .f32 := ibM.slice (Rect.unit (s := S2x16x1x128) (slotOff s) S1x16x1x128.size (slotOff_inb_i s)) (fun _ => rfl)
theorem islot_emb (s : Fin 2) (y : S1x16x1x128.Idx) : @Eq S2x16x1x128.Idx ((islot s).view.emb y) (bI s (y 1) (y 3)) := by
  have hy : (y 0).val = 0 := Nat.lt_one_iff.mp (y 0).isLt
  have hy2 : (y 2).val = 0 := Nat.lt_one_iff.mp (y 2).isLt
  show (Rect.unit (s := S2x16x1x128) (slotOff s) S1x16x1x128.size (slotOff_inb_i s)).emb y = _
  funext a; refine Fin.ext ?_; fin_cases a
  · show s.val + 1 * (y 0).val = s.val; omega
  · show 0 + 1 * (y 1).val = (y 1).val; omega
  · show 0 + 1 * (y 2).val = 0; omega
  · show 0 + 1 * (y 3).val = (y 3).val; omega
theorem mem_islot (s : Fin 2) (x : S2x16x1x128.Idx) : x ∈ ((islot s).view.set : Finset S2x16x1x128.Idx) ↔ x 0 = s := by
  constructor
  · intro h
    obtain ⟨y, -, rfl⟩ := Finset.mem_map.mp h
    exact congrArg (fun z : S2x16x1x128.Idx => z 0) (islot_emb s y)
  · intro h0
    refine Finset.mem_map.mpr ⟨hI (x 1) (x 3), Finset.mem_univ _, (islot_emb s _).trans ?_⟩
    funext a; fin_cases a
    · exact h0.symm
    · rfl
    · exact Subsingleton.elim (α := Fin 1) _ _
    · rfl
def irowS (c : Dev nD) (s : Fin 2) (k : Fin 16) : Finset (Idx (ibM.view.loc (c : TT))) := (irow s k).view.set
def islotS (c : Dev nD) (s : Fin 2) : Finset (Idx (ibM.view.loc (c : TT))) := (islot s).view.set
theorem irowS_disj (c : Dev nD) (s : Fin 2) (k k' : Fin 16) (h : k ≠ k') : Disjoint (irowS c s k) (irowS c s k') :=
  Finset.disjoint_left.mpr fun x hx hx' => h (((mem_irow s k x).mp hx).2.symm.trans ((mem_irow s k' x).mp hx').2)
theorem irowS_cover (c : Dev nD) (s : Fin 2) : Finset.univ.biUnion (irowS c s) = islotS c s := by
  refine Finset.ext fun x => ?_
  rw [Finset.mem_biUnion]
  refine ⟨fun ⟨k, _, h⟩ => (mem_islot s x).mpr ((mem_irow s k x).mp h).1, fun h => ?_⟩
  exact ⟨((x : S2x16x1x128.Idx) 1 : Fin 16), Finset.mem_univ _, (mem_irow s _ x).mpr ⟨(mem_islot s x).mp h, rfl⟩⟩
/-- A slot is its sixteen rows. -/
theorem islot_rows (c : Dev nD) (s : Fin 2) (f : Buf (Elt F) (ibM.view.loc (c : TT))) :
    (ibM.view.loc (c : TT) ↦[islotS c s]{fullShare} f : sProp 𝕄)
      = bigSep Finset.univ fun k : Fin 16 => ibM.view.loc (c : TT) ↦[irowS c s k]{fullShare} f :=
  Ring.pointsTo_sub_blocks (irowS c s) (irowS_disj c s) (islotS c s) (irowS_cover c s) f

/-! ## What a landed row holds -/

/-- The buffer of feature rows with row `k` of either slot the row of `X` that `V k` names. -/
def Gi {c : Dev nD} (X : Buf (Elt F) (invM.view.loc (c : TT))) (V : Fin 16 → BitVec 32) : Buf (Elt F) (ibM.view.loc (c : TT)) :=
  fun x : S2x16x1x128.Idx => (X : S4096x1x128.Idx → Elt F .f32) (rI (rowOf (V (x 1))) (x 3))
theorem irow_landed (c : Dev nD) (s : Fin 2) (k : Fin 16) (f : Buf (Elt F) ((irow s k).view.loc (c : TT))) (X : Buf (Elt F) (invM.view.loc (c : TT)))
    (V : Fin 16 → BitVec 32) (v : BitVec 32) (hv : V k = v) :
    ((irow s k).view.loc (c : TT) ↦[(irow s k).view.set]{fullShare} (irow s k).view.writes (Elt F) f [⟨Rect.whole S1x128, ReadAs.same.apply ((isrc v).view.read (Elt F) X)⟩] : sProp 𝕄)
      = (ibM.view.loc (c : TT) ↦[irowS c s k]{fullShare} Gi X V) := by
  subst hv
  refine pointsTo_congr fun i hi => ?_
  obtain ⟨y, -, rfl⟩ := Finset.mem_map.mp hi
  have h1 := congrFun (View.read_writes_whole (irow s k).view f (ReadAs.same.apply ((isrc (V k)).view.read (Elt F) X))) y
  refine (show (irow s k).view.writes (Elt F) f _ ((irow s k).view.emb y) = _ from h1).trans ?_
  show X ((isrc (V k)).view.emb y) = Gi X V ((irow s k).view.emb y)
  have e1 := isrc_emb (V k) y
  have e2 := irow_emb s k y
  exact (congrArg (X : S4096x1x128.Idx → Elt F .f32) e1).trans (congrArg (fun x : S2x16x1x128.Idx => (X : S4096x1x128.Idx → Elt F .f32) (rI (rowOf (V (x 1))) (x 3))) e2).symm

/-! ## The same for coordinate rows -/

def cI (s : Fin 2) (k : Fin 16) (l : Fin 3) : S2x16x1x3.Idx := fun | 0 => s | 1 => k | 2 => (0 : Fin 1) | 3 => l
def pI (r : Fin 4096) (l : Fin 3) : S4096x1x3.Idx := fun | 0 => r | 1 => (0 : Fin 1) | 2 => l
def vI (l : Fin 3) : S1x3.Idx := fun | 0 => (0 : Fin 1) | 1 => l
def wI (l : Fin 3) : S1x1x1x3.Idx := fun | 0 => (0 : Fin 1) | 1 => (0 : Fin 1) | 2 => (0 : Fin 1) | 3 => l
def xI (l : Fin 3) : S1x1x3.Idx := fun | 0 => (0 : Fin 1) | 1 => (0 : Fin 1) | 2 => l
def zI (k : Fin 16) (l : Fin 3) : S1x16x1x3.Idx := fun | 0 => (0 : Fin 1) | 1 => k | 2 => (0 : Fin 1) | 3 => l
theorem erow_emb (s : Fin 2) (k : Fin 16) (y : S1x3.Idx) : @Eq S2x16x1x3.Idx ((erow s k).view.emb y) (cI s k (y 1)) := by
  have hy : (y 0).val = 0 := Nat.lt_one_iff.mp (y 0).isLt
  show (Rect.unit (s := S2x16x1x3) (rowOff s k) S1x1x1x3.size (rowOff_inb_e s k)).emb (Shape.reshapeEquiv _ y) = _
  rw [Shape.reshapeEquiv_eq_of_rowMajor _ (x := y) (y := wI (y 1))
    (by rw [Shape.rowMajor_val_four, Shape.rowMajor_val_two, hy]; show ((0 * 1 + 0) * 1 + 0) * 3 + (y 1).val = 0 * 3 + (y 1).val; omega)]
  funext a; refine Fin.ext ?_; fin_cases a
  · show s.val + 1 * 0 = s.val; omega
  · show k.val + 1 * 0 = k.val; omega
  · rfl
  · show 0 + 1 * (y 1).val = (y 1).val; omega
theorem esrc_emb (v : BitVec 32) (y : S1x3.Idx) : @Eq S4096x1x3.Idx ((esrc v).view.emb y) (pI (rowOf v) (y 1)) := by
  have hy : (y 0).val = 0 := Nat.lt_one_iff.mp (y 0).isLt
  show (Rect.unit (s := S4096x1x3) (srcOff (rowOf v)) S1x1x3.size (srcOff_inb_e (rowOf v))).emb (Shape.reshapeEquiv _ y) = _
  rw [Shape.reshapeEquiv_eq_of_rowMajor _ (x := y) (y := xI (y 1))
    (by rw [Shape.rowMajor_val_three, Shape.rowMajor_val_two, hy]; show (0 * 1 + 0) * 3 + (y 1).val = 0 * 3 + (y 1).val; omega)]
  funext a; refine Fin.ext ?_; fin_cases a
  · show (rowOf v).val + 1 * 0 = (rowOf v).val; omega
  · rfl
  · show 0 + 1 * (y 1).val = (y 1).val; omega

theorem mem_erow (s : Fin 2) (k : Fin 16) (x : S2x16x1x3.Idx) : x ∈ ((erow s k).view.set : Finset S2x16x1x3.Idx) ↔ x 0 = s ∧ x 1 = k := by
  constructor
  · intro h
    obtain ⟨y, -, rfl⟩ := Finset.mem_map.mp h
    have e := erow_emb s k y
    exact ⟨congrArg (fun z : S2x16x1x3.Idx => z 0) e, congrArg (fun z : S2x16x1x3.Idx => z 1) e⟩
  · rintro ⟨h0, h1⟩
    refine Finset.mem_map.mpr ⟨vI (x 3), Finset.mem_univ _, (erow_emb s k _).trans ?_⟩
    funext a; fin_cases a
    · exact h0.symm
    · exact h1.symm
    · exact Subsingleton.elim (α := Fin 1) _ _
    · rfl

theorem slotOff_inb_e (s : Fin 2) : ∀ a, slotOff s a + S1x16x1x3.size a ≤ S2x16x1x3.size a := by
  have := s.isLt; intro a; fin_cases a
  · show s.val + 1 ≤ 2; omega
  · show 0 + 16 ≤ 16; omega
  · show 0 + 1 ≤ 1; omega
  · show 0 + 3 ≤ 3; omega
def eslot (s : Fin 2) : Memref sig .tc .vmem S1x16x1x3 .f32 := ebM.slice (Rect.unit (s := S2x16x1x3) (slotOff s) S1x16x1x3.size (slotOff_inb_e s)) (fun _ => rfl)
theorem eslot_emb (s : Fin 2) (y : S1x16x1x3.Idx) : @Eq S2x16x1x3.Idx ((eslot s).view.emb y) (cI s (y 1) (y 3)) := by
  have hy : (y 0).val = 0 := Nat.lt_one_iff.mp (y 0).isLt
  have hy2 : (y 2).val = 0 := Nat.lt_one_iff.mp (y 2).isLt
  show (Rect.unit (s := S2x16x1x3) (slotOff s) S1x16x1x3.size (slotOff_inb_e s)).emb y = _
  funext a; refine Fin.ext ?_; fin_cases a
  · show s.val + 1 * (y 0).val = s.val; omega
  · show 0 + 1 * (y 1).val = (y 1).val; omega
  · show 0 + 1 * (y 2).val = 0; omega
  · show 0 + 1 * (y 3).val = (y 3).val; omega
theorem mem_eslot (s : Fin 2) (x : S2x16x1x3.Idx) : x ∈ ((eslot s).view.set : Finset S2x16x1x3.Idx) ↔ x 0 = s := by
  constructor
  · intro h
    obtain ⟨y, -, rfl⟩ := Finset.mem_map.mp h
    exact congrArg (fun z : S2x16x1x3.Idx => z 0) (eslot_emb s y)
  · intro h0
    refine Finset.mem_map.mpr ⟨zI (x 1) (x 3), Finset.mem_univ _, (eslot_emb s _).trans ?_⟩
    funext a; fin_cases a
    · exact h0.symm
    · rfl
    · exact Subsingleton.elim (α := Fin 1) _ _
    · rfl
def erowS (c : Dev nD) (s : Fin 2) (k : Fin 16) : Finset (Idx (ebM.view.loc (c : TT))) := (erow s k).view.set
def eslotS (c : Dev nD) (s : Fin 2) : Finset (Idx (ebM.view.loc (c : TT))) := (eslot s).view.set
theorem erowS_disj (c : Dev nD) (s : Fin 2) (k k' : Fin 16) (h : k ≠ k') : Disjoint (erowS c s k) (erowS c s k') :=
  Finset.disjoint_left.mpr fun x hx hx' => h (((mem_erow s k x).mp hx).2.symm.trans ((mem_erow s k' x).mp hx').2)
theorem erowS_cover (c : Dev nD) (s : Fin 2) : Finset.univ.biUnion (erowS c s) = eslotS c s := by
  refine Finset.ext fun x => ?_
  rw [Finset.mem_biUnion]
  refine ⟨fun ⟨k, _, h⟩ => (mem_eslot s x).mpr ((mem_erow s k x).mp h).1, fun h => ?_⟩
  exact ⟨((x : S2x16x1x3.Idx) 1 : Fin 16), Finset.mem_univ _, (mem_erow s _ x).mpr ⟨(mem_eslot s x).mp h, rfl⟩⟩
/-- A slot is its sixteen rows. -/
theorem eslot_rows (c : Dev nD) (s : Fin 2) (f : Buf (Elt F) (ebM.view.loc (c : TT))) :
    (ebM.view.loc (c : TT) ↦[eslotS c s]{fullShare} f : sProp 𝕄)
      = bigSep Finset.univ fun k : Fin 16 => ebM.view.loc (c : TT) ↦[erowS c s k]{fullShare} f :=
  Ring.pointsTo_sub_blocks (erowS c s) (erowS_disj c s) (eslotS c s) (erowS_cover c s) f

/-! ## What a landed row holds -/

/-- The buffer of coordinate rows with row `k` of either slot the row of `X` that `V k` names. -/
def Ge {c : Dev nD} (X : Buf (Elt F) (eqM.view.loc (c : TT))) (V : Fin 16 → BitVec 32) : Buf (Elt F) (ebM.view.loc (c : TT)) :=
  fun x : S2x16x1x3.Idx => (X : S4096x1x3.Idx → Elt F .f32) (pI (rowOf (V (x 1))) (x 3))
theorem erow_landed (c : Dev nD) (s : Fin 2) (k : Fin 16) (f : Buf (Elt F) ((erow s k).view.loc (c : TT))) (X : Buf (Elt F) (eqM.view.loc (c : TT)))
    (V : Fin 16 → BitVec 32) (v : BitVec 32) (hv : V k = v) :
    ((erow s k).view.loc (c : TT) ↦[(erow s k).view.set]{fullShare} (erow s k).view.writes (Elt F) f [⟨Rect.whole S1x3, ReadAs.same.apply ((esrc v).view.read (Elt F) X)⟩] : sProp 𝕄)
      = (ebM.view.loc (c : TT) ↦[erowS c s k]{fullShare} Ge X V) := by
  subst hv
  refine pointsTo_congr fun i hi => ?_
  obtain ⟨y, -, rfl⟩ := Finset.mem_map.mp hi
  have h1 := congrFun (View.read_writes_whole (erow s k).view f (ReadAs.same.apply ((esrc (V k)).view.read (Elt F) X))) y
  refine (show (erow s k).view.writes (Elt F) f _ ((erow s k).view.emb y) = _ from h1).trans ?_
  show X ((esrc (V k)).view.emb y) = Ge X V ((erow s k).view.emb y)
  have e1 := esrc_emb (V k) y
  have e2 := erow_emb s k y
  exact (congrArg (X : S4096x1x3.Idx → Elt F .f32) e1).trans (congrArg (fun x : S2x16x1x3.Idx => (X : S4096x1x3.Idx → Elt F .f32) (pI (rowOf (V (x 1))) (x 3))) e2).symm

end Rows

end Cert.GatherIdealWork
end
-- ==== Proof.IdealHold.lean ====
/- What the gather body holds of a slot: its rows, its cells and a share of the two arrays, at rest and in flight. -/
module

public import proofs.«01_k».proof.Proof.IdealRows

@[expose] public section

noncomputable section

namespace Cert.GatherIdealWork

open Cert.GatherIdeal Cert.GatherIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

/-- A word below the number of rows names a row: the checks hold of it. -/
theorem chkI {v : BitVec 32} {off : Fin 3 → Nat} (h : v.toNat < 4096) (ho : off = ![v.toNat, 0, 0]) : ∀ a, off a + S1x1x128.size a ≤ S4096x1x128.size a := by
  subst ho; intro a; fin_cases a
  · show v.toNat + 1 ≤ 4096; omega
  · show 0 + 1 ≤ 1; omega
  · show 0 + 128 ≤ 128; omega
theorem chkE {v : BitVec 32} {off : Fin 3 → Nat} (h : v.toNat < 4096) (ho : off = ![v.toNat, 0, 0]) : ∀ a, off a + S1x1x3.size a ≤ S4096x1x3.size a := by
  subst ho; intro a; fin_cases a
  · show v.toNat + 1 ≤ 4096; omega
  · show 0 + 1 ≤ 1; omega
  · show 0 + 3 ≤ 3; omega
theorem chk1 (i : grid0.Coords) (v : BitVec 32) (h : v.toNat < 4096) : k0_chk1 i v := ⟨fun _ => chkI h rfl, fun _ => chkE h rfl⟩
theorem chk2 (i : grid0.Coords) (v : BitVec 32) (h : v.toNat < 4096) : k0_chk2 i v := ⟨fun _ => chkI h rfl, fun _ => chkE h rfl⟩
theorem chk3 (i : grid0.Coords) (v : BitVec 32) (h : v.toNat < 4096) : k0_chk3 i v := ⟨fun _ => chkI h rfl, fun _ => chkE h rfl⟩
theorem chk4 (i : grid0.Coords) (v : BitVec 32) (h : v.toNat < 4096) : k0_chk4 i v := ⟨fun _ => chkI h rfl, fun _ => chkE h rfl⟩
theorem chk5 (i : grid0.Coords) (v : BitVec 32) (h : v.toNat < 4096) : k0_chk5 i v := ⟨fun _ => chkI h rfl, fun _ => chkE h rfl⟩
theorem chk6 (i : grid0.Coords) (v : BitVec 32) (h : v.toNat < 4096) : k0_chk6 i v := ⟨fun _ => chkI h rfl, fun _ => chkE h rfl⟩
theorem chk7 (i : grid0.Coords) (v : BitVec 32) (h : v.toNat < 4096) : k0_chk7 i v := ⟨fun _ => chkI h rfl, fun _ => chkE h rfl⟩
theorem chk8 (i : grid0.Coords) (v : BitVec 32) (h : v.toNat < 4096) : k0_chk8 i v := ⟨fun _ => chkI h rfl, fun _ => chkE h rfl⟩
theorem chk9 (i : grid0.Coords) (v : BitVec 32) (h : v.toNat < 4096) : k0_chk9 i v := ⟨fun _ => chkI h rfl, fun _ => chkE h rfl⟩
theorem chk10 (i : grid0.Coords) (v : BitVec 32) (h : v.toNat < 4096) : k0_chk10 i v := ⟨fun _ => chkI h rfl, fun _ => chkE h rfl⟩
theorem chk11 (i : grid0.Coords) (v : BitVec 32) (h : v.toNat < 4096) : k0_chk11 i v := ⟨fun _ => chkI h rfl, fun _ => chkE h rfl⟩
theorem chk12 (i : grid0.Coords) (v : BitVec 32) (h : v.toNat < 4096) : k0_chk12 i v := ⟨fun _ => chkI h rfl, fun _ => chkE h rfl⟩
theorem chk13 (i : grid0.Coords) (v : BitVec 32) (h : v.toNat < 4096) : k0_chk13 i v := ⟨fun _ => chkI h rfl, fun _ => chkE h rfl⟩
theorem chk14 (i : grid0.Coords) (v : BitVec 32) (h : v.toNat < 4096) : k0_chk14 i v := ⟨fun _ => chkI h rfl, fun _ => chkE h rfl⟩
theorem chk15 (i : grid0.Coords) (v : BitVec 32) (h : v.toNat < 4096) : k0_chk15 i v := ⟨fun _ => chkI h rfl, fun _ => chkE h rfl⟩
theorem chk16 (i : grid0.Coords) (v : BitVec 32) (h : v.toNat < 4096) : k0_chk16 i v := ⟨fun _ => chkI h rfl, fun _ => chkE h rfl⟩
theorem chk17 (i : grid0.Coords) (v : BitVec 32) (h : v.toNat < 4096) : k0_chk17 i v := ⟨fun _ => chkI h rfl, fun _ => chkE h rfl⟩
theorem chk18 (i : grid0.Coords) (v : BitVec 32) (h : v.toNat < 4096) : k0_chk18 i v := ⟨fun _ => chkI h rfl, fun _ => chkE h rfl⟩
theorem chk19 (i : grid0.Coords) (v : BitVec 32) (h : v.toNat < 4096) : k0_chk19 i v := ⟨fun _ => chkI h rfl, fun _ => chkE h rfl⟩
theorem chk20 (i : grid0.Coords) (v : BitVec 32) (h : v.toNat < 4096) : k0_chk20 i v := ⟨fun _ => chkI h rfl, fun _ => chkE h rfl⟩
theorem chk21 (i : grid0.Coords) (v : BitVec 32) (h : v.toNat < 4096) : k0_chk21 i v := ⟨fun _ => chkI h rfl, fun _ => chkE h rfl⟩
theorem chk22 (i : grid0.Coords) (v : BitVec 32) (h : v.toNat < 4096) : k0_chk22 i v := ⟨fun _ => chkI h rfl, fun _ => chkE h rfl⟩
theorem chk23 (i : grid0.Coords) (v : BitVec 32) (h : v.toNat < 4096) : k0_chk23 i v := ⟨fun _ => chkI h rfl, fun _ => chkE h rfl⟩
theorem chk24 (i : grid0.Coords) (v : BitVec 32) (h : v.toNat < 4096) : k0_chk24 i v := ⟨fun _ => chkI h rfl, fun _ => chkE h rfl⟩
theorem chk25 (i : grid0.Coords) (v : BitVec 32) (h : v.toNat < 4096) : k0_chk25 i v := ⟨fun _ => chkI h rfl, fun _ => chkE h rfl⟩
theorem chk26 (i : grid0.Coords) (v : BitVec 32) (h : v.toNat < 4096) : k0_chk26 i v := ⟨fun _ => chkI h rfl, fun _ => chkE h rfl⟩
theorem chk27 (i : grid0.Coords) (v : BitVec 32) (h : v.toNat < 4096) : k0_chk27 i v := ⟨fun _ => chkI h rfl, fun _ => chkE h rfl⟩
theorem chk28 (i : grid0.Coords) (v : BitVec 32) (h : v.toNat < 4096) : k0_chk28 i v := ⟨fun _ => chkI h rfl, fun _ => chkE h rfl⟩
theorem chk29 (i : grid0.Coords) (v : BitVec 32) (h : v.toNat < 4096) : k0_chk29 i v := ⟨fun _ => chkI h rfl, fun _ => chkE h rfl⟩
theorem chk30 (i : grid0.Coords) (v : BitVec 32) (h : v.toNat < 4096) : k0_chk30 i v := ⟨fun _ => chkI h rfl, fun _ => chkE h rfl⟩
theorem chk31 (i : grid0.Coords) (v : BitVec 32) (h : v.toNat < 4096) : k0_chk31 i v := ⟨fun _ => chkI h rfl, fun _ => chkE h rfl⟩
theorem chk32 (i : grid0.Coords) (v : BitVec 32) (h : v.toNat < 4096) : k0_chk32 i v := ⟨fun _ => chkI h rfl, fun _ => chkE h rfl⟩
theorem chk33 (v : BitVec 32) (h : v.toNat < 4096) : k0_chk33 v := ⟨chkI h rfl, chkE h rfl⟩
theorem chk34 (v : BitVec 32) (h : v.toNat < 4096) : k0_chk34 v := ⟨chkI h rfl, chkE h rfl⟩
theorem chk35 (v : BitVec 32) (h : v.toNat < 4096) : k0_chk35 v := ⟨chkI h rfl, chkE h rfl⟩
theorem chk36 (v : BitVec 32) (h : v.toNat < 4096) : k0_chk36 v := ⟨chkI h rfl, chkE h rfl⟩
theorem chk37 (v : BitVec 32) (h : v.toNat < 4096) : k0_chk37 v := ⟨chkI h rfl, chkE h rfl⟩
theorem chk38 (v : BitVec 32) (h : v.toNat < 4096) : k0_chk38 v := ⟨chkI h rfl, chkE h rfl⟩
theorem chk39 (v : BitVec 32) (h : v.toNat < 4096) : k0_chk39 v := ⟨chkI h rfl, chkE h rfl⟩
theorem chk40 (v : BitVec 32) (h : v.toNat < 4096) : k0_chk40 v := ⟨chkI h rfl, chkE h rfl⟩
theorem chk41 (v : BitVec 32) (h : v.toNat < 4096) : k0_chk41 v := ⟨chkI h rfl, chkE h rfl⟩
theorem chk42 (v : BitVec 32) (h : v.toNat < 4096) : k0_chk42 v := ⟨chkI h rfl, chkE h rfl⟩
theorem chk43 (v : BitVec 32) (h : v.toNat < 4096) : k0_chk43 v := ⟨chkI h rfl, chkE h rfl⟩
theorem chk44 (v : BitVec 32) (h : v.toNat < 4096) : k0_chk44 v := ⟨chkI h rfl, chkE h rfl⟩
theorem chk45 (v : BitVec 32) (h : v.toNat < 4096) : k0_chk45 v := ⟨chkI h rfl, chkE h rfl⟩
theorem chk46 (v : BitVec 32) (h : v.toNat < 4096) : k0_chk46 v := ⟨chkI h rfl, chkE h rfl⟩
theorem chk47 (v : BitVec 32) (h : v.toNat < 4096) : k0_chk47 v := ⟨chkI h rfl, chkE h rfl⟩
theorem chk48 (v : BitVec 32) (h : v.toNat < 4096) : k0_chk48 v := ⟨chkI h rfl, chkE h rfl⟩

section Hold
variable {F : FTy → Type} [FloatOps F]
local notation "𝕄" => MT nD τ sig Unit (Elt F) ℕ (Pipeline.UD sig nD τ) ℕ
/-- The share of an array lent to the transfer of row `k` of slot `s`. -/
def tk (s : Fin 2) (k : Fin 16) : PosShare TreeShare := Transfers.shareTokN fullShare (16 * s.val + k.val)
/-- The table, at the half share the body is given. -/
abbrev tabP (c : Dev nD) (g : Buf (Elt F) (tbM.view.loc (c : TT))) : sProp 𝕄 := tbM.view.loc (c : TT) ↦{fullShare.right} g
abbrev irowP (c : Dev nD) (s : Fin 2) (k : Fin 16) (f : Buf (Elt F) ((irow s k).view.loc (c : TT))) : sProp 𝕄 :=
  (irow s k).view.loc (c : TT) ↦[(irow s k).view.set]{fullShare} f
abbrev icelP (c : Dev nD) (s : Fin 2) (k : Fin 16) : sProp 𝕄 := semVal ((c : TT), SemLoc.dma (icel s k).sem) 0
abbrev isrcP (c : Dev nD) (q : PosShare TreeShare) (v : BitVec 32) (X : Buf (Elt F) (invM.view.loc (c : TT))) : sProp 𝕄 :=
  (isrc v).view.loc (c : TT) ↦[(isrc v).view.set]{q} X
abbrev isrcR (c : Dev nD) (q : PosShare TreeShare) (v : BitVec 32) (X : Buf (Elt F) (invM.view.loc (c : TT))) : sProp 𝕄 :=
  invM.view.loc (c : TT) ↦[Finset.univ \ (isrc v).view.set]{q} X
theorem isplit (c : Dev nD) (q : PosShare TreeShare) (v : BitVec 32) (X : Buf (Elt F) (invM.view.loc (c : TT))) :
    (invM.view.loc (c : TT) ↦{q} X : sProp 𝕄) ⊣⊢ iprop(isrcP c q v X ∗ isrcR c q v X) := pointsTo_split_subset (Finset.subset_univ _)
abbrev irowL (c : Dev nD) (s : Fin 2) (k : Fin 16) (v : BitVec 32) (X : Buf (Elt F) (invM.view.loc (c : TT))) (f : Buf (Elt F) ((irow s k).view.loc (c : TT))) : sProp 𝕄 :=
  (irow s k).view.loc (c : TT) ↦[(irow s k).view.set]{fullShare} (irow s k).view.writes (Elt F) f [⟨Rect.whole S1x128, ReadAs.same.apply ((isrc v).view.read (Elt F) X)⟩]
abbrev iflyP (c : Dev nD) (s : Fin 2) (k : Fin 16) (v : BitVec 32) (X : Buf (Elt F) (invM.view.loc (c : TT))) (f : Buf (Elt F) ((irow s k).view.loc (c : TT))) : sProp 𝕄 :=
  Transfers.Flight countersEmb (c : TT) (SemLoc.dma (icel s k).sem) () 16 iprop(irowL c s k v X f ∗ isrcP c (tk s k) v X)
abbrev erowP (c : Dev nD) (s : Fin 2) (k : Fin 16) (f : Buf (Elt F) ((erow s k).view.loc (c : TT))) : sProp 𝕄 :=
  (erow s k).view.loc (c : TT) ↦[(erow s k).view.set]{fullShare} f
abbrev ecelP (c : Dev nD) (s : Fin 2) (k : Fin 16) : sProp 𝕄 := semVal ((c : TT), SemLoc.dma (ecel s k).sem) 0
abbrev esrcP (c : Dev nD) (q : PosShare TreeShare) (v : BitVec 32) (X : Buf (Elt F) (eqM.view.loc (c : TT))) : sProp 𝕄 :=
  (esrc v).view.loc (c : TT) ↦[(esrc v).view.set]{q} X
abbrev esrcR (c : Dev nD) (q : PosShare TreeShare) (v : BitVec 32) (X : Buf (Elt F) (eqM.view.loc (c : TT))) : sProp 𝕄 :=
  eqM.view.loc (c : TT) ↦[Finset.univ \ (esrc v).view.set]{q} X
theorem esplit (c : Dev nD) (q : PosShare TreeShare) (v : BitVec 32) (X : Buf (Elt F) (eqM.view.loc (c : TT))) :
    (eqM.view.loc (c : TT) ↦{q} X : sProp 𝕄) ⊣⊢ iprop(esrcP c q v X ∗ esrcR c q v X) := pointsTo_split_subset (Finset.subset_univ _)
abbrev erowL (c : Dev nD) (s : Fin 2) (k : Fin 16) (v : BitVec 32) (X : Buf (Elt F) (eqM.view.loc (c : TT))) (f : Buf (Elt F) ((erow s k).view.loc (c : TT))) : sProp 𝕄 :=
  (erow s k).view.loc (c : TT) ↦[(erow s k).view.set]{fullShare} (erow s k).view.writes (Elt F) f [⟨Rect.whole S1x3, ReadAs.same.apply ((esrc v).view.read (Elt F) X)⟩]
abbrev eflyP (c : Dev nD) (s : Fin 2) (k : Fin 16) (v : BitVec 32) (X : Buf (Elt F) (eqM.view.loc (c : TT))) (f : Buf (Elt F) ((erow s k).view.loc (c : TT))) : sProp 𝕄 :=
  Transfers.Flight countersEmb (c : TT) (SemLoc.dma (ecel s k).sem) () 16 iprop(erowL c s k v X f ∗ esrcP c (tk s k) v X)

/-- The sixteen words of a block. -/
def V16 (v0 v1 v2 v3 v4 v5 v6 v7 v8 v9 v10 v11 v12 v13 v14 v15 : BitVec 32) : Fin 16 → BitVec 32 := ![v0, v1, v2, v3, v4, v5, v6, v7, v8, v9, v10, v11, v12, v13, v14, v15]
/-- The shares slot `s`'s transfers are lent, at rest; -/
def toksP (c : Dev nD) (s : Fin 2) (X1 : Buf (Elt F) (invM.view.loc (c : TT))) (X2 : Buf (Elt F) (eqM.view.loc (c : TT))) : sProp 𝕄 :=
  iprop((invM.view.loc (c : TT) ↦{tk s 0} X1) ∗ (eqM.view.loc (c : TT) ↦{tk s 0} X2) ∗ (invM.view.loc (c : TT) ↦{tk s 1} X1) ∗ (eqM.view.loc (c : TT) ↦{tk s 1} X2) ∗ (invM.view.loc (c : TT) ↦{tk s 2} X1) ∗ (eqM.view.loc (c : TT) ↦{tk s 2} X2) ∗ (invM.view.loc (c : TT) ↦{tk s 3} X1) ∗ (eqM.view.loc (c : TT) ↦{tk s 3} X2) ∗ (invM.view.loc (c : TT) ↦{tk s 4} X1) ∗ (eqM.view.loc (c : TT) ↦{tk s 4} X2) ∗ (invM.view.loc (c : TT) ↦{tk s 5} X1) ∗ (eqM.view.loc (c : TT) ↦{tk s 5} X2) ∗ (invM.view.loc (c : TT) ↦{tk s 6} X1) ∗ (eqM.view.loc (c : TT) ↦{tk s 6} X2) ∗ (invM.view.loc (c : TT) ↦{tk s 7} X1) ∗ (eqM.view.loc (c : TT) ↦{tk s 7} X2) ∗ (invM.view.loc (c : TT) ↦{tk s 8} X1) ∗ (eqM.view.loc (c : TT) ↦{tk s 8} X2) ∗ (invM.view.loc (c : TT) ↦{tk s 9} X1) ∗ (eqM.view.loc (c : TT) ↦{tk s 9} X2) ∗ (invM.view.loc (c : TT) ↦{tk s 10} X1) ∗ (eqM.view.loc (c : TT) ↦{tk s 10} X2) ∗ (invM.view.loc (c : TT) ↦{tk s 11} X1) ∗ (eqM.view.loc (c : TT) ↦{tk s 11} X2) ∗ (invM.view.loc (c : TT) ↦{tk s 12} X1) ∗ (eqM.view.loc (c : TT) ↦{tk s 12} X2) ∗ (invM.view.loc (c : TT) ↦{tk s 13} X1) ∗ (eqM.view.loc (c : TT) ↦{tk s 13} X2) ∗ (invM.view.loc (c : TT) ↦{tk s 14} X1) ∗ (eqM.view.loc (c : TT) ↦{tk s 14} X2) ∗ (invM.view.loc (c : TT) ↦{tk s 15} X1) ∗ (eqM.view.loc (c : TT) ↦{tk s 15} X2))
/-- what stays behind of them while the rows `V` names are lent. -/
def restsP (c : Dev nD) (s : Fin 2) (V : Fin 16 → BitVec 32) (X1 : Buf (Elt F) (invM.view.loc (c : TT))) (X2 : Buf (Elt F) (eqM.view.loc (c : TT))) : sProp 𝕄 :=
  iprop(isrcR c (tk s 0) (V 0) X1 ∗ esrcR c (tk s 0) (V 0) X2 ∗ isrcR c (tk s 1) (V 1) X1 ∗ esrcR c (tk s 1) (V 1) X2 ∗ isrcR c (tk s 2) (V 2) X1 ∗ esrcR c (tk s 2) (V 2) X2 ∗ isrcR c (tk s 3) (V 3) X1 ∗ esrcR c (tk s 3) (V 3) X2 ∗ isrcR c (tk s 4) (V 4) X1 ∗ esrcR c (tk s 4) (V 4) X2 ∗ isrcR c (tk s 5) (V 5) X1 ∗ esrcR c (tk s 5) (V 5) X2 ∗ isrcR c (tk s 6) (V 6) X1 ∗ esrcR c (tk s 6) (V 6) X2 ∗ isrcR c (tk s 7) (V 7) X1 ∗ esrcR c (tk s 7) (V 7) X2 ∗ isrcR c (tk s 8) (V 8) X1 ∗ esrcR c (tk s 8) (V 8) X2 ∗ isrcR c (tk s 9) (V 9) X1 ∗ esrcR c (tk s 9) (V 9) X2 ∗ isrcR c (tk s 10) (V 10) X1 ∗ esrcR c (tk s 10) (V 10) X2 ∗ isrcR c (tk s 11) (V 11) X1 ∗ esrcR c (tk s 11) (V 11) X2 ∗ isrcR c (tk s 12) (V 12) X1 ∗ esrcR c (tk s 12) (V 12) X2 ∗ isrcR c (tk s 13) (V 13) X1 ∗ esrcR c (tk s 13) (V 13) X2 ∗ isrcR c (tk s 14) (V 14) X1 ∗ esrcR c (tk s 14) (V 14) X2 ∗ isrcR c (tk s 15) (V 15) X1 ∗ esrcR c (tk s 15) (V 15) X2)
theorem toks_split (c : Dev nD) (s : Fin 2) (X1 : Buf (Elt F) (invM.view.loc (c : TT))) (X2 : Buf (Elt F) (eqM.view.loc (c : TT))) (v0 v1 v2 v3 v4 v5 v6 v7 v8 v9 v10 v11 v12 v13 v14 v15 : BitVec 32) :
    (toksP c s X1 X2 : sProp 𝕄) ⊢ iprop(restsP c s (V16 v0 v1 v2 v3 v4 v5 v6 v7 v8 v9 v10 v11 v12 v13 v14 v15) X1 X2 ∗ isrcP c (tk s 0) v0 X1 ∗ esrcP c (tk s 0) v0 X2 ∗ isrcP c (tk s 1) v1 X1 ∗ esrcP c (tk s 1) v1 X2 ∗ isrcP c (tk s 2) v2 X1 ∗ esrcP c (tk s 2) v2 X2 ∗ isrcP c (tk s 3) v3 X1 ∗ esrcP c (tk s 3) v3 X2 ∗ isrcP c (tk s 4) v4 X1 ∗ esrcP c (tk s 4) v4 X2 ∗ isrcP c (tk s 5) v5 X1 ∗ esrcP c (tk s 5) v5 X2 ∗ isrcP c (tk s 6) v6 X1 ∗ esrcP c (tk s 6) v6 X2 ∗ isrcP c (tk s 7) v7 X1 ∗ esrcP c (tk s 7) v7 X2 ∗ isrcP c (tk s 8) v8 X1 ∗ esrcP c (tk s 8) v8 X2 ∗ isrcP c (tk s 9) v9 X1 ∗ esrcP c (tk s 9) v9 X2 ∗ isrcP c (tk s 10) v10 X1 ∗ esrcP c (tk s 10) v10 X2 ∗ isrcP c (tk s 11) v11 X1 ∗ esrcP c (tk s 11) v11 X2 ∗ isrcP c (tk s 12) v12 X1 ∗ esrcP c (tk s 12) v12 X2 ∗ isrcP c (tk s 13) v13 X1 ∗ esrcP c (tk s 13) v13 X2 ∗ isrcP c (tk s 14) v14 X1 ∗ esrcP c (tk s 14) v14 X2 ∗ isrcP c (tk s 15) v15 X1 ∗ esrcP c (tk s 15) v15 X2) := by
  unfold toksP restsP
  iintro ⟨HX0, HY0, HX1, HY1, HX2, HY2, HX3, HY3, HX4, HY4, HX5, HY5, HX6, HY6, HX7, HY7, HX8, HY8, HX9, HY9, HX10, HY10, HX11, HY11, HX12, HY12, HX13, HY13, HX14, HY14, HX15, HY15⟩
  ihave HX0 := (isplit c (tk s 0) v0 X1).1 $$ HX0
  icases HX0 with ⟨HS0, HR0⟩
  ihave HY0 := (esplit c (tk s 0) v0 X2).1 $$ HY0
  icases HY0 with ⟨HU0, HV0⟩
  ihave HX1 := (isplit c (tk s 1) v1 X1).1 $$ HX1
  icases HX1 with ⟨HS1, HR1⟩
  ihave HY1 := (esplit c (tk s 1) v1 X2).1 $$ HY1
  icases HY1 with ⟨HU1, HV1⟩
  ihave HX2 := (isplit c (tk s 2) v2 X1).1 $$ HX2
  icases HX2 with ⟨HS2, HR2⟩
  ihave HY2 := (esplit c (tk s 2) v2 X2).1 $$ HY2
  icases HY2 with ⟨HU2, HV2⟩
  ihave HX3 := (isplit c (tk s 3) v3 X1).1 $$ HX3
  icases HX3 with ⟨HS3, HR3⟩
  ihave HY3 := (esplit c (tk s 3) v3 X2).1 $$ HY3
  icases HY3 with ⟨HU3, HV3⟩
  ihave HX4 := (isplit c (tk s 4) v4 X1).1 $$ HX4
  icases HX4 with ⟨HS4, HR4⟩
  ihave HY4 := (esplit c (tk s 4) v4 X2).1 $$ HY4
  icases HY4 with ⟨HU4, HV4⟩
  ihave HX5 := (isplit c (tk s 5) v5 X1).1 $$ HX5
  icases HX5 with ⟨HS5, HR5⟩
  ihave HY5 := (esplit c (tk s 5) v5 X2).1 $$ HY5
  icases HY5 with ⟨HU5, HV5⟩
  ihave HX6 := (isplit c (tk s 6) v6 X1).1 $$ HX6
  icases HX6 with ⟨HS6, HR6⟩
  ihave HY6 := (esplit c (tk s 6) v6 X2).1 $$ HY6
  icases HY6 with ⟨HU6, HV6⟩
  ihave HX7 := (isplit c (tk s 7) v7 X1).1 $$ HX7
  icases HX7 with ⟨HS7, HR7⟩
  ihave HY7 := (esplit c (tk s 7) v7 X2).1 $$ HY7
  icases HY7 with ⟨HU7, HV7⟩
  ihave HX8 := (isplit c (tk s 8) v8 X1).1 $$ HX8
  icases HX8 with ⟨HS8, HR8⟩
  ihave HY8 := (esplit c (tk s 8) v8 X2).1 $$ HY8
  icases HY8 with ⟨HU8, HV8⟩
  ihave HX9 := (isplit c (tk s 9) v9 X1).1 $$ HX9
  icases HX9 with ⟨HS9, HR9⟩
  ihave HY9 := (esplit c (tk s 9) v9 X2).1 $$ HY9
  icases HY9 with ⟨HU9, HV9⟩
  ihave HX10 := (isplit c (tk s 10) v10 X1).1 $$ HX10
  icases HX10 with ⟨HS10, HR10⟩
  ihave HY10 := (esplit c (tk s 10) v10 X2).1 $$ HY10
  icases HY10 with ⟨HU10, HV10⟩
  ihave HX11 := (isplit c (tk s 11) v11 X1).1 $$ HX11
  icases HX11 with ⟨HS11, HR11⟩
  ihave HY11 := (esplit c (tk s 11) v11 X2).1 $$ HY11
  icases HY11 with ⟨HU11, HV11⟩
  ihave HX12 := (isplit c (tk s 12) v12 X1).1 $$ HX12
  icases HX12 with ⟨HS12, HR12⟩
  ihave HY12 := (esplit c (tk s 12) v12 X2).1 $$ HY12
  icases HY12 with ⟨HU12, HV12⟩
  ihave HX13 := (isplit c (tk s 13) v13 X1).1 $$ HX13
  icases HX13 with ⟨HS13, HR13⟩
  ihave HY13 := (esplit c (tk s 13) v13 X2).1 $$ HY13
  icases HY13 with ⟨HU13, HV13⟩
  ihave HX14 := (isplit c (tk s 14) v14 X1).1 $$ HX14
  icases HX14 with ⟨HS14, HR14⟩
  ihave HY14 := (esplit c (tk s 14) v14 X2).1 $$ HY14
  icases HY14 with ⟨HU14, HV14⟩
  ihave HX15 := (isplit c (tk s 15) v15 X1).1 $$ HX15
  icases HX15 with ⟨HS15, HR15⟩
  ihave HY15 := (esplit c (tk s 15) v15 X2).1 $$ HY15
  icases HY15 with ⟨HU15, HV15⟩
  isplitl [HR0 HV0 HR1 HV1 HR2 HV2 HR3 HV3 HR4 HV4 HR5 HV5 HR6 HV6 HR7 HV7 HR8 HV8 HR9 HV9 HR10 HV10 HR11 HV11 HR12 HV12 HR13 HV13 HR14 HV14 HR15 HV15]
  · isplitl [HR0]; · iexact HR0
    isplitl [HV0]; · iexact HV0
    isplitl [HR1]; · iexact HR1
    isplitl [HV1]; · iexact HV1
    isplitl [HR2]; · iexact HR2
    isplitl [HV2]; · iexact HV2
    isplitl [HR3]; · iexact HR3
    isplitl [HV3]; · iexact HV3
    isplitl [HR4]; · iexact HR4
    isplitl [HV4]; · iexact HV4
    isplitl [HR5]; · iexact HR5
    isplitl [HV5]; · iexact HV5
    isplitl [HR6]; · iexact HR6
    isplitl [HV6]; · iexact HV6
    isplitl [HR7]; · iexact HR7
    isplitl [HV7]; · iexact HV7
    isplitl [HR8]; · iexact HR8
    isplitl [HV8]; · iexact HV8
    isplitl [HR9]; · iexact HR9
    isplitl [HV9]; · iexact HV9
    isplitl [HR10]; · iexact HR10
    isplitl [HV10]; · iexact HV10
    isplitl [HR11]; · iexact HR11
    isplitl [HV11]; · iexact HV11
    isplitl [HR12]; · iexact HR12
    isplitl [HV12]; · iexact HV12
    isplitl [HR13]; · iexact HR13
    isplitl [HV13]; · iexact HV13
    isplitl [HR14]; · iexact HR14
    isplitl [HV14]; · iexact HV14
    isplitl [HR15]; · iexact HR15
    iexact HV15
  isplitl [HS0]; · iexact HS0
  isplitl [HU0]; · iexact HU0
  isplitl [HS1]; · iexact HS1
  isplitl [HU1]; · iexact HU1
  isplitl [HS2]; · iexact HS2
  isplitl [HU2]; · iexact HU2
  isplitl [HS3]; · iexact HS3
  isplitl [HU3]; · iexact HU3
  isplitl [HS4]; · iexact HS4
  isplitl [HU4]; · iexact HU4
  isplitl [HS5]; · iexact HS5
  isplitl [HU5]; · iexact HU5
  isplitl [HS6]; · iexact HS6
  isplitl [HU6]; · iexact HU6
  isplitl [HS7]; · iexact HS7
  isplitl [HU7]; · iexact HU7
  isplitl [HS8]; · iexact HS8
  isplitl [HU8]; · iexact HU8
  isplitl [HS9]; · iexact HS9
  isplitl [HU9]; · iexact HU9
  isplitl [HS10]; · iexact HS10
  isplitl [HU10]; · iexact HU10
  isplitl [HS11]; · iexact HS11
  isplitl [HU11]; · iexact HU11
  isplitl [HS12]; · iexact HS12
  isplitl [HU12]; · iexact HU12
  isplitl [HS13]; · iexact HS13
  isplitl [HU13]; · iexact HU13
  isplitl [HS14]; · iexact HS14
  isplitl [HU14]; · iexact HU14
  isplitl [HS15]; · iexact HS15
  iexact HU15
theorem toks_join (c : Dev nD) (s : Fin 2) (X1 : Buf (Elt F) (invM.view.loc (c : TT))) (X2 : Buf (Elt F) (eqM.view.loc (c : TT))) (V : Fin 16 → BitVec 32) :
    iprop(restsP c s V X1 X2 ∗ isrcP c (tk s 0) (V 0) X1 ∗ esrcP c (tk s 0) (V 0) X2 ∗ isrcP c (tk s 1) (V 1) X1 ∗ esrcP c (tk s 1) (V 1) X2 ∗ isrcP c (tk s 2) (V 2) X1 ∗ esrcP c (tk s 2) (V 2) X2 ∗ isrcP c (tk s 3) (V 3) X1 ∗ esrcP c (tk s 3) (V 3) X2 ∗ isrcP c (tk s 4) (V 4) X1 ∗ esrcP c (tk s 4) (V 4) X2 ∗ isrcP c (tk s 5) (V 5) X1 ∗ esrcP c (tk s 5) (V 5) X2 ∗ isrcP c (tk s 6) (V 6) X1 ∗ esrcP c (tk s 6) (V 6) X2 ∗ isrcP c (tk s 7) (V 7) X1 ∗ esrcP c (tk s 7) (V 7) X2 ∗ isrcP c (tk s 8) (V 8) X1 ∗ esrcP c (tk s 8) (V 8) X2 ∗ isrcP c (tk s 9) (V 9) X1 ∗ esrcP c (tk s 9) (V 9) X2 ∗ isrcP c (tk s 10) (V 10) X1 ∗ esrcP c (tk s 10) (V 10) X2 ∗ isrcP c (tk s 11) (V 11) X1 ∗ esrcP c (tk s 11) (V 11) X2 ∗ isrcP c (tk s 12) (V 12) X1 ∗ esrcP c (tk s 12) (V 12) X2 ∗ isrcP c (tk s 13) (V 13) X1 ∗ esrcP c (tk s 13) (V 13) X2 ∗ isrcP c (tk s 14) (V 14) X1 ∗ esrcP c (tk s 14) (V 14) X2 ∗ isrcP c (tk s 15) (V 15) X1 ∗ esrcP c (tk s 15) (V 15) X2) ⊢ (toksP c s X1 X2 : sProp 𝕄) := by
  unfold toksP restsP
  iintro ⟨⟨HR0, HV0, HR1, HV1, HR2, HV2, HR3, HV3, HR4, HV4, HR5, HV5, HR6, HV6, HR7, HV7, HR8, HV8, HR9, HV9, HR10, HV10, HR11, HV11, HR12, HV12, HR13, HV13, HR14, HV14, HR15, HV15⟩, HS0, HU0, HS1, HU1, HS2, HU2, HS3, HU3, HS4, HU4, HS5, HU5, HS6, HU6, HS7, HU7, HS8, HU8, HS9, HU9, HS10, HU10, HS11, HU11, HS12, HU12, HS13, HU13, HS14, HU14, HS15, HU15⟩
  isplitl [HS0 HR0]
  · iapply (isplit c (tk s 0) (V 0) X1).2
    isplitl [HS0]; · iexact HS0
    iexact HR0
  isplitl [HU0 HV0]
  · iapply (esplit c (tk s 0) (V 0) X2).2
    isplitl [HU0]; · iexact HU0
    iexact HV0
  isplitl [HS1 HR1]
  · iapply (isplit c (tk s 1) (V 1) X1).2
    isplitl [HS1]; · iexact HS1
    iexact HR1
  isplitl [HU1 HV1]
  · iapply (esplit c (tk s 1) (V 1) X2).2
    isplitl [HU1]; · iexact HU1
    iexact HV1
  isplitl [HS2 HR2]
  · iapply (isplit c (tk s 2) (V 2) X1).2
    isplitl [HS2]; · iexact HS2
    iexact HR2
  isplitl [HU2 HV2]
  · iapply (esplit c (tk s 2) (V 2) X2).2
    isplitl [HU2]; · iexact HU2
    iexact HV2
  isplitl [HS3 HR3]
  · iapply (isplit c (tk s 3) (V 3) X1).2
    isplitl [HS3]; · iexact HS3
    iexact HR3
  isplitl [HU3 HV3]
  · iapply (esplit c (tk s 3) (V 3) X2).2
    isplitl [HU3]; · iexact HU3
    iexact HV3
  isplitl [HS4 HR4]
  · iapply (isplit c (tk s 4) (V 4) X1).2
    isplitl [HS4]; · iexact HS4
    iexact HR4
  isplitl [HU4 HV4]
  · iapply (esplit c (tk s 4) (V 4) X2).2
    isplitl [HU4]; · iexact HU4
    iexact HV4
  isplitl [HS5 HR5]
  · iapply (isplit c (tk s 5) (V 5) X1).2
    isplitl [HS5]; · iexact HS5
    iexact HR5
  isplitl [HU5 HV5]
  · iapply (esplit c (tk s 5) (V 5) X2).2
    isplitl [HU5]; · iexact HU5
    iexact HV5
  isplitl [HS6 HR6]
  · iapply (isplit c (tk s 6) (V 6) X1).2
    isplitl [HS6]; · iexact HS6
    iexact HR6
  isplitl [HU6 HV6]
  · iapply (esplit c (tk s 6) (V 6) X2).2
    isplitl [HU6]; · iexact HU6
    iexact HV6
  isplitl [HS7 HR7]
  · iapply (isplit c (tk s 7) (V 7) X1).2
    isplitl [HS7]; · iexact HS7
    iexact HR7
  isplitl [HU7 HV7]
  · iapply (esplit c (tk s 7) (V 7) X2).2
    isplitl [HU7]; · iexact HU7
    iexact HV7
  isplitl [HS8 HR8]
  · iapply (isplit c (tk s 8) (V 8) X1).2
    isplitl [HS8]; · iexact HS8
    iexact HR8
  isplitl [HU8 HV8]
  · iapply (esplit c (tk s 8) (V 8) X2).2
    isplitl [HU8]; · iexact HU8
    iexact HV8
  isplitl [HS9 HR9]
  · iapply (isplit c (tk s 9) (V 9) X1).2
    isplitl [HS9]; · iexact HS9
    iexact HR9
  isplitl [HU9 HV9]
  · iapply (esplit c (tk s 9) (V 9) X2).2
    isplitl [HU9]; · iexact HU9
    iexact HV9
  isplitl [HS10 HR10]
  · iapply (isplit c (tk s 10) (V 10) X1).2
    isplitl [HS10]; · iexact HS10
    iexact HR10
  isplitl [HU10 HV10]
  · iapply (esplit c (tk s 10) (V 10) X2).2
    isplitl [HU10]; · iexact HU10
    iexact HV10
  isplitl [HS11 HR11]
  · iapply (isplit c (tk s 11) (V 11) X1).2
    isplitl [HS11]; · iexact HS11
    iexact HR11
  isplitl [HU11 HV11]
  · iapply (esplit c (tk s 11) (V 11) X2).2
    isplitl [HU11]; · iexact HU11
    iexact HV11
  isplitl [HS12 HR12]
  · iapply (isplit c (tk s 12) (V 12) X1).2
    isplitl [HS12]; · iexact HS12
    iexact HR12
  isplitl [HU12 HV12]
  · iapply (esplit c (tk s 12) (V 12) X2).2
    isplitl [HU12]; · iexact HU12
    iexact HV12
  isplitl [HS13 HR13]
  · iapply (isplit c (tk s 13) (V 13) X1).2
    isplitl [HS13]; · iexact HS13
    iexact HR13
  isplitl [HU13 HV13]
  · iapply (esplit c (tk s 13) (V 13) X2).2
    isplitl [HU13]; · iexact HU13
    iexact HV13
  isplitl [HS14 HR14]
  · iapply (isplit c (tk s 14) (V 14) X1).2
    isplitl [HS14]; · iexact HS14
    iexact HR14
  isplitl [HU14 HV14]
  · iapply (esplit c (tk s 14) (V 14) X2).2
    isplitl [HU14]; · iexact HU14
    iexact HV14
  isplitl [HS15 HR15]
  · iapply (isplit c (tk s 15) (V 15) X1).2
    isplitl [HS15]; · iexact HS15
    iexact HR15
  iapply (esplit c (tk s 15) (V 15) X2).2
  isplitl [HU15]; · iexact HU15
  iexact HV15
/-- Slot `s` at rest: its rows at some contents, its cells at zero, its shares; -/
def freeP (c : Dev nD) (s : Fin 2) (X1 : Buf (Elt F) (invM.view.loc (c : TT))) (X2 : Buf (Elt F) (eqM.view.loc (c : TT))) : sProp 𝕄 :=
  iprop((∃ f, irowP c s 0 f) ∗ (∃ f, erowP c s 0 f) ∗ icelP c s 0 ∗ ecelP c s 0 ∗ (∃ f, irowP c s 1 f) ∗ (∃ f, erowP c s 1 f) ∗ icelP c s 1 ∗ ecelP c s 1 ∗ (∃ f, irowP c s 2 f) ∗ (∃ f, erowP c s 2 f) ∗ icelP c s 2 ∗ ecelP c s 2 ∗ (∃ f, irowP c s 3 f) ∗ (∃ f, erowP c s 3 f) ∗ icelP c s 3 ∗ ecelP c s 3 ∗ (∃ f, irowP c s 4 f) ∗ (∃ f, erowP c s 4 f) ∗ icelP c s 4 ∗ ecelP c s 4 ∗ (∃ f, irowP c s 5 f) ∗ (∃ f, erowP c s 5 f) ∗ icelP c s 5 ∗ ecelP c s 5 ∗ (∃ f, irowP c s 6 f) ∗ (∃ f, erowP c s 6 f) ∗ icelP c s 6 ∗ ecelP c s 6 ∗ (∃ f, irowP c s 7 f) ∗ (∃ f, erowP c s 7 f) ∗ icelP c s 7 ∗ ecelP c s 7 ∗ (∃ f, irowP c s 8 f) ∗ (∃ f, erowP c s 8 f) ∗ icelP c s 8 ∗ ecelP c s 8 ∗ (∃ f, irowP c s 9 f) ∗ (∃ f, erowP c s 9 f) ∗ icelP c s 9 ∗ ecelP c s 9 ∗ (∃ f, irowP c s 10 f) ∗ (∃ f, erowP c s 10 f) ∗ icelP c s 10 ∗ ecelP c s 10 ∗ (∃ f, irowP c s 11 f) ∗ (∃ f, erowP c s 11 f) ∗ icelP c s 11 ∗ ecelP c s 11 ∗ (∃ f, irowP c s 12 f) ∗ (∃ f, erowP c s 12 f) ∗ icelP c s 12 ∗ ecelP c s 12 ∗ (∃ f, irowP c s 13 f) ∗ (∃ f, erowP c s 13 f) ∗ icelP c s 13 ∗ ecelP c s 13 ∗ (∃ f, irowP c s 14 f) ∗ (∃ f, erowP c s 14 f) ∗ icelP c s 14 ∗ ecelP c s 14 ∗ (∃ f, irowP c s 15 f) ∗ (∃ f, erowP c s 15 f) ∗ icelP c s 15 ∗ ecelP c s 15 ∗ toksP c s X1 X2)
/-- in flight with the rows `V` names. -/
def flyP (c : Dev nD) (s : Fin 2) (V : Fin 16 → BitVec 32) (X1 : Buf (Elt F) (invM.view.loc (c : TT))) (X2 : Buf (Elt F) (eqM.view.loc (c : TT))) : sProp 𝕄 :=
  iprop((∃ f, iflyP c s 0 (V 0) X1 f) ∗ (∃ f, eflyP c s 0 (V 0) X2 f) ∗ (∃ f, iflyP c s 1 (V 1) X1 f) ∗ (∃ f, eflyP c s 1 (V 1) X2 f) ∗ (∃ f, iflyP c s 2 (V 2) X1 f) ∗ (∃ f, eflyP c s 2 (V 2) X2 f) ∗ (∃ f, iflyP c s 3 (V 3) X1 f) ∗ (∃ f, eflyP c s 3 (V 3) X2 f) ∗ (∃ f, iflyP c s 4 (V 4) X1 f) ∗ (∃ f, eflyP c s 4 (V 4) X2 f) ∗ (∃ f, iflyP c s 5 (V 5) X1 f) ∗ (∃ f, eflyP c s 5 (V 5) X2 f) ∗ (∃ f, iflyP c s 6 (V 6) X1 f) ∗ (∃ f, eflyP c s 6 (V 6) X2 f) ∗ (∃ f, iflyP c s 7 (V 7) X1 f) ∗ (∃ f, eflyP c s 7 (V 7) X2 f) ∗ (∃ f, iflyP c s 8 (V 8) X1 f) ∗ (∃ f, eflyP c s 8 (V 8) X2 f) ∗ (∃ f, iflyP c s 9 (V 9) X1 f) ∗ (∃ f, eflyP c s 9 (V 9) X2 f) ∗ (∃ f, iflyP c s 10 (V 10) X1 f) ∗ (∃ f, eflyP c s 10 (V 10) X2 f) ∗ (∃ f, iflyP c s 11 (V 11) X1 f) ∗ (∃ f, eflyP c s 11 (V 11) X2 f) ∗ (∃ f, iflyP c s 12 (V 12) X1 f) ∗ (∃ f, eflyP c s 12 (V 12) X2 f) ∗ (∃ f, iflyP c s 13 (V 13) X1 f) ∗ (∃ f, eflyP c s 13 (V 13) X2 f) ∗ (∃ f, iflyP c s 14 (V 14) X1 f) ∗ (∃ f, eflyP c s 14 (V 14) X2 f) ∗ (∃ f, iflyP c s 15 (V 15) X1 f) ∗ (∃ f, eflyP c s 15 (V 15) X2 f) ∗ restsP c s V X1 X2)
/-- Sixteen rows at the contents of one buffer are the slot at that buffer. -/
theorem islot_join (c : Dev nD) (s : Fin 2) (f : Buf (Elt F) (ibM.view.loc (c : TT))) :
    (ibM.view.loc (c : TT) ↦[islotS c s]{fullShare} f : sProp 𝕄)
      = iprop((ibM.view.loc (c : TT) ↦[irowS c s 0]{fullShare} f) ∗ (ibM.view.loc (c : TT) ↦[irowS c s 1]{fullShare} f) ∗ (ibM.view.loc (c : TT) ↦[irowS c s 2]{fullShare} f) ∗ (ibM.view.loc (c : TT) ↦[irowS c s 3]{fullShare} f) ∗ (ibM.view.loc (c : TT) ↦[irowS c s 4]{fullShare} f) ∗ (ibM.view.loc (c : TT) ↦[irowS c s 5]{fullShare} f) ∗ (ibM.view.loc (c : TT) ↦[irowS c s 6]{fullShare} f) ∗ (ibM.view.loc (c : TT) ↦[irowS c s 7]{fullShare} f) ∗ (ibM.view.loc (c : TT) ↦[irowS c s 8]{fullShare} f) ∗ (ibM.view.loc (c : TT) ↦[irowS c s 9]{fullShare} f) ∗ (ibM.view.loc (c : TT) ↦[irowS c s 10]{fullShare} f) ∗ (ibM.view.loc (c : TT) ↦[irowS c s 11]{fullShare} f) ∗ (ibM.view.loc (c : TT) ↦[irowS c s 12]{fullShare} f) ∗ (ibM.view.loc (c : TT) ↦[irowS c s 13]{fullShare} f) ∗ (ibM.view.loc (c : TT) ↦[irowS c s 14]{fullShare} f) ∗ (ibM.view.loc (c : TT) ↦[irowS c s 15]{fullShare} f)) := by
  rw [islot_rows, BI.bigSep_eq_bigSepL_of_eq [0, 1, 2, 3, 4, 5, 6, 7, 8, 9, 10, 11, 12, 13, 14, 15] (by decide) (by decide)]; rfl
/-- Sixteen rows at the contents of one buffer are the slot at that buffer. -/
theorem eslot_join (c : Dev nD) (s : Fin 2) (f : Buf (Elt F) (ebM.view.loc (c : TT))) :
    (ebM.view.loc (c : TT) ↦[eslotS c s]{fullShare} f : sProp 𝕄)
      = iprop((ebM.view.loc (c : TT) ↦[erowS c s 0]{fullShare} f) ∗ (ebM.view.loc (c : TT) ↦[erowS c s 1]{fullShare} f) ∗ (ebM.view.loc (c : TT) ↦[erowS c s 2]{fullShare} f) ∗ (ebM.view.loc (c : TT) ↦[erowS c s 3]{fullShare} f) ∗ (ebM.view.loc (c : TT) ↦[erowS c s 4]{fullShare} f) ∗ (ebM.view.loc (c : TT) ↦[erowS c s 5]{fullShare} f) ∗ (ebM.view.loc (c : TT) ↦[erowS c s 6]{fullShare} f) ∗ (ebM.view.loc (c : TT) ↦[erowS c s 7]{fullShare} f) ∗ (ebM.view.loc (c : TT) ↦[erowS c s 8]{fullShare} f) ∗ (ebM.view.loc (c : TT) ↦[erowS c s 9]{fullShare} f) ∗ (ebM.view.loc (c : TT) ↦[erowS c s 10]{fullShare} f) ∗ (ebM.view.loc (c : TT) ↦[erowS c s 11]{fullShare} f) ∗ (ebM.view.loc (c : TT) ↦[erowS c s 12]{fullShare} f) ∗ (ebM.view.loc (c : TT) ↦[erowS c s 13]{fullShare} f) ∗ (ebM.view.loc (c : TT) ↦[erowS c s 14]{fullShare} f) ∗ (ebM.view.loc (c : TT) ↦[erowS c s 15]{fullShare} f)) := by
  rw [eslot_rows, BI.bigSep_eq_bigSepL_of_eq [0, 1, 2, 3, 4, 5, 6, 7, 8, 9, 10, 11, 12, 13, 14, 15] (by decide) (by decide)]; rfl

end Hold

end Cert.GatherIdealWork
end
-- ==== Proof.IdealTail.lean ====
/- The end of the gather body: the slot of this block is loaded and stored in the two staged blocks. -/
module

public import proofs.«01_k».proof.Proof.IdealHold
public import Idealize.ShloMosaic.Lib.VecWindow

@[expose] public section

noncomputable section

namespace Cert.GatherIdealWork

open Cert.GatherIdeal Cert.GatherIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

section Run
variable {F : FTy → Type} [FloatOps F]
local notation "𝕄" => MT nD τ sig Unit (Elt F) ℕ (Pipeline.UD sig nD τ) ℕ

/-- The block of feature rows a slot holds: row `k` is the row of `X` that `V k` names. -/
def O1 {c : Dev nD} (X : Buf (Elt F) (invM.view.loc (c : TT))) (V : Fin 16 → BitVec 32) : S16x128.Idx → Elt F .f32 :=
  fun y => (X : S4096x1x128.Idx → Elt F .f32) (rI (rowOf (V (y 0))) (y 1))
/-- The block of coordinate rows. -/
def O2 {c : Dev nD} (X : Buf (Elt F) (eqM.view.loc (c : TT))) (V : Fin 16 → BitVec 32) : S16x3.Idx → Elt F .f32 :=
  fun y => (X : S4096x1x3.Idx → Elt F .f32) (pI (rowOf (V (y 0))) (y 1))

theorem waitSlot_i : ∀ i : grid0.Coords, (k0_off227 i) 0 = (slW i).val := by decide +kernel
theorem off227_eq (i : grid0.Coords) : k0_off227 i = slotOff (slW i) := by
  have e : k0_off227 i = ![(k0_off227 i) 0, 0, 0, 0] := rfl
  rw [e, waitSlot_i]
theorem off228_eq (i : grid0.Coords) : k0_off228 i = slotOff (slW i) := off227_eq i

theorem slot_sub_i {off : Fin 4 → ℕ} {s : Fin 2} (e : off = slotOff s) (hh) : ibM.view.setOn (Rect.unit (s := S2x16x1x128) off S1x16x1x128.size hh).set ⊆ (islot s).view.set := by
  subst e
  intro x hx
  obtain ⟨y, hy, rfl⟩ := Finset.mem_map.mp hx
  rw [← Rect.map_emb_univ] at hy
  obtain ⟨z, -, rfl⟩ := Finset.mem_map.mp hy
  exact Finset.mem_map.mpr ⟨z, Finset.mem_univ _, rfl⟩
theorem slot_sub_e {off : Fin 4 → ℕ} {s : Fin 2} (e : off = slotOff s) (hh) : ebM.view.setOn (Rect.unit (s := S2x16x1x3) off S1x16x1x3.size hh).set ⊆ (eslot s).view.set := by
  subst e
  intro x hx
  obtain ⟨y, hy, rfl⟩ := Finset.mem_map.mp hx
  rw [← Rect.map_emb_univ] at hy
  obtain ⟨z, -, rfl⟩ := Finset.mem_map.mp hy
  exact Finset.mem_map.mpr ⟨z, Finset.mem_univ _, rfl⟩

/-- The slot, loaded and cast to a block, is the block of rows. -/
theorem pay1_eq {c : Dev nD} (X : Buf (Elt F) (invM.view.loc (c : TT))) (V : Fin 16 → BitVec 32) {off : Fin 4 → ℕ} {s : Fin 2} (e : off = slotOff s) (hh) :
    k0_pay1 (ibM.view.readAt (Elt F) (Rect.unit (s := S2x16x1x128) off S1x16x1x128.size hh).toLoadRect (Gi X V)) = O1 X V := by
  subst e
  funext y
  have hr : Shape.reshapeEquiv shapeCasts_S1x16x1x128_S16x128 y = hI (y 0) (y 1) :=
    Shape.reshapeEquiv_eq_of_rowMajor _ (by
      rw [Shape.rowMajor_val_four, Shape.rowMajor_val_two]
      show ((0 * 16 + (y 0).val) * 1 + 0) * 128 + (y 1).val = (y 0).val * 128 + (y 1).val; omega)
  have he := islot_emb s (hI (y 0) (y 1))
  show (Gi X V : S2x16x1x128.Idx → Elt F .f32) ((islot s).view.emb (Shape.reshapeEquiv shapeCasts_S1x16x1x128_S16x128 y)) = _
  rw [hr]
  exact congrArg (Gi X V : S2x16x1x128.Idx → Elt F .f32) he
theorem pay2_eq {c : Dev nD} (X : Buf (Elt F) (eqM.view.loc (c : TT))) (V : Fin 16 → BitVec 32) {off : Fin 4 → ℕ} {s : Fin 2} (e : off = slotOff s) (hh) :
    k0_pay2 (ebM.view.readAt (Elt F) (Rect.unit (s := S2x16x1x3) off S1x16x1x3.size hh).toLoadRect (Ge X V)) = O2 X V := by
  subst e
  funext y
  have hr : Shape.reshapeEquiv shapeCasts_S1x16x1x3_S16x3 y = zI (y 0) (y 1) :=
    Shape.reshapeEquiv_eq_of_rowMajor _ (by
      rw [Shape.rowMajor_val_four, Shape.rowMajor_val_two]
      show ((0 * 16 + (y 0).val) * 1 + 0) * 3 + (y 1).val = (y 0).val * 3 + (y 1).val; omega)
  have he := eslot_emb s (zI (y 0) (y 1))
  show (Ge X V : S2x16x1x3.Idx → Elt F .f32) ((eslot s).view.emb (Shape.reshapeEquiv shapeCasts_S1x16x1x3_S16x3 y)) = _
  rw [hr]
  exact congrArg (Ge X V : S2x16x1x3.Idx → Elt F .f32) he

/-- The last six operations of the body. -/
def tailProg (i : grid0.Coords) (arg4 : Memref sig .tc .vmem S16x128 .f32) (arg5 : Memref sig .tc .vmem S16x3 .f32) : Prog (TpuEff nD τ sig (Elt F) Λ₀ .tc) PUnit := do
  let v274 : Vec F S1x16x1x128 .f32 ← Prog.lift (.load ibM (Rect.unit (s := S2x16x1x128) (k0_off227 i) S1x16x1x128.size (k0_off227_inb i)).toLoadRect (View.loadsAt_vmem h_S1x16x1x128))
  let v276 : Vec F S16x128 .f32 ← Prog.lift (.load arg4 (Rect.unit (s := S16x128) ![0, 0] S16x128.size inb_S16x128_S16x128_0_0).toLoadRect (View.loadsAt_vmem h_S16x128))
  Prog.lift (.store arg4 (Rect.unit (s := S16x128) ![0, 0] S16x128.size inb_S16x128_S16x128_0_0) (k0_pay1 v274) Finset.univ (View.stores_vmem_bits_univ h_S16x128 rfl) (.inl rfl))
  let v278 : Vec F S1x16x1x3 .f32 ← Prog.lift (.load ebM (Rect.unit (s := S2x16x1x3) (k0_off228 i) S1x16x1x3.size (k0_off228_inb i)).toLoadRect (View.loadsAt_vmem h_S1x16x1x3))
  let v280 : Vec F S16x3 .f32 ← Prog.lift (.load arg5 (Rect.unit (s := S16x3) ![0, 0] S16x3.size inb_S16x3_S16x3_0_0).toLoadRect (View.loadsAt_vmem h_S16x3))
  Prog.lift (.store arg5 (Rect.unit (s := S16x3) ![0, 0] S16x3.size inb_S16x3_S16x3_0_0) (k0_pay2 v278) Finset.univ (View.stores_vmem_bits_univ h_S16x3 rfl) (.inl rfl))
  pure ⟨⟩

/-- A slot, held at the contents of one buffer. -/
abbrev islotP (c : Dev nD) (s : Fin 2) (f : Buf (Elt F) ((islot s).view.loc (c : TT))) : sProp 𝕄 := (islot s).view.loc (c : TT) ↦[(islot s).view.set]{fullShare} f
abbrev eslotP (c : Dev nD) (s : Fin 2) (f : Buf (Elt F) ((eslot s).view.loc (c : TT))) : sProp 𝕄 := (eslot s).view.loc (c : TT) ↦[(eslot s).view.set]{fullShare} f
/-- From the slot's rows to the two stored blocks. -/
theorem tailRun (c : Dev nD) (i : grid0.Coords) (arg4 : Memref sig .tc .vmem S16x128 .f32) (harg4 : arg4.IsWhole) (arg5 : Memref sig .tc .vmem S16x3 .f32) (harg5 : arg5.IsWhole)
    (X1 : Buf (Elt F) (invM.view.loc (c : TT))) (X2 : Buf (Elt F) (eqM.view.loc (c : TT))) (V : Fin 16 → BitVec 32) (Q : PUnit → sProp 𝕄) :
    iprop(islotP c (slW i) (Gi X1 V) ∗ eslotP c (slW i) (Ge X2 V)
        ∗ (∃ d, owns (c : TT) arg4 fullShare d) ∗ (∃ d, owns (c : TT) arg5 fullShare d)
        ∗ (iprop(islotP c (slW i) (Gi X1 V) ∗ eslotP c (slW i) (Ge X2 V)
            ∗ owns (c : TT) arg4 fullShare (O1 X1 V) ∗ owns (c : TT) arg5 fullShare (O2 X2 V)) -∗ Q ⟨⟩))
      ⊢ wp frame (wpE (defs₀ (F := F)) Variants.none c none) Set.univ (tailProg (F := F) i arg4 arg5) Q := by
  unfold tailProg owns
  have hsi := slot_sub_i (off227_eq i) (k0_off227_inb i)
  have hse := slot_sub_e (off228_eq i) (k0_off228_inb i)
  iintro ⟨HI, HE, ⟨%d4, %f4, -, H4⟩, ⟨%d5, %f5, -, H5⟩, Hk⟩
  sl_exec
  sl_step
  iapply Hk
  isplitl [HI]; · iexact HI
  isplitl [HE]; · iexact HE
  isplitl [H4]
  · iexists _; isplitr; swap; · iexact H4
    ipureintro
    exact (View.read_writes_full _ _ _ _ _).trans (pay1_eq X1 V (off227_eq i) _)
  iexists _; isplitr; swap; · iexact H5
  ipureintro
  exact (View.read_writes_full _ _ _ _ _).trans (pay2_eq X2 V (off228_eq i) _)

end Run

end Cert.GatherIdealWork
end
-- ==== Proof.IdealBack.lean ====
/- Taking the pieces of a slot together again: sixteen landed rows to a slot, a waited slot to rest, an issued slot in flight. -/
module

public import proofs.«01_k».proof.Proof.IdealTail

@[expose] public section

noncomputable section

namespace Cert.GatherIdealWork

open Cert.GatherIdeal Cert.GatherIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

section Run
variable {F : FTy → Type} [FloatOps F]
local notation "𝕄" => MT nD τ sig Unit (Elt F) ℕ (Pipeline.UD sig nD τ) ℕ

/-- Equal assertions entail each other. -/
theorem ent {P Q : sProp 𝕄} (h : P = Q) : P ⊢ Q := by rw [h]
/-- The first branch is taken at the first point, the second at all but the last. -/
theorem cond1_iff : ∀ i : grid0.Coords, k0_cond1 i = 1#1 ↔ (i 0).val = 0 := by decide +kernel
theorem cond2_iff : ∀ i : grid0.Coords, k0_cond2 i = 1#1 ↔ (i 0).val + 1 < 256 := by decide +kernel
/-- The word the body loads for row `k` of the next block; -/
theorem word_next {c : Dev nD} (g : Buf (Elt F) (tbM.view.loc (c : TT))) (i : grid0.Coords) (h : (i 0).val + 1 < 256) (k : Fin 16) {off : Fin 1 → ℕ}
    (e : off = ![16 * (i 0).val + k.val + 16]) (hi) (j) : (tbM.view.readAt (Elt F) (Rect.unit (s := S4096) off S1.size hi).toLoadRect g j : BitVec 32) = bw g ((i 0).val + 1) k := by
  have := k.isLt
  exact (word_at g off hi (16 * (i 0).val + k.val + 16) e (by omega) j).trans (congrArg (wd g) (Fin.ext (by
    show 16 * (i 0).val + k.val + 16 = (16 * ((i 0).val + 1) + k.val) % 4096
    rw [Nat.mod_eq_of_lt (by omega)]; omega)))
/-- and at the first point, for row `k` of the first block. -/
theorem word_first {c : Dev nD} (g : Buf (Elt F) (tbM.view.loc (c : TT))) (k : Fin 16) {off : Fin 1 → ℕ}
    (e : off = ![k.val]) (hi) (j) : (tbM.view.readAt (Elt F) (Rect.unit (s := S4096) off S1.size hi).toLoadRect g j : BitVec 32) = bw g 0 k := by
  have := k.isLt
  exact (word_at g off hi k.val e (by omega) j).trans (congrArg (wd g) (Fin.ext (by
    show k.val = (16 * 0 + k.val) % 4096
    rw [Nat.mod_eq_of_lt (by omega)]; omega)))
/-- Sixteen landed rows are the slot at the rows `V` names; -/
theorem islot_landed (c : Dev nD) (s : Fin 2) (X : Buf (Elt F) (invM.view.loc (c : TT))) (V : Fin 16 → BitVec 32) (f0 : Buf (Elt F) ((irow s 0).view.loc (c : TT))) (f1 : Buf (Elt F) ((irow s 1).view.loc (c : TT))) (f2 : Buf (Elt F) ((irow s 2).view.loc (c : TT))) (f3 : Buf (Elt F) ((irow s 3).view.loc (c : TT))) (f4 : Buf (Elt F) ((irow s 4).view.loc (c : TT))) (f5 : Buf (Elt F) ((irow s 5).view.loc (c : TT))) (f6 : Buf (Elt F) ((irow s 6).view.loc (c : TT))) (f7 : Buf (Elt F) ((irow s 7).view.loc (c : TT))) (f8 : Buf (Elt F) ((irow s 8).view.loc (c : TT))) (f9 : Buf (Elt F) ((irow s 9).view.loc (c : TT))) (f10 : Buf (Elt F) ((irow s 10).view.loc (c : TT))) (f11 : Buf (Elt F) ((irow s 11).view.loc (c : TT))) (f12 : Buf (Elt F) ((irow s 12).view.loc (c : TT))) (f13 : Buf (Elt F) ((irow s 13).view.loc (c : TT))) (f14 : Buf (Elt F) ((irow s 14).view.loc (c : TT))) (f15 : Buf (Elt F) ((irow s 15).view.loc (c : TT))) :
    iprop(irowL c s 0 (V 0) X f0 ∗ irowL c s 1 (V 1) X f1 ∗ irowL c s 2 (V 2) X f2 ∗ irowL c s 3 (V 3) X f3 ∗ irowL c s 4 (V 4) X f4 ∗ irowL c s 5 (V 5) X f5 ∗ irowL c s 6 (V 6) X f6 ∗ irowL c s 7 (V 7) X f7 ∗ irowL c s 8 (V 8) X f8 ∗ irowL c s 9 (V 9) X f9 ∗ irowL c s 10 (V 10) X f10 ∗ irowL c s 11 (V 11) X f11 ∗ irowL c s 12 (V 12) X f12 ∗ irowL c s 13 (V 13) X f13 ∗ irowL c s 14 (V 14) X f14 ∗ irowL c s 15 (V 15) X f15) ⊢ (islotP c s (Gi X V) : sProp 𝕄) := by
  refine BIBase.Entails.trans ?_ (ent (islot_join c s (Gi X V)).symm)
  refine BIClass.sep_mono (ent (irow_landed c s 0 f0 X V (V 0) rfl)) ?_
  refine BIClass.sep_mono (ent (irow_landed c s 1 f1 X V (V 1) rfl)) ?_
  refine BIClass.sep_mono (ent (irow_landed c s 2 f2 X V (V 2) rfl)) ?_
  refine BIClass.sep_mono (ent (irow_landed c s 3 f3 X V (V 3) rfl)) ?_
  refine BIClass.sep_mono (ent (irow_landed c s 4 f4 X V (V 4) rfl)) ?_
  refine BIClass.sep_mono (ent (irow_landed c s 5 f5 X V (V 5) rfl)) ?_
  refine BIClass.sep_mono (ent (irow_landed c s 6 f6 X V (V 6) rfl)) ?_
  refine BIClass.sep_mono (ent (irow_landed c s 7 f7 X V (V 7) rfl)) ?_
  refine BIClass.sep_mono (ent (irow_landed c s 8 f8 X V (V 8) rfl)) ?_
  refine BIClass.sep_mono (ent (irow_landed c s 9 f9 X V (V 9) rfl)) ?_
  refine BIClass.sep_mono (ent (irow_landed c s 10 f10 X V (V 10) rfl)) ?_
  refine BIClass.sep_mono (ent (irow_landed c s 11 f11 X V (V 11) rfl)) ?_
  refine BIClass.sep_mono (ent (irow_landed c s 12 f12 X V (V 12) rfl)) ?_
  refine BIClass.sep_mono (ent (irow_landed c s 13 f13 X V (V 13) rfl)) ?_
  refine BIClass.sep_mono (ent (irow_landed c s 14 f14 X V (V 14) rfl)) ?_
  exact ent (irow_landed c s 15 f15 X V (V 15) rfl)
/-- and a slot is its rows at some contents. -/
theorem islot_open (c : Dev nD) (s : Fin 2) (f : Buf (Elt F) (ibM.view.loc (c : TT))) :
    (islotP c s f : sProp 𝕄) ⊢ iprop((∃ f, irowP c s 0 f) ∗ (∃ f, irowP c s 1 f) ∗ (∃ f, irowP c s 2 f) ∗ (∃ f, irowP c s 3 f) ∗ (∃ f, irowP c s 4 f) ∗ (∃ f, irowP c s 5 f) ∗ (∃ f, irowP c s 6 f) ∗ (∃ f, irowP c s 7 f) ∗ (∃ f, irowP c s 8 f) ∗ (∃ f, irowP c s 9 f) ∗ (∃ f, irowP c s 10 f) ∗ (∃ f, irowP c s 11 f) ∗ (∃ f, irowP c s 12 f) ∗ (∃ f, irowP c s 13 f) ∗ (∃ f, irowP c s 14 f) ∗ (∃ f, irowP c s 15 f)) := by
  refine (ent (islot_join c s f)).trans ?_
  iintro ⟨H0, H1, H2, H3, H4, H5, H6, H7, H8, H9, H10, H11, H12, H13, H14, H15⟩
  isplitl [H0]; · iexists f; iexact H0
  isplitl [H1]; · iexists f; iexact H1
  isplitl [H2]; · iexists f; iexact H2
  isplitl [H3]; · iexists f; iexact H3
  isplitl [H4]; · iexists f; iexact H4
  isplitl [H5]; · iexists f; iexact H5
  isplitl [H6]; · iexists f; iexact H6
  isplitl [H7]; · iexists f; iexact H7
  isplitl [H8]; · iexists f; iexact H8
  isplitl [H9]; · iexists f; iexact H9
  isplitl [H10]; · iexists f; iexact H10
  isplitl [H11]; · iexists f; iexact H11
  isplitl [H12]; · iexists f; iexact H12
  isplitl [H13]; · iexists f; iexact H13
  isplitl [H14]; · iexists f; iexact H14
  iexists f; iexact H15
/-- Sixteen landed rows are the slot at the rows `V` names; -/
theorem eslot_landed (c : Dev nD) (s : Fin 2) (X : Buf (Elt F) (eqM.view.loc (c : TT))) (V : Fin 16 → BitVec 32) (f0 : Buf (Elt F) ((erow s 0).view.loc (c : TT))) (f1 : Buf (Elt F) ((erow s 1).view.loc (c : TT))) (f2 : Buf (Elt F) ((erow s 2).view.loc (c : TT))) (f3 : Buf (Elt F) ((erow s 3).view.loc (c : TT))) (f4 : Buf (Elt F) ((erow s 4).view.loc (c : TT))) (f5 : Buf (Elt F) ((erow s 5).view.loc (c : TT))) (f6 : Buf (Elt F) ((erow s 6).view.loc (c : TT))) (f7 : Buf (Elt F) ((erow s 7).view.loc (c : TT))) (f8 : Buf (Elt F) ((erow s 8).view.loc (c : TT))) (f9 : Buf (Elt F) ((erow s 9).view.loc (c : TT))) (f10 : Buf (Elt F) ((erow s 10).view.loc (c : TT))) (f11 : Buf (Elt F) ((erow s 11).view.loc (c : TT))) (f12 : Buf (Elt F) ((erow s 12).view.loc (c : TT))) (f13 : Buf (Elt F) ((erow s 13).view.loc (c : TT))) (f14 : Buf (Elt F) ((erow s 14).view.loc (c : TT))) (f15 : Buf (Elt F) ((erow s 15).view.loc (c : TT))) :
    iprop(erowL c s 0 (V 0) X f0 ∗ erowL c s 1 (V 1) X f1 ∗ erowL c s 2 (V 2) X f2 ∗ erowL c s 3 (V 3) X f3 ∗ erowL c s 4 (V 4) X f4 ∗ erowL c s 5 (V 5) X f5 ∗ erowL c s 6 (V 6) X f6 ∗ erowL c s 7 (V 7) X f7 ∗ erowL c s 8 (V 8) X f8 ∗ erowL c s 9 (V 9) X f9 ∗ erowL c s 10 (V 10) X f10 ∗ erowL c s 11 (V 11) X f11 ∗ erowL c s 12 (V 12) X f12 ∗ erowL c s 13 (V 13) X f13 ∗ erowL c s 14 (V 14) X f14 ∗ erowL c s 15 (V 15) X f15) ⊢ (eslotP c s (Ge X V) : sProp 𝕄) := by
  refine BIBase.Entails.trans ?_ (ent (eslot_join c s (Ge X V)).symm)
  refine BIClass.sep_mono (ent (erow_landed c s 0 f0 X V (V 0) rfl)) ?_
  refine BIClass.sep_mono (ent (erow_landed c s 1 f1 X V (V 1) rfl)) ?_
  refine BIClass.sep_mono (ent (erow_landed c s 2 f2 X V (V 2) rfl)) ?_
  refine BIClass.sep_mono (ent (erow_landed c s 3 f3 X V (V 3) rfl)) ?_
  refine BIClass.sep_mono (ent (erow_landed c s 4 f4 X V (V 4) rfl)) ?_
  refine BIClass.sep_mono (ent (erow_landed c s 5 f5 X V (V 5) rfl)) ?_
  refine BIClass.sep_mono (ent (erow_landed c s 6 f6 X V (V 6) rfl)) ?_
  refine BIClass.sep_mono (ent (erow_landed c s 7 f7 X V (V 7) rfl)) ?_
  refine BIClass.sep_mono (ent (erow_landed c s 8 f8 X V (V 8) rfl)) ?_
  refine BIClass.sep_mono (ent (erow_landed c s 9 f9 X V (V 9) rfl)) ?_
  refine BIClass.sep_mono (ent (erow_landed c s 10 f10 X V (V 10) rfl)) ?_
  refine BIClass.sep_mono (ent (erow_landed c s 11 f11 X V (V 11) rfl)) ?_
  refine BIClass.sep_mono (ent (erow_landed c s 12 f12 X V (V 12) rfl)) ?_
  refine BIClass.sep_mono (ent (erow_landed c s 13 f13 X V (V 13) rfl)) ?_
  refine BIClass.sep_mono (ent (erow_landed c s 14 f14 X V (V 14) rfl)) ?_
  exact ent (erow_landed c s 15 f15 X V (V 15) rfl)
/-- and a slot is its rows at some contents. -/
theorem eslot_open (c : Dev nD) (s : Fin 2) (f : Buf (Elt F) (ebM.view.loc (c : TT))) :
    (eslotP c s f : sProp 𝕄) ⊢ iprop((∃ f, erowP c s 0 f) ∗ (∃ f, erowP c s 1 f) ∗ (∃ f, erowP c s 2 f) ∗ (∃ f, erowP c s 3 f) ∗ (∃ f, erowP c s 4 f) ∗ (∃ f, erowP c s 5 f) ∗ (∃ f, erowP c s 6 f) ∗ (∃ f, erowP c s 7 f) ∗ (∃ f, erowP c s 8 f) ∗ (∃ f, erowP c s 9 f) ∗ (∃ f, erowP c s 10 f) ∗ (∃ f, erowP c s 11 f) ∗ (∃ f, erowP c s 12 f) ∗ (∃ f, erowP c s 13 f) ∗ (∃ f, erowP c s 14 f) ∗ (∃ f, erowP c s 15 f)) := by
  refine (ent (eslot_join c s f)).trans ?_
  iintro ⟨H0, H1, H2, H3, H4, H5, H6, H7, H8, H9, H10, H11, H12, H13, H14, H15⟩
  isplitl [H0]; · iexists f; iexact H0
  isplitl [H1]; · iexists f; iexact H1
  isplitl [H2]; · iexists f; iexact H2
  isplitl [H3]; · iexists f; iexact H3
  isplitl [H4]; · iexists f; iexact H4
  isplitl [H5]; · iexists f; iexact H5
  isplitl [H6]; · iexists f; iexact H6
  isplitl [H7]; · iexists f; iexact H7
  isplitl [H8]; · iexists f; iexact H8
  isplitl [H9]; · iexists f; iexact H9
  isplitl [H10]; · iexists f; iexact H10
  isplitl [H11]; · iexists f; iexact H11
  isplitl [H12]; · iexists f; iexact H12
  isplitl [H13]; · iexists f; iexact H13
  isplitl [H14]; · iexists f; iexact H14
  iexists f; iexact H15
/-- A slot waited for and read is at rest again. -/
theorem free_intro (c : Dev nD) (s : Fin 2) (X1 : Buf (Elt F) (invM.view.loc (c : TT))) (X2 : Buf (Elt F) (eqM.view.loc (c : TT))) (V : Fin 16 → BitVec 32)
    (f : Buf (Elt F) (ibM.view.loc (c : TT))) (e : Buf (Elt F) (ebM.view.loc (c : TT))) :
    iprop(islotP c s f ∗ eslotP c s e ∗ restsP c s V X1 X2 ∗ icelP c s 0 ∗ ecelP c s 0 ∗ icelP c s 1 ∗ ecelP c s 1 ∗ icelP c s 2 ∗ ecelP c s 2 ∗ icelP c s 3 ∗ ecelP c s 3 ∗ icelP c s 4 ∗ ecelP c s 4 ∗ icelP c s 5 ∗ ecelP c s 5 ∗ icelP c s 6 ∗ ecelP c s 6 ∗ icelP c s 7 ∗ ecelP c s 7 ∗ icelP c s 8 ∗ ecelP c s 8 ∗ icelP c s 9 ∗ ecelP c s 9 ∗ icelP c s 10 ∗ ecelP c s 10 ∗ icelP c s 11 ∗ ecelP c s 11 ∗ icelP c s 12 ∗ ecelP c s 12 ∗ icelP c s 13 ∗ ecelP c s 13 ∗ icelP c s 14 ∗ ecelP c s 14 ∗ icelP c s 15 ∗ ecelP c s 15 ∗ isrcP c (tk s 0) (V 0) X1 ∗ esrcP c (tk s 0) (V 0) X2 ∗ isrcP c (tk s 1) (V 1) X1 ∗ esrcP c (tk s 1) (V 1) X2 ∗ isrcP c (tk s 2) (V 2) X1 ∗ esrcP c (tk s 2) (V 2) X2 ∗ isrcP c (tk s 3) (V 3) X1 ∗ esrcP c (tk s 3) (V 3) X2 ∗ isrcP c (tk s 4) (V 4) X1 ∗ esrcP c (tk s 4) (V 4) X2 ∗ isrcP c (tk s 5) (V 5) X1 ∗ esrcP c (tk s 5) (V 5) X2 ∗ isrcP c (tk s 6) (V 6) X1 ∗ esrcP c (tk s 6) (V 6) X2 ∗ isrcP c (tk s 7) (V 7) X1 ∗ esrcP c (tk s 7) (V 7) X2 ∗ isrcP c (tk s 8) (V 8) X1 ∗ esrcP c (tk s 8) (V 8) X2 ∗ isrcP c (tk s 9) (V 9) X1 ∗ esrcP c (tk s 9) (V 9) X2 ∗ isrcP c (tk s 10) (V 10) X1 ∗ esrcP c (tk s 10) (V 10) X2 ∗ isrcP c (tk s 11) (V 11) X1 ∗ esrcP c (tk s 11) (V 11) X2 ∗ isrcP c (tk s 12) (V 12) X1 ∗ esrcP c (tk s 12) (V 12) X2 ∗ isrcP c (tk s 13) (V 13) X1 ∗ esrcP c (tk s 13) (V 13) X2 ∗ isrcP c (tk s 14) (V 14) X1 ∗ esrcP c (tk s 14) (V 14) X2 ∗ isrcP c (tk s 15) (V 15) X1 ∗ esrcP c (tk s 15) (V 15) X2) ⊢ (freeP c s X1 X2 : sProp 𝕄) := by
  unfold freeP
  iintro ⟨HI, HE, HR, HC0, HD0, HC1, HD1, HC2, HD2, HC3, HD3, HC4, HD4, HC5, HD5, HC6, HD6, HC7, HD7, HC8, HD8, HC9, HD9, HC10, HD10, HC11, HD11, HC12, HD12, HC13, HD13, HC14, HD14, HC15, HD15, HS0, HU0, HS1, HU1, HS2, HU2, HS3, HU3, HS4, HU4, HS5, HU5, HS6, HU6, HS7, HU7, HS8, HU8, HS9, HU9, HS10, HU10, HS11, HU11, HS12, HU12, HS13, HU13, HS14, HU14, HS15, HU15⟩
  ihave HI := (islot_open c s f) $$ HI
  ihave HE := (eslot_open c s e) $$ HE
  icases HI with ⟨HI0, HI1, HI2, HI3, HI4, HI5, HI6, HI7, HI8, HI9, HI10, HI11, HI12, HI13, HI14, HI15⟩
  icases HE with ⟨HE0, HE1, HE2, HE3, HE4, HE5, HE6, HE7, HE8, HE9, HE10, HE11, HE12, HE13, HE14, HE15⟩
  isplitl [HI0]; · iexact HI0
  isplitl [HE0]; · iexact HE0
  isplitl [HC0]; · iexact HC0
  isplitl [HD0]; · iexact HD0
  isplitl [HI1]; · iexact HI1
  isplitl [HE1]; · iexact HE1
  isplitl [HC1]; · iexact HC1
  isplitl [HD1]; · iexact HD1
  isplitl [HI2]; · iexact HI2
  isplitl [HE2]; · iexact HE2
  isplitl [HC2]; · iexact HC2
  isplitl [HD2]; · iexact HD2
  isplitl [HI3]; · iexact HI3
  isplitl [HE3]; · iexact HE3
  isplitl [HC3]; · iexact HC3
  isplitl [HD3]; · iexact HD3
  isplitl [HI4]; · iexact HI4
  isplitl [HE4]; · iexact HE4
  isplitl [HC4]; · iexact HC4
  isplitl [HD4]; · iexact HD4
  isplitl [HI5]; · iexact HI5
  isplitl [HE5]; · iexact HE5
  isplitl [HC5]; · iexact HC5
  isplitl [HD5]; · iexact HD5
  isplitl [HI6]; · iexact HI6
  isplitl [HE6]; · iexact HE6
  isplitl [HC6]; · iexact HC6
  isplitl [HD6]; · iexact HD6
  isplitl [HI7]; · iexact HI7
  isplitl [HE7]; · iexact HE7
  isplitl [HC7]; · iexact HC7
  isplitl [HD7]; · iexact HD7
  isplitl [HI8]; · iexact HI8
  isplitl [HE8]; · iexact HE8
  isplitl [HC8]; · iexact HC8
  isplitl [HD8]; · iexact HD8
  isplitl [HI9]; · iexact HI9
  isplitl [HE9]; · iexact HE9
  isplitl [HC9]; · iexact HC9
  isplitl [HD9]; · iexact HD9
  isplitl [HI10]; · iexact HI10
  isplitl [HE10]; · iexact HE10
  isplitl [HC10]; · iexact HC10
  isplitl [HD10]; · iexact HD10
  isplitl [HI11]; · iexact HI11
  isplitl [HE11]; · iexact HE11
  isplitl [HC11]; · iexact HC11
  isplitl [HD11]; · iexact HD11
  isplitl [HI12]; · iexact HI12
  isplitl [HE12]; · iexact HE12
  isplitl [HC12]; · iexact HC12
  isplitl [HD12]; · iexact HD12
  isplitl [HI13]; · iexact HI13
  isplitl [HE13]; · iexact HE13
  isplitl [HC13]; · iexact HC13
  isplitl [HD13]; · iexact HD13
  isplitl [HI14]; · iexact HI14
  isplitl [HE14]; · iexact HE14
  isplitl [HC14]; · iexact HC14
  isplitl [HD14]; · iexact HD14
  isplitl [HI15]; · iexact HI15
  isplitl [HE15]; · iexact HE15
  isplitl [HC15]; · iexact HC15
  isplitl [HD15]; · iexact HD15
  iapply (toks_join c s X1 X2 V)
  isplitl [HR]; · iexact HR
  isplitl [HS0]; · iexact HS0
  isplitl [HU0]; · iexact HU0
  isplitl [HS1]; · iexact HS1
  isplitl [HU1]; · iexact HU1
  isplitl [HS2]; · iexact HS2
  isplitl [HU2]; · iexact HU2
  isplitl [HS3]; · iexact HS3
  isplitl [HU3]; · iexact HU3
  isplitl [HS4]; · iexact HS4
  isplitl [HU4]; · iexact HU4
  isplitl [HS5]; · iexact HS5
  isplitl [HU5]; · iexact HU5
  isplitl [HS6]; · iexact HS6
  isplitl [HU6]; · iexact HU6
  isplitl [HS7]; · iexact HS7
  isplitl [HU7]; · iexact HU7
  isplitl [HS8]; · iexact HS8
  isplitl [HU8]; · iexact HU8
  isplitl [HS9]; · iexact HS9
  isplitl [HU9]; · iexact HU9
  isplitl [HS10]; · iexact HS10
  isplitl [HU10]; · iexact HU10
  isplitl [HS11]; · iexact HS11
  isplitl [HU11]; · iexact HU11
  isplitl [HS12]; · iexact HS12
  isplitl [HU12]; · iexact HU12
  isplitl [HS13]; · iexact HS13
  isplitl [HU13]; · iexact HU13
  isplitl [HS14]; · iexact HS14
  isplitl [HU14]; · iexact HU14
  isplitl [HS15]; · iexact HS15
  iexact HU15
/-- A slot whose transfers are issued is in flight. -/
theorem fly_intro (c : Dev nD) (s : Fin 2) (X1 : Buf (Elt F) (invM.view.loc (c : TT))) (X2 : Buf (Elt F) (eqM.view.loc (c : TT))) (V : Fin 16 → BitVec 32) (f0 : Buf (Elt F) ((irow s 0).view.loc (c : TT))) (f1 : Buf (Elt F) ((irow s 1).view.loc (c : TT))) (f2 : Buf (Elt F) ((irow s 2).view.loc (c : TT))) (f3 : Buf (Elt F) ((irow s 3).view.loc (c : TT))) (f4 : Buf (Elt F) ((irow s 4).view.loc (c : TT))) (f5 : Buf (Elt F) ((irow s 5).view.loc (c : TT))) (f6 : Buf (Elt F) ((irow s 6).view.loc (c : TT))) (f7 : Buf (Elt F) ((irow s 7).view.loc (c : TT))) (f8 : Buf (Elt F) ((irow s 8).view.loc (c : TT))) (f9 : Buf (Elt F) ((irow s 9).view.loc (c : TT))) (f10 : Buf (Elt F) ((irow s 10).view.loc (c : TT))) (f11 : Buf (Elt F) ((irow s 11).view.loc (c : TT))) (f12 : Buf (Elt F) ((irow s 12).view.loc (c : TT))) (f13 : Buf (Elt F) ((irow s 13).view.loc (c : TT))) (f14 : Buf (Elt F) ((irow s 14).view.loc (c : TT))) (f15 : Buf (Elt F) ((irow s 15).view.loc (c : TT))) (e0 : Buf (Elt F) ((erow s 0).view.loc (c : TT))) (e1 : Buf (Elt F) ((erow s 1).view.loc (c : TT))) (e2 : Buf (Elt F) ((erow s 2).view.loc (c : TT))) (e3 : Buf (Elt F) ((erow s 3).view.loc (c : TT))) (e4 : Buf (Elt F) ((erow s 4).view.loc (c : TT))) (e5 : Buf (Elt F) ((erow s 5).view.loc (c : TT))) (e6 : Buf (Elt F) ((erow s 6).view.loc (c : TT))) (e7 : Buf (Elt F) ((erow s 7).view.loc (c : TT))) (e8 : Buf (Elt F) ((erow s 8).view.loc (c : TT))) (e9 : Buf (Elt F) ((erow s 9).view.loc (c : TT))) (e10 : Buf (Elt F) ((erow s 10).view.loc (c : TT))) (e11 : Buf (Elt F) ((erow s 11).view.loc (c : TT))) (e12 : Buf (Elt F) ((erow s 12).view.loc (c : TT))) (e13 : Buf (Elt F) ((erow s 13).view.loc (c : TT))) (e14 : Buf (Elt F) ((erow s 14).view.loc (c : TT))) (e15 : Buf (Elt F) ((erow s 15).view.loc (c : TT))) :
    iprop(restsP c s V X1 X2 ∗ iflyP c s 0 (V 0) X1 f0 ∗ eflyP c s 0 (V 0) X2 e0 ∗ iflyP c s 1 (V 1) X1 f1 ∗ eflyP c s 1 (V 1) X2 e1 ∗ iflyP c s 2 (V 2) X1 f2 ∗ eflyP c s 2 (V 2) X2 e2 ∗ iflyP c s 3 (V 3) X1 f3 ∗ eflyP c s 3 (V 3) X2 e3 ∗ iflyP c s 4 (V 4) X1 f4 ∗ eflyP c s 4 (V 4) X2 e4 ∗ iflyP c s 5 (V 5) X1 f5 ∗ eflyP c s 5 (V 5) X2 e5 ∗ iflyP c s 6 (V 6) X1 f6 ∗ eflyP c s 6 (V 6) X2 e6 ∗ iflyP c s 7 (V 7) X1 f7 ∗ eflyP c s 7 (V 7) X2 e7 ∗ iflyP c s 8 (V 8) X1 f8 ∗ eflyP c s 8 (V 8) X2 e8 ∗ iflyP c s 9 (V 9) X1 f9 ∗ eflyP c s 9 (V 9) X2 e9 ∗ iflyP c s 10 (V 10) X1 f10 ∗ eflyP c s 10 (V 10) X2 e10 ∗ iflyP c s 11 (V 11) X1 f11 ∗ eflyP c s 11 (V 11) X2 e11 ∗ iflyP c s 12 (V 12) X1 f12 ∗ eflyP c s 12 (V 12) X2 e12 ∗ iflyP c s 13 (V 13) X1 f13 ∗ eflyP c s 13 (V 13) X2 e13 ∗ iflyP c s 14 (V 14) X1 f14 ∗ eflyP c s 14 (V 14) X2 e14 ∗ iflyP c s 15 (V 15) X1 f15 ∗ eflyP c s 15 (V 15) X2 e15) ⊢ (flyP c s V X1 X2 : sProp 𝕄) := by
  unfold flyP
  iintro ⟨HR, HF0, HG0, HF1, HG1, HF2, HG2, HF3, HG3, HF4, HG4, HF5, HG5, HF6, HG6, HF7, HG7, HF8, HG8, HF9, HG9, HF10, HG10, HF11, HG11, HF12, HG12, HF13, HG13, HF14, HG14, HF15, HG15⟩
  isplitl [HF0]; · iexists f0; iexact HF0
  isplitl [HG0]; · iexists e0; iexact HG0
  isplitl [HF1]; · iexists f1; iexact HF1
  isplitl [HG1]; · iexists e1; iexact HG1
  isplitl [HF2]; · iexists f2; iexact HF2
  isplitl [HG2]; · iexists e2; iexact HG2
  isplitl [HF3]; · iexists f3; iexact HF3
  isplitl [HG3]; · iexists e3; iexact HG3
  isplitl [HF4]; · iexists f4; iexact HF4
  isplitl [HG4]; · iexists e4; iexact HG4
  isplitl [HF5]; · iexists f5; iexact HF5
  isplitl [HG5]; · iexists e5; iexact HG5
  isplitl [HF6]; · iexists f6; iexact HF6
  isplitl [HG6]; · iexists e6; iexact HG6
  isplitl [HF7]; · iexists f7; iexact HF7
  isplitl [HG7]; · iexists e7; iexact HG7
  isplitl [HF8]; · iexists f8; iexact HF8
  isplitl [HG8]; · iexists e8; iexact HG8
  isplitl [HF9]; · iexists f9; iexact HF9
  isplitl [HG9]; · iexists e9; iexact HG9
  isplitl [HF10]; · iexists f10; iexact HF10
  isplitl [HG10]; · iexists e10; iexact HG10
  isplitl [HF11]; · iexists f11; iexact HF11
  isplitl [HG11]; · iexists e11; iexact HG11
  isplitl [HF12]; · iexists f12; iexact HF12
  isplitl [HG12]; · iexists e12; iexact HG12
  isplitl [HF13]; · iexists f13; iexact HF13
  isplitl [HG13]; · iexists e13; iexact HG13
  isplitl [HF14]; · iexists f14; iexact HF14
  isplitl [HG14]; · iexists e14; iexact HG14
  isplitl [HF15]; · iexists f15; iexact HF15
  isplitl [HG15]; · iexists e15; iexact HG15
  iexact HR

end Run

end Cert.GatherIdealWork
end
-- ==== Proof.IdealEnd.lean ====
/- After the waits: the slot of this block is taken together, stored, and put to rest. -/
module

public import proofs.«01_k».proof.Proof.IdealBack

@[expose] public section

noncomputable section

namespace Cert.GatherIdealWork

open Cert.GatherIdeal Cert.GatherIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

section Run
variable {F : FTy → Type} [FloatOps F]
local notation "𝕄" => MT nD τ sig Unit (Elt F) ℕ (Pipeline.UD sig nD τ) ℕ

/-- The words may be replaced by equal ones. -/
theorem fly_eq (c : Dev nD) (s : Fin 2) (X1 : Buf (Elt F) (invM.view.loc (c : TT))) (X2 : Buf (Elt F) (eqM.view.loc (c : TT))) {V V' : Fin 16 → BitVec 32} (h : V = V') : (flyP c s V X1 X2 : sProp 𝕄) ⊢ flyP c s V' X1 X2 := ent (by rw [h])
/-- A slot in flight, written out; -/
theorem flyP_def (c : Dev nD) (s : Fin 2) (V : Fin 16 → BitVec 32) (X1 : Buf (Elt F) (invM.view.loc (c : TT))) (X2 : Buf (Elt F) (eqM.view.loc (c : TT))) : (flyP c s V X1 X2 : sProp 𝕄) = iprop((∃ f, iflyP c s 0 (V 0) X1 f) ∗ (∃ f, eflyP c s 0 (V 0) X2 f) ∗ (∃ f, iflyP c s 1 (V 1) X1 f) ∗ (∃ f, eflyP c s 1 (V 1) X2 f) ∗ (∃ f, iflyP c s 2 (V 2) X1 f) ∗ (∃ f, eflyP c s 2 (V 2) X2 f) ∗ (∃ f, iflyP c s 3 (V 3) X1 f) ∗ (∃ f, eflyP c s 3 (V 3) X2 f) ∗ (∃ f, iflyP c s 4 (V 4) X1 f) ∗ (∃ f, eflyP c s 4 (V 4) X2 f) ∗ (∃ f, iflyP c s 5 (V 5) X1 f) ∗ (∃ f, eflyP c s 5 (V 5) X2 f) ∗ (∃ f, iflyP c s 6 (V 6) X1 f) ∗ (∃ f, eflyP c s 6 (V 6) X2 f) ∗ (∃ f, iflyP c s 7 (V 7) X1 f) ∗ (∃ f, eflyP c s 7 (V 7) X2 f) ∗ (∃ f, iflyP c s 8 (V 8) X1 f) ∗ (∃ f, eflyP c s 8 (V 8) X2 f) ∗ (∃ f, iflyP c s 9 (V 9) X1 f) ∗ (∃ f, eflyP c s 9 (V 9) X2 f) ∗ (∃ f, iflyP c s 10 (V 10) X1 f) ∗ (∃ f, eflyP c s 10 (V 10) X2 f) ∗ (∃ f, iflyP c s 11 (V 11) X1 f) ∗ (∃ f, eflyP c s 11 (V 11) X2 f) ∗ (∃ f, iflyP c s 12 (V 12) X1 f) ∗ (∃ f, eflyP c s 12 (V 12) X2 f) ∗ (∃ f, iflyP c s 13 (V 13) X1 f) ∗ (∃ f, eflyP c s 13 (V 13) X2 f) ∗ (∃ f, iflyP c s 14 (V 14) X1 f) ∗ (∃ f, eflyP c s 14 (V 14) X2 f) ∗ (∃ f, iflyP c s 15 (V 15) X1 f) ∗ (∃ f, eflyP c s 15 (V 15) X2 f) ∗ restsP c s V X1 X2) := rfl
/-- and at rest. -/
theorem freeP_def (c : Dev nD) (s : Fin 2) (X1 : Buf (Elt F) (invM.view.loc (c : TT))) (X2 : Buf (Elt F) (eqM.view.loc (c : TT))) : (freeP c s X1 X2 : sProp 𝕄) = iprop((∃ f, irowP c s 0 f) ∗ (∃ f, erowP c s 0 f) ∗ icelP c s 0 ∗ ecelP c s 0 ∗ (∃ f, irowP c s 1 f) ∗ (∃ f, erowP c s 1 f) ∗ icelP c s 1 ∗ ecelP c s 1 ∗ (∃ f, irowP c s 2 f) ∗ (∃ f, erowP c s 2 f) ∗ icelP c s 2 ∗ ecelP c s 2 ∗ (∃ f, irowP c s 3 f) ∗ (∃ f, erowP c s 3 f) ∗ icelP c s 3 ∗ ecelP c s 3 ∗ (∃ f, irowP c s 4 f) ∗ (∃ f, erowP c s 4 f) ∗ icelP c s 4 ∗ ecelP c s 4 ∗ (∃ f, irowP c s 5 f) ∗ (∃ f, erowP c s 5 f) ∗ icelP c s 5 ∗ ecelP c s 5 ∗ (∃ f, irowP c s 6 f) ∗ (∃ f, erowP c s 6 f) ∗ icelP c s 6 ∗ ecelP c s 6 ∗ (∃ f, irowP c s 7 f) ∗ (∃ f, erowP c s 7 f) ∗ icelP c s 7 ∗ ecelP c s 7 ∗ (∃ f, irowP c s 8 f) ∗ (∃ f, erowP c s 8 f) ∗ icelP c s 8 ∗ ecelP c s 8 ∗ (∃ f, irowP c s 9 f) ∗ (∃ f, erowP c s 9 f) ∗ icelP c s 9 ∗ ecelP c s 9 ∗ (∃ f, irowP c s 10 f) ∗ (∃ f, erowP c s 10 f) ∗ icelP c s 10 ∗ ecelP c s 10 ∗ (∃ f, irowP c s 11 f) ∗ (∃ f, erowP c s 11 f) ∗ icelP c s 11 ∗ ecelP c s 11 ∗ (∃ f, irowP c s 12 f) ∗ (∃ f, erowP c s 12 f) ∗ icelP c s 12 ∗ ecelP c s 12 ∗ (∃ f, irowP c s 13 f) ∗ (∃ f, erowP c s 13 f) ∗ icelP c s 13 ∗ ecelP c s 13 ∗ (∃ f, irowP c s 14 f) ∗ (∃ f, erowP c s 14 f) ∗ icelP c s 14 ∗ ecelP c s 14 ∗ (∃ f, irowP c s 15 f) ∗ (∃ f, erowP c s 15 f) ∗ icelP c s 15 ∗ ecelP c s 15 ∗ toksP c s X1 X2) := rfl
/-- From the landed rows of this block to what a point leaves. -/
theorem finish (c : Dev nD) (i : grid0.Coords) (g : Buf (Elt F) (tbM.view.loc (c : TT))) (arg4 : Memref sig .tc .vmem S16x128 .f32) (harg4 : arg4.IsWhole) (arg5 : Memref sig .tc .vmem S16x3 .f32) (harg5 : arg5.IsWhole) (X1 : Buf (Elt F) (invM.view.loc (c : TT))) (X2 : Buf (Elt F) (eqM.view.loc (c : TT))) {R R' : sProp 𝕄} (hR : R ⊢ R') (W : Waits sig Unit) (Q : PUnit → sProp 𝕄)
    (f0 : Buf (Elt F) ((irow (slW i) 0).view.loc (c : TT))) (f1 : Buf (Elt F) ((irow (slW i) 1).view.loc (c : TT))) (f2 : Buf (Elt F) ((irow (slW i) 2).view.loc (c : TT))) (f3 : Buf (Elt F) ((irow (slW i) 3).view.loc (c : TT))) (f4 : Buf (Elt F) ((irow (slW i) 4).view.loc (c : TT))) (f5 : Buf (Elt F) ((irow (slW i) 5).view.loc (c : TT))) (f6 : Buf (Elt F) ((irow (slW i) 6).view.loc (c : TT))) (f7 : Buf (Elt F) ((irow (slW i) 7).view.loc (c : TT))) (f8 : Buf (Elt F) ((irow (slW i) 8).view.loc (c : TT))) (f9 : Buf (Elt F) ((irow (slW i) 9).view.loc (c : TT))) (f10 : Buf (Elt F) ((irow (slW i) 10).view.loc (c : TT))) (f11 : Buf (Elt F) ((irow (slW i) 11).view.loc (c : TT))) (f12 : Buf (Elt F) ((irow (slW i) 12).view.loc (c : TT))) (f13 : Buf (Elt F) ((irow (slW i) 13).view.loc (c : TT))) (f14 : Buf (Elt F) ((irow (slW i) 14).view.loc (c : TT))) (f15 : Buf (Elt F) ((irow (slW i) 15).view.loc (c : TT))) (e0 : Buf (Elt F) ((erow (slW i) 0).view.loc (c : TT))) (e1 : Buf (Elt F) ((erow (slW i) 1).view.loc (c : TT))) (e2 : Buf (Elt F) ((erow (slW i) 2).view.loc (c : TT))) (e3 : Buf (Elt F) ((erow (slW i) 3).view.loc (c : TT))) (e4 : Buf (Elt F) ((erow (slW i) 4).view.loc (c : TT))) (e5 : Buf (Elt F) ((erow (slW i) 5).view.loc (c : TT))) (e6 : Buf (Elt F) ((erow (slW i) 6).view.loc (c : TT))) (e7 : Buf (Elt F) ((erow (slW i) 7).view.loc (c : TT))) (e8 : Buf (Elt F) ((erow (slW i) 8).view.loc (c : TT))) (e9 : Buf (Elt F) ((erow (slW i) 9).view.loc (c : TT))) (e10 : Buf (Elt F) ((erow (slW i) 10).view.loc (c : TT))) (e11 : Buf (Elt F) ((erow (slW i) 11).view.loc (c : TT))) (e12 : Buf (Elt F) ((erow (slW i) 12).view.loc (c : TT))) (e13 : Buf (Elt F) ((erow (slW i) 13).view.loc (c : TT))) (e14 : Buf (Elt F) ((erow (slW i) 14).view.loc (c : TT))) (e15 : Buf (Elt F) ((erow (slW i) 15).view.loc (c : TT))) :
    iprop(tabP c g ∗ (irowL c (slW i) 0 ((bw g (i 0).val) 0) X1 f0 ∗ irowL c (slW i) 1 ((bw g (i 0).val) 1) X1 f1 ∗ irowL c (slW i) 2 ((bw g (i 0).val) 2) X1 f2 ∗ irowL c (slW i) 3 ((bw g (i 0).val) 3) X1 f3 ∗ irowL c (slW i) 4 ((bw g (i 0).val) 4) X1 f4 ∗ irowL c (slW i) 5 ((bw g (i 0).val) 5) X1 f5 ∗ irowL c (slW i) 6 ((bw g (i 0).val) 6) X1 f6 ∗ irowL c (slW i) 7 ((bw g (i 0).val) 7) X1 f7 ∗ irowL c (slW i) 8 ((bw g (i 0).val) 8) X1 f8 ∗ irowL c (slW i) 9 ((bw g (i 0).val) 9) X1 f9 ∗ irowL c (slW i) 10 ((bw g (i 0).val) 10) X1 f10 ∗ irowL c (slW i) 11 ((bw g (i 0).val) 11) X1 f11 ∗ irowL c (slW i) 12 ((bw g (i 0).val) 12) X1 f12 ∗ irowL c (slW i) 13 ((bw g (i 0).val) 13) X1 f13 ∗ irowL c (slW i) 14 ((bw g (i 0).val) 14) X1 f14 ∗ irowL c (slW i) 15 ((bw g (i 0).val) 15) X1 f15) ∗ (erowL c (slW i) 0 ((bw g (i 0).val) 0) X2 e0 ∗ erowL c (slW i) 1 ((bw g (i 0).val) 1) X2 e1 ∗ erowL c (slW i) 2 ((bw g (i 0).val) 2) X2 e2 ∗ erowL c (slW i) 3 ((bw g (i 0).val) 3) X2 e3 ∗ erowL c (slW i) 4 ((bw g (i 0).val) 4) X2 e4 ∗ erowL c (slW i) 5 ((bw g (i 0).val) 5) X2 e5 ∗ erowL c (slW i) 6 ((bw g (i 0).val) 6) X2 e6 ∗ erowL c (slW i) 7 ((bw g (i 0).val) 7) X2 e7 ∗ erowL c (slW i) 8 ((bw g (i 0).val) 8) X2 e8 ∗ erowL c (slW i) 9 ((bw g (i 0).val) 9) X2 e9 ∗ erowL c (slW i) 10 ((bw g (i 0).val) 10) X2 e10 ∗ erowL c (slW i) 11 ((bw g (i 0).val) 11) X2 e11 ∗ erowL c (slW i) 12 ((bw g (i 0).val) 12) X2 e12 ∗ erowL c (slW i) 13 ((bw g (i 0).val) 13) X2 e13 ∗ erowL c (slW i) 14 ((bw g (i 0).val) 14) X2 e14 ∗ erowL c (slW i) 15 ((bw g (i 0).val) 15) X2 e15) ∗ (icelP c (slW i) 0 ∗ ecelP c (slW i) 0 ∗ icelP c (slW i) 1 ∗ ecelP c (slW i) 1 ∗ icelP c (slW i) 2 ∗ ecelP c (slW i) 2 ∗ icelP c (slW i) 3 ∗ ecelP c (slW i) 3 ∗ icelP c (slW i) 4 ∗ ecelP c (slW i) 4 ∗ icelP c (slW i) 5 ∗ ecelP c (slW i) 5 ∗ icelP c (slW i) 6 ∗ ecelP c (slW i) 6 ∗ icelP c (slW i) 7 ∗ ecelP c (slW i) 7 ∗ icelP c (slW i) 8 ∗ ecelP c (slW i) 8 ∗ icelP c (slW i) 9 ∗ ecelP c (slW i) 9 ∗ icelP c (slW i) 10 ∗ ecelP c (slW i) 10 ∗ icelP c (slW i) 11 ∗ ecelP c (slW i) 11 ∗ icelP c (slW i) 12 ∗ ecelP c (slW i) 12 ∗ icelP c (slW i) 13 ∗ ecelP c (slW i) 13 ∗ icelP c (slW i) 14 ∗ ecelP c (slW i) 14 ∗ icelP c (slW i) 15 ∗ ecelP c (slW i) 15) ∗ (isrcP c (tk (slW i) 0) ((bw g (i 0).val) 0) X1 ∗ esrcP c (tk (slW i) 0) ((bw g (i 0).val) 0) X2 ∗ isrcP c (tk (slW i) 1) ((bw g (i 0).val) 1) X1 ∗ esrcP c (tk (slW i) 1) ((bw g (i 0).val) 1) X2 ∗ isrcP c (tk (slW i) 2) ((bw g (i 0).val) 2) X1 ∗ esrcP c (tk (slW i) 2) ((bw g (i 0).val) 2) X2 ∗ isrcP c (tk (slW i) 3) ((bw g (i 0).val) 3) X1 ∗ esrcP c (tk (slW i) 3) ((bw g (i 0).val) 3) X2 ∗ isrcP c (tk (slW i) 4) ((bw g (i 0).val) 4) X1 ∗ esrcP c (tk (slW i) 4) ((bw g (i 0).val) 4) X2 ∗ isrcP c (tk (slW i) 5) ((bw g (i 0).val) 5) X1 ∗ esrcP c (tk (slW i) 5) ((bw g (i 0).val) 5) X2 ∗ isrcP c (tk (slW i) 6) ((bw g (i 0).val) 6) X1 ∗ esrcP c (tk (slW i) 6) ((bw g (i 0).val) 6) X2 ∗ isrcP c (tk (slW i) 7) ((bw g (i 0).val) 7) X1 ∗ esrcP c (tk (slW i) 7) ((bw g (i 0).val) 7) X2 ∗ isrcP c (tk (slW i) 8) ((bw g (i 0).val) 8) X1 ∗ esrcP c (tk (slW i) 8) ((bw g (i 0).val) 8) X2 ∗ isrcP c (tk (slW i) 9) ((bw g (i 0).val) 9) X1 ∗ esrcP c (tk (slW i) 9) ((bw g (i 0).val) 9) X2 ∗ isrcP c (tk (slW i) 10) ((bw g (i 0).val) 10) X1 ∗ esrcP c (tk (slW i) 10) ((bw g (i 0).val) 10) X2 ∗ isrcP c (tk (slW i) 11) ((bw g (i 0).val) 11) X1 ∗ esrcP c (tk (slW i) 11) ((bw g (i 0).val) 11) X2 ∗ isrcP c (tk (slW i) 12) ((bw g (i 0).val) 12) X1 ∗ esrcP c (tk (slW i) 12) ((bw g (i 0).val) 12) X2 ∗ isrcP c (tk (slW i) 13) ((bw g (i 0).val) 13) X1 ∗ esrcP c (tk (slW i) 13) ((bw g (i 0).val) 13) X2 ∗ isrcP c (tk (slW i) 14) ((bw g (i 0).val) 14) X1 ∗ esrcP c (tk (slW i) 14) ((bw g (i 0).val) 14) X2 ∗ isrcP c (tk (slW i) 15) ((bw g (i 0).val) 15) X1 ∗ esrcP c (tk (slW i) 15) ((bw g (i 0).val) 15) X2) ∗ restsP c (slW i) (bw g (i 0).val) X1 X2 ∗ R
        ∗ (∃ d, owns (c : TT) arg4 fullShare d) ∗ (∃ d, owns (c : TT) arg5 fullShare d) ∗ owes (c : TT) 0 W ∗ (iprop(tabP c g ∗ freeP c (slW i) X1 X2 ∗ R' ∗ owns (c : TT) arg4 fullShare (O1 X1 (bw g (i 0).val)) ∗ owns (c : TT) arg5 fullShare (O2 X2 (bw g (i 0).val)) ∗ ∃ W', owes (c : TT) 0 W') -∗ Q ⟨⟩))
      ⊢ wp frame (wpE (defs₀ (F := F)) Variants.none c none) Set.univ (tailProg (F := F) i arg4 arg5) Q := by
  iintro ⟨HT, HI, HE, HC, HS, HR, HX, H4, H5, HW, Hk⟩
  ihave HI := (islot_landed c (slW i) X1 (bw g (i 0).val) f0 f1 f2 f3 f4 f5 f6 f7 f8 f9 f10 f11 f12 f13 f14 f15) $$ HI
  ihave HE := (eslot_landed c (slW i) X2 (bw g (i 0).val) e0 e1 e2 e3 e4 e5 e6 e7 e8 e9 e10 e11 e12 e13 e14 e15) $$ HE
  iapply (tailRun c i arg4 harg4 arg5 harg5 X1 X2 (bw g (i 0).val) Q)
  isplitl [HI]; · iexact HI
  isplitl [HE]; · iexact HE
  isplitl [H4]; · iexact H4
  isplitl [H5]; · iexact H5
  iintro ⟨HI, HE, H4, H5⟩
  iapply Hk
  isplitl [HT]; · iexact HT
  isplitl [HI HE HC HS HR]
  · iapply (free_intro c (slW i) X1 X2 (bw g (i 0).val) (Gi X1 (bw g (i 0).val)) (Ge X2 (bw g (i 0).val)))
    isplitl [HI]; · iexact HI
    isplitl [HE]; · iexact HE
    isplitl [HR]; · iexact HR
    icases HC with ⟨HC0, HD0, HC1, HD1, HC2, HD2, HC3, HD3, HC4, HD4, HC5, HD5, HC6, HD6, HC7, HD7, HC8, HD8, HC9, HD9, HC10, HD10, HC11, HD11, HC12, HD12, HC13, HD13, HC14, HD14, HC15, HD15⟩
    isplitl [HC0]; · iexact HC0
    isplitl [HD0]; · iexact HD0
    isplitl [HC1]; · iexact HC1
    isplitl [HD1]; · iexact HD1
    isplitl [HC2]; · iexact HC2
    isplitl [HD2]; · iexact HD2
    isplitl [HC3]; · iexact HC3
    isplitl [HD3]; · iexact HD3
    isplitl [HC4]; · iexact HC4
    isplitl [HD4]; · iexact HD4
    isplitl [HC5]; · iexact HC5
    isplitl [HD5]; · iexact HD5
    isplitl [HC6]; · iexact HC6
    isplitl [HD6]; · iexact HD6
    isplitl [HC7]; · iexact HC7
    isplitl [HD7]; · iexact HD7
    isplitl [HC8]; · iexact HC8
    isplitl [HD8]; · iexact HD8
    isplitl [HC9]; · iexact HC9
    isplitl [HD9]; · iexact HD9
    isplitl [HC10]; · iexact HC10
    isplitl [HD10]; · iexact HD10
    isplitl [HC11]; · iexact HC11
    isplitl [HD11]; · iexact HD11
    isplitl [HC12]; · iexact HC12
    isplitl [HD12]; · iexact HD12
    isplitl [HC13]; · iexact HC13
    isplitl [HD13]; · iexact HD13
    isplitl [HC14]; · iexact HC14
    isplitl [HD14]; · iexact HD14
    isplitl [HC15]; · iexact HC15
    isplitl [HD15]; · iexact HD15
    iexact HS
  isplitl [HX]; · iapply hR; iexact HX
  isplitl [H4]; · iexact H4
  isplitl [H5]; · iexact H5
  iexists W; iexact HW

end Run
end Cert.GatherIdealWork
end
-- ==== Proof.IdealStart.lean ====
/- At launch the two slots, the cells and the lent shares are taken out of the buffers; at the end they are put back. -/
module

public import proofs.«01_k».proof.Proof.IdealEnd

@[expose] public section

noncomputable section

namespace Cert.GatherIdealWork

open Cert.GatherIdeal Cert.GatherIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

section Start
variable {F : FTy → Type} [FloatOps F] [∀ e, Nonempty (Elt F e)]
local notation "𝕄" => MT nD τ sig Unit (Elt F) ℕ (Pipeline.UD sig nD τ) ℕ

/-- The sixteen rows of slot `s`, each at some contents. -/
def irows (c : Dev nD) (s : Fin 2) : sProp 𝕄 := bigSep Finset.univ fun k : Fin 16 => iprop(∃ f, irowP c s k f)
theorem irows_list (c : Dev nD) (s : Fin 2) : (irows (F := F) c s : sProp 𝕄) = iprop((∃ f, irowP c s 0 f) ∗ (∃ f, irowP c s 1 f) ∗ (∃ f, irowP c s 2 f) ∗ (∃ f, irowP c s 3 f) ∗ (∃ f, irowP c s 4 f) ∗ (∃ f, irowP c s 5 f) ∗ (∃ f, irowP c s 6 f) ∗ (∃ f, irowP c s 7 f) ∗ (∃ f, irowP c s 8 f) ∗ (∃ f, irowP c s 9 f) ∗ (∃ f, irowP c s 10 f) ∗ (∃ f, irowP c s 11 f) ∗ (∃ f, irowP c s 12 f) ∗ (∃ f, irowP c s 13 f) ∗ (∃ f, irowP c s 14 f) ∗ (∃ f, irowP c s 15 f)) := by
  unfold irows; rw [BI.bigSep_eq_bigSepL_of_eq [0, 1, 2, 3, 4, 5, 6, 7, 8, 9, 10, 11, 12, 13, 14, 15] (by decide) (by decide)]; rfl
theorem islot_disj (c : Dev nD) (s s' : Fin 2) (h : s ≠ s') : Disjoint (islotS c s) (islotS c s') :=
  Finset.disjoint_left.mpr fun x hx hx' => h (((mem_islot s x).mp hx).symm.trans ((mem_islot s' x).mp hx'))
theorem islot_cover (c : Dev nD) : Finset.univ.biUnion (islotS c) = Finset.univ := by
  refine Finset.ext fun x => ?_
  rw [Finset.mem_biUnion]
  exact ⟨fun _ => Finset.mem_univ _, fun _ => ⟨_, Finset.mem_univ _, (mem_islot _ x).mpr rfl⟩⟩
theorem islot_open' (c : Dev nD) (s : Fin 2) (f : Buf (Elt F) (ibM.view.loc (c : TT))) :
    (ibM.view.loc (c : TT) ↦[islotS c s]{fullShare} f : sProp 𝕄) ⊢ irows c s := by
  rw [islot_rows]
  have h (k : Fin 16) : (ibM.view.loc (c : TT) ↦[irowS c s k]{fullShare} f : sProp 𝕄) ⊢ iprop(∃ f, irowP c s k f) := by
    show irowP c s k f ⊢ iprop(∃ f, irowP c s k f)
    iintro H; iexists f; iexact H
  exact BI.bigSep_mono fun k _ => h k
/-- The scratch is its two slots' rows; -/
theorem iopen (c : Dev nD) (f : Buf (Elt F) (ibM.view.loc (c : TT))) :
    (ibM.view.loc (c : TT) ↦{fullShare} f : sProp 𝕄) ⊢ iprop(irows c 0 ∗ irows c 1) := by
  rw [Ring.pointsTo_blocks (islotS c) (islot_disj c) (islot_cover c) f, BI.bigSep_eq_bigSepL_of_eq [0, 1] (by decide) (by decide)]
  exact BIClass.sep_mono (islot_open' c 0 f) (islot_open' c 1 f)
/-- and the rows make it whole again. -/
theorem iclose (c : Dev nD) : iprop(irows c 0 ∗ irows c 1) ⊢ (iprop(∃ f : Buf (Elt F) (ibM.view.loc (c : TT)), ibM.view.loc (c : TT) ↦{fullShare} f) : sProp 𝕄) := by
  have f₀ : Buf (Elt F) (ibM.view.loc (c : TT)) := fun _ => Classical.choice inferInstance
  refine BIBase.Entails.trans ?_ (Ring.pointsTo_blocks_join_exists (islotS c) (islot_disj c) (islot_cover c) f₀)
  rw [BI.bigSep_eq_bigSepL_of_eq [0, 1] (by decide) (by decide)]
  exact BIClass.sep_mono (Ring.pointsTo_sub_blocks_join_exists (irowS c 0) (irowS_disj c 0) (islotS c 0) (irowS_cover c 0) f₀)
    (Ring.pointsTo_sub_blocks_join_exists (irowS c 1) (irowS_disj c 1) (islotS c 1) (irowS_cover c 1) f₀)

/-- The sixteen rows of slot `s`, each at some contents. -/
def erows (c : Dev nD) (s : Fin 2) : sProp 𝕄 := bigSep Finset.univ fun k : Fin 16 => iprop(∃ f, erowP c s k f)
theorem erows_list (c : Dev nD) (s : Fin 2) : (erows (F := F) c s : sProp 𝕄) = iprop((∃ f, erowP c s 0 f) ∗ (∃ f, erowP c s 1 f) ∗ (∃ f, erowP c s 2 f) ∗ (∃ f, erowP c s 3 f) ∗ (∃ f, erowP c s 4 f) ∗ (∃ f, erowP c s 5 f) ∗ (∃ f, erowP c s 6 f) ∗ (∃ f, erowP c s 7 f) ∗ (∃ f, erowP c s 8 f) ∗ (∃ f, erowP c s 9 f) ∗ (∃ f, erowP c s 10 f) ∗ (∃ f, erowP c s 11 f) ∗ (∃ f, erowP c s 12 f) ∗ (∃ f, erowP c s 13 f) ∗ (∃ f, erowP c s 14 f) ∗ (∃ f, erowP c s 15 f)) := by
  unfold erows; rw [BI.bigSep_eq_bigSepL_of_eq [0, 1, 2, 3, 4, 5, 6, 7, 8, 9, 10, 11, 12, 13, 14, 15] (by decide) (by decide)]; rfl
theorem eslot_disj (c : Dev nD) (s s' : Fin 2) (h : s ≠ s') : Disjoint (eslotS c s) (eslotS c s') :=
  Finset.disjoint_left.mpr fun x hx hx' => h (((mem_eslot s x).mp hx).symm.trans ((mem_eslot s' x).mp hx'))
theorem eslot_cover (c : Dev nD) : Finset.univ.biUnion (eslotS c) = Finset.univ := by
  refine Finset.ext fun x => ?_
  rw [Finset.mem_biUnion]
  exact ⟨fun _ => Finset.mem_univ _, fun _ => ⟨_, Finset.mem_univ _, (mem_eslot _ x).mpr rfl⟩⟩
theorem eslot_open' (c : Dev nD) (s : Fin 2) (f : Buf (Elt F) (ebM.view.loc (c : TT))) :
    (ebM.view.loc (c : TT) ↦[eslotS c s]{fullShare} f : sProp 𝕄) ⊢ erows c s := by
  rw [eslot_rows]
  have h (k : Fin 16) : (ebM.view.loc (c : TT) ↦[erowS c s k]{fullShare} f : sProp 𝕄) ⊢ iprop(∃ f, erowP c s k f) := by
    show erowP c s k f ⊢ iprop(∃ f, erowP c s k f)
    iintro H; iexists f; iexact H
  exact BI.bigSep_mono fun k _ => h k
/-- The scratch is its two slots' rows; -/
theorem eopen (c : Dev nD) (f : Buf (Elt F) (ebM.view.loc (c : TT))) :
    (ebM.view.loc (c : TT) ↦{fullShare} f : sProp 𝕄) ⊢ iprop(erows c 0 ∗ erows c 1) := by
  rw [Ring.pointsTo_blocks (eslotS c) (eslot_disj c) (eslot_cover c) f, BI.bigSep_eq_bigSepL_of_eq [0, 1] (by decide) (by decide)]
  exact BIClass.sep_mono (eslot_open' c 0 f) (eslot_open' c 1 f)
/-- and the rows make it whole again. -/
theorem eclose (c : Dev nD) : iprop(erows c 0 ∗ erows c 1) ⊢ (iprop(∃ f : Buf (Elt F) (ebM.view.loc (c : TT)), ebM.view.loc (c : TT) ↦{fullShare} f) : sProp 𝕄) := by
  have f₀ : Buf (Elt F) (ebM.view.loc (c : TT)) := fun _ => Classical.choice inferInstance
  refine BIBase.Entails.trans ?_ (Ring.pointsTo_blocks_join_exists (eslotS c) (eslot_disj c) (eslot_cover c) f₀)
  rw [BI.bigSep_eq_bigSepL_of_eq [0, 1] (by decide) (by decide)]
  exact BIClass.sep_mono (Ring.pointsTo_sub_blocks_join_exists (erowS c 0) (erowS_disj c 0) (eslotS c 0) (erowS_cover c 0) f₀)
    (Ring.pointsTo_sub_blocks_join_exists (erowS c 1) (erowS_disj c 1) (eslotS c 1) (erowS_cover c 1) f₀)

/-- The cells of slot `s`. -/
def icells (c : Dev nD) (s : Fin 2) : sProp 𝕄 := iprop(icelP c s 0 ∗ icelP c s 1 ∗ icelP c s 2 ∗ icelP c s 3 ∗ icelP c s 4 ∗ icelP c s 5 ∗ icelP c s 6 ∗ icelP c s 7 ∗ icelP c s 8 ∗ icelP c s 9 ∗ icelP c s 10 ∗ icelP c s 11 ∗ icelP c s 12 ∗ icelP c s 13 ∗ icelP c s 14 ∗ icelP c s 15)
def ecells (c : Dev nD) (s : Fin 2) : sProp 𝕄 := iprop(ecelP c s 0 ∗ ecelP c s 1 ∗ ecelP c s 2 ∗ ecelP c s 3 ∗ ecelP c s 4 ∗ ecelP c s 5 ∗ ecelP c s 6 ∗ ecelP c s 7 ∗ ecelP c s 8 ∗ ecelP c s 9 ∗ ecelP c s 10 ∗ ecelP c s 11 ∗ ecelP c s 12 ∗ ecelP c s 13 ∗ ecelP c s 14 ∗ ecelP c s 15)
/-- A slot at rest, part by part; -/
theorem free_parts (c : Dev nD) (s : Fin 2) (X1 : Buf (Elt F) (invM.view.loc (c : TT))) (X2 : Buf (Elt F) (eqM.view.loc (c : TT))) : (freeP c s X1 X2 : sProp 𝕄) ⊢ iprop(irows c s ∗ erows c s ∗ icells c s ∗ ecells c s ∗ toksP c s X1 X2) := by
  rw [freeP_def, irows_list, erows_list]; unfold icells ecells
  iintro ⟨HI0, HE0, HC0, HD0, HI1, HE1, HC1, HD1, HI2, HE2, HC2, HD2, HI3, HE3, HC3, HD3, HI4, HE4, HC4, HD4, HI5, HE5, HC5, HD5, HI6, HE6, HC6, HD6, HI7, HE7, HC7, HD7, HI8, HE8, HC8, HD8, HI9, HE9, HC9, HD9, HI10, HE10, HC10, HD10, HI11, HE11, HC11, HD11, HI12, HE12, HC12, HD12, HI13, HE13, HC13, HD13, HI14, HE14, HC14, HD14, HI15, HE15, HC15, HD15, HT⟩
  isplitl [HI0 HI1 HI2 HI3 HI4 HI5 HI6 HI7 HI8 HI9 HI10 HI11 HI12 HI13 HI14 HI15]
  · isplitl [HI0]; · iexact HI0
    isplitl [HI1]; · iexact HI1
    isplitl [HI2]; · iexact HI2
    isplitl [HI3]; · iexact HI3
    isplitl [HI4]; · iexact HI4
    isplitl [HI5]; · iexact HI5
    isplitl [HI6]; · iexact HI6
    isplitl [HI7]; · iexact HI7
    isplitl [HI8]; · iexact HI8
    isplitl [HI9]; · iexact HI9
    isplitl [HI10]; · iexact HI10
    isplitl [HI11]; · iexact HI11
    isplitl [HI12]; · iexact HI12
    isplitl [HI13]; · iexact HI13
    isplitl [HI14]; · iexact HI14
    iexact HI15
  isplitl [HE0 HE1 HE2 HE3 HE4 HE5 HE6 HE7 HE8 HE9 HE10 HE11 HE12 HE13 HE14 HE15]
  · isplitl [HE0]; · iexact HE0
    isplitl [HE1]; · iexact HE1
    isplitl [HE2]; · iexact HE2
    isplitl [HE3]; · iexact HE3
    isplitl [HE4]; · iexact HE4
    isplitl [HE5]; · iexact HE5
    isplitl [HE6]; · iexact HE6
    isplitl [HE7]; · iexact HE7
    isplitl [HE8]; · iexact HE8
    isplitl [HE9]; · iexact HE9
    isplitl [HE10]; · iexact HE10
    isplitl [HE11]; · iexact HE11
    isplitl [HE12]; · iexact HE12
    isplitl [HE13]; · iexact HE13
    isplitl [HE14]; · iexact HE14
    iexact HE15
  isplitl [HC0 HC1 HC2 HC3 HC4 HC5 HC6 HC7 HC8 HC9 HC10 HC11 HC12 HC13 HC14 HC15]
  · isplitl [HC0]; · iexact HC0
    isplitl [HC1]; · iexact HC1
    isplitl [HC2]; · iexact HC2
    isplitl [HC3]; · iexact HC3
    isplitl [HC4]; · iexact HC4
    isplitl [HC5]; · iexact HC5
    isplitl [HC6]; · iexact HC6
    isplitl [HC7]; · iexact HC7
    isplitl [HC8]; · iexact HC8
    isplitl [HC9]; · iexact HC9
    isplitl [HC10]; · iexact HC10
    isplitl [HC11]; · iexact HC11
    isplitl [HC12]; · iexact HC12
    isplitl [HC13]; · iexact HC13
    isplitl [HC14]; · iexact HC14
    iexact HC15
  isplitl [HD0 HD1 HD2 HD3 HD4 HD5 HD6 HD7 HD8 HD9 HD10 HD11 HD12 HD13 HD14 HD15]
  · isplitl [HD0]; · iexact HD0
    isplitl [HD1]; · iexact HD1
    isplitl [HD2]; · iexact HD2
    isplitl [HD3]; · iexact HD3
    isplitl [HD4]; · iexact HD4
    isplitl [HD5]; · iexact HD5
    isplitl [HD6]; · iexact HD6
    isplitl [HD7]; · iexact HD7
    isplitl [HD8]; · iexact HD8
    isplitl [HD9]; · iexact HD9
    isplitl [HD10]; · iexact HD10
    isplitl [HD11]; · iexact HD11
    isplitl [HD12]; · iexact HD12
    isplitl [HD13]; · iexact HD13
    isplitl [HD14]; · iexact HD14
    iexact HD15
  iexact HT
/-- and back. -/
theorem free_make (c : Dev nD) (s : Fin 2) (X1 : Buf (Elt F) (invM.view.loc (c : TT))) (X2 : Buf (Elt F) (eqM.view.loc (c : TT))) : iprop(irows c s ∗ erows c s ∗ icells c s ∗ ecells c s ∗ toksP c s X1 X2) ⊢ (freeP c s X1 X2 : sProp 𝕄) := by
  rw [freeP_def, irows_list, erows_list]; unfold icells ecells
  iintro ⟨⟨HI0, HI1, HI2, HI3, HI4, HI5, HI6, HI7, HI8, HI9, HI10, HI11, HI12, HI13, HI14, HI15⟩, ⟨HE0, HE1, HE2, HE3, HE4, HE5, HE6, HE7, HE8, HE9, HE10, HE11, HE12, HE13, HE14, HE15⟩, ⟨HC0, HC1, HC2, HC3, HC4, HC5, HC6, HC7, HC8, HC9, HC10, HC11, HC12, HC13, HC14, HC15⟩, ⟨HD0, HD1, HD2, HD3, HD4, HD5, HD6, HD7, HD8, HD9, HD10, HD11, HD12, HD13, HD14, HD15⟩, HT⟩
  isplitl [HI0]; · iexact HI0
  isplitl [HE0]; · iexact HE0
  isplitl [HC0]; · iexact HC0
  isplitl [HD0]; · iexact HD0
  isplitl [HI1]; · iexact HI1
  isplitl [HE1]; · iexact HE1
  isplitl [HC1]; · iexact HC1
  isplitl [HD1]; · iexact HD1
  isplitl [HI2]; · iexact HI2
  isplitl [HE2]; · iexact HE2
  isplitl [HC2]; · iexact HC2
  isplitl [HD2]; · iexact HD2
  isplitl [HI3]; · iexact HI3
  isplitl [HE3]; · iexact HE3
  isplitl [HC3]; · iexact HC3
  isplitl [HD3]; · iexact HD3
  isplitl [HI4]; · iexact HI4
  isplitl [HE4]; · iexact HE4
  isplitl [HC4]; · iexact HC4
  isplitl [HD4]; · iexact HD4
  isplitl [HI5]; · iexact HI5
  isplitl [HE5]; · iexact HE5
  isplitl [HC5]; · iexact HC5
  isplitl [HD5]; · iexact HD5
  isplitl [HI6]; · iexact HI6
  isplitl [HE6]; · iexact HE6
  isplitl [HC6]; · iexact HC6
  isplitl [HD6]; · iexact HD6
  isplitl [HI7]; · iexact HI7
  isplitl [HE7]; · iexact HE7
  isplitl [HC7]; · iexact HC7
  isplitl [HD7]; · iexact HD7
  isplitl [HI8]; · iexact HI8
  isplitl [HE8]; · iexact HE8
  isplitl [HC8]; · iexact HC8
  isplitl [HD8]; · iexact HD8
  isplitl [HI9]; · iexact HI9
  isplitl [HE9]; · iexact HE9
  isplitl [HC9]; · iexact HC9
  isplitl [HD9]; · iexact HD9
  isplitl [HI10]; · iexact HI10
  isplitl [HE10]; · iexact HE10
  isplitl [HC10]; · iexact HC10
  isplitl [HD10]; · iexact HD10
  isplitl [HI11]; · iexact HI11
  isplitl [HE11]; · iexact HE11
  isplitl [HC11]; · iexact HC11
  isplitl [HD11]; · iexact HD11
  isplitl [HI12]; · iexact HI12
  isplitl [HE12]; · iexact HE12
  isplitl [HC12]; · iexact HC12
  isplitl [HD12]; · iexact HD12
  isplitl [HI13]; · iexact HI13
  isplitl [HE13]; · iexact HE13
  isplitl [HC13]; · iexact HC13
  isplitl [HD13]; · iexact HD13
  isplitl [HI14]; · iexact HI14
  isplitl [HE14]; · iexact HE14
  isplitl [HC14]; · iexact HC14
  isplitl [HD14]; · iexact HD14
  isplitl [HI15]; · iexact HI15
  isplitl [HE15]; · iexact HE15
  isplitl [HC15]; · iexact HC15
  isplitl [HD15]; · iexact HD15
  iexact HT
/-- What is kept of the array when its thirty-two shares are lent. -/
abbrev ikeep (c : Dev nD) (X1 : Buf (Elt F) (invM.view.loc (c : TT))) : sProp 𝕄 := invM.view.loc (c : TT) ↦{Transfers.shareDrop fullShare 32} X1
theorem itoks_list (c : Dev nD) (X1 : Buf (Elt F) (invM.view.loc (c : TT))) :
    (BI.bigSep Finset.univ (fun i : Fin 32 => invM.view.loc (c : TT) ↦{Transfers.shareTok fullShare 32 i} X1) : sProp 𝕄) = iprop((invM.view.loc (c : TT) ↦{tk 0 0} X1) ∗ (invM.view.loc (c : TT) ↦{tk 0 1} X1) ∗ (invM.view.loc (c : TT) ↦{tk 0 2} X1) ∗ (invM.view.loc (c : TT) ↦{tk 0 3} X1) ∗ (invM.view.loc (c : TT) ↦{tk 0 4} X1) ∗ (invM.view.loc (c : TT) ↦{tk 0 5} X1) ∗ (invM.view.loc (c : TT) ↦{tk 0 6} X1) ∗ (invM.view.loc (c : TT) ↦{tk 0 7} X1) ∗ (invM.view.loc (c : TT) ↦{tk 0 8} X1) ∗ (invM.view.loc (c : TT) ↦{tk 0 9} X1) ∗ (invM.view.loc (c : TT) ↦{tk 0 10} X1) ∗ (invM.view.loc (c : TT) ↦{tk 0 11} X1) ∗ (invM.view.loc (c : TT) ↦{tk 0 12} X1) ∗ (invM.view.loc (c : TT) ↦{tk 0 13} X1) ∗ (invM.view.loc (c : TT) ↦{tk 0 14} X1) ∗ (invM.view.loc (c : TT) ↦{tk 0 15} X1) ∗ (invM.view.loc (c : TT) ↦{tk 1 0} X1) ∗ (invM.view.loc (c : TT) ↦{tk 1 1} X1) ∗ (invM.view.loc (c : TT) ↦{tk 1 2} X1) ∗ (invM.view.loc (c : TT) ↦{tk 1 3} X1) ∗ (invM.view.loc (c : TT) ↦{tk 1 4} X1) ∗ (invM.view.loc (c : TT) ↦{tk 1 5} X1) ∗ (invM.view.loc (c : TT) ↦{tk 1 6} X1) ∗ (invM.view.loc (c : TT) ↦{tk 1 7} X1) ∗ (invM.view.loc (c : TT) ↦{tk 1 8} X1) ∗ (invM.view.loc (c : TT) ↦{tk 1 9} X1) ∗ (invM.view.loc (c : TT) ↦{tk 1 10} X1) ∗ (invM.view.loc (c : TT) ↦{tk 1 11} X1) ∗ (invM.view.loc (c : TT) ↦{tk 1 12} X1) ∗ (invM.view.loc (c : TT) ↦{tk 1 13} X1) ∗ (invM.view.loc (c : TT) ↦{tk 1 14} X1) ∗ (invM.view.loc (c : TT) ↦{tk 1 15} X1)) := by
  rw [BI.bigSep_eq_bigSepL_of_eq [0, 1, 2, 3, 4, 5, 6, 7, 8, 9, 10, 11, 12, 13, 14, 15, 16, 17, 18, 19, 20, 21, 22, 23, 24, 25, 26, 27, 28, 29, 30, 31] (by decide) (by decide)]; rfl
/-- What is kept of the array when its thirty-two shares are lent. -/
abbrev ekeep (c : Dev nD) (X2 : Buf (Elt F) (eqM.view.loc (c : TT))) : sProp 𝕄 := eqM.view.loc (c : TT) ↦{Transfers.shareDrop fullShare 32} X2
theorem etoks_list (c : Dev nD) (X2 : Buf (Elt F) (eqM.view.loc (c : TT))) :
    (BI.bigSep Finset.univ (fun i : Fin 32 => eqM.view.loc (c : TT) ↦{Transfers.shareTok fullShare 32 i} X2) : sProp 𝕄) = iprop((eqM.view.loc (c : TT) ↦{tk 0 0} X2) ∗ (eqM.view.loc (c : TT) ↦{tk 0 1} X2) ∗ (eqM.view.loc (c : TT) ↦{tk 0 2} X2) ∗ (eqM.view.loc (c : TT) ↦{tk 0 3} X2) ∗ (eqM.view.loc (c : TT) ↦{tk 0 4} X2) ∗ (eqM.view.loc (c : TT) ↦{tk 0 5} X2) ∗ (eqM.view.loc (c : TT) ↦{tk 0 6} X2) ∗ (eqM.view.loc (c : TT) ↦{tk 0 7} X2) ∗ (eqM.view.loc (c : TT) ↦{tk 0 8} X2) ∗ (eqM.view.loc (c : TT) ↦{tk 0 9} X2) ∗ (eqM.view.loc (c : TT) ↦{tk 0 10} X2) ∗ (eqM.view.loc (c : TT) ↦{tk 0 11} X2) ∗ (eqM.view.loc (c : TT) ↦{tk 0 12} X2) ∗ (eqM.view.loc (c : TT) ↦{tk 0 13} X2) ∗ (eqM.view.loc (c : TT) ↦{tk 0 14} X2) ∗ (eqM.view.loc (c : TT) ↦{tk 0 15} X2) ∗ (eqM.view.loc (c : TT) ↦{tk 1 0} X2) ∗ (eqM.view.loc (c : TT) ↦{tk 1 1} X2) ∗ (eqM.view.loc (c : TT) ↦{tk 1 2} X2) ∗ (eqM.view.loc (c : TT) ↦{tk 1 3} X2) ∗ (eqM.view.loc (c : TT) ↦{tk 1 4} X2) ∗ (eqM.view.loc (c : TT) ↦{tk 1 5} X2) ∗ (eqM.view.loc (c : TT) ↦{tk 1 6} X2) ∗ (eqM.view.loc (c : TT) ↦{tk 1 7} X2) ∗ (eqM.view.loc (c : TT) ↦{tk 1 8} X2) ∗ (eqM.view.loc (c : TT) ↦{tk 1 9} X2) ∗ (eqM.view.loc (c : TT) ↦{tk 1 10} X2) ∗ (eqM.view.loc (c : TT) ↦{tk 1 11} X2) ∗ (eqM.view.loc (c : TT) ↦{tk 1 12} X2) ∗ (eqM.view.loc (c : TT) ↦{tk 1 13} X2) ∗ (eqM.view.loc (c : TT) ↦{tk 1 14} X2) ∗ (eqM.view.loc (c : TT) ↦{tk 1 15} X2)) := by
  rw [BI.bigSep_eq_bigSepL_of_eq [0, 1, 2, 3, 4, 5, 6, 7, 8, 9, 10, 11, 12, 13, 14, 15, 16, 17, 18, 19, 20, 21, 22, 23, 24, 25, 26, 27, 28, 29, 30, 31] (by decide) (by decide)]; rfl
/-- The two arrays are the kept parts and the two slots' shares; -/
theorem toks_take (c : Dev nD) (X1 : Buf (Elt F) (invM.view.loc (c : TT))) (X2 : Buf (Elt F) (eqM.view.loc (c : TT))) : iprop((invM.view.loc (c : TT) ↦{fullShare} X1) ∗ (eqM.view.loc (c : TT) ↦{fullShare} X2)) ⊢ (iprop(ikeep c X1 ∗ ekeep c X2 ∗ toksP c 0 X1 X2 ∗ toksP c 1 X1 X2) : sProp 𝕄) := by
  iintro ⟨H1, H2⟩
  ihave H1 := (Transfers.pointsTo_toks_split fullShare 32) $$ H1
  ihave H2 := (Transfers.pointsTo_toks_split fullShare 32) $$ H2
  rw [itoks_list, etoks_list]; unfold toksP
  icases H1 with ⟨HK, HA0, HA1, HA2, HA3, HA4, HA5, HA6, HA7, HA8, HA9, HA10, HA11, HA12, HA13, HA14, HA15, HA16, HA17, HA18, HA19, HA20, HA21, HA22, HA23, HA24, HA25, HA26, HA27, HA28, HA29, HA30, HA31⟩
  icases H2 with ⟨HL, HB0, HB1, HB2, HB3, HB4, HB5, HB6, HB7, HB8, HB9, HB10, HB11, HB12, HB13, HB14, HB15, HB16, HB17, HB18, HB19, HB20, HB21, HB22, HB23, HB24, HB25, HB26, HB27, HB28, HB29, HB30, HB31⟩
  isplitl [HK]; · iexact HK
  isplitl [HL]; · iexact HL
  isplitl [HA0 HB0 HA1 HB1 HA2 HB2 HA3 HB3 HA4 HB4 HA5 HB5 HA6 HB6 HA7 HB7 HA8 HB8 HA9 HB9 HA10 HB10 HA11 HB11 HA12 HB12 HA13 HB13 HA14 HB14 HA15 HB15]
  · isplitl [HA0]; · iexact HA0
    isplitl [HB0]; · iexact HB0
    isplitl [HA1]; · iexact HA1
    isplitl [HB1]; · iexact HB1
    isplitl [HA2]; · iexact HA2
    isplitl [HB2]; · iexact HB2
    isplitl [HA3]; · iexact HA3
    isplitl [HB3]; · iexact HB3
    isplitl [HA4]; · iexact HA4
    isplitl [HB4]; · iexact HB4
    isplitl [HA5]; · iexact HA5
    isplitl [HB5]; · iexact HB5
    isplitl [HA6]; · iexact HA6
    isplitl [HB6]; · iexact HB6
    isplitl [HA7]; · iexact HA7
    isplitl [HB7]; · iexact HB7
    isplitl [HA8]; · iexact HA8
    isplitl [HB8]; · iexact HB8
    isplitl [HA9]; · iexact HA9
    isplitl [HB9]; · iexact HB9
    isplitl [HA10]; · iexact HA10
    isplitl [HB10]; · iexact HB10
    isplitl [HA11]; · iexact HA11
    isplitl [HB11]; · iexact HB11
    isplitl [HA12]; · iexact HA12
    isplitl [HB12]; · iexact HB12
    isplitl [HA13]; · iexact HA13
    isplitl [HB13]; · iexact HB13
    isplitl [HA14]; · iexact HA14
    isplitl [HB14]; · iexact HB14
    isplitl [HA15]; · iexact HA15
    iexact HB15
  isplitl [HA16]; · iexact HA16
  isplitl [HB16]; · iexact HB16
  isplitl [HA17]; · iexact HA17
  isplitl [HB17]; · iexact HB17
  isplitl [HA18]; · iexact HA18
  isplitl [HB18]; · iexact HB18
  isplitl [HA19]; · iexact HA19
  isplitl [HB19]; · iexact HB19
  isplitl [HA20]; · iexact HA20
  isplitl [HB20]; · iexact HB20
  isplitl [HA21]; · iexact HA21
  isplitl [HB21]; · iexact HB21
  isplitl [HA22]; · iexact HA22
  isplitl [HB22]; · iexact HB22
  isplitl [HA23]; · iexact HA23
  isplitl [HB23]; · iexact HB23
  isplitl [HA24]; · iexact HA24
  isplitl [HB24]; · iexact HB24
  isplitl [HA25]; · iexact HA25
  isplitl [HB25]; · iexact HB25
  isplitl [HA26]; · iexact HA26
  isplitl [HB26]; · iexact HB26
  isplitl [HA27]; · iexact HA27
  isplitl [HB27]; · iexact HB27
  isplitl [HA28]; · iexact HA28
  isplitl [HB28]; · iexact HB28
  isplitl [HA29]; · iexact HA29
  isplitl [HB29]; · iexact HB29
  isplitl [HA30]; · iexact HA30
  isplitl [HB30]; · iexact HB30
  isplitl [HA31]; · iexact HA31
  iexact HB31
/-- and back. -/
theorem toks_give (c : Dev nD) (X1 : Buf (Elt F) (invM.view.loc (c : TT))) (X2 : Buf (Elt F) (eqM.view.loc (c : TT))) : (iprop(ikeep c X1 ∗ ekeep c X2 ∗ toksP c 0 X1 X2 ∗ toksP c 1 X1 X2) : sProp 𝕄) ⊢ iprop((invM.view.loc (c : TT) ↦{fullShare} X1) ∗ (eqM.view.loc (c : TT) ↦{fullShare} X2)) := by
  unfold toksP
  iintro ⟨HK, HL, ⟨HA0, HB0, HA1, HB1, HA2, HB2, HA3, HB3, HA4, HB4, HA5, HB5, HA6, HB6, HA7, HB7, HA8, HB8, HA9, HB9, HA10, HB10, HA11, HB11, HA12, HB12, HA13, HB13, HA14, HB14, HA15, HB15⟩, ⟨HA16, HB16, HA17, HB17, HA18, HB18, HA19, HB19, HA20, HB20, HA21, HB21, HA22, HB22, HA23, HB23, HA24, HB24, HA25, HB25, HA26, HB26, HA27, HB27, HA28, HB28, HA29, HB29, HA30, HB30, HA31, HB31⟩⟩
  isplitl [HK HA0 HA1 HA2 HA3 HA4 HA5 HA6 HA7 HA8 HA9 HA10 HA11 HA12 HA13 HA14 HA15 HA16 HA17 HA18 HA19 HA20 HA21 HA22 HA23 HA24 HA25 HA26 HA27 HA28 HA29 HA30 HA31]
  · iapply (Transfers.pointsTo_toks_join fullShare 32)
    isplitl [HK]; · iexact HK
    iapply (ent (itoks_list c _).symm)
    isplitl [HA0]; · iexact HA0
    isplitl [HA1]; · iexact HA1
    isplitl [HA2]; · iexact HA2
    isplitl [HA3]; · iexact HA3
    isplitl [HA4]; · iexact HA4
    isplitl [HA5]; · iexact HA5
    isplitl [HA6]; · iexact HA6
    isplitl [HA7]; · iexact HA7
    isplitl [HA8]; · iexact HA8
    isplitl [HA9]; · iexact HA9
    isplitl [HA10]; · iexact HA10
    isplitl [HA11]; · iexact HA11
    isplitl [HA12]; · iexact HA12
    isplitl [HA13]; · iexact HA13
    isplitl [HA14]; · iexact HA14
    isplitl [HA15]; · iexact HA15
    isplitl [HA16]; · iexact HA16
    isplitl [HA17]; · iexact HA17
    isplitl [HA18]; · iexact HA18
    isplitl [HA19]; · iexact HA19
    isplitl [HA20]; · iexact HA20
    isplitl [HA21]; · iexact HA21
    isplitl [HA22]; · iexact HA22
    isplitl [HA23]; · iexact HA23
    isplitl [HA24]; · iexact HA24
    isplitl [HA25]; · iexact HA25
    isplitl [HA26]; · iexact HA26
    isplitl [HA27]; · iexact HA27
    isplitl [HA28]; · iexact HA28
    isplitl [HA29]; · iexact HA29
    isplitl [HA30]; · iexact HA30
    iexact HA31
  iapply (Transfers.pointsTo_toks_join fullShare 32)
  isplitl [HL]; · iexact HL
  iapply (ent (etoks_list c _).symm)
  isplitl [HB0]; · iexact HB0
  isplitl [HB1]; · iexact HB1
  isplitl [HB2]; · iexact HB2
  isplitl [HB3]; · iexact HB3
  isplitl [HB4]; · iexact HB4
  isplitl [HB5]; · iexact HB5
  isplitl [HB6]; · iexact HB6
  isplitl [HB7]; · iexact HB7
  isplitl [HB8]; · iexact HB8
  isplitl [HB9]; · iexact HB9
  isplitl [HB10]; · iexact HB10
  isplitl [HB11]; · iexact HB11
  isplitl [HB12]; · iexact HB12
  isplitl [HB13]; · iexact HB13
  isplitl [HB14]; · iexact HB14
  isplitl [HB15]; · iexact HB15
  isplitl [HB16]; · iexact HB16
  isplitl [HB17]; · iexact HB17
  isplitl [HB18]; · iexact HB18
  isplitl [HB19]; · iexact HB19
  isplitl [HB20]; · iexact HB20
  isplitl [HB21]; · iexact HB21
  isplitl [HB22]; · iexact HB22
  isplitl [HB23]; · iexact HB23
  isplitl [HB24]; · iexact HB24
  isplitl [HB25]; · iexact HB25
  isplitl [HB26]; · iexact HB26
  isplitl [HB27]; · iexact HB27
  isplitl [HB28]; · iexact HB28
  isplitl [HB29]; · iexact HB29
  isplitl [HB30]; · iexact HB30
  iexact HB31
/-- The sixty-four cells, by their numbers. -/
def osem (j : Fin 64) : SemLoc sig := SemLoc.dma ⟨4 + j.val, by have := j.isLt; show _ < 68; omega⟩
theorem ownSemFacts : Pipeline.OwnSemFacts spec0 osem := by decide
theorem icel_num : ∀ (s : Fin 2) (k : Fin 16), SemLoc.dma (icel s k).sem = osem ⟨16 * s.val + k.val, by omega⟩ := by decide
theorem ecel_num : ∀ (s : Fin 2) (k : Fin 16), SemLoc.dma (ecel s k).sem = osem ⟨32 + 16 * s.val + k.val, by omega⟩ := by decide
theorem cells_list (c : Dev nD) : (Pipeline.ownSems0 (Ix := Unit) (Name := ℕ) (U := Pipeline.UD sig nD τ) (Lvl := ℕ) (Val := Elt F) (τ := τ) osem c : sProp 𝕄)
    = iprop(icelP c 0 0 ∗ icelP c 0 1 ∗ icelP c 0 2 ∗ icelP c 0 3 ∗ icelP c 0 4 ∗ icelP c 0 5 ∗ icelP c 0 6 ∗ icelP c 0 7 ∗ icelP c 0 8 ∗ icelP c 0 9 ∗ icelP c 0 10 ∗ icelP c 0 11 ∗ icelP c 0 12 ∗ icelP c 0 13 ∗ icelP c 0 14 ∗ icelP c 0 15 ∗ icelP c 1 0 ∗ icelP c 1 1 ∗ icelP c 1 2 ∗ icelP c 1 3 ∗ icelP c 1 4 ∗ icelP c 1 5 ∗ icelP c 1 6 ∗ icelP c 1 7 ∗ icelP c 1 8 ∗ icelP c 1 9 ∗ icelP c 1 10 ∗ icelP c 1 11 ∗ icelP c 1 12 ∗ icelP c 1 13 ∗ icelP c 1 14 ∗ icelP c 1 15 ∗ ecelP c 0 0 ∗ ecelP c 0 1 ∗ ecelP c 0 2 ∗ ecelP c 0 3 ∗ ecelP c 0 4 ∗ ecelP c 0 5 ∗ ecelP c 0 6 ∗ ecelP c 0 7 ∗ ecelP c 0 8 ∗ ecelP c 0 9 ∗ ecelP c 0 10 ∗ ecelP c 0 11 ∗ ecelP c 0 12 ∗ ecelP c 0 13 ∗ ecelP c 0 14 ∗ ecelP c 0 15 ∗ ecelP c 1 0 ∗ ecelP c 1 1 ∗ ecelP c 1 2 ∗ ecelP c 1 3 ∗ ecelP c 1 4 ∗ ecelP c 1 5 ∗ ecelP c 1 6 ∗ ecelP c 1 7 ∗ ecelP c 1 8 ∗ ecelP c 1 9 ∗ ecelP c 1 10 ∗ ecelP c 1 11 ∗ ecelP c 1 12 ∗ ecelP c 1 13 ∗ ecelP c 1 14 ∗ ecelP c 1 15) := by
  simp only [icelP, ecelP, icel_num, ecel_num]
  rw [Pipeline.ownSems0_eq_of_list c osem [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63] (by decide) (by decide)]; rfl

/-- The cells are the four groups; -/
theorem cells_take (c : Dev nD) : (Pipeline.ownSems0 (Ix := Unit) (Name := ℕ) (U := Pipeline.UD sig nD τ) (Lvl := ℕ) (Val := Elt F) (τ := τ) osem c : sProp 𝕄) ⊢ iprop(icells c 0 ∗ icells c 1 ∗ ecells c 0 ∗ ecells c 1) := by
  rw [cells_list]; unfold icells ecells
  iintro ⟨HC0, HC1, HC2, HC3, HC4, HC5, HC6, HC7, HC8, HC9, HC10, HC11, HC12, HC13, HC14, HC15, HC16, HC17, HC18, HC19, HC20, HC21, HC22, HC23, HC24, HC25, HC26, HC27, HC28, HC29, HC30, HC31, HC32, HC33, HC34, HC35, HC36, HC37, HC38, HC39, HC40, HC41, HC42, HC43, HC44, HC45, HC46, HC47, HC48, HC49, HC50, HC51, HC52, HC53, HC54, HC55, HC56, HC57, HC58, HC59, HC60, HC61, HC62, HC63⟩
  isplitl [HC0 HC1 HC2 HC3 HC4 HC5 HC6 HC7 HC8 HC9 HC10 HC11 HC12 HC13 HC14 HC15]
  · isplitl [HC0]; · iexact HC0
    isplitl [HC1]; · iexact HC1
    isplitl [HC2]; · iexact HC2
    isplitl [HC3]; · iexact HC3
    isplitl [HC4]; · iexact HC4
    isplitl [HC5]; · iexact HC5
    isplitl [HC6]; · iexact HC6
    isplitl [HC7]; · iexact HC7
    isplitl [HC8]; · iexact HC8
    isplitl [HC9]; · iexact HC9
    isplitl [HC10]; · iexact HC10
    isplitl [HC11]; · iexact HC11
    isplitl [HC12]; · iexact HC12
    isplitl [HC13]; · iexact HC13
    isplitl [HC14]; · iexact HC14
    iexact HC15
  isplitl [HC16 HC17 HC18 HC19 HC20 HC21 HC22 HC23 HC24 HC25 HC26 HC27 HC28 HC29 HC30 HC31]
  · isplitl [HC16]; · iexact HC16
    isplitl [HC17]; · iexact HC17
    isplitl [HC18]; · iexact HC18
    isplitl [HC19]; · iexact HC19
    isplitl [HC20]; · iexact HC20
    isplitl [HC21]; · iexact HC21
    isplitl [HC22]; · iexact HC22
    isplitl [HC23]; · iexact HC23
    isplitl [HC24]; · iexact HC24
    isplitl [HC25]; · iexact HC25
    isplitl [HC26]; · iexact HC26
    isplitl [HC27]; · iexact HC27
    isplitl [HC28]; · iexact HC28
    isplitl [HC29]; · iexact HC29
    isplitl [HC30]; · iexact HC30
    iexact HC31
  isplitl [HC32 HC33 HC34 HC35 HC36 HC37 HC38 HC39 HC40 HC41 HC42 HC43 HC44 HC45 HC46 HC47]
  · isplitl [HC32]; · iexact HC32
    isplitl [HC33]; · iexact HC33
    isplitl [HC34]; · iexact HC34
    isplitl [HC35]; · iexact HC35
    isplitl [HC36]; · iexact HC36
    isplitl [HC37]; · iexact HC37
    isplitl [HC38]; · iexact HC38
    isplitl [HC39]; · iexact HC39
    isplitl [HC40]; · iexact HC40
    isplitl [HC41]; · iexact HC41
    isplitl [HC42]; · iexact HC42
    isplitl [HC43]; · iexact HC43
    isplitl [HC44]; · iexact HC44
    isplitl [HC45]; · iexact HC45
    isplitl [HC46]; · iexact HC46
    iexact HC47
  isplitl [HC48]; · iexact HC48
  isplitl [HC49]; · iexact HC49
  isplitl [HC50]; · iexact HC50
  isplitl [HC51]; · iexact HC51
  isplitl [HC52]; · iexact HC52
  isplitl [HC53]; · iexact HC53
  isplitl [HC54]; · iexact HC54
  isplitl [HC55]; · iexact HC55
  isplitl [HC56]; · iexact HC56
  isplitl [HC57]; · iexact HC57
  isplitl [HC58]; · iexact HC58
  isplitl [HC59]; · iexact HC59
  isplitl [HC60]; · iexact HC60
  isplitl [HC61]; · iexact HC61
  isplitl [HC62]; · iexact HC62
  iexact HC63
/-- and back. -/
theorem cells_give (c : Dev nD) : iprop(icells c 0 ∗ icells c 1 ∗ ecells c 0 ∗ ecells c 1) ⊢ (Pipeline.ownSems0 (Ix := Unit) (Name := ℕ) (U := Pipeline.UD sig nD τ) (Lvl := ℕ) (Val := Elt F) (τ := τ) osem c : sProp 𝕄) := by
  rw [cells_list]; unfold icells ecells
  iintro ⟨⟨HC0, HC1, HC2, HC3, HC4, HC5, HC6, HC7, HC8, HC9, HC10, HC11, HC12, HC13, HC14, HC15⟩, ⟨HC16, HC17, HC18, HC19, HC20, HC21, HC22, HC23, HC24, HC25, HC26, HC27, HC28, HC29, HC30, HC31⟩, ⟨HC32, HC33, HC34, HC35, HC36, HC37, HC38, HC39, HC40, HC41, HC42, HC43, HC44, HC45, HC46, HC47⟩, ⟨HC48, HC49, HC50, HC51, HC52, HC53, HC54, HC55, HC56, HC57, HC58, HC59, HC60, HC61, HC62, HC63⟩⟩
  isplitl [HC0]; · iexact HC0
  isplitl [HC1]; · iexact HC1
  isplitl [HC2]; · iexact HC2
  isplitl [HC3]; · iexact HC3
  isplitl [HC4]; · iexact HC4
  isplitl [HC5]; · iexact HC5
  isplitl [HC6]; · iexact HC6
  isplitl [HC7]; · iexact HC7
  isplitl [HC8]; · iexact HC8
  isplitl [HC9]; · iexact HC9
  isplitl [HC10]; · iexact HC10
  isplitl [HC11]; · iexact HC11
  isplitl [HC12]; · iexact HC12
  isplitl [HC13]; · iexact HC13
  isplitl [HC14]; · iexact HC14
  isplitl [HC15]; · iexact HC15
  isplitl [HC16]; · iexact HC16
  isplitl [HC17]; · iexact HC17
  isplitl [HC18]; · iexact HC18
  isplitl [HC19]; · iexact HC19
  isplitl [HC20]; · iexact HC20
  isplitl [HC21]; · iexact HC21
  isplitl [HC22]; · iexact HC22
  isplitl [HC23]; · iexact HC23
  isplitl [HC24]; · iexact HC24
  isplitl [HC25]; · iexact HC25
  isplitl [HC26]; · iexact HC26
  isplitl [HC27]; · iexact HC27
  isplitl [HC28]; · iexact HC28
  isplitl [HC29]; · iexact HC29
  isplitl [HC30]; · iexact HC30
  isplitl [HC31]; · iexact HC31
  isplitl [HC32]; · iexact HC32
  isplitl [HC33]; · iexact HC33
  isplitl [HC34]; · iexact HC34
  isplitl [HC35]; · iexact HC35
  isplitl [HC36]; · iexact HC36
  isplitl [HC37]; · iexact HC37
  isplitl [HC38]; · iexact HC38
  isplitl [HC39]; · iexact HC39
  isplitl [HC40]; · iexact HC40
  isplitl [HC41]; · iexact HC41
  isplitl [HC42]; · iexact HC42
  isplitl [HC43]; · iexact HC43
  isplitl [HC44]; · iexact HC44
  isplitl [HC45]; · iexact HC45
  isplitl [HC46]; · iexact HC46
  isplitl [HC47]; · iexact HC47
  isplitl [HC48]; · iexact HC48
  isplitl [HC49]; · iexact HC49
  isplitl [HC50]; · iexact HC50
  isplitl [HC51]; · iexact HC51
  isplitl [HC52]; · iexact HC52
  isplitl [HC53]; · iexact HC53
  isplitl [HC54]; · iexact HC54
  isplitl [HC55]; · iexact HC55
  isplitl [HC56]; · iexact HC56
  isplitl [HC57]; · iexact HC57
  isplitl [HC58]; · iexact HC58
  isplitl [HC59]; · iexact HC59
  isplitl [HC60]; · iexact HC60
  isplitl [HC61]; · iexact HC61
  isplitl [HC62]; · iexact HC62
  iexact HC63

end Start

end Cert.GatherIdealWork
end
-- ==== Proof.IdealFirst.lean ====
/- One run of the gather body at the first point: the first two blocks' transfers go out, the first block's are waited
   for, its slot is stored. -/
module

public import proofs.«01_k».proof.Proof.IdealEnd

@[expose] public section

noncomputable section

namespace Cert.GatherIdealWork

open Cert.GatherIdeal Cert.GatherIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

section Run
variable {F : FTy → Type} [FloatOps F]
local notation "𝕄" => MT nD τ sig Unit (Elt F) ℕ (Pipeline.UD sig nD τ) ℕ

/-- The first point: from both slots at rest to the next block in flight and this slot at rest. -/
theorem runFirst (c : Dev nD) (i : grid0.Coords) (h1 : k0_cond1 i = 1#1) (h2 : k0_cond2 i = 1#1)
    (g : Buf (Elt F) (tbM.view.loc (c : TT))) (hg : InTab g) (arg4 : Memref sig .tc .vmem S16x128 .f32) (harg4 : arg4.IsWhole) (arg5 : Memref sig .tc .vmem S16x3 .f32) (harg5 : arg5.IsWhole) (X1 : Buf (Elt F) (invM.view.loc (c : TT))) (X2 : Buf (Elt F) (eqM.view.loc (c : TT))) (W : Waits sig Unit) (Q : PUnit → sProp 𝕄) :
    iprop(tabP c g ∗ freeP c (slW i) X1 X2 ∗ freeP c (slN i) X1 X2 ∗ (∃ d, owns (c : TT) arg4 fullShare d) ∗ (∃ d, owns (c : TT) arg5 fullShare d) ∗ owes (c : TT) 0 W ∗ (iprop(tabP c g ∗ freeP c (slW i) X1 X2 ∗ flyP c (slN i) (bw g ((i 0).val + 1)) X1 X2 ∗ owns (c : TT) arg4 fullShare (O1 X1 (bw g (i 0).val)) ∗ owns (c : TT) arg5 fullShare (O2 X2 (bw g (i 0).val)) ∗ ∃ W', owes (c : TT) 0 W') -∗ Q ⟨⟩))
      ⊢ wp frame (wpE (defs₀ (F := F)) Variants.none c none) Set.univ (cc0__gather_body i tbM (Memref.isWhole_whole _) invM (Memref.isWhole_whole _) eqM (Memref.isWhole_whole _) arg4 harg4 arg5 harg5 ibM (Memref.isWhole_whole _) ebM (Memref.isWhole_whole _) cc0_scratch2 cc0_scratch3) Q := by
  simp only [cc0__gather_body_eq_skeleton]; unfold cc0__gather_body_skel
  have h0 : (i 0).val = 0 := (cond1_iff i).mp h1
  have hs : slW i = 0 := by unfold slW; rw [h0]; rfl
  iintro ⟨HT, HF0, HFR, H4, H5, HW, Hk⟩
  ihave HF0 := (ent (show (freeP c (slW i) X1 X2 : sProp 𝕄) = freeP c 0 X1 X2 by rw [hs])) $$ HF0
  ihave HF0 := (ent (freeP_def c 0 X1 X2)) $$ HF0
  ihave HFR := (ent (freeP_def c (slN i) X1 X2)) $$ HFR
  icases HF0 with ⟨⟨%pi0, PI0⟩, ⟨%pe0, PE0⟩, PC0, PD0, ⟨%pi1, PI1⟩, ⟨%pe1, PE1⟩, PC1, PD1, ⟨%pi2, PI2⟩, ⟨%pe2, PE2⟩, PC2, PD2, ⟨%pi3, PI3⟩, ⟨%pe3, PE3⟩, PC3, PD3, ⟨%pi4, PI4⟩, ⟨%pe4, PE4⟩, PC4, PD4, ⟨%pi5, PI5⟩, ⟨%pe5, PE5⟩, PC5, PD5, ⟨%pi6, PI6⟩, ⟨%pe6, PE6⟩, PC6, PD6, ⟨%pi7, PI7⟩, ⟨%pe7, PE7⟩, PC7, PD7, ⟨%pi8, PI8⟩, ⟨%pe8, PE8⟩, PC8, PD8, ⟨%pi9, PI9⟩, ⟨%pe9, PE9⟩, PC9, PD9, ⟨%pi10, PI10⟩, ⟨%pe10, PE10⟩, PC10, PD10, ⟨%pi11, PI11⟩, ⟨%pe11, PE11⟩, PC11, PD11, ⟨%pi12, PI12⟩, ⟨%pe12, PE12⟩, PC12, PD12, ⟨%pi13, PI13⟩, ⟨%pe13, PE13⟩, PC13, PD13, ⟨%pi14, PI14⟩, ⟨%pe14, PE14⟩, PC14, PD14, ⟨%pi15, PI15⟩, ⟨%pe15, PE15⟩, PC15, PD15, PTK⟩
  icases HFR with ⟨⟨%fi0, HI0⟩, ⟨%fe0, HE0⟩, HC0, HD0, ⟨%fi1, HI1⟩, ⟨%fe1, HE1⟩, HC1, HD1, ⟨%fi2, HI2⟩, ⟨%fe2, HE2⟩, HC2, HD2, ⟨%fi3, HI3⟩, ⟨%fe3, HE3⟩, HC3, HD3, ⟨%fi4, HI4⟩, ⟨%fe4, HE4⟩, HC4, HD4, ⟨%fi5, HI5⟩, ⟨%fe5, HE5⟩, HC5, HD5, ⟨%fi6, HI6⟩, ⟨%fe6, HE6⟩, HC6, HD6, ⟨%fi7, HI7⟩, ⟨%fe7, HE7⟩, HC7, HD7, ⟨%fi8, HI8⟩, ⟨%fe8, HE8⟩, HC8, HD8, ⟨%fi9, HI9⟩, ⟨%fe9, HE9⟩, HC9, HD9, ⟨%fi10, HI10⟩, ⟨%fe10, HE10⟩, HC10, HD10, ⟨%fi11, HI11⟩, ⟨%fe11, HE11⟩, HC11, HD11, ⟨%fi12, HI12⟩, ⟨%fe12, HE12⟩, HC12, HD12, ⟨%fi13, HI13⟩, ⟨%fe13, HE13⟩, HC13, HD13, ⟨%fi14, HI14⟩, ⟨%fe14, HE14⟩, HC14, HD14, ⟨%fi15, HI15⟩, ⟨%fe15, HE15⟩, HC15, HD15, HTK⟩
  sl_exec_parts (disch := (with_reducible first | apply chk1 | apply chk2 | apply chk3 | apply chk4 | apply chk5 | apply chk6 | apply chk7 | apply chk8 | apply chk9 | apply chk10 | apply chk11 | apply chk12 | apply chk13 | apply chk14 | apply chk15 | apply chk16 | apply chk17 | apply chk18 | apply chk19 | apply chk20 | apply chk21 | apply chk22 | apply chk23 | apply chk24 | apply chk25 | apply chk26 | apply chk27 | apply chk28 | apply chk29 | apply chk30 | apply chk31 | apply chk32 | apply chk33 | apply chk34 | apply chk35 | apply chk36 | apply chk37 | apply chk38 | apply chk39 | apply chk40 | apply chk41 | apply chk42 | apply chk43 | apply chk44 | apply chk45 | apply chk46 | apply chk47 | apply chk48); exact word_lt hg _ _)
  ihave PTK := (toks_split c 0 X1 X2 (runFirst.sl.r c g) (runFirst.sl.r_1 c g) (runFirst.sl.r_2 c g) (runFirst.sl.r_3 c g) (runFirst.sl.r_4 c g) (runFirst.sl.r_5 c g) (runFirst.sl.r_6 c g) (runFirst.sl.r_7 c g) (runFirst.sl.r_8 c g) (runFirst.sl.r_9 c g) (runFirst.sl.r_10 c g) (runFirst.sl.r_11 c g) (runFirst.sl.r_12 c g) (runFirst.sl.r_13 c g) (runFirst.sl.r_14 c g) (runFirst.sl.r_15 c g)) $$ PTK
  icases PTK with ⟨PRN, PS0, PU0, PS1, PU1, PS2, PU2, PS3, PU3, PS4, PU4, PS5, PU5, PS6, PU6, PS7, PU7, PS8, PU8, PS9, PU9, PS10, PU10, PS11, PU11, PS12, PU12, PS13, PU13, PS14, PU14, PS15, PU15⟩
  sl_exec_parts (disch := (with_reducible first | apply chk1 | apply chk2 | apply chk3 | apply chk4 | apply chk5 | apply chk6 | apply chk7 | apply chk8 | apply chk9 | apply chk10 | apply chk11 | apply chk12 | apply chk13 | apply chk14 | apply chk15 | apply chk16 | apply chk17 | apply chk18 | apply chk19 | apply chk20 | apply chk21 | apply chk22 | apply chk23 | apply chk24 | apply chk25 | apply chk26 | apply chk27 | apply chk28 | apply chk29 | apply chk30 | apply chk31 | apply chk32 | apply chk33 | apply chk34 | apply chk35 | apply chk36 | apply chk37 | apply chk38 | apply chk39 | apply chk40 | apply chk41 | apply chk42 | apply chk43 | apply chk44 | apply chk45 | apply chk46 | apply chk47 | apply chk48); exact word_lt hg _ _)
  have hV0 : V16 (runFirst.sl.r c g) (runFirst.sl.r_1 c g) (runFirst.sl.r_2 c g) (runFirst.sl.r_3 c g) (runFirst.sl.r_4 c g) (runFirst.sl.r_5 c g) (runFirst.sl.r_6 c g) (runFirst.sl.r_7 c g) (runFirst.sl.r_8 c g) (runFirst.sl.r_9 c g) (runFirst.sl.r_10 c g) (runFirst.sl.r_11 c g) (runFirst.sl.r_12 c g) (runFirst.sl.r_13 c g) (runFirst.sl.r_14 c g) (runFirst.sl.r_15 c g) = bw g 0 := funext fun k => by
    fin_cases k
    · exact word_first g 0 rfl _ _
    · exact word_first g 1 rfl _ _
    · exact word_first g 2 rfl _ _
    · exact word_first g 3 rfl _ _
    · exact word_first g 4 rfl _ _
    · exact word_first g 5 rfl _ _
    · exact word_first g 6 rfl _ _
    · exact word_first g 7 rfl _ _
    · exact word_first g 8 rfl _ _
    · exact word_first g 9 rfl _ _
    · exact word_first g 10 rfl _ _
    · exact word_first g 11 rfl _ _
    · exact word_first g 12 rfl _ _
    · exact word_first g 13 rfl _ _
    · exact word_first g 14 rfl _ _
    · exact word_first g 15 rfl _ _
  ihave HFL : (flyP c 0 (V16 (runFirst.sl.r c g) (runFirst.sl.r_1 c g) (runFirst.sl.r_2 c g) (runFirst.sl.r_3 c g) (runFirst.sl.r_4 c g) (runFirst.sl.r_5 c g) (runFirst.sl.r_6 c g) (runFirst.sl.r_7 c g) (runFirst.sl.r_8 c g) (runFirst.sl.r_9 c g) (runFirst.sl.r_10 c g) (runFirst.sl.r_11 c g) (runFirst.sl.r_12 c g) (runFirst.sl.r_13 c g) (runFirst.sl.r_14 c g) (runFirst.sl.r_15 c g)) X1 X2) $$ [PRN PC0 PD0 PC1 PD1 PC2 PD2 PC3 PD3 PC4 PD4 PC5 PD5 PC6 PD6 PC7 PD7 PC8 PD8 PC9 PD9 PC10 PD10 PC11 PD11 PC12 PD12 PC13 PD13 PC14 PD14 PC15 PD15]
  · iapply (fly_intro c 0 X1 X2 (V16 (runFirst.sl.r c g) (runFirst.sl.r_1 c g) (runFirst.sl.r_2 c g) (runFirst.sl.r_3 c g) (runFirst.sl.r_4 c g) (runFirst.sl.r_5 c g) (runFirst.sl.r_6 c g) (runFirst.sl.r_7 c g) (runFirst.sl.r_8 c g) (runFirst.sl.r_9 c g) (runFirst.sl.r_10 c g) (runFirst.sl.r_11 c g) (runFirst.sl.r_12 c g) (runFirst.sl.r_13 c g) (runFirst.sl.r_14 c g) (runFirst.sl.r_15 c g)) pi0 pi1 pi2 pi3 pi4 pi5 pi6 pi7 pi8 pi9 pi10 pi11 pi12 pi13 pi14 pi15 pe0 pe1 pe2 pe3 pe4 pe5 pe6 pe7 pe8 pe9 pe10 pe11 pe12 pe13 pe14 pe15)
    isplitl [PRN]; · iexact PRN
    isplitl [PC0]; · iexact PC0
    isplitl [PD0]; · iexact PD0
    isplitl [PC1]; · iexact PC1
    isplitl [PD1]; · iexact PD1
    isplitl [PC2]; · iexact PC2
    isplitl [PD2]; · iexact PD2
    isplitl [PC3]; · iexact PC3
    isplitl [PD3]; · iexact PD3
    isplitl [PC4]; · iexact PC4
    isplitl [PD4]; · iexact PD4
    isplitl [PC5]; · iexact PC5
    isplitl [PD5]; · iexact PD5
    isplitl [PC6]; · iexact PC6
    isplitl [PD6]; · iexact PD6
    isplitl [PC7]; · iexact PC7
    isplitl [PD7]; · iexact PD7
    isplitl [PC8]; · iexact PC8
    isplitl [PD8]; · iexact PD8
    isplitl [PC9]; · iexact PC9
    isplitl [PD9]; · iexact PD9
    isplitl [PC10]; · iexact PC10
    isplitl [PD10]; · iexact PD10
    isplitl [PC11]; · iexact PC11
    isplitl [PD11]; · iexact PD11
    isplitl [PC12]; · iexact PC12
    isplitl [PD12]; · iexact PD12
    isplitl [PC13]; · iexact PC13
    isplitl [PD13]; · iexact PD13
    isplitl [PC14]; · iexact PC14
    isplitl [PD14]; · iexact PD14
    isplitl [PC15]; · iexact PC15
    iexact PD15
  ihave HFL := (ent (show (flyP c 0 (V16 (runFirst.sl.r c g) (runFirst.sl.r_1 c g) (runFirst.sl.r_2 c g) (runFirst.sl.r_3 c g) (runFirst.sl.r_4 c g) (runFirst.sl.r_5 c g) (runFirst.sl.r_6 c g) (runFirst.sl.r_7 c g) (runFirst.sl.r_8 c g) (runFirst.sl.r_9 c g) (runFirst.sl.r_10 c g) (runFirst.sl.r_11 c g) (runFirst.sl.r_12 c g) (runFirst.sl.r_13 c g) (runFirst.sl.r_14 c g) (runFirst.sl.r_15 c g)) X1 X2 : sProp 𝕄) = flyP c (slW i) (bw g (i 0).val) X1 X2 by rw [hV0, hs, h0])) $$ HFL
  ihave HFL := (ent (flyP_def c (slW i) (bw g (i 0).val) X1 X2)) $$ HFL
  icases HFL with ⟨⟨%ff0, HF0⟩, ⟨%fg0, HG0⟩, ⟨%ff1, HF1⟩, ⟨%fg1, HG1⟩, ⟨%ff2, HF2⟩, ⟨%fg2, HG2⟩, ⟨%ff3, HF3⟩, ⟨%fg3, HG3⟩, ⟨%ff4, HF4⟩, ⟨%fg4, HG4⟩, ⟨%ff5, HF5⟩, ⟨%fg5, HG5⟩, ⟨%ff6, HF6⟩, ⟨%fg6, HG6⟩, ⟨%ff7, HF7⟩, ⟨%fg7, HG7⟩, ⟨%ff8, HF8⟩, ⟨%fg8, HG8⟩, ⟨%ff9, HF9⟩, ⟨%fg9, HG9⟩, ⟨%ff10, HF10⟩, ⟨%fg10, HG10⟩, ⟨%ff11, HF11⟩, ⟨%fg11, HG11⟩, ⟨%ff12, HF12⟩, ⟨%fg12, HG12⟩, ⟨%ff13, HF13⟩, ⟨%fg13, HG13⟩, ⟨%ff14, HF14⟩, ⟨%fg14, HG14⟩, ⟨%ff15, HF15⟩, ⟨%fg15, HG15⟩, HRW⟩
  ihave HTK := (toks_split c (slN i) X1 X2 (runFirst.sl.r_16 c i h2 g) (runFirst.sl.r_17 c i h2 g) (runFirst.sl.r_18 c i h2 g) (runFirst.sl.r_19 c i h2 g) (runFirst.sl.r_20 c i h2 g) (runFirst.sl.r_21 c i h2 g) (runFirst.sl.r_22 c i h2 g) (runFirst.sl.r_23 c i h2 g) (runFirst.sl.r_24 c i h2 g) (runFirst.sl.r_25 c i h2 g) (runFirst.sl.r_26 c i h2 g) (runFirst.sl.r_27 c i h2 g) (runFirst.sl.r_28 c i h2 g) (runFirst.sl.r_29 c i h2 g) (runFirst.sl.r_30 c i h2 g) (runFirst.sl.r_31 c i h2 g)) $$ HTK
  icases HTK with ⟨HRN, HS0, HU0, HS1, HU1, HS2, HU2, HS3, HU3, HS4, HU4, HS5, HU5, HS6, HU6, HS7, HU7, HS8, HU8, HS9, HU9, HS10, HU10, HS11, HU11, HS12, HU12, HS13, HU13, HS14, HU14, HS15, HU15⟩
  sl_exec_parts (disch := (with_reducible first | apply chk1 | apply chk2 | apply chk3 | apply chk4 | apply chk5 | apply chk6 | apply chk7 | apply chk8 | apply chk9 | apply chk10 | apply chk11 | apply chk12 | apply chk13 | apply chk14 | apply chk15 | apply chk16 | apply chk17 | apply chk18 | apply chk19 | apply chk20 | apply chk21 | apply chk22 | apply chk23 | apply chk24 | apply chk25 | apply chk26 | apply chk27 | apply chk28 | apply chk29 | apply chk30 | apply chk31 | apply chk32 | apply chk33 | apply chk34 | apply chk35 | apply chk36 | apply chk37 | apply chk38 | apply chk39 | apply chk40 | apply chk41 | apply chk42 | apply chk43 | apply chk44 | apply chk45 | apply chk46 | apply chk47 | apply chk48); exact word_lt hg _ _)
  have hV : V16 (runFirst.sl.r_16 c i h2 g) (runFirst.sl.r_17 c i h2 g) (runFirst.sl.r_18 c i h2 g) (runFirst.sl.r_19 c i h2 g) (runFirst.sl.r_20 c i h2 g) (runFirst.sl.r_21 c i h2 g) (runFirst.sl.r_22 c i h2 g) (runFirst.sl.r_23 c i h2 g) (runFirst.sl.r_24 c i h2 g) (runFirst.sl.r_25 c i h2 g) (runFirst.sl.r_26 c i h2 g) (runFirst.sl.r_27 c i h2 g) (runFirst.sl.r_28 c i h2 g) (runFirst.sl.r_29 c i h2 g) (runFirst.sl.r_30 c i h2 g) (runFirst.sl.r_31 c i h2 g) = bw g ((i 0).val + 1) := funext fun k => by
    fin_cases k
    · exact word_next g i (cond2_iff i |>.mp h2) 0 (k0_off33_eq i 0) _ _
    · exact word_next g i (cond2_iff i |>.mp h2) 1 (k0_off33_eq i 1) _ _
    · exact word_next g i (cond2_iff i |>.mp h2) 2 (k0_off33_eq i 2) _ _
    · exact word_next g i (cond2_iff i |>.mp h2) 3 (k0_off33_eq i 3) _ _
    · exact word_next g i (cond2_iff i |>.mp h2) 4 (k0_off33_eq i 4) _ _
    · exact word_next g i (cond2_iff i |>.mp h2) 5 (k0_off33_eq i 5) _ _
    · exact word_next g i (cond2_iff i |>.mp h2) 6 (k0_off33_eq i 6) _ _
    · exact word_next g i (cond2_iff i |>.mp h2) 7 (k0_off33_eq i 7) _ _
    · exact word_next g i (cond2_iff i |>.mp h2) 8 (k0_off33_eq i 8) _ _
    · exact word_next g i (cond2_iff i |>.mp h2) 9 (k0_off33_eq i 9) _ _
    · exact word_next g i (cond2_iff i |>.mp h2) 10 (k0_off33_eq i 10) _ _
    · exact word_next g i (cond2_iff i |>.mp h2) 11 (k0_off33_eq i 11) _ _
    · exact word_next g i (cond2_iff i |>.mp h2) 12 (k0_off33_eq i 12) _ _
    · exact word_next g i (cond2_iff i |>.mp h2) 13 (k0_off33_eq i 13) _ _
    · exact word_next g i (cond2_iff i |>.mp h2) 14 (k0_off33_eq i 14) _ _
    · exact word_next g i (cond2_iff i |>.mp h2) 15 (k0_off33_eq i 15) _ _
  iapply (finish c i g arg4 harg4 arg5 harg5 X1 X2 (fly_eq c (slN i) X1 X2 hV) _ Q)
  isplitl [HT]; · iexact HT
  isplitl [HF0_dst HF1_dst HF2_dst HF3_dst HF4_dst HF5_dst HF6_dst HF7_dst HF8_dst HF9_dst HF10_dst HF11_dst HF12_dst HF13_dst HF14_dst HF15_dst]
  · isplitl [HF0_dst]; · iexact HF0_dst
    isplitl [HF1_dst]; · iexact HF1_dst
    isplitl [HF2_dst]; · iexact HF2_dst
    isplitl [HF3_dst]; · iexact HF3_dst
    isplitl [HF4_dst]; · iexact HF4_dst
    isplitl [HF5_dst]; · iexact HF5_dst
    isplitl [HF6_dst]; · iexact HF6_dst
    isplitl [HF7_dst]; · iexact HF7_dst
    isplitl [HF8_dst]; · iexact HF8_dst
    isplitl [HF9_dst]; · iexact HF9_dst
    isplitl [HF10_dst]; · iexact HF10_dst
    isplitl [HF11_dst]; · iexact HF11_dst
    isplitl [HF12_dst]; · iexact HF12_dst
    isplitl [HF13_dst]; · iexact HF13_dst
    isplitl [HF14_dst]; · iexact HF14_dst
    iexact HF15_dst
  isplitl [HG0_dst HG1_dst HG2_dst HG3_dst HG4_dst HG5_dst HG6_dst HG7_dst HG8_dst HG9_dst HG10_dst HG11_dst HG12_dst HG13_dst HG14_dst HG15_dst]
  · isplitl [HG0_dst]; · iexact HG0_dst
    isplitl [HG1_dst]; · iexact HG1_dst
    isplitl [HG2_dst]; · iexact HG2_dst
    isplitl [HG3_dst]; · iexact HG3_dst
    isplitl [HG4_dst]; · iexact HG4_dst
    isplitl [HG5_dst]; · iexact HG5_dst
    isplitl [HG6_dst]; · iexact HG6_dst
    isplitl [HG7_dst]; · iexact HG7_dst
    isplitl [HG8_dst]; · iexact HG8_dst
    isplitl [HG9_dst]; · iexact HG9_dst
    isplitl [HG10_dst]; · iexact HG10_dst
    isplitl [HG11_dst]; · iexact HG11_dst
    isplitl [HG12_dst]; · iexact HG12_dst
    isplitl [HG13_dst]; · iexact HG13_dst
    isplitl [HG14_dst]; · iexact HG14_dst
    iexact HG15_dst
  isplitl [HF0 HG0 HF1 HG1 HF2 HG2 HF3 HG3 HF4 HG4 HF5 HG5 HF6 HG6 HF7 HG7 HF8 HG8 HF9 HG9 HF10 HG10 HF11 HG11 HF12 HG12 HF13 HG13 HF14 HG14 HF15 HG15]
  · isplitl [HF0]; · iexact HF0
    isplitl [HG0]; · iexact HG0
    isplitl [HF1]; · iexact HF1
    isplitl [HG1]; · iexact HG1
    isplitl [HF2]; · iexact HF2
    isplitl [HG2]; · iexact HG2
    isplitl [HF3]; · iexact HF3
    isplitl [HG3]; · iexact HG3
    isplitl [HF4]; · iexact HF4
    isplitl [HG4]; · iexact HG4
    isplitl [HF5]; · iexact HF5
    isplitl [HG5]; · iexact HG5
    isplitl [HF6]; · iexact HF6
    isplitl [HG6]; · iexact HG6
    isplitl [HF7]; · iexact HF7
    isplitl [HG7]; · iexact HG7
    isplitl [HF8]; · iexact HF8
    isplitl [HG8]; · iexact HG8
    isplitl [HF9]; · iexact HF9
    isplitl [HG9]; · iexact HG9
    isplitl [HF10]; · iexact HF10
    isplitl [HG10]; · iexact HG10
    isplitl [HF11]; · iexact HF11
    isplitl [HG11]; · iexact HG11
    isplitl [HF12]; · iexact HF12
    isplitl [HG12]; · iexact HG12
    isplitl [HF13]; · iexact HF13
    isplitl [HG13]; · iexact HG13
    isplitl [HF14]; · iexact HF14
    isplitl [HG14]; · iexact HG14
    isplitl [HF15]; · iexact HF15
    iexact HG15
  isplitl [HF0_src HG0_src HF1_src HG1_src HF2_src HG2_src HF3_src HG3_src HF4_src HG4_src HF5_src HG5_src HF6_src HG6_src HF7_src HG7_src HF8_src HG8_src HF9_src HG9_src HF10_src HG10_src HF11_src HG11_src HF12_src HG12_src HF13_src HG13_src HF14_src HG14_src HF15_src HG15_src]
  · isplitl [HF0_src]; · iexact HF0_src
    isplitl [HG0_src]; · iexact HG0_src
    isplitl [HF1_src]; · iexact HF1_src
    isplitl [HG1_src]; · iexact HG1_src
    isplitl [HF2_src]; · iexact HF2_src
    isplitl [HG2_src]; · iexact HG2_src
    isplitl [HF3_src]; · iexact HF3_src
    isplitl [HG3_src]; · iexact HG3_src
    isplitl [HF4_src]; · iexact HF4_src
    isplitl [HG4_src]; · iexact HG4_src
    isplitl [HF5_src]; · iexact HF5_src
    isplitl [HG5_src]; · iexact HG5_src
    isplitl [HF6_src]; · iexact HF6_src
    isplitl [HG6_src]; · iexact HG6_src
    isplitl [HF7_src]; · iexact HF7_src
    isplitl [HG7_src]; · iexact HG7_src
    isplitl [HF8_src]; · iexact HF8_src
    isplitl [HG8_src]; · iexact HG8_src
    isplitl [HF9_src]; · iexact HF9_src
    isplitl [HG9_src]; · iexact HG9_src
    isplitl [HF10_src]; · iexact HF10_src
    isplitl [HG10_src]; · iexact HG10_src
    isplitl [HF11_src]; · iexact HF11_src
    isplitl [HG11_src]; · iexact HG11_src
    isplitl [HF12_src]; · iexact HF12_src
    isplitl [HG12_src]; · iexact HG12_src
    isplitl [HF13_src]; · iexact HF13_src
    isplitl [HG13_src]; · iexact HG13_src
    isplitl [HF14_src]; · iexact HF14_src
    isplitl [HG14_src]; · iexact HG14_src
    isplitl [HF15_src]; · iexact HF15_src
    iexact HG15_src
  isplitl [HRW]; · iexact HRW
  isplitl [HRN HC0 HD0 HC1 HD1 HC2 HD2 HC3 HD3 HC4 HD4 HC5 HD5 HC6 HD6 HC7 HD7 HC8 HD8 HC9 HD9 HC10 HD10 HC11 HD11 HC12 HD12 HC13 HD13 HC14 HD14 HC15 HD15]
  · iapply (fly_intro c (slN i) X1 X2 (V16 (runFirst.sl.r_16 c i h2 g) (runFirst.sl.r_17 c i h2 g) (runFirst.sl.r_18 c i h2 g) (runFirst.sl.r_19 c i h2 g) (runFirst.sl.r_20 c i h2 g) (runFirst.sl.r_21 c i h2 g) (runFirst.sl.r_22 c i h2 g) (runFirst.sl.r_23 c i h2 g) (runFirst.sl.r_24 c i h2 g) (runFirst.sl.r_25 c i h2 g) (runFirst.sl.r_26 c i h2 g) (runFirst.sl.r_27 c i h2 g) (runFirst.sl.r_28 c i h2 g) (runFirst.sl.r_29 c i h2 g) (runFirst.sl.r_30 c i h2 g) (runFirst.sl.r_31 c i h2 g)) fi0 fi1 fi2 fi3 fi4 fi5 fi6 fi7 fi8 fi9 fi10 fi11 fi12 fi13 fi14 fi15 fe0 fe1 fe2 fe3 fe4 fe5 fe6 fe7 fe8 fe9 fe10 fe11 fe12 fe13 fe14 fe15)
    isplitl [HRN]; · iexact HRN
    isplitl [HC0]; · iexact HC0
    isplitl [HD0]; · iexact HD0
    isplitl [HC1]; · iexact HC1
    isplitl [HD1]; · iexact HD1
    isplitl [HC2]; · iexact HC2
    isplitl [HD2]; · iexact HD2
    isplitl [HC3]; · iexact HC3
    isplitl [HD3]; · iexact HD3
    isplitl [HC4]; · iexact HC4
    isplitl [HD4]; · iexact HD4
    isplitl [HC5]; · iexact HC5
    isplitl [HD5]; · iexact HD5
    isplitl [HC6]; · iexact HC6
    isplitl [HD6]; · iexact HD6
    isplitl [HC7]; · iexact HC7
    isplitl [HD7]; · iexact HD7
    isplitl [HC8]; · iexact HC8
    isplitl [HD8]; · iexact HD8
    isplitl [HC9]; · iexact HC9
    isplitl [HD9]; · iexact HD9
    isplitl [HC10]; · iexact HC10
    isplitl [HD10]; · iexact HD10
    isplitl [HC11]; · iexact HC11
    isplitl [HD11]; · iexact HD11
    isplitl [HC12]; · iexact HC12
    isplitl [HD12]; · iexact HD12
    isplitl [HC13]; · iexact HC13
    isplitl [HD13]; · iexact HD13
    isplitl [HC14]; · iexact HC14
    isplitl [HD14]; · iexact HD14
    isplitl [HC15]; · iexact HC15
    iexact HD15
  isplitl [H4]; · iexact H4
  isplitl [H5]; · iexact H5
  isplitl [HW]; · iexact HW
  iexact Hk

end Run
end Cert.GatherIdealWork
end
-- ==== Proof.IdealMid.lean ====
/- One run of the gather body at a middle point: the next block's transfers go out, this block's are waited for, its
   slot is stored. -/
module

public import proofs.«01_k».proof.Proof.IdealEnd

@[expose] public section

noncomputable section

namespace Cert.GatherIdealWork

open Cert.GatherIdeal Cert.GatherIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

section Run
variable {F : FTy → Type} [FloatOps F]
local notation "𝕄" => MT nD τ sig Unit (Elt F) ℕ (Pipeline.UD sig nD τ) ℕ

/-- A middle point: from this block in flight and the other slot at rest to the next block in flight and this slot at rest. -/
theorem runMid (c : Dev nD) (i : grid0.Coords) (h1 : ¬ k0_cond1 i = 1#1) (h2 : k0_cond2 i = 1#1)
    (g : Buf (Elt F) (tbM.view.loc (c : TT))) (hg : InTab g) (arg4 : Memref sig .tc .vmem S16x128 .f32) (harg4 : arg4.IsWhole) (arg5 : Memref sig .tc .vmem S16x3 .f32) (harg5 : arg5.IsWhole) (X1 : Buf (Elt F) (invM.view.loc (c : TT))) (X2 : Buf (Elt F) (eqM.view.loc (c : TT))) (W : Waits sig Unit) (Q : PUnit → sProp 𝕄) :
    iprop(tabP c g ∗ flyP c (slW i) (bw g (i 0).val) X1 X2 ∗ freeP c (slN i) X1 X2 ∗ (∃ d, owns (c : TT) arg4 fullShare d) ∗ (∃ d, owns (c : TT) arg5 fullShare d) ∗ owes (c : TT) 0 W ∗ (iprop(tabP c g ∗ freeP c (slW i) X1 X2 ∗ flyP c (slN i) (bw g ((i 0).val + 1)) X1 X2 ∗ owns (c : TT) arg4 fullShare (O1 X1 (bw g (i 0).val)) ∗ owns (c : TT) arg5 fullShare (O2 X2 (bw g (i 0).val)) ∗ ∃ W', owes (c : TT) 0 W') -∗ Q ⟨⟩))
      ⊢ wp frame (wpE (defs₀ (F := F)) Variants.none c none) Set.univ (cc0__gather_body i tbM (Memref.isWhole_whole _) invM (Memref.isWhole_whole _) eqM (Memref.isWhole_whole _) arg4 harg4 arg5 harg5 ibM (Memref.isWhole_whole _) ebM (Memref.isWhole_whole _) cc0_scratch2 cc0_scratch3) Q := by
  simp only [cc0__gather_body_eq_skeleton]; unfold cc0__gather_body_skel
  iintro ⟨HT, HFL, HFR, H4, H5, HW, Hk⟩
  ihave HFL := (ent (flyP_def c (slW i) (bw g (i 0).val) X1 X2)) $$ HFL
  ihave HFR := (ent (freeP_def c (slN i) X1 X2)) $$ HFR
  icases HFL with ⟨⟨%ff0, HF0⟩, ⟨%fg0, HG0⟩, ⟨%ff1, HF1⟩, ⟨%fg1, HG1⟩, ⟨%ff2, HF2⟩, ⟨%fg2, HG2⟩, ⟨%ff3, HF3⟩, ⟨%fg3, HG3⟩, ⟨%ff4, HF4⟩, ⟨%fg4, HG4⟩, ⟨%ff5, HF5⟩, ⟨%fg5, HG5⟩, ⟨%ff6, HF6⟩, ⟨%fg6, HG6⟩, ⟨%ff7, HF7⟩, ⟨%fg7, HG7⟩, ⟨%ff8, HF8⟩, ⟨%fg8, HG8⟩, ⟨%ff9, HF9⟩, ⟨%fg9, HG9⟩, ⟨%ff10, HF10⟩, ⟨%fg10, HG10⟩, ⟨%ff11, HF11⟩, ⟨%fg11, HG11⟩, ⟨%ff12, HF12⟩, ⟨%fg12, HG12⟩, ⟨%ff13, HF13⟩, ⟨%fg13, HG13⟩, ⟨%ff14, HF14⟩, ⟨%fg14, HG14⟩, ⟨%ff15, HF15⟩, ⟨%fg15, HG15⟩, HRW⟩
  icases HFR with ⟨⟨%fi0, HI0⟩, ⟨%fe0, HE0⟩, HC0, HD0, ⟨%fi1, HI1⟩, ⟨%fe1, HE1⟩, HC1, HD1, ⟨%fi2, HI2⟩, ⟨%fe2, HE2⟩, HC2, HD2, ⟨%fi3, HI3⟩, ⟨%fe3, HE3⟩, HC3, HD3, ⟨%fi4, HI4⟩, ⟨%fe4, HE4⟩, HC4, HD4, ⟨%fi5, HI5⟩, ⟨%fe5, HE5⟩, HC5, HD5, ⟨%fi6, HI6⟩, ⟨%fe6, HE6⟩, HC6, HD6, ⟨%fi7, HI7⟩, ⟨%fe7, HE7⟩, HC7, HD7, ⟨%fi8, HI8⟩, ⟨%fe8, HE8⟩, HC8, HD8, ⟨%fi9, HI9⟩, ⟨%fe9, HE9⟩, HC9, HD9, ⟨%fi10, HI10⟩, ⟨%fe10, HE10⟩, HC10, HD10, ⟨%fi11, HI11⟩, ⟨%fe11, HE11⟩, HC11, HD11, ⟨%fi12, HI12⟩, ⟨%fe12, HE12⟩, HC12, HD12, ⟨%fi13, HI13⟩, ⟨%fe13, HE13⟩, HC13, HD13, ⟨%fi14, HI14⟩, ⟨%fe14, HE14⟩, HC14, HD14, ⟨%fi15, HI15⟩, ⟨%fe15, HE15⟩, HC15, HD15, HTK⟩
  sl_exec_parts (disch := (with_reducible first | apply chk1 | apply chk2 | apply chk3 | apply chk4 | apply chk5 | apply chk6 | apply chk7 | apply chk8 | apply chk9 | apply chk10 | apply chk11 | apply chk12 | apply chk13 | apply chk14 | apply chk15 | apply chk16 | apply chk17 | apply chk18 | apply chk19 | apply chk20 | apply chk21 | apply chk22 | apply chk23 | apply chk24 | apply chk25 | apply chk26 | apply chk27 | apply chk28 | apply chk29 | apply chk30 | apply chk31 | apply chk32 | apply chk33 | apply chk34 | apply chk35 | apply chk36 | apply chk37 | apply chk38 | apply chk39 | apply chk40 | apply chk41 | apply chk42 | apply chk43 | apply chk44 | apply chk45 | apply chk46 | apply chk47 | apply chk48); exact word_lt hg _ _)
  ihave HTK := (toks_split c (slN i) X1 X2 (runMid.sl.r c i h2 g) (runMid.sl.r_1 c i h2 g) (runMid.sl.r_2 c i h2 g) (runMid.sl.r_3 c i h2 g) (runMid.sl.r_4 c i h2 g) (runMid.sl.r_5 c i h2 g) (runMid.sl.r_6 c i h2 g) (runMid.sl.r_7 c i h2 g) (runMid.sl.r_8 c i h2 g) (runMid.sl.r_9 c i h2 g) (runMid.sl.r_10 c i h2 g) (runMid.sl.r_11 c i h2 g) (runMid.sl.r_12 c i h2 g) (runMid.sl.r_13 c i h2 g) (runMid.sl.r_14 c i h2 g) (runMid.sl.r_15 c i h2 g)) $$ HTK
  icases HTK with ⟨HRN, HS0, HU0, HS1, HU1, HS2, HU2, HS3, HU3, HS4, HU4, HS5, HU5, HS6, HU6, HS7, HU7, HS8, HU8, HS9, HU9, HS10, HU10, HS11, HU11, HS12, HU12, HS13, HU13, HS14, HU14, HS15, HU15⟩
  sl_exec_parts (disch := (with_reducible first | apply chk1 | apply chk2 | apply chk3 | apply chk4 | apply chk5 | apply chk6 | apply chk7 | apply chk8 | apply chk9 | apply chk10 | apply chk11 | apply chk12 | apply chk13 | apply chk14 | apply chk15 | apply chk16 | apply chk17 | apply chk18 | apply chk19 | apply chk20 | apply chk21 | apply chk22 | apply chk23 | apply chk24 | apply chk25 | apply chk26 | apply chk27 | apply chk28 | apply chk29 | apply chk30 | apply chk31 | apply chk32 | apply chk33 | apply chk34 | apply chk35 | apply chk36 | apply chk37 | apply chk38 | apply chk39 | apply chk40 | apply chk41 | apply chk42 | apply chk43 | apply chk44 | apply chk45 | apply chk46 | apply chk47 | apply chk48); exact word_lt hg _ _)
  have hV : V16 (runMid.sl.r c i h2 g) (runMid.sl.r_1 c i h2 g) (runMid.sl.r_2 c i h2 g) (runMid.sl.r_3 c i h2 g) (runMid.sl.r_4 c i h2 g) (runMid.sl.r_5 c i h2 g) (runMid.sl.r_6 c i h2 g) (runMid.sl.r_7 c i h2 g) (runMid.sl.r_8 c i h2 g) (runMid.sl.r_9 c i h2 g) (runMid.sl.r_10 c i h2 g) (runMid.sl.r_11 c i h2 g) (runMid.sl.r_12 c i h2 g) (runMid.sl.r_13 c i h2 g) (runMid.sl.r_14 c i h2 g) (runMid.sl.r_15 c i h2 g) = bw g ((i 0).val + 1) := funext fun k => by
    fin_cases k
    · exact word_next g i (cond2_iff i |>.mp h2) 0 (k0_off33_eq i 0) _ _
    · exact word_next g i (cond2_iff i |>.mp h2) 1 (k0_off33_eq i 1) _ _
    · exact word_next g i (cond2_iff i |>.mp h2) 2 (k0_off33_eq i 2) _ _
    · exact word_next g i (cond2_iff i |>.mp h2) 3 (k0_off33_eq i 3) _ _
    · exact word_next g i (cond2_iff i |>.mp h2) 4 (k0_off33_eq i 4) _ _
    · exact word_next g i (cond2_iff i |>.mp h2) 5 (k0_off33_eq i 5) _ _
    · exact word_next g i (cond2_iff i |>.mp h2) 6 (k0_off33_eq i 6) _ _
    · exact word_next g i (cond2_iff i |>.mp h2) 7 (k0_off33_eq i 7) _ _
    · exact word_next g i (cond2_iff i |>.mp h2) 8 (k0_off33_eq i 8) _ _
    · exact word_next g i (cond2_iff i |>.mp h2) 9 (k0_off33_eq i 9) _ _
    · exact word_next g i (cond2_iff i |>.mp h2) 10 (k0_off33_eq i 10) _ _
    · exact word_next g i (cond2_iff i |>.mp h2) 11 (k0_off33_eq i 11) _ _
    · exact word_next g i (cond2_iff i |>.mp h2) 12 (k0_off33_eq i 12) _ _
    · exact word_next g i (cond2_iff i |>.mp h2) 13 (k0_off33_eq i 13) _ _
    · exact word_next g i (cond2_iff i |>.mp h2) 14 (k0_off33_eq i 14) _ _
    · exact word_next g i (cond2_iff i |>.mp h2) 15 (k0_off33_eq i 15) _ _
  iapply (finish c i g arg4 harg4 arg5 harg5 X1 X2 (fly_eq c (slN i) X1 X2 hV) _ Q)
  isplitl [HT]; · iexact HT
  isplitl [HF0_dst HF1_dst HF2_dst HF3_dst HF4_dst HF5_dst HF6_dst HF7_dst HF8_dst HF9_dst HF10_dst HF11_dst HF12_dst HF13_dst HF14_dst HF15_dst]
  · isplitl [HF0_dst]; · iexact HF0_dst
    isplitl [HF1_dst]; · iexact HF1_dst
    isplitl [HF2_dst]; · iexact HF2_dst
    isplitl [HF3_dst]; · iexact HF3_dst
    isplitl [HF4_dst]; · iexact HF4_dst
    isplitl [HF5_dst]; · iexact HF5_dst
    isplitl [HF6_dst]; · iexact HF6_dst
    isplitl [HF7_dst]; · iexact HF7_dst
    isplitl [HF8_dst]; · iexact HF8_dst
    isplitl [HF9_dst]; · iexact HF9_dst
    isplitl [HF10_dst]; · iexact HF10_dst
    isplitl [HF11_dst]; · iexact HF11_dst
    isplitl [HF12_dst]; · iexact HF12_dst
    isplitl [HF13_dst]; · iexact HF13_dst
    isplitl [HF14_dst]; · iexact HF14_dst
    iexact HF15_dst
  isplitl [HG0_dst HG1_dst HG2_dst HG3_dst HG4_dst HG5_dst HG6_dst HG7_dst HG8_dst HG9_dst HG10_dst HG11_dst HG12_dst HG13_dst HG14_dst HG15_dst]
  · isplitl [HG0_dst]; · iexact HG0_dst
    isplitl [HG1_dst]; · iexact HG1_dst
    isplitl [HG2_dst]; · iexact HG2_dst
    isplitl [HG3_dst]; · iexact HG3_dst
    isplitl [HG4_dst]; · iexact HG4_dst
    isplitl [HG5_dst]; · iexact HG5_dst
    isplitl [HG6_dst]; · iexact HG6_dst
    isplitl [HG7_dst]; · iexact HG7_dst
    isplitl [HG8_dst]; · iexact HG8_dst
    isplitl [HG9_dst]; · iexact HG9_dst
    isplitl [HG10_dst]; · iexact HG10_dst
    isplitl [HG11_dst]; · iexact HG11_dst
    isplitl [HG12_dst]; · iexact HG12_dst
    isplitl [HG13_dst]; · iexact HG13_dst
    isplitl [HG14_dst]; · iexact HG14_dst
    iexact HG15_dst
  isplitl [HF0 HG0 HF1 HG1 HF2 HG2 HF3 HG3 HF4 HG4 HF5 HG5 HF6 HG6 HF7 HG7 HF8 HG8 HF9 HG9 HF10 HG10 HF11 HG11 HF12 HG12 HF13 HG13 HF14 HG14 HF15 HG15]
  · isplitl [HF0]; · iexact HF0
    isplitl [HG0]; · iexact HG0
    isplitl [HF1]; · iexact HF1
    isplitl [HG1]; · iexact HG1
    isplitl [HF2]; · iexact HF2
    isplitl [HG2]; · iexact HG2
    isplitl [HF3]; · iexact HF3
    isplitl [HG3]; · iexact HG3
    isplitl [HF4]; · iexact HF4
    isplitl [HG4]; · iexact HG4
    isplitl [HF5]; · iexact HF5
    isplitl [HG5]; · iexact HG5
    isplitl [HF6]; · iexact HF6
    isplitl [HG6]; · iexact HG6
    isplitl [HF7]; · iexact HF7
    isplitl [HG7]; · iexact HG7
    isplitl [HF8]; · iexact HF8
    isplitl [HG8]; · iexact HG8
    isplitl [HF9]; · iexact HF9
    isplitl [HG9]; · iexact HG9
    isplitl [HF10]; · iexact HF10
    isplitl [HG10]; · iexact HG10
    isplitl [HF11]; · iexact HF11
    isplitl [HG11]; · iexact HG11
    isplitl [HF12]; · iexact HF12
    isplitl [HG12]; · iexact HG12
    isplitl [HF13]; · iexact HF13
    isplitl [HG13]; · iexact HG13
    isplitl [HF14]; · iexact HF14
    isplitl [HG14]; · iexact HG14
    isplitl [HF15]; · iexact HF15
    iexact HG15
  isplitl [HF0_src HG0_src HF1_src HG1_src HF2_src HG2_src HF3_src HG3_src HF4_src HG4_src HF5_src HG5_src HF6_src HG6_src HF7_src HG7_src HF8_src HG8_src HF9_src HG9_src HF10_src HG10_src HF11_src HG11_src HF12_src HG12_src HF13_src HG13_src HF14_src HG14_src HF15_src HG15_src]
  · isplitl [HF0_src]; · iexact HF0_src
    isplitl [HG0_src]; · iexact HG0_src
    isplitl [HF1_src]; · iexact HF1_src
    isplitl [HG1_src]; · iexact HG1_src
    isplitl [HF2_src]; · iexact HF2_src
    isplitl [HG2_src]; · iexact HG2_src
    isplitl [HF3_src]; · iexact HF3_src
    isplitl [HG3_src]; · iexact HG3_src
    isplitl [HF4_src]; · iexact HF4_src
    isplitl [HG4_src]; · iexact HG4_src
    isplitl [HF5_src]; · iexact HF5_src
    isplitl [HG5_src]; · iexact HG5_src
    isplitl [HF6_src]; · iexact HF6_src
    isplitl [HG6_src]; · iexact HG6_src
    isplitl [HF7_src]; · iexact HF7_src
    isplitl [HG7_src]; · iexact HG7_src
    isplitl [HF8_src]; · iexact HF8_src
    isplitl [HG8_src]; · iexact HG8_src
    isplitl [HF9_src]; · iexact HF9_src
    isplitl [HG9_src]; · iexact HG9_src
    isplitl [HF10_src]; · iexact HF10_src
    isplitl [HG10_src]; · iexact HG10_src
    isplitl [HF11_src]; · iexact HF11_src
    isplitl [HG11_src]; · iexact HG11_src
    isplitl [HF12_src]; · iexact HF12_src
    isplitl [HG12_src]; · iexact HG12_src
    isplitl [HF13_src]; · iexact HF13_src
    isplitl [HG13_src]; · iexact HG13_src
    isplitl [HF14_src]; · iexact HF14_src
    isplitl [HG14_src]; · iexact HG14_src
    isplitl [HF15_src]; · iexact HF15_src
    iexact HG15_src
  isplitl [HRW]; · iexact HRW
  isplitl [HRN HC0 HD0 HC1 HD1 HC2 HD2 HC3 HD3 HC4 HD4 HC5 HD5 HC6 HD6 HC7 HD7 HC8 HD8 HC9 HD9 HC10 HD10 HC11 HD11 HC12 HD12 HC13 HD13 HC14 HD14 HC15 HD15]
  · iapply (fly_intro c (slN i) X1 X2 (V16 (runMid.sl.r c i h2 g) (runMid.sl.r_1 c i h2 g) (runMid.sl.r_2 c i h2 g) (runMid.sl.r_3 c i h2 g) (runMid.sl.r_4 c i h2 g) (runMid.sl.r_5 c i h2 g) (runMid.sl.r_6 c i h2 g) (runMid.sl.r_7 c i h2 g) (runMid.sl.r_8 c i h2 g) (runMid.sl.r_9 c i h2 g) (runMid.sl.r_10 c i h2 g) (runMid.sl.r_11 c i h2 g) (runMid.sl.r_12 c i h2 g) (runMid.sl.r_13 c i h2 g) (runMid.sl.r_14 c i h2 g) (runMid.sl.r_15 c i h2 g)) fi0 fi1 fi2 fi3 fi4 fi5 fi6 fi7 fi8 fi9 fi10 fi11 fi12 fi13 fi14 fi15 fe0 fe1 fe2 fe3 fe4 fe5 fe6 fe7 fe8 fe9 fe10 fe11 fe12 fe13 fe14 fe15)
    isplitl [HRN]; · iexact HRN
    isplitl [HC0]; · iexact HC0
    isplitl [HD0]; · iexact HD0
    isplitl [HC1]; · iexact HC1
    isplitl [HD1]; · iexact HD1
    isplitl [HC2]; · iexact HC2
    isplitl [HD2]; · iexact HD2
    isplitl [HC3]; · iexact HC3
    isplitl [HD3]; · iexact HD3
    isplitl [HC4]; · iexact HC4
    isplitl [HD4]; · iexact HD4
    isplitl [HC5]; · iexact HC5
    isplitl [HD5]; · iexact HD5
    isplitl [HC6]; · iexact HC6
    isplitl [HD6]; · iexact HD6
    isplitl [HC7]; · iexact HC7
    isplitl [HD7]; · iexact HD7
    isplitl [HC8]; · iexact HC8
    isplitl [HD8]; · iexact HD8
    isplitl [HC9]; · iexact HC9
    isplitl [HD9]; · iexact HD9
    isplitl [HC10]; · iexact HC10
    isplitl [HD10]; · iexact HD10
    isplitl [HC11]; · iexact HC11
    isplitl [HD11]; · iexact HD11
    isplitl [HC12]; · iexact HC12
    isplitl [HD12]; · iexact HD12
    isplitl [HC13]; · iexact HC13
    isplitl [HD13]; · iexact HD13
    isplitl [HC14]; · iexact HC14
    isplitl [HD14]; · iexact HD14
    isplitl [HC15]; · iexact HC15
    iexact HD15
  isplitl [H4]; · iexact H4
  isplitl [H5]; · iexact H5
  isplitl [HW]; · iexact HW
  iexact Hk

end Run
end Cert.GatherIdealWork
end
-- ==== Proof.IdealLast.lean ====
/- One run of the gather body at the last point: this block's transfers are waited for, its slot is stored. -/
module

public import proofs.«01_k».proof.Proof.IdealEnd

@[expose] public section

noncomputable section

namespace Cert.GatherIdealWork

open Cert.GatherIdeal Cert.GatherIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

section Run
variable {F : FTy → Type} [FloatOps F]
local notation "𝕄" => MT nD τ sig Unit (Elt F) ℕ (Pipeline.UD sig nD τ) ℕ

/-- The last point: from this block in flight to both slots at rest. -/
theorem runLast (c : Dev nD) (i : grid0.Coords) (h1 : ¬ k0_cond1 i = 1#1) (h2 : ¬ k0_cond2 i = 1#1)
    (g : Buf (Elt F) (tbM.view.loc (c : TT))) (hg : InTab g) (arg4 : Memref sig .tc .vmem S16x128 .f32) (harg4 : arg4.IsWhole) (arg5 : Memref sig .tc .vmem S16x3 .f32) (harg5 : arg5.IsWhole) (X1 : Buf (Elt F) (invM.view.loc (c : TT))) (X2 : Buf (Elt F) (eqM.view.loc (c : TT))) (W : Waits sig Unit) (Q : PUnit → sProp 𝕄) :
    iprop(tabP c g ∗ flyP c (slW i) (bw g (i 0).val) X1 X2 ∗ freeP c (slN i) X1 X2 ∗ (∃ d, owns (c : TT) arg4 fullShare d) ∗ (∃ d, owns (c : TT) arg5 fullShare d) ∗ owes (c : TT) 0 W ∗ (iprop(tabP c g ∗ freeP c (slW i) X1 X2 ∗ freeP c (slN i) X1 X2 ∗ owns (c : TT) arg4 fullShare (O1 X1 (bw g (i 0).val)) ∗ owns (c : TT) arg5 fullShare (O2 X2 (bw g (i 0).val)) ∗ ∃ W', owes (c : TT) 0 W') -∗ Q ⟨⟩))
      ⊢ wp frame (wpE (defs₀ (F := F)) Variants.none c none) Set.univ (cc0__gather_body i tbM (Memref.isWhole_whole _) invM (Memref.isWhole_whole _) eqM (Memref.isWhole_whole _) arg4 harg4 arg5 harg5 ibM (Memref.isWhole_whole _) ebM (Memref.isWhole_whole _) cc0_scratch2 cc0_scratch3) Q := by
  simp only [cc0__gather_body_eq_skeleton]; unfold cc0__gather_body_skel
  iintro ⟨HT, HFL, HFR, H4, H5, HW, Hk⟩
  ihave HFL := (ent (flyP_def c (slW i) (bw g (i 0).val) X1 X2)) $$ HFL
  icases HFL with ⟨⟨%ff0, HF0⟩, ⟨%fg0, HG0⟩, ⟨%ff1, HF1⟩, ⟨%fg1, HG1⟩, ⟨%ff2, HF2⟩, ⟨%fg2, HG2⟩, ⟨%ff3, HF3⟩, ⟨%fg3, HG3⟩, ⟨%ff4, HF4⟩, ⟨%fg4, HG4⟩, ⟨%ff5, HF5⟩, ⟨%fg5, HG5⟩, ⟨%ff6, HF6⟩, ⟨%fg6, HG6⟩, ⟨%ff7, HF7⟩, ⟨%fg7, HG7⟩, ⟨%ff8, HF8⟩, ⟨%fg8, HG8⟩, ⟨%ff9, HF9⟩, ⟨%fg9, HG9⟩, ⟨%ff10, HF10⟩, ⟨%fg10, HG10⟩, ⟨%ff11, HF11⟩, ⟨%fg11, HG11⟩, ⟨%ff12, HF12⟩, ⟨%fg12, HG12⟩, ⟨%ff13, HF13⟩, ⟨%fg13, HG13⟩, ⟨%ff14, HF14⟩, ⟨%fg14, HG14⟩, ⟨%ff15, HF15⟩, ⟨%fg15, HG15⟩, HRW⟩
  sl_exec_parts (disch := (with_reducible first | apply chk1 | apply chk2 | apply chk3 | apply chk4 | apply chk5 | apply chk6 | apply chk7 | apply chk8 | apply chk9 | apply chk10 | apply chk11 | apply chk12 | apply chk13 | apply chk14 | apply chk15 | apply chk16 | apply chk17 | apply chk18 | apply chk19 | apply chk20 | apply chk21 | apply chk22 | apply chk23 | apply chk24 | apply chk25 | apply chk26 | apply chk27 | apply chk28 | apply chk29 | apply chk30 | apply chk31 | apply chk32 | apply chk33 | apply chk34 | apply chk35 | apply chk36 | apply chk37 | apply chk38 | apply chk39 | apply chk40 | apply chk41 | apply chk42 | apply chk43 | apply chk44 | apply chk45 | apply chk46 | apply chk47 | apply chk48); exact word_lt hg _ _)
  iapply (finish c i g arg4 harg4 arg5 harg5 X1 X2 BIBase.Entails.rfl _ Q)
  isplitl [HT]; · iexact HT
  isplitl [HF0_dst HF1_dst HF2_dst HF3_dst HF4_dst HF5_dst HF6_dst HF7_dst HF8_dst HF9_dst HF10_dst HF11_dst HF12_dst HF13_dst HF14_dst HF15_dst]
  · isplitl [HF0_dst]; · iexact HF0_dst
    isplitl [HF1_dst]; · iexact HF1_dst
    isplitl [HF2_dst]; · iexact HF2_dst
    isplitl [HF3_dst]; · iexact HF3_dst
    isplitl [HF4_dst]; · iexact HF4_dst
    isplitl [HF5_dst]; · iexact HF5_dst
    isplitl [HF6_dst]; · iexact HF6_dst
    isplitl [HF7_dst]; · iexact HF7_dst
    isplitl [HF8_dst]; · iexact HF8_dst
    isplitl [HF9_dst]; · iexact HF9_dst
    isplitl [HF10_dst]; · iexact HF10_dst
    isplitl [HF11_dst]; · iexact HF11_dst
    isplitl [HF12_dst]; · iexact HF12_dst
    isplitl [HF13_dst]; · iexact HF13_dst
    isplitl [HF14_dst]; · iexact HF14_dst
    iexact HF15_dst
  isplitl [HG0_dst HG1_dst HG2_dst HG3_dst HG4_dst HG5_dst HG6_dst HG7_dst HG8_dst HG9_dst HG10_dst HG11_dst HG12_dst HG13_dst HG14_dst HG15_dst]
  · isplitl [HG0_dst]; · iexact HG0_dst
    isplitl [HG1_dst]; · iexact HG1_dst
    isplitl [HG2_dst]; · iexact HG2_dst
    isplitl [HG3_dst]; · iexact HG3_dst
    isplitl [HG4_dst]; · iexact HG4_dst
    isplitl [HG5_dst]; · iexact HG5_dst
    isplitl [HG6_dst]; · iexact HG6_dst
    isplitl [HG7_dst]; · iexact HG7_dst
    isplitl [HG8_dst]; · iexact HG8_dst
    isplitl [HG9_dst]; · iexact HG9_dst
    isplitl [HG10_dst]; · iexact HG10_dst
    isplitl [HG11_dst]; · iexact HG11_dst
    isplitl [HG12_dst]; · iexact HG12_dst
    isplitl [HG13_dst]; · iexact HG13_dst
    isplitl [HG14_dst]; · iexact HG14_dst
    iexact HG15_dst
  isplitl [HF0 HG0 HF1 HG1 HF2 HG2 HF3 HG3 HF4 HG4 HF5 HG5 HF6 HG6 HF7 HG7 HF8 HG8 HF9 HG9 HF10 HG10 HF11 HG11 HF12 HG12 HF13 HG13 HF14 HG14 HF15 HG15]
  · isplitl [HF0]; · iexact HF0
    isplitl [HG0]; · iexact HG0
    isplitl [HF1]; · iexact HF1
    isplitl [HG1]; · iexact HG1
    isplitl [HF2]; · iexact HF2
    isplitl [HG2]; · iexact HG2
    isplitl [HF3]; · iexact HF3
    isplitl [HG3]; · iexact HG3
    isplitl [HF4]; · iexact HF4
    isplitl [HG4]; · iexact HG4
    isplitl [HF5]; · iexact HF5
    isplitl [HG5]; · iexact HG5
    isplitl [HF6]; · iexact HF6
    isplitl [HG6]; · iexact HG6
    isplitl [HF7]; · iexact HF7
    isplitl [HG7]; · iexact HG7
    isplitl [HF8]; · iexact HF8
    isplitl [HG8]; · iexact HG8
    isplitl [HF9]; · iexact HF9
    isplitl [HG9]; · iexact HG9
    isplitl [HF10]; · iexact HF10
    isplitl [HG10]; · iexact HG10
    isplitl [HF11]; · iexact HF11
    isplitl [HG11]; · iexact HG11
    isplitl [HF12]; · iexact HF12
    isplitl [HG12]; · iexact HG12
    isplitl [HF13]; · iexact HF13
    isplitl [HG13]; · iexact HG13
    isplitl [HF14]; · iexact HF14
    isplitl [HG14]; · iexact HG14
    isplitl [HF15]; · iexact HF15
    iexact HG15
  isplitl [HF0_src HG0_src HF1_src HG1_src HF2_src HG2_src HF3_src HG3_src HF4_src HG4_src HF5_src HG5_src HF6_src HG6_src HF7_src HG7_src HF8_src HG8_src HF9_src HG9_src HF10_src HG10_src HF11_src HG11_src HF12_src HG12_src HF13_src HG13_src HF14_src HG14_src HF15_src HG15_src]
  · isplitl [HF0_src]; · iexact HF0_src
    isplitl [HG0_src]; · iexact HG0_src
    isplitl [HF1_src]; · iexact HF1_src
    isplitl [HG1_src]; · iexact HG1_src
    isplitl [HF2_src]; · iexact HF2_src
    isplitl [HG2_src]; · iexact HG2_src
    isplitl [HF3_src]; · iexact HF3_src
    isplitl [HG3_src]; · iexact HG3_src
    isplitl [HF4_src]; · iexact HF4_src
    isplitl [HG4_src]; · iexact HG4_src
    isplitl [HF5_src]; · iexact HF5_src
    isplitl [HG5_src]; · iexact HG5_src
    isplitl [HF6_src]; · iexact HF6_src
    isplitl [HG6_src]; · iexact HG6_src
    isplitl [HF7_src]; · iexact HF7_src
    isplitl [HG7_src]; · iexact HG7_src
    isplitl [HF8_src]; · iexact HF8_src
    isplitl [HG8_src]; · iexact HG8_src
    isplitl [HF9_src]; · iexact HF9_src
    isplitl [HG9_src]; · iexact HG9_src
    isplitl [HF10_src]; · iexact HF10_src
    isplitl [HG10_src]; · iexact HG10_src
    isplitl [HF11_src]; · iexact HF11_src
    isplitl [HG11_src]; · iexact HG11_src
    isplitl [HF12_src]; · iexact HF12_src
    isplitl [HG12_src]; · iexact HG12_src
    isplitl [HF13_src]; · iexact HF13_src
    isplitl [HG13_src]; · iexact HG13_src
    isplitl [HF14_src]; · iexact HF14_src
    isplitl [HG14_src]; · iexact HG14_src
    isplitl [HF15_src]; · iexact HF15_src
    iexact HG15_src
  isplitl [HRW]; · iexact HRW
  isplitl [HFR]; · iexact HFR
  isplitl [H4]; · iexact H4
  isplitl [H5]; · iexact H5
  isplitl [HW]; · iexact HW
  iexact Hk

end Run
end Cert.GatherIdealWork
end
-- ==== Proof.IdealPoint.lean ====
/- One grid point, whichever it is: from what holds before it to what holds after it. -/
module

public import proofs.«01_k».proof.Proof.IdealFirst
public import proofs.«01_k».proof.Proof.IdealMid
public import proofs.«01_k».proof.Proof.IdealLast

@[expose] public section

noncomputable section

namespace Cert.GatherIdealWork

open Cert.GatherIdeal Cert.GatherIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

section Point
variable {F : FTy → Type} [FloatOps F]
local notation "𝕄" => MT nD τ sig Unit (Elt F) ℕ (Pipeline.UD sig nD τ) ℕ

/-- Before point `n` its block is in flight and the other slot at rest; before the first and after the last point both slots are at rest. -/
def stateP (c : Dev nD) (g : Buf (Elt F) (tbM.view.loc (c : TT))) (X1 : Buf (Elt F) (invM.view.loc (c : TT))) (X2 : Buf (Elt F) (eqM.view.loc (c : TT))) (n : ℕ) : sProp 𝕄 :=
  if n = 0 ∨ n = 256 then iprop(freeP c 0 X1 X2 ∗ freeP c 1 X1 X2)
  else iprop(flyP c (Ring.sl 2 n) (bw g n) X1 X2 ∗ freeP c (Ring.sl 2 (n + 1)) X1 X2)

theorem sl_two (n : ℕ) : Ring.sl 2 (n + 1 + 1) = Ring.sl 2 n := Fin.ext (by show (n + 1 + 1) % 2 = n % 2; omega)

theorem pointRun (c : Dev nD) (i : grid0.Coords)
    (g : Buf (Elt F) (tbM.view.loc (c : TT))) (hg : InTab g) (arg4 : Memref sig .tc .vmem S16x128 .f32) (harg4 : arg4.IsWhole) (arg5 : Memref sig .tc .vmem S16x3 .f32) (harg5 : arg5.IsWhole) (X1 : Buf (Elt F) (invM.view.loc (c : TT))) (X2 : Buf (Elt F) (eqM.view.loc (c : TT))) (W : Waits sig Unit) (Q : PUnit → sProp 𝕄) :
    iprop(tabP c g ∗ stateP c g X1 X2 (i 0).val ∗ (∃ d, owns (c : TT) arg4 fullShare d) ∗ (∃ d, owns (c : TT) arg5 fullShare d) ∗ owes (c : TT) 0 W
        ∗ (iprop(tabP c g ∗ stateP c g X1 X2 ((i 0).val + 1) ∗ owns (c : TT) arg4 fullShare (O1 X1 (bw g (i 0).val)) ∗ owns (c : TT) arg5 fullShare (O2 X2 (bw g (i 0).val)) ∗ ∃ W', owes (c : TT) 0 W') -∗ Q ⟨⟩))
      ⊢ wp frame (wpE (defs₀ (F := F)) Variants.none c none) Set.univ (cc0__gather_body i tbM (Memref.isWhole_whole _) invM (Memref.isWhole_whole _) eqM (Memref.isWhole_whole _) arg4 harg4 arg5 harg5 ibM (Memref.isWhole_whole _) ebM (Memref.isWhole_whole _) cc0_scratch2 cc0_scratch3) Q := by
  have hi : (i 0).val < 256 := (i 0).isLt
  by_cases h0 : (i 0).val = 0
  · have e1 : stateP c g X1 X2 (i 0).val = iprop(freeP c (slW i) X1 X2 ∗ freeP c (slN i) X1 X2) := by
      unfold stateP; rw [if_pos (Or.inl h0)]
      have w : slW i = 0 := by unfold slW; rw [h0]; rfl
      have v : slN i = 1 := by unfold slN; rw [h0]; rfl
      rw [w, v]
    have e2 : stateP c g X1 X2 ((i 0).val + 1) = iprop(flyP c (slN i) (bw g ((i 0).val + 1)) X1 X2 ∗ freeP c (slW i) X1 X2) := by
      unfold stateP; rw [if_neg (by omega), sl_two]
    rw [e1, e2]
    iintro ⟨HT, ⟨HA, HB⟩, H4, H5, HW, Hk⟩
    iapply (runFirst c i ((cond1_iff i).mpr h0) ((cond2_iff i).mpr (by omega)) g hg arg4 harg4 arg5 harg5 X1 X2 W Q)
    isplitl [HT]; · iexact HT
    isplitl [HA]; · iexact HA
    isplitl [HB]; · iexact HB
    isplitl [H4]; · iexact H4
    isplitl [H5]; · iexact H5
    isplitl [HW]; · iexact HW
    iintro ⟨HT, HA, HB, H4, H5, HW⟩
    iapply Hk
    isplitl [HT]; · iexact HT
    isplitl [HA HB]
    · isplitl [HB]; · iexact HB
      iexact HA
    isplitl [H4]; · iexact H4
    isplitl [H5]; · iexact H5
    iexact HW
  have e1 : stateP c g X1 X2 (i 0).val = iprop(flyP c (slW i) (bw g (i 0).val) X1 X2 ∗ freeP c (slN i) X1 X2) := by
    unfold stateP; rw [if_neg (by omega)]
  by_cases h2 : (i 0).val + 1 < 256
  · have e2 : stateP c g X1 X2 ((i 0).val + 1) = iprop(flyP c (slN i) (bw g ((i 0).val + 1)) X1 X2 ∗ freeP c (slW i) X1 X2) := by
      unfold stateP; rw [if_neg (by omega), sl_two]
    rw [e1, e2]
    iintro ⟨HT, ⟨HA, HB⟩, H4, H5, HW, Hk⟩
    iapply (runMid c i (fun h => h0 ((cond1_iff i).mp h)) ((cond2_iff i).mpr h2) g hg arg4 harg4 arg5 harg5 X1 X2 W Q)
    isplitl [HT]; · iexact HT
    isplitl [HA]; · iexact HA
    isplitl [HB]; · iexact HB
    isplitl [H4]; · iexact H4
    isplitl [H5]; · iexact H5
    isplitl [HW]; · iexact HW
    iintro ⟨HT, HA, HB, H4, H5, HW⟩
    iapply Hk
    isplitl [HT]; · iexact HT
    isplitl [HA HB]
    · isplitl [HB]; · iexact HB
      iexact HA
    isplitl [H4]; · iexact H4
    isplitl [H5]; · iexact H5
    iexact HW
  · have e2 : stateP c g X1 X2 ((i 0).val + 1) = iprop(freeP c (slN i) X1 X2 ∗ freeP c (slW i) X1 X2) := by
      have h : (i 0).val = 255 := by omega
      unfold stateP; rw [if_pos (by omega)]
      have w : slW i = 1 := by unfold slW; rw [h]; rfl
      have v : slN i = 0 := by unfold slN; rw [h]; rfl
      rw [w, v]
    rw [e1, e2]
    iintro ⟨HT, ⟨HA, HB⟩, H4, H5, HW, Hk⟩
    iapply (runLast c i (fun h => h0 ((cond1_iff i).mp h)) (fun h => h2 ((cond2_iff i).mp h)) g hg arg4 harg4 arg5 harg5 X1 X2 W Q)
    isplitl [HT]; · iexact HT
    isplitl [HA]; · iexact HA
    isplitl [HB]; · iexact HB
    isplitl [H4]; · iexact H4
    isplitl [H5]; · iexact H5
    isplitl [HW]; · iexact HW
    iintro ⟨HT, HA, HB, H4, H5, HW⟩
    iapply Hk
    isplitl [HT]; · iexact HT
    isplitl [HA HB]
    · isplitl [HB]; · iexact HB
      iexact HA
    isplitl [H4]; · iexact H4
    isplitl [H5]; · iexact H5
    iexact HW

end Point

end Cert.GatherIdealWork
end
-- ==== Proof.IdealLaunch.lean ====
/- The whole gather call: its run from launch to end. -/
module

public import proofs.«01_k».proof.Proof.IdealStart
public import proofs.«01_k».proof.Proof.IdealPoint

@[expose] public section

noncomputable section

namespace Cert.GatherIdealWork

open Cert.GatherIdeal Cert.GatherIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

section Launch
variable {F : FTy → Type} [FloatOps F] [∀ e, Nonempty (Elt F e)]
local notation "𝕄" => MT nD τ sig Unit (Elt F) ℕ (Pipeline.UD sig nD τ) ℕ

variable (m : (ℓ : Loc nD τ sig) → Buf (Elt F) ℓ) (ρ : Dev nD → PrngReg)

/-- A core's buffers at launch. -/
def V (c : Dev nD) (b : Ref sig .tc) : Buf (Elt F) ((c : TT).loc b) := m ((c : TT).loc b)
/-- The table at launch. -/
def tbl : pre0.Contents (Elt F) := fun j => V m (0 : Dev nD) (pre0.ref j)
theorem V_pre (c : Dev nD) (j : Fin 1) : V m c (pre0.ref j) = tbl m j := by obtain rfl : c = 0 := Subsingleton.elim _ _; rfl
abbrev adm : (pcfg0 (F := F)).Adm := ⟨tbl m, trivial⟩
abbrev cfgM : Pipeline.Cfg sig Λ₀ := cfg0 (adm m)
/-- The words of the table, and the two arrays, on core `c`. -/
abbrev gT (c : Dev nD) : Buf (Elt F) (tbM.view.loc (c : TT)) := V m c main_arg0
abbrev arI (c : Dev nD) : Buf (Elt F) (invM.view.loc (c : TT)) := V m c main_arg1
abbrev arE (c : Dev nD) : Buf (Elt F) (eqM.view.loc (c : TT)) := V m c main_arg2

theorem PhiT0_eq (c : Dev nD) : (Pipeline.ΦT pre0 (tbl m) c : sProp 𝕄) = tabP c (gT m c) := by
  obtain rfl : c = 0 := Subsingleton.elim _ _
  unfold Pipeline.ΦT Pipeline.prefHeld
  rw [show (Finset.univ : Finset (Fin 1)) = {(0 : Fin 1)} from by decide, bigSep_singleton]; rfl

/-- The two arrays left where they are. -/
def H : Finset (Ref sig .tc) := {main_arg1, main_arg2}
theorem H_sub : H ⊆ Pipeline.restRefsP sig pre0 spec0 := by decide
theorem arrays_eq (c : Dev nD) :
    (bigSep H (fun b => ((c : TT).loc b) ↦{fullShare} V m c b) : sProp 𝕄)
      = iprop((invM.view.loc (c : TT) ↦{fullShare} arI m c) ∗ (eqM.view.loc (c : TT) ↦{fullShare} arE m c)) := by
  rw [BI.bigSep_eq_bigSepL_of_eq [main_arg1, main_arg2] (by decide) (by decide)]; rfl

/-- What is held between points. -/
def inv (c : Dev nD) (n : ℕ) : sProp 𝕄 :=
  iprop(tabP c (gT m c) ∗ (∃ r, prngReg c r) ∗ ikeep c (arI m c) ∗ ekeep c (arE m c) ∗ stateP c (gT m c) (arI m c) (arE m c) n)

/-- What each point leaves in the two result blocks. -/
def dats (_ : Fin 1) (c : Dev nD) : Dat τ (Elt F) Unit ℕ (Pipeline.UD sig nD τ) ℕ (cfgM m) c where
  A w := V m c (Pipeline.arrRef spec0 w)
  after := fun
    | 0 => fun t => O1 (arI m c) (bw (gT m c) t.val)
    | 1 => fun t => O2 (arE m c) (bw (gT m c) t.val)
    | ⟨_ + 2, h⟩ => absurd h (Nat.not_lt.2 (Nat.le_add_left _ _))
  Φ t := inv m c t.val
  q _ := fullShare
  owed _ := 0

theorem coords_val : ∀ t : Fin grid0.N, ((grid0.coords t) 0).val = t.val := by decide +kernel

theorem defs₀_row (t : Fin (cfgM m).N) : defs₀ (F := F) .tc (cfgM m).body ((cfgM m).bodyArgs t ((cfgM m).slots t))
    = cc0__gather_body (grid0.coords t) tbM (Memref.isWhole_whole _) invM (Memref.isWhole_whole _) eqM (Memref.isWhole_whole _)
        (spec0_0.stage ((cfgM m).slots t 0)) (hstage0_0 (((cfgM m).slots t 0).cast nbuf0_0)) (spec0_1.stage ((cfgM m).slots t 1)) (hstage0_1 (((cfgM m).slots t 1).cast nbuf0_1))
        ibM (Memref.isWhole_whole _) ebM (Memref.isWhole_whole _) cc0_scratch2 cc0_scratch3 := by
  unfold defs₀; rw [Defs.onTc_tc]

theorem sound_body (c : Dev nD) (hg : InTab (gT m c)) (t : Fin (cfgM m).N) :
    iprop((dats m 0 c).Φ t.castSucc ∗ (dats m 0 c).owesAt () t.castSucc
        ∗ (∃ d, owns (c : TT) (spec0_0.stage ((cfgM m).slots t 0)) fullShare ((dats m 0 c).before 0 t d))
        ∗ (∃ d, owns (c : TT) (spec0_1.stage ((cfgM m).slots t 1)) fullShare ((dats m 0 c).before 1 t d)))
      ⊢ wp frame (wpE (defs₀ (F := F)) Variants.none c none) Set.univ
        (cc0__gather_body (grid0.coords t) tbM (Memref.isWhole_whole _) invM (Memref.isWhole_whole _) eqM (Memref.isWhole_whole _)
        (spec0_0.stage ((cfgM m).slots t 0)) (hstage0_0 (((cfgM m).slots t 0).cast nbuf0_0)) (spec0_1.stage ((cfgM m).slots t 1)) (hstage0_1 (((cfgM m).slots t 1).cast nbuf0_1))
        ibM (Memref.isWhole_whole _) ebM (Memref.isWhole_whole _) cc0_scratch2 cc0_scratch3)
        (fun _ => iprop((dats m 0 c).Φ t.succ ∗ (dats m 0 c).owesAt () t.succ
        ∗ owns (c : TT) (spec0_0.stage ((cfgM m).slots t 0)) fullShare ((dats m 0 c).after 0 t)
        ∗ owns (c : TT) (spec0_1.stage ((cfgM m).slots t 1)) fullShare ((dats m 0 c).after 1 t))) := by
  have ht : ((grid0.coords t) 0).val = t.val := coords_val t
  rw [show (dats m 0 c).Φ t.castSucc = inv m c ((grid0.coords t) 0).val from (congrArg (inv m c) ht).symm,
    show (dats m 0 c).Φ t.succ = inv m c (((grid0.coords t) 0).val + 1) from (congrArg (fun n => inv m c (n + 1)) ht).symm,
    show (dats m 0 c).after 0 t = O1 (arI m c) (bw (gT m c) ((grid0.coords t) 0).val) from (congrArg (fun n => O1 (arI m c) (bw (gT m c) n)) ht).symm,
    show (dats m 0 c).after 1 t = O2 (arE m c) (bw (gT m c) ((grid0.coords t) 0).val) from (congrArg (fun n => O2 (arE m c) (bw (gT m c) n)) ht).symm]
  unfold Dat.owesAt Pipeline.owesWithin inv
  rw [show (dats m 0 c).owed t.castSucc = 0 from rfl, show (dats m 0 c).owed t.succ = 0 from rfl]
  iintro ⟨⟨HT, Hg, HK, HL, HS⟩, ⟨%W, %hW, HO⟩, ⟨%d0, H0⟩, ⟨%d1, H1⟩⟩
  iapply (pointRun c (grid0.coords t) (gT m c) hg _ _ _ _ (arI m c) (arE m c) W _)
  isplitl [HT]; · iexact HT
  isplitl [HS]; · iexact HS
  isplitl [H0]; · iexists _; iexact H0
  isplitl [H1]; · iexists _; iexact H1
  isplitl [HO]; · iexact HO
  iintro ⟨HT, HS, H0, H1, ⟨%W', HO⟩⟩
  isplitl [HT Hg HK HL HS]
  · isplitl [HT]; · iexact HT
    isplitl [Hg]; · iexact Hg
    isplitl [HK]; · iexact HK
    isplitl [HL]; · iexact HL
    iexact HS
  isplitl [HO]
  · iexists W'; isplitr; · ipureintro; exact fun _ _ => Or.inl trivial
    iexact HO
  isplitl [H0]; · iexact H0
  iexact H1

theorem body_obligation (c : Dev nD) (hg : InTab (gT m c)) :
    BodyObligation (dats (F := F) m 0 c) (defs₀ (F := F)) Variants.none () Set.univ := fun t => by
  rw [bigSep_W0, bigSep_W0, defs₀_row]
  exact triple_restated (sound_body m c hg t) rfl .rfl fun _ => .rfl

theorem scratch_eq (c : Dev nD) : (Pipeline.scopedRest (Ix := Unit) (Name := ℕ) (U := Pipeline.UD sig nD τ) (Lvl := ℕ) (Val := Elt F) spec0 c : sProp 𝕄)
    = iprop((∃ f : Buf (Elt F) (ibM.view.loc (c : TT)), ibM.view.loc (c : TT) ↦{fullShare} f) ∗ (∃ f : Buf (Elt F) (ebM.view.loc (c : TT)), ebM.view.loc (c : TT) ↦{fullShare} f)) :=
  scopedRest0_eq c

/-- The launch state is the first invariant; -/
theorem inv_first (c : Dev nD) : iprop(Pipeline.ΦD osem spec0 H (V m) c ∗ Pipeline.ΦT pre0 (tbl m) c) ⊢ (inv m c 0 : sProp 𝕄) := by
  rw [Pipeline.ΦD_eq, scratch_eq, arrays_eq, PhiT0_eq]
  unfold inv stateP
  rw [if_pos (Or.inl rfl)]
  iintro ⟨⟨⟨⟨%f, HI⟩, ⟨%e, HE⟩⟩, Hg, HC, HX⟩, HT⟩
  ihave HI := (iopen c f) $$ HI
  icases HI with ⟨HI0, HI1⟩
  ihave HE := (eopen c e) $$ HE
  icases HE with ⟨HE0, HE1⟩
  ihave HC := (cells_take c) $$ HC
  icases HC with ⟨HC0, HC1, HD0, HD1⟩
  ihave HX := (toks_take c (arI m c) (arE m c)) $$ HX
  icases HX with ⟨HK, HL, HT0, HT1⟩
  isplitl [HT]; · iexact HT
  isplitl [Hg]; · iexact Hg
  isplitl [HK]; · iexact HK
  isplitl [HL]; · iexact HL
  isplitl [HI0 HE0 HC0 HD0 HT0]
  · iapply (free_make c 0 (arI m c) (arE m c))
    isplitl [HI0]; · iexact HI0
    isplitl [HE0]; · iexact HE0
    isplitl [HC0]; · iexact HC0
    isplitl [HD0]; · iexact HD0
    iexact HT0
  iapply (free_make c 1 (arI m c) (arE m c))
  isplitl [HI1]; · iexact HI1
  isplitl [HE1]; · iexact HE1
  isplitl [HC1]; · iexact HC1
  isplitl [HD1]; · iexact HD1
  iexact HT1

/-- and the last invariant gives it back. -/
theorem inv_last (c : Dev nD) : (inv m c 256 : sProp 𝕄) ⊢ Pipeline.ΦD osem spec0 H (V m) c := by
  rw [Pipeline.ΦD_eq, scratch_eq, arrays_eq]
  unfold inv stateP
  rw [if_pos (Or.inr rfl)]
  iintro ⟨-, Hg, HK, HL, HA, HB⟩
  ihave HA := (free_parts c 0 (arI m c) (arE m c)) $$ HA
  icases HA with ⟨HI0, HE0, HC0, HD0, HT0⟩
  ihave HB := (free_parts c 1 (arI m c) (arE m c)) $$ HB
  icases HB with ⟨HI1, HE1, HC1, HD1, HT1⟩
  isplitl [HI0 HI1 HE0 HE1]
  · isplitl [HI0 HI1]
    · iapply (iclose c)
      isplitl [HI0]; · iexact HI0
      iexact HI1
    iapply (eclose c)
    isplitl [HE0]; · iexact HE0
    iexact HE1
  isplitl [Hg]; · iexact Hg
  isplitl [HC0 HC1 HD0 HD1]
  · iapply (cells_give c)
    isplitl [HC0]; · iexact HC0
    isplitl [HC1]; · iexact HC1
    isplitl [HD0]; · iexact HD0
    iexact HD1
  iapply (toks_give c (arI m c) (arE m c))
  isplitl [HK]; · iexact HK
  isplitl [HL]; · iexact HL
  isplitl [HT0]; · iexact HT0
  iexact HT1

theorem hmain : Pipeline.HMainP (Ix := Unit) (Name := ℕ) (U := Pipeline.UD sig nD τ) (Lvl := ℕ) pcfgs 0 defs₀ Variants.none m (main (F := F)) (V m) :=
  Pipeline.hmainP_region pcfgs 0 defs₀ Variants.none m main fun c => (main_chain c).trans rfl

set_option backward.isDefEq.respectTransparency.types false in
/-- From any memory whose table names rows, the call ends with the two result arrays as the points left them, every
    other array as it was and every counter at zero. -/
theorem run_main (hg : ∀ c, InTab (gT m c)) :
    θ_run defs (onTc (τ := τ) (main (F := F))) ⟨m, fun _ => 0, ρ⟩
      (fun r => Pipeline.FramePost (Pipeline.pin (pcfgs (F := F)) fun _ => adm m) (dats m) 0 (V m) r ∧ r.2.sem = fun _ => 0) :=
  Pipeline.θ_run_frameP_dma (Q' := _) pcfgs (fun _ => adm m) (dats m) 0 launch0 osem defs₀ Variants.none ownSemFacts H H_sub m ρ main
    (hbody := fun c => (body_obligation m c (hg c)).loose) (hshare := fun c => (dats m 0 c).share_full fun _ => rfl)
    (howed := fun _ _ => rfl) (V := V m) (hmain := hmain m) (hA := fun _ _ => rfl) (hpf := V_pre m)
    (hin := inv_first m) (hout := inv_last m)

end Launch

end Cert.GatherIdealWork
end
-- ==== Proof.IdealResult.lean ====
/- What the gather call's two result arrays hold after the run, and that the rest is unchanged. -/
module

public import proofs.«01_k».proof.Proof.IdealLaunch
public import Idealize.ShloMosaic.Lib.Pipeline.ValueKit

@[expose] public section

noncomputable section

namespace Cert.GatherIdealWork

open Cert.GatherIdeal Cert.GatherIdeal.Gen
open Idealize.ShloMosaic Idealize.ShloMosaic.TcCoe
open Idealize.SL Idealize.SL.Sem
open Idealize.ShloMosaic.Pipeline (Dat)

variable {F : FTy → Type} [FloatOps F] [∀ e, Nonempty (Elt F e)]
variable (m : (ℓ : Loc nD τ sig) → Buf (Elt F) ℓ) (ρ : Dev nD → PrngReg)

/-- Row `n` of the first result is the feature row the table's word `n` names; -/
def res1 (c : Dev nD) : S4096x128.Idx → Elt F .f32 := fun x => (arI m c : S4096x1x128.Idx → Elt F .f32) (rI (rowOf (wd (gT m c) (x 0))) (x 1))
/-- row `n` of the second is the coordinate row it names. -/
def res2 (c : Dev nD) : S4096x3.Idx → Elt F .f32 := fun x => (arE m c : S4096x1x3.Idx → Elt F .f32) (pI (rowOf (wd (gT m c) (x 0))) (x 1))

/-- Both result windows are at the point's own block of sixteen rows. -/
theorem idx : ∀ t : Fin grid0.N, cc0_transform_2 (grid0.coords t) = ![t.val, 0] ∧ cc0_transform_3 (grid0.coords t) = ![t.val, 0] := by decide +kernel

/-- The array row of row `r` of point `t`'s block. -/
def rowAt (t : Fin grid0.N) (r : Fin 16) : Fin 4096 := ⟨t.val * 16 + r.val, by have := t.isLt; have e : grid0.N = 256 := N_0; have := r.isLt; omega⟩

theorem bw_rowAt (c : Dev nD) (g : Buf (Elt F) (tbM.view.loc (c : TT))) (t : Fin grid0.N) (r : Fin 16) : bw g t.val r = wd g (rowAt t r) := by
  have := (rowAt t r).isLt
  refine congrArg (wd g) (Fin.ext ?_)
  show (16 * t.val + r.val) % 4096 = t.val * 16 + r.val
  have e : (rowAt t r).val = t.val * 16 + r.val := rfl
  omega

theorem emb0 (t : Fin grid0.N) (r : Fin 16) (j : Fin 128) : (((cfgM m).win 0).blk t).view.emb (ix2 r j) = ix2 (rowAt t r) j := by
  have h := (idx t).1
  funext a
  apply Fin.ext
  fin_cases a
  · show cc0_transform_2 (grid0.coords t) 0 * 16 + 1 * r.val = t.val * 16 + r.val
    rw [h]; show t.val * 16 + 1 * r.val = _; omega
  · show cc0_transform_2 (grid0.coords t) 1 * 128 + 1 * j.val = j.val
    rw [h]; show 0 * 128 + 1 * j.val = j.val; omega

theorem emb1 (t : Fin grid0.N) (r : Fin 16) (j : Fin 3) : (((cfgM m).win 1).blk t).view.emb (ix2 r j) = ix2 (rowAt t r) j := by
  have h := (idx t).2
  funext a
  apply Fin.ext
  fin_cases a
  · show cc0_transform_3 (grid0.coords t) 0 * 16 + 1 * r.val = t.val * 16 + r.val
    rw [h]; show t.val * 16 + 1 * r.val = _; omega
  · show cc0_transform_3 (grid0.coords t) 1 * 3 + 1 * j.val = j.val
    rw [h]; show 0 * 3 + 1 * j.val = j.val; omega

/-- The two result windows do not read the table: they are those of the table of zeros. -/
abbrev zeroT : pre0.Contents (Elt Bits) := fun | 0 => fun _ => 0#32 | ⟨_ + 1, h⟩ => absurd h (Nat.not_lt.2 (Nat.le_add_left _ _))
abbrev winZ (w : Fin 2) : Pipeline.Window sig grid0 := (cfg0 (F := Bits) ⟨zeroT, trivial⟩).win w
theorem coversZ0 : (winZ 0).Covers := by decide +kernel
theorem coversZ1 : (winZ 1).Covers := by decide +kernel
/-- The blocks written back make up each result. -/
theorem covers0 : ((cfgM m).win 0).Covers := coversZ0
theorem covers1 : ((cfgM m).win 1).Covers := coversZ1

theorem noWin0 : ∀ w : Fin 2, (spec0 w).arr.view.ref ≠ main_arg0 := by decide
theorem noWin1 : ∀ w : Fin 2, (spec0 w).arr.view.ref ≠ main_arg1 := by decide
theorem noWin2 : ∀ w : Fin 2, (spec0 w).arr.view.ref ≠ main_arg2 := by decide

theorem final0 (c : Dev nD) : (dats m 0 c).arrAt 0 (cfgM m).N = res1 m c := by
  refine (dats m 0 c).arrAt_eq_of_covers 0 _ (covers0 m) fun t hf y => ?_
  obtain ⟨r, j, rfl⟩ : ∃ (r : Fin 16) (j : Fin 128), y = ix2 r j := ⟨_, _, eq_ix2 y⟩
  rw [emb0 m t r j]
  blk_simp
  show O1 (arI m c) (bw (gT m c) t.val) (ix2 r j) = res1 m c (ix2 (rowAt t r) j)
  unfold O1 res1
  show (arI m c : S4096x1x128.Idx → Elt F .f32) (rI (rowOf (bw (gT m c) t.val r)) j) = (arI m c : S4096x1x128.Idx → Elt F .f32) (rI (rowOf (wd (gT m c) (rowAt t r))) j)
  rw [bw_rowAt]

theorem final1 (c : Dev nD) : (dats m 0 c).arrAt 1 (cfgM m).N = res2 m c := by
  refine (dats m 0 c).arrAt_eq_of_covers 1 _ (covers1 m) fun t hf y => ?_
  obtain ⟨r, j, rfl⟩ : ∃ (r : Fin 16) (j : Fin 3), y = ix2 r j := ⟨_, _, eq_ix2 y⟩
  rw [emb1 m t r j]
  blk_simp
  show O2 (arE m c) (bw (gT m c) t.val) (ix2 r j) = res2 m c (ix2 (rowAt t r) j)
  unfold O2 res2
  show (arE m c : S4096x1x3.Idx → Elt F .f32) (pI (rowOf (bw (gT m c) t.val r)) j) = (arE m c : S4096x1x3.Idx → Elt F .f32) (pI (rowOf (wd (gT m c) (rowAt t r))) j)
  rw [bw_rowAt]

/-- From any memory whose table names rows, the call ends with row `n` of each result the row the table's word `n`
    names, its arguments unchanged and every counter at zero. -/
theorem run_rows (hg : ∀ c, InTab (gT m c)) :
    θ_run defs (onTc (τ := τ) (main (F := F))) ⟨m, fun _ => 0, ρ⟩ (fun r =>
      (∀ c : Dev nD, r.2.mem ((c : TT).loc main_v0_0) = res1 m c ∧ r.2.mem ((c : TT).loc main_v0_1) = res2 m c
        ∧ r.2.mem ((c : TT).loc main_arg0) = m ((c : TT).loc main_arg0)
        ∧ r.2.mem ((c : TT).loc main_arg1) = m ((c : TT).loc main_arg1)
        ∧ r.2.mem ((c : TT).loc main_arg2) = m ((c : TT).loc main_arg2))
      ∧ r.2.sem = fun _ => 0) :=
  (θ_run defs _ _).mono (fun r h => ⟨fun c => ⟨((h.1 c).1 0).trans (final0 m c), ((h.1 c).1 1).trans (final1 m c),
      (h.1 c).2 main_arg0 (Pipeline.mem_restRefs_of main_arg0 (by decide) noWin0),
      (h.1 c).2 main_arg1 (Pipeline.mem_restRefs_of main_arg1 (by decide) noWin1),
      (h.1 c).2 main_arg2 (Pipeline.mem_restRefs_of main_arg2 (by decide) noWin2)⟩, h.2⟩)
    (run_main m ρ hg)

end Cert.GatherIdealWork

end
-- ==== Proof.RowsRef.lean ====
/- What the plain gather leaves: on node numbers below 4096 each result row is the row of the table the number names. -/
module

public import proofs.«01_k».proof.Defs
public import proofs.«01_k».proof.Proof.Gen.GatherReferenceIdeal
public import proofs.«01_k».proof.Proof.Gen.GatherReferenceIdeal.Run
public import Idealize.ShloMosaic.Lib.Routing.Ops
public import Idealize.ShloMosaic.Lib.ReduceAll
public import Idealize.ShloMosaic.Lib.StableHlo.Predicate

@[expose] public section

noncomputable section

namespace Cert.RowsRef

open Idealize.ShloMosaic Idealize.ShloMosaic.StableHlo Idealize.SL.Sem Cert.GatherReferenceIdeal Cert.GatherReferenceIdeal.Gen
open Idealize.ShloMosaic.ValueIdx (ix2)
open Idealize.ShloMosaic.StableHlo.Predicate (slt_iff_toNat sge_iff_toNat sle_iff_toNat)

/-- The place of the `n`-th node number. -/
def nI (n : Fin 4096) : S4096.Idx := fun | 0 => n
/-- The node number at a place, kept below 4096. -/
def nodeAt (w : S4096.Idx → BitVec 32) (n : Fin 4096) : Fin 4096 := ⟨min (w (nI n)).toNat 4095, by omega⟩
/-- The entry of the wide table at a row and a lane. -/
def tI (r : Fin 4096) (l : Fin 128) : S4096x1x128.Idx := fun | 0 => r | 1 => (0 : Fin 1) | 2 => l
/-- The entry of the narrow table at a row and a lane. -/
def uI (r : Fin 4096) (l : Fin 3) : S4096x1x3.Idx := fun | 0 => r | 1 => (0 : Fin 1) | 2 => l

variable {w : S4096.Idx → BitVec 32}

/-- A one-bit word that is not one is zero. -/
theorem bit_zero {b : BitVec 1} (h : b ≠ 1#1) : b = 0#1 := by revert h; revert b; decide

/-- The node numbers after the wrap of negative ones. -/
def wrapped (w : S4096.Idx → BitVec 32) : S4096.Idx → BitVec 32 :=
  select (cmpi .slt w (broadcastInDim S4096 ![] bcast_S_S4096 (constantI S_ 32 0#32)))
    (addi w (broadcastInDim S4096 ![] bcast_S_S4096 (constantI S_ 32 4096#32))) w

/-- No number is negative, so the wrap changes none. -/
theorem wrapped_eq (hw : ∀ i, (w i).toNat < 4096) : wrapped w = w := by
  funext i
  have hn : ¬ IntOp.cmpi .slt (w i) (0#32) = 1#1 := fun h =>
    absurd ((slt_iff_toNat (by have := hw i; omega) (by decide)).1 h) (by simp)
  show Scalar.select (IntOp.cmpi .slt (w i) (0#32)) _ (w i) = w i
  rw [bit_zero hn]
  rfl

/-- The numbers as a column. -/
def column (w : S4096.Idx → BitVec 32) : S4096x1.Idx → BitVec 32 := broadcastInDim S4096x1 ![0] bcast_S4096_S4096x1_0 (wrapped w)

/-- The column holds the node numbers. -/
theorem column_at (hw : ∀ i, (w i).toNat < 4096) (i : S4096x1.Idx) : column w i = w (nI (i 0)) := by
  unfold column
  rw [wrapped_eq hw]
  show w _ = w _
  refine congrArg w (funext fun a => ?_)
  obtain rfl : a = 0 := Subsingleton.elim _ _
  exact Fin.ext rfl

/-- The mask of the places whose number is in the table. -/
def mask (w : S4096.Idx → BitVec 32) : S4096.Idx → BitVec 1 :=
  Host.reduce IntOp.andi (andi (cmpi .sge (column w) (broadcastInDim S4096x1 ![] bcast_S_S4096x1 (constantI S_ 32 0#32)))
    (cmpi .sle (column w) (broadcastInDim S4096x1 ![0, 1] bcast_S1x1_S4096x1_0_1 (broadcastInDim S1x1 ![1] bcast_S1_S1x1_1 (constantI S1 32 4095#32)))))
    (constantI S_ 1 1#1) reducesTo_S4096x1_S4096_d1 h_S_

/-- Every number is in the table. -/
theorem mask_one (hw : ∀ i, (w i).toNat < 4096) (j : S4096.Idx) : mask w j = 1#1 := by
  unfold mask
  refine Host.reduce_andi_one _ _ _ _ _ rfl fun i => ?_
  have hi := hw (nI (i 0))
  show IntOp.andi (IntOp.cmpi .sge (column w i) (0#32)) (IntOp.cmpi .sle (column w i) (4095#32)) = 1#1
  rw [column_at hw, (sge_iff_toNat (by omega) (by decide)).2 (by simp),
    (sle_iff_toNat (by omega) (by decide)).2 (by show _ ≤ 4095; omega)]
  rfl

/-- The column holds at each row the number of the table's row it names. -/
theorem start_at (hw : ∀ i, (w i).toNat < 4096) (n : Fin 4096) :
    column w (ix2 n (0 : Fin 1)) = BitVec.ofNat 32 (nodeAt w n).val := by
  rw [column_at hw]
  have hn := hw (nI n)
  apply BitVec.eq_of_toNat_eq
  show (w (nI n)).toNat = (BitVec.ofNat 32 (min (w (nI n)).toNat 4095)).toNat
  rw [BitVec.toNat_ofNat]
  omega

variable {F : FTy → Type} [FloatOps F]

/-- The wide result at a place: the table's row the number there names. -/
theorem wide (hw : ∀ i, (w i).toNat < 4096) (x : S4096x1x128.Idx → Elt F .f32) (z : S4096x128.Idx → Elt F .f32) :
    select (broadcastInDim S4096x128 ![0] bcast_S4096_S4096x128_0 (mask w))
      (Host.gather gather_S4096x128_S4096x1_S4096x128_1_0_n_n_0_1_1128 (shapeCast _ x shapeCasts_S4096x1x128_S4096x128) (column w)) z
      = fun i => x (tI (nodeAt w (i 0)) (i 1)) := by
  funext i
  have hm : broadcastInDim S4096x128 ![0] bcast_S4096_S4096x128_0 (mask w) i = 1#1 := mask_one hw _
  have hi : i = ix2 (i 0) (i 1) := by funext a; match a with | ⟨0, _⟩ => rfl | ⟨1, _⟩ => rfl
  have hg := Idealize.ShloMosaic.Routing.gather_row gather_S4096x128_S4096x1_S4096x128_1_0_n_n_0_1_1128 rfl rfl rfl rfl rfl
    (shapeCast _ x shapeCasts_S4096x1x128_S4096x128) (column w) (i 0) (i 1) (nodeAt w (i 0)) (start_at hw (i 0)) (by decide)
  have hr : Shape.reshapeEquiv shapeCasts_S4096x1x128_S4096x128 (ix2 (nodeAt w (i 0)) (i 1)) = tI (nodeAt w (i 0)) (i 1) :=
    Shape.reshapeEquiv_eq_of_rowMajor _ (by
      rw [Shape.rowMajor_val_three, Shape.rowMajor_val_two]
      show ((nodeAt w (i 0)).val * 1 + 0) * 128 + (i 1).val = (nodeAt w (i 0)).val * 128 + (i 1).val; omega)
  show Scalar.select (broadcastInDim S4096x128 ![0] bcast_S4096_S4096x128_0 (mask w) i) _ _ = _
  rw [hm]
  refine (congrArg _ hi).trans (hg.trans ?_)
  exact congrArg x hr

/-- The narrow result at a place: the table's row the number there names. -/
theorem narrow (hw : ∀ i, (w i).toNat < 4096) (x : S4096x1x3.Idx → Elt F .f32) (z : S4096x3.Idx → Elt F .f32) :
    select (broadcastInDim S4096x3 ![0] bcast_S4096_S4096x3_0 (mask w))
      (Host.gather gather_S4096x3_S4096x1_S4096x3_1_0_n_n_0_1_13 (shapeCast _ x shapeCasts_S4096x1x3_S4096x3) (column w)) z
      = fun i => x (uI (nodeAt w (i 0)) (i 1)) := by
  funext i
  have hm : broadcastInDim S4096x3 ![0] bcast_S4096_S4096x3_0 (mask w) i = 1#1 := mask_one hw _
  have hi : i = ix2 (i 0) (i 1) := by funext a; match a with | ⟨0, _⟩ => rfl | ⟨1, _⟩ => rfl
  have hg := Idealize.ShloMosaic.Routing.gather_row gather_S4096x3_S4096x1_S4096x3_1_0_n_n_0_1_13 rfl rfl rfl rfl rfl
    (shapeCast _ x shapeCasts_S4096x1x3_S4096x3) (column w) (i 0) (i 1) (nodeAt w (i 0)) (start_at hw (i 0)) (by decide)
  have hr : Shape.reshapeEquiv shapeCasts_S4096x1x3_S4096x3 (ix2 (nodeAt w (i 0)) (i 1)) = uI (nodeAt w (i 0)) (i 1) :=
    Shape.reshapeEquiv_eq_of_rowMajor _ (by
      rw [Shape.rowMajor_val_three, Shape.rowMajor_val_two]
      show ((nodeAt w (i 0)).val * 1 + 0) * 3 + (i 1).val = (nodeAt w (i 0)).val * 3 + (i 1).val; omega)
  show Scalar.select (broadcastInDim S4096x3 ![0] bcast_S4096_S4096x3_0 (mask w) i) _ _ = _
  rw [hm]
  refine (congrArg _ hi).trans (hg.trans ?_)
  exact congrArg x hr

end Cert.RowsRef

end
-- ==== Proof.RowsClaims.lean ====
/- The gather call's claims: both programs' frames, the plain gather's frame, and the equation of their results. -/
module

public import proofs.«01_k».proof.Defs
public import proofs.«01_k».proof.Proof.GatherResult
public import proofs.«01_k».proof.Proof.IdealResult
public import proofs.«01_k».proof.Proof.RowsRef
public import proofs.«01_k».proof.Proof.Gen.Pre_nodes_named
public import Idealize.ShloMosaic.Lib.Affine

@[expose] public section

noncomputable section

namespace Cert.RowsClaims

open Idealize.ShloMosaic Idealize.ShloMosaic.StableHlo Idealize.SL.Sem
open Idealize.ShloMosaic.StableHlo.Predicate (toInt_eq_toNat_of_lt)

/-- A word that is at least zero and below 4096 as a signed number is below 4096 as a natural number. -/
theorem word_lt (x : BitVec 32) (h : IntOp.andi (IntOp.cmpi .sge x (0#32)) (IntOp.cmpi .slt x (4096#32)) = 1#1) : x.toNat < 4096 := by
  obtain ⟨h0, h1⟩ := IntOp.andi_eq_one.1 h
  have a : (BitVec.ofBool ((0#32).sle x)) = 1#1 := h0
  have b : (BitVec.ofBool (x.slt (4096#32))) = 1#1 := h1
  have a' : (0#32).sle x = true := by revert a; cases (0#32).sle x <;> decide
  have b' : x.slt (4096#32) = true := by revert b; cases x.slt (4096#32) <;> decide
  rw [BitVec.sle_iff_toInt_le] at a'
  rw [BitVec.slt_iff_toInt_lt] at b'
  have e0 : (0#32).toInt = 0 := rfl
  have e1 : (4096#32).toInt = 4096 := rfl
  rw [e0] at a'; rw [e1] at b'
  rw [BitVec.toInt_eq_toNat_cond] at a' b'
  have := x.isLt
  split at a' <;> omega

/-- Where the precondition holds every node number is below 4096. -/
theorem words {F : FTy → Type} [FloatOps F] (w : IVec Cert.Pre_nodes_named.S4096 32) (x y)
    (h : Cert.Pre_nodes_named.fn (F := F) w x y = fun _ => 1#1) (i : Cert.Pre_nodes_named.S4096.Idx) : (w i).toNat < 4096 :=
  word_lt _ (congrFun h i)

/-- On node numbers in range the gather call runs to its end, leaves its arguments as they were and its counters at zero. -/
theorem frame_gather : Cert.quiescent_Gather := fun m ρ hp =>
  (θ_run Cert.Gather.defs _ _).mono (fun r h => ⟨fun c => (h.1 c).2.2, h.2⟩)
    (Cert.GatherWork.run_rows m ρ fun c n => words _ _ _ (hp c) _)

/-- The same over the extended reals. -/
theorem frame_ideal : Cert.quiescent_GatherIdeal := fun m ρ hp =>
  (θ_run Cert.GatherIdeal.defs _ _).mono (fun r h => ⟨fun c => (h.1 c).2.2, h.2⟩)
    (Cert.GatherIdealWork.run_rows m ρ fun c n => words _ _ _ (hp c) _)

/-- The plain gather leaves its arguments as they were and its counters at zero. -/
theorem frame_ref : Cert.quiescent_GatherReferenceIdeal := fun m ρ _ =>
  (θ_run Cert.GatherReferenceIdeal.defs _ _).mono (fun r h => ⟨fun c => (h c).2.2,
      Idealize.ShloMosaic.sem_eq_zero_of_no_sems (by decide) r.2⟩)
    (Cert.GatherReferenceIdeal.Value.run (F := Ideal) m ρ)

/-- The call and the plain gather leave equal results, and their arguments unchanged. -/
theorem algebraic : Cert.algebraic_GatherIdeal_GatherReferenceIdeal := fun m ρ m' ρ' hp hagree => by
  have hw : ∀ (c : Dev Cert.GatherIdeal.nD) i, ((m ((c.tc : Thread Cert.GatherIdeal.nD Cert.GatherIdeal.τ).loc Cert.GatherIdeal.main_arg0) : IVec Cert.Pre_nodes_named.S4096 32) i).toNat < 4096 :=
    fun c => words _ _ _ (hp c)
  refine ⟨fun c => Cert.GatherIdealWork.res1 m c, fun c => Cert.GatherIdealWork.res2 m c,
    (θ_run Cert.GatherIdeal.defs _ _).mono (fun r h c => h.1 c) (Cert.GatherIdealWork.run_rows m ρ fun c n => hw c _),
    (θ_run Cert.GatherReferenceIdeal.defs _ _).mono (fun r h c => ?_) (Cert.GatherReferenceIdeal.Value.run (F := Ideal) m' ρ')⟩
  obtain ⟨h0, h1, h2⟩ := h c
  obtain ⟨a0, a1, a2⟩ := hagree c
  refine ⟨h0.trans ?_, h1.trans ?_, h2⟩
  · rw [a0, a1]
    refine (Cert.RowsRef.wide (hw c) _ _).trans (funext fun i => ?_)
    rfl
  · rw [a0, a2]
    refine (Cert.RowsRef.narrow (hw c) _ _).trans (funext fun i => ?_)
    rfl

end Cert.RowsClaims

end
-- ==== Proof.lean ====
/- The proof of every claim of the certificate, assembled from the modules of the two calls. -/
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.LayerClaims
public import proofs.«01_k».proof.Proof.RowsClaims

@[expose] public section

noncomputable section

namespace Cert.Proof

/-- For the recurrent call: both frames, the reference's frame, and that over the extended reals its two results are the
    reference's. For the gather call, on node numbers in range: the same. -/
theorem claim : Cert.Claim := ⟨Cert.Kernel.Gen.facts, Cert.KernelIdeal.Gen.facts, Cert.ReferenceIdeal.Gen.facts,
  Cert.Gather.Gen.facts, Cert.GatherIdeal.Gen.facts, Cert.GatherReferenceIdeal.Gen.facts, Cert.Pre_nodes_named.Gen.facts,
  fun m ρ _ => Cert.Kernel.Gen.frame m ρ, fun m ρ _ => Cert.KernelIdeal.Gen.frame m ρ, Cert.Layer.frame_ref,
  Cert.RowsClaims.frame_gather, Cert.RowsClaims.frame_ideal, Cert.RowsClaims.frame_ref,
  trivial, Cert.Layer.algebraic, trivial, Cert.RowsClaims.algebraic⟩

end Cert.Proof

end
